-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v48_0)) (v1 : (c : Dev Cert.Kernel2Ideal.nD) → Buf (Elt Ideal) ((c.tc : Thread Cert.Kernel2Ideal.nD Cert.Kernel2Ideal.τ).loc Cert.Kernel2Ideal.main_v48_1)) (v2 : (c : Dev Cert.Kernel2Ideal.nD) → Buf (Elt Ideal) ((c.tc : Thread Cert.Kernel2Ideal.nD Cert.Kernel2Ideal.τ).loc Cert.Kernel2Ideal.main_v48_2)) (v3 : (c : Dev Cert.Kernel2Ideal.nD) → Buf (Elt Ideal) ((c.tc : Thread Cert.Kernel2Ideal.nD Cert.Kernel2Ideal.τ).loc Cert.Kernel2Ideal.main_v48_3)) (v4 : (c : Dev Cert.Kernel2Ideal.nD) → Buf (Elt Ideal) ((c.tc : Thread Cert.Kernel2Ideal.nD Cert.Kernel2Ideal.τ).loc Cert.Kernel2Ideal.main_v48_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v48_0) = v0 c
          ∧ r.2.mem ((c.tc : Thread Cert.Kernel2Ideal.nD Cert.Kernel2Ideal.τ).loc Cert.Kernel2Ideal.main_v48_1) = v1 c
          ∧ r.2.mem ((c.tc : Thread Cert.Kernel2Ideal.nD Cert.Kernel2Ideal.τ).loc Cert.Kernel2Ideal.main_v48_2) = v2 c
          ∧ r.2.mem ((c.tc : Thread Cert.Kernel2Ideal.nD Cert.Kernel2Ideal.τ).loc Cert.Kernel2Ideal.main_v48_3) = v3 c
          ∧ r.2.mem ((c.tc : Thread Cert.Kernel2Ideal.nD Cert.Kernel2Ideal.τ).loc Cert.Kernel2Ideal.main_v48_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v107) = v0 c
          ∧ r.2.mem ((c.tc : Thread Cert.Reference2Ideal.nD Cert.Reference2Ideal.τ).loc Cert.Reference2Ideal.main_v111) = v1 c
          ∧ r.2.mem ((c.tc : Thread Cert.Reference2Ideal.nD Cert.Reference2Ideal.τ).loc Cert.Reference2Ideal.main_v115) = v2 c
          ∧ r.2.mem ((c.tc : Thread Cert.Reference2Ideal.nD Cert.Reference2Ideal.τ).loc Cert.Reference2Ideal.main_v116) = v3 c
          ∧ r.2.mem ((c.tc : Thread Cert.Reference2Ideal.nD Cert.Reference2Ideal.τ).loc Cert.Reference2Ideal.main_v117) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v277_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v277_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v187) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)) (v3 : (c : Dev Cert.Kernel6Ideal.nD) → Buf (Elt Ideal) ((c.tc : Thread Cert.Kernel6Ideal.nD Cert.Kernel6Ideal.τ).loc Cert.Kernel6Ideal.main_v11_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_v11_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v51) = v0 c
          ∧ r.2.mem ((c.tc : Thread Cert.Reference6Ideal.nD Cert.Reference6Ideal.τ).loc Cert.Reference6Ideal.main_v55) = v1 c
          ∧ r.2.mem ((c.tc : Thread Cert.Reference6Ideal.nD Cert.Reference6Ideal.τ).loc Cert.Reference6Ideal.main_v58) = v2 c
          ∧ r.2.mem ((c.tc : Thread Cert.Reference6Ideal.nD Cert.Reference6Ideal.τ).loc Cert.Reference6Ideal.main_v61) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v15)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v15) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite2 : Cert.Pre_finite2.Facts) (hPre_finite3 : Cert.Pre_finite3.Facts) (hPre_finite4 : Cert.Pre_finite4.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite2.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn_part1 {F : FTy → Type} [FloatOps F] (main_arg6 : FVec F S4096x1024 .f32) (main_v2 : IVec S4096x1024 1) (main_v5 : IVec S1024 1) (main_v8 : IVec S1024x5632 1) (main_v11 : IVec S3x5632 1) (main_v14 : IVec S2816x1024 1) (main_v17 : IVec S1024 1) : IVec S4096x1024 1 × IVec S1024 1 × IVec S1024x5632 1 × IVec S3x5632 1 × IVec S2816x1024 1 × IVec S1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S1024 .f32) (main_arg2 : FVec F S1024x5632 .f32) (main_arg3 : FVec F S3x5632 .f32) (main_arg4 : FVec F S2816x1024 .f32) (main_arg5 : FVec F S1024 .f32) (main_arg6 : FVec F S4096x1024 .f32) : IVec S4096x1024 1 × IVec S1024 1 × IVec S1024x5632 1 × IVec S3x5632 1 × IVec S2816x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x5632 .f32 := Host.absf main_arg3
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg6 main_v2 main_v5 main_v8 main_v11 main_v14 main_v17
-- ==== Pre_finite3.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S4096x5632 : S_.BroadcastsInDim S4096x5632 (![] : Fin 0 → Fin S4096x5632.rank)

variable [Facts]

def fn {F : FTy → Type} [FloatOps F] (main_arg0 : FVec F S4096x1024 .f32) (main_arg1 : FVec F S1024 .f32) (main_arg2 : FVec F S1024x5632 .f32) (main_arg3 : FVec F S4096x1024 .f32) (main_arg4 : FVec F S4096x5632 .f32) : IVec S4096x1024 1 × IVec S1024 1 × IVec S1024x5632 1 × IVec S4096x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S4096x5632 .f32 := Host.absf main_arg4
  let main_cst_2 : FVec F S_ .f32 := constant S_ .f32 0x7F800000#32
  let main_v10 : FVec F S4096x5632 .f32 := broadcastInDim S4096x5632 ![] bcast_S_S4096x5632 main_cst_2
  let main_v11 : IVec S4096x5632 1 := cmpf .olt main_v9 main_v10
  (main_v2, main_v5, main_v8, main_v11)
-- ==== Pre_finite4.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2304 : S_.BroadcastsInDim S1024x2304 (![] : Fin 0 → Fin S1024x2304.rank)
  bcast_S_S4096x2304 : S_.BroadcastsInDim S4096x2304 (![] : Fin 0 → Fin S4096x2304.rank)

variable [Facts]

def fn {F : FTy → Type} [FloatOps F] (main_arg0 : FVec F S4096x1024 .f32) (main_arg1 : FVec F S1024 .f32) (main_arg2 : FVec F S1024x2304 .f32) (main_arg3 : FVec F S4096x1024 .f32) (main_arg4 : FVec F S4096x2304 .f32) : IVec S4096x1024 1 × IVec S1024 1 × IVec S1024x2304 1 × IVec S4096x2304 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2304 .f32 := Host.absf main_arg2
  let main_cst_1 : FVec F S_ .f32 := constant S_ .f32 0x7F800000#32
  let main_v7 : FVec F S1024x2304 .f32 := broadcastInDim S1024x2304 ![] bcast_S_S1024x2304 main_cst_1
  let main_v8 : IVec S1024x2304 1 := cmpf .olt main_v6 main_v7
  let main_v9 : FVec F S4096x2304 .f32 := Host.absf main_arg4
  let main_cst_2 : FVec F S_ .f32 := constant S_ .f32 0x7F800000#32
  let main_v10 : FVec F S4096x2304 .f32 := broadcastInDim S4096x2304 ![] bcast_S_S4096x2304 main_cst_2
  let main_v11 : IVec S4096x2304 1 := cmpf .olt main_v9 main_v10
  (main_v2, main_v5, main_v8, main_v11)
-- ==== Kernel.lean ====
abbrev S4096x1024 : Shape := ⟨2, ![4096, 1024]⟩
abbrev S16x8x32x1024 : Shape := ⟨4, ![16, 8, 32, 1024]⟩
abbrev S16x32x8x1024 : Shape := ⟨4, ![16, 32, 8, 1024]⟩
abbrev S1x1 : Shape := ⟨2, ![1, 1]⟩
abbrev S512x1024 : Shape := ⟨2, ![512, 1024]⟩
abbrev S8x1024 : Shape := ⟨2, ![8, 1024]⟩
abbrev S64x8x1024 : Shape := ⟨3, ![64, 8, 1024]⟩
abbrev S1024 : Shape := ⟨1, ![1024]⟩
abbrev S1x1024 : Shape := ⟨2, ![1, 1024]⟩
abbrev S1 : Shape := ⟨1, ![1]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S16x8x32x1024, .f32⟩
  | .hbm, ⟨3, _⟩ => ⟨S16x32x8x1024, .f32⟩
  | .hbm, ⟨4, _⟩ => ⟨S4096x1024, .f32⟩
  | .hbm, ⟨5, _⟩ => ⟨S16x8x32x1024, .f32⟩
  | .hbm, ⟨6, _⟩ => ⟨S16x32x8x1024, .f32⟩
  | .hbm, ⟨7, _⟩ => ⟨S4096x1024, .f32⟩
  | .hbm, ⟨8, _⟩ => ⟨S4096x1024, .f32⟩
  | .hbm, ⟨9, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_11 : BitVec 32 := 0#32
  let v21 : BitVec 1 := Scalar.cmpi .ne v20 c0_i32_11
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S4096x1024 : Shape := ⟨2, ![4096, 1024]⟩
abbrev S_ : Shape := ⟨0, ![]⟩
abbrev S4096 : Shape := ⟨1, ![4096]⟩
abbrev S16x8x32x1024 : Shape := ⟨4, ![16, 8, 32, 1024]⟩
abbrev S16x32x8x1024 : Shape := ⟨4, ![16, 32, 8, 1024]⟩
abbrev S1x1 : Shape := ⟨2, ![1, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S16x8x32x1024, .f32⟩
  | .hbm, ⟨26, _⟩ => ⟨S16x32x8x1024, .f32⟩
  | .hbm, ⟨27, _⟩ => ⟨S4096x1024, .f32⟩
  | .hbm, ⟨28, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S4x704x1024 : Shape := ⟨3, ![4, 704, 1024]⟩
abbrev S16x8x32x1024 : Shape := ⟨4, ![16, 8, 32, 1024]⟩
abbrev S16x32x8x1024 : Shape := ⟨4, ![16, 32, 8, 1024]⟩
abbrev S16x8x32x5632 : Shape := ⟨4, ![16, 8, 32, 5632]⟩
abbrev S16x32x8x5632 : Shape := ⟨4, ![16, 32, 8, 5632]⟩
abbrev S8x5632 : Shape := ⟨2, ![8, 5632]⟩
abbrev S256x1024 : Shape := ⟨2, ![256, 1024]⟩
abbrev S256x5632 : Shape := ⟨2, ![256, 5632]⟩
abbrev S16x5632 : Shape := ⟨2, ![16, 5632]⟩
abbrev S256x2816 : Shape := ⟨2, ![256, 2816]⟩
abbrev S272x5632 : Shape := ⟨2, ![272, 5632]⟩
abbrev S8x1024 : Shape := ⟨2, ![8, 1024]⟩
abbrev S8x8x5632 : Shape := ⟨3, ![8, 8, 5632]⟩
abbrev S4 : Shape := ⟨1, ![4]⟩
abbrev S1 : Shape := ⟨1, ![1]⟩
abbrev S704x1024 : Shape := ⟨2, ![704, 1024]⟩
abbrev S1x704x1024 : Shape := ⟨3, ![1, 704, 1024]⟩
abbrev S2x8x5632 : Shape := ⟨3, ![2, 8, 5632]⟩
abbrev S256 : Shape := ⟨1, ![256]⟩
abbrev S256x1 : Shape := ⟨2, ![256, 1]⟩
abbrev S32x8x1024 : Shape := ⟨3, ![32, 8, 1024]⟩
abbrev S1x1408 : Shape := ⟨2, ![1, 1408]⟩
abbrev S256x1408 : Shape := ⟨2, ![256, 1408]⟩
abbrev S1408x1024 : Shape := ⟨2, ![1408, 1024]⟩
abbrev S1x8x1408 : Shape := ⟨3, ![1, 8, 1408]⟩
abbrev S8x1408 : Shape := ⟨2, ![8, 1408]⟩
abbrev S32x8x1408 : Shape := ⟨3, ![32, 8, 1408]⟩

abbrev nBuf : Space → Nat
  | .hbm => 74
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x5632, .f32⟩
  | .hbm, ⟨24, _⟩ => ⟨S_, .f32⟩
  | .hbm, ⟨25, _⟩ => ⟨S2x5632, .f32⟩
  | .hbm, ⟨26, _⟩ => ⟨S4098x5632, .f32⟩
  | .hbm, ⟨27, _⟩ => ⟨S1x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S1x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S1x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x5632, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S_, .f32⟩
  | .hbm, ⟨46, _⟩ => ⟨S4096x2816, .f32⟩
  | .hbm, ⟨47, _⟩ => ⟨S4096x2816, .f32⟩
  | .hbm, ⟨48, _⟩ => ⟨S_, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x1024, .f32⟩
  | .hbm, ⟨54, _⟩ => ⟨S4x704x1024, .f32⟩
  | .hbm, ⟨55, _⟩ => ⟨S4x704x1024, .bf16⟩
  | .hbm, ⟨56, _⟩ => ⟨S16x8x32x1024, .f32⟩
  | .hbm, ⟨57, _⟩ => ⟨S16x32x8x1024, .f32⟩
  | .hbm, ⟨58, _⟩ => ⟨S4096x1024, .f32⟩
  | .hbm, ⟨59, _⟩ => ⟨S16x8x32x1024, .f32⟩
  | .hbm, ⟨60, _⟩ => ⟨S16x32x8x1024, .f32⟩
  | .hbm, ⟨61, _⟩ => ⟨S4096x1024, .f32⟩
  | .hbm, ⟨62, _⟩ => ⟨S16x8x32x5632, .f32⟩
  | .hbm, ⟨63, _⟩ => ⟨S16x32x8x5632, .f32⟩
  | .hbm, ⟨64, _⟩ => ⟨S4096x5632, .f32⟩
  | .hbm, ⟨65, _⟩ => ⟨S_, .i32⟩
  | .hbm, ⟨66, _⟩ => ⟨S_, .f32⟩
  | .hbm, ⟨67, _⟩ => ⟨S8x5632, .f32⟩
  | .hbm, ⟨68, _⟩ => ⟨S1x1024, .f32⟩
  | .hbm, ⟨69, _⟩ => ⟨S4096x1024, .bf16⟩
  | .hbm, ⟨70, _⟩ => ⟨S4096x2816, .bf16⟩
  | .hbm, ⟨71, _⟩ => ⟨S4096x5632, .bf16⟩
  | .hbm, ⟨72, _⟩ => ⟨S1x1024, .f32⟩
  | .hbm, ⟨73, _⟩ => ⟨S8x5632, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .f32⟩
  | .local _ .vmem, ⟨5, _⟩ => ⟨S256x5632, .f32⟩
  | .local _ .vmem, ⟨6, _⟩ => ⟨S16x5632, .f32⟩
  | .local _ .vmem, ⟨7, _⟩ => ⟨S16x5632, .f32⟩
  | .local _ .vmem, ⟨8, _⟩ => ⟨S8x5632, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x5632, .bf16⟩
  | .local _ .vmem, ⟨15, _⟩ => ⟨S256x5632, .bf16⟩
  | .local _ .vmem, ⟨16, _⟩ => ⟨S1x1024, .f32⟩
  | .local _ .vmem, ⟨17, _⟩ => ⟨S8x5632, .f32⟩
  | .local _ .vmem, ⟨18, _⟩ => ⟨S272x5632, .f32⟩
  | .local _ .vmem, ⟨19, _⟩ => ⟨S272x5632, .f32⟩
  | .local _ .vmem, ⟨20, _⟩ => ⟨S16x5632, .f32⟩
  | .local _ .vmem, ⟨21, _⟩ => ⟨S8x1024, .f32⟩
  | .local _ .vmem, ⟨22, _⟩ => ⟨S8x8x5632, .f32⟩
  | .local _ .vmem, ⟨23, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c : Ref sig .tc := ⟨.hbm, 65, rfl⟩
abbrev main_call1_v0 : Ref sig .tc := ⟨.hbm, 66, rfl⟩
abbrev main_v46 : Ref sig .tc := ⟨.hbm, 67, rfl⟩
abbrev main_v47 : Ref sig .tc := ⟨.hbm, 68, rfl⟩
abbrev main_v48_0 : Ref sig .tc := ⟨.hbm, 69, rfl⟩
abbrev main_v48_1 : Ref sig .tc := ⟨.hbm, 70, rfl⟩
abbrev main_v48_2 : Ref sig .tc := ⟨.hbm, 71, rfl⟩
abbrev main_v48_3 : Ref sig .tc := ⟨.hbm, 72, rfl⟩
abbrev main_v48_4 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_217 : BitVec 32 := 15#32
  let v404 : BitVec 1 := Scalar.cmpi .eq arg0 c15_i32_217
  let v405 : BitVec 32 := Scalar.extui v404
  let c0_i32_218 : BitVec 32 := 0#32
  let v406 : BitVec 1 := Scalar.cmpi .ne v405 c0_i32_218
  v406

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S5632 : Shape := ⟨1, ![5632]⟩
abbrev S16x8x32x1024 : Shape := ⟨4, ![16, 8, 32, 1024]⟩
abbrev S16x32x8x1024 : Shape := ⟨4, ![16, 32, 8, 1024]⟩
abbrev S16x8x32x2816 : Shape := ⟨4, ![16, 8, 32, 2816]⟩
abbrev S16x32x8x2816 : Shape := ⟨4, ![16, 32, 8, 2816]⟩
abbrev S16x8x32x5632 : Shape := ⟨4, ![16, 8, 32, 5632]⟩
abbrev S16x32x8x5632 : Shape := ⟨4, ![16, 32, 8, 5632]⟩
abbrev S8x5632 : Shape := ⟨2, ![8, 5632]⟩

abbrev nBuf : Space → Nat
  | .hbm => 165
  | .vmem => 0
  | .smem => 0
  | _ => 0

abbrev hbmTy0_0 (i : Nat) : BufTy := match i % 128 with
  | 0 => ⟨S4096x1024, .f32⟩
  | 1 => ⟨S1024, .f32⟩
  | 2 => ⟨S1024x5632, .f32⟩
  | 3 => ⟨S3x5632, .f32⟩
  | 4 => ⟨S2816x1024, .f32⟩
  | 5 => ⟨S1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S1x1024, .f32⟩
  | 21 => ⟨S4096x1024, .f32⟩
  | 22 => ⟨S4096x1024, .f32⟩
  | 23 => ⟨S4096x5632, .f32⟩
  | 24 => ⟨S_, .f32⟩
  | 25 => ⟨S2x5632, .f32⟩
  | 26 => ⟨S4098x5632, .f32⟩
  | 27 => ⟨S_, .f32⟩
  | 28 => ⟨S2x5632, .f32⟩
  | 29 => ⟨S1x5632, .f32⟩
  | 30 => ⟨S4096x5632, .f32⟩
  | 31 => ⟨S4096x5632, .f32⟩
  | 32 => ⟨S4096x5632, .f32⟩
  | 33 => ⟨S1x5632, .f32⟩
  | 34 => ⟨S4096x5632, .f32⟩
  | 35 => ⟨S4096x5632, .f32⟩
  | 36 => ⟨S4096x5632, .f32⟩
  | 37 => ⟨S4096x5632, .f32⟩
  | 38 => ⟨S1x5632, .f32⟩
  | 39 => ⟨S4096x5632, .f32⟩
  | 40 => ⟨S4096x5632, .f32⟩
  | 41 => ⟨S4096x5632, .f32⟩
  | 42 => ⟨S4096x5632, .f32⟩
  | 43 => ⟨S4096x2816, .f32⟩
  | 44 => ⟨S4096x2816, .f32⟩
  | 45 => ⟨S4096x2816, .f32⟩
  | 46 => ⟨S4096x2816, .f32⟩
  | 47 => ⟨S_, .f32⟩
  | 48 => ⟨S4096x2816, .f32⟩
  | 49 => ⟨S4096x2816, .f32⟩
  | 50 => ⟨S_, .f32⟩
  | 51 => ⟨S4096x2816, .f32⟩
  | 52 => ⟨S4096x2816, .f32⟩
  | 53 => ⟨S_, .f32⟩
  | 54 => ⟨S4096x2816, .f32⟩
  | 55 => ⟨S4096x2816, .f32⟩
  | 56 => ⟨S4096x2816, .f32⟩
  | 57 => ⟨S4096x2816, .f32⟩
  | 58 => ⟨S4096x2816, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S_, .f32⟩
  | 68 => ⟨S4096x1, .f32⟩
  | 69 => ⟨S4096x1, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x1024, .f32⟩
  | 76 => ⟨S4096x1024, .f32⟩
  | 77 => ⟨S1x1024, .f32⟩
  | 78 => ⟨S4096x1024, .f32⟩
  | 79 => ⟨S4096x1024, .f32⟩
  | 80 => ⟨S4096x1024, .f32⟩
  | 81 => ⟨S_, .f32⟩
  | 82 => ⟨S1024, .f32⟩
  | 83 => ⟨S1x1024, .f32⟩
  | 84 => ⟨S4096x1024, .f32⟩
  | 85 => ⟨S4096x1024, .f32⟩
  | 86 => ⟨S_, .f32⟩
  | 87 => ⟨S1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x2816, .f32⟩
  | 106 => ⟨S4096x2816, .f32⟩
  | 107 => ⟨S4096x2816, .f32⟩
  | 108 => ⟨S4096x2816, .f32⟩
  | 109 => ⟨S4096x2816, .f32⟩
  | 110 => ⟨S4096x2816, .f32⟩
  | 111 => ⟨S4096x2816, .f32⟩
  | 112 => ⟨S4096x5632, .f32⟩
  | 113 => ⟨S4096x5632, .f32⟩
  | 114 => ⟨S4096x5632, .f32⟩
  | 115 => ⟨S4096x5632, .f32⟩
  | 116 => ⟨S_, .f32⟩
  | 117 => ⟨S5632, .f32⟩
  | 118 => ⟨S1x5632, .f32⟩
  | 119 => ⟨S_, .f32⟩
  | 120 => ⟨S4098x5632, .f32⟩
  | 121 => ⟨S_, .f32⟩
  | 122 => ⟨S3x5632, .f32⟩
  | 123 => ⟨S4096x5632, .f32⟩
  | 124 => ⟨S4096x5632, .f32⟩
  | 125 => ⟨S4096x5632, .f32⟩
  | 126 => ⟨S_, .f32⟩
  | 127 => ⟨S5632, .f32⟩
  | _ => ⟨S4096x1024, .f32⟩

abbrev hbmTy0_1 (i : Nat) : BufTy := match i % 128 with
  | 0 => ⟨S1x5632, .f32⟩
  | 1 => ⟨S_, .f32⟩
  | 2 => ⟨S4098x5632, .f32⟩
  | 3 => ⟨S4098x5632, .f32⟩
  | 4 => ⟨S_, .f32⟩
  | 5 => ⟨S3x5632, .f32⟩
  | 6 => ⟨S3x5632, .f32⟩
  | 7 => ⟨S4096x5632, .f32⟩
  | 8 => ⟨S4096x5632, .f32⟩
  | 9 => ⟨S4096x5632, .f32⟩
  | 10 => ⟨S_, .f32⟩
  | 11 => ⟨S5632, .f32⟩
  | 12 => ⟨S1x5632, .f32⟩
  | 13 => ⟨S_, .f32⟩
  | 14 => ⟨S4098x5632, .f32⟩
  | 15 => ⟨S4098x5632, .f32⟩
  | 16 => ⟨S_, .f32⟩
  | 17 => ⟨S3x5632, .f32⟩
  | 18 => ⟨S3x5632, .f32⟩
  | 19 => ⟨S2x5632, .f32⟩
  | 20 => ⟨S4096x5632, .f32⟩
  | 21 => ⟨S16x8x32x1024, .f32⟩
  | 22 => ⟨S16x32x8x1024, .f32⟩
  | 23 => ⟨S4096x1024, .f32⟩
  | 24 => ⟨S4096x1024, .bf16⟩
  | 25 => ⟨S16x8x32x2816, .f32⟩
  | 26 => ⟨S16x32x8x2816, .f32⟩
  | 27 => ⟨S4096x2816, .f32⟩
  | 28 => ⟨S4096x2816, .bf16⟩
  | 29 => ⟨S16x8x32x5632, .f32⟩
  | 30 => ⟨S16x32x8x5632, .f32⟩
  | 31 => ⟨S4096x5632, .f32⟩
  | 32 => ⟨S4096x5632, .bf16⟩
  | 33 => ⟨S1x1024, .f32⟩
  | 34 => ⟨S_, .i32⟩
  | 35 => ⟨S_, .f32⟩
  | 36 => ⟨S8x5632, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v33_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v33_1 : Ref sig .tc := ⟨.hbm, 56, rfl⟩
abbrev main_v33_0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_7 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_9 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_13 : Ref sig .tc := ⟨.hbm, 116, rfl⟩
abbrev main_v80 : Ref sig .tc := ⟨.hbm, 117, rfl⟩
abbrev main_v81 : Ref sig .tc := ⟨.hbm, 118, rfl⟩
abbrev main_cst_14 : Ref sig .tc := ⟨.hbm, 119, rfl⟩
abbrev main_v82 : Ref sig .tc := ⟨.hbm, 120, rfl⟩
abbrev main_cst_15 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_16 : Ref sig .tc := ⟨.hbm, 126, rfl⟩
abbrev main_v87 : Ref sig .tc := ⟨.hbm, 127, rfl⟩
abbrev main_v88 : Ref sig .tc := ⟨.hbm, 128, rfl⟩
abbrev main_cst_17 : Ref sig .tc := ⟨.hbm, 129, rfl⟩
abbrev main_v89 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_19 : Ref sig .tc := ⟨.hbm, 138, rfl⟩
abbrev main_v96 : Ref sig .tc := ⟨.hbm, 139, rfl⟩
abbrev main_v97 : Ref sig .tc := ⟨.hbm, 140, rfl⟩
abbrev main_cst_20 : Ref sig .tc := ⟨.hbm, 141, rfl⟩
abbrev main_v98 : Ref sig .tc := ⟨.hbm, 142, rfl⟩
abbrev main_v99 : Ref sig .tc := ⟨.hbm, 143, rfl⟩
abbrev main_cst_21 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c : Ref sig .tc := ⟨.hbm, 162, rfl⟩
abbrev main_call2_v0 : Ref sig .tc := ⟨.hbm, 163, rfl⟩
abbrev main_v117 : Ref sig .tc := ⟨.hbm, 164, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x5632 : Shape := ⟨2, ![512, 5632]⟩
abbrev S512x1024 : Shape := ⟨2, ![512, 1024]⟩
abbrev S8x1024 : Shape := ⟨2, ![8, 1024]⟩
abbrev S1x1024x1408 : Shape := ⟨3, ![1, 1024, 1408]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩
abbrev S64x8x1024 : Shape := ⟨3, ![64, 8, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S1024x4x1408, .f32⟩
  | .hbm, ⟨6, _⟩ => ⟨S4x1024x1408, .f32⟩
  | .hbm, ⟨7, _⟩ => ⟨S4x1024x1408, .bf16⟩
  | .hbm, ⟨8, _⟩ => ⟨S4096x5632, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v68 : BitVec 1 := Scalar.cmpi .eq arg0 c7_i32
  let v69 : BitVec 32 := Scalar.extui v68
  let c0_i32_36 : BitVec 32 := 0#32
  let v70 : BitVec 1 := Scalar.cmpi .ne v69 c0_i32_36
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S1024x4x576 : Shape := ⟨3, ![1024, 4, 576]⟩
abbrev S4x1024x576 : Shape := ⟨3, ![4, 1024, 576]⟩
abbrev S1x1024 : Shape := ⟨2, ![1, 1024]⟩
abbrev S512x2304 : Shape := ⟨2, ![512, 2304]⟩
abbrev S512x1024 : Shape := ⟨2, ![512, 1024]⟩
abbrev S8x1024 : Shape := ⟨2, ![8, 1024]⟩
abbrev S1x1024x576 : Shape := ⟨3, ![1, 1024, 576]⟩
abbrev S1024x576 : Shape := ⟨2, ![1024, 576]⟩
abbrev S1024x768 : Shape := ⟨2, ![1024, 768]⟩
abbrev S512x768 : Shape := ⟨2, ![512, 768]⟩
abbrev S512 : Shape := ⟨1, ![512]⟩
abbrev S512x1 : Shape := ⟨2, ![512, 1]⟩
abbrev S64x8x1024 : Shape := ⟨3, ![64, 8, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x1024, .f32⟩
  | .hbm, ⟨4, _⟩ => ⟨S4096x2304, .f32⟩
  | .hbm, ⟨5, _⟩ => ⟨S1024x4x576, .f32⟩
  | .hbm, ⟨6, _⟩ => ⟨S4x1024x576, .f32⟩
  | .hbm, ⟨7, _⟩ => ⟨S4x1024x576, .bf16⟩
  | .hbm, ⟨8, _⟩ => ⟨S4096x2304, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x2304, .bf16⟩
  | .local _ .vmem, ⟨1, _⟩ => ⟨S512x2304, .bf16⟩
  | .local _ .vmem, ⟨2, _⟩ => ⟨S4x1024x576, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x1024, .f32⟩
  | .local _ .vmem, ⟨12, _⟩ => ⟨S1024x2304, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let v60 : BitVec 32 := Scalar.extui v59
  let c0_i32_31 : BitVec 32 := 0#32
  let v61 : BitVec 1 := Scalar.cmpi .ne v60 c0_i32_31
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x576 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x1024, .f32⟩
  | .hbm, ⟨4, _⟩ => ⟨S4096x2304, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x2304, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel5.lean ====
abbrev S4096x2304 : Shape := ⟨2, ![4096, 2304]⟩
abbrev S3x256 : Shape := ⟨2, ![3, 256]⟩
abbrev S384 : Shape := ⟨1, ![384]⟩
abbrev S6x128x128 : Shape := ⟨3, ![6, 128, 128]⟩
abbrev S6x128 : Shape := ⟨2, ![6, 128]⟩
abbrev S31x384 : Shape := ⟨2, ![31, 384]⟩
abbrev S1024 : Shape := ⟨1, ![1024]⟩
abbrev S1024x1024 : Shape := ⟨2, ![1024, 1024]⟩
abbrev S4096x1024 : Shape := ⟨2, ![4096, 1024]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S4096x384 : Shape := ⟨2, ![4096, 384]⟩
abbrev S30x384 : Shape := ⟨2, ![30, 384]⟩
abbrev S4126x384 : Shape := ⟨2, ![4126, 384]⟩
abbrev S4096 : Shape := ⟨1, ![4096]⟩
abbrev S4096x1 : Shape := ⟨2, ![4096, 1]⟩
abbrev S31 : Shape := ⟨1, ![31]⟩
abbrev S1x31 : Shape := ⟨2, ![1, 31]⟩
abbrev S4096x31 : Shape := ⟨2, ![4096, 31]⟩
abbrev S4096x31x1 : Shape := ⟨3, ![4096, 31, 1]⟩
abbrev S4096x31x384 : Shape := ⟨3, ![4096, 31, 384]⟩
abbrev S1x31x384 : Shape := ⟨3, ![1, 31, 384]⟩
abbrev S1x384 : Shape := ⟨2, ![1, 384]⟩
abbrev S4096x640 : Shape := ⟨2, ![4096, 640]⟩
abbrev S4096x768 : Shape := ⟨2, ![4096, 768]⟩
abbrev S32x128x6x64 : Shape := ⟨4, ![32, 128, 6, 64]⟩
abbrev S128x128 : Shape := ⟨2, ![128, 128]⟩
abbrev S1x128x128 : Shape := ⟨3, ![1, 128, 128]⟩
abbrev S128x128x6 : Shape := ⟨3, ![128, 128, 6]⟩
abbrev S1x128x128x6x1 : Shape := ⟨5, ![1, 128, 128, 6, 1]⟩
abbrev S32x1x128x6x64 : Shape := ⟨5, ![32, 1, 128, 6, 64]⟩
abbrev S32x128x128x6x64 : Shape := ⟨5, ![32, 128, 128, 6, 64]⟩
abbrev S128x6 : Shape := ⟨2, ![128, 6]⟩
abbrev S1x128x6x1 : Shape := ⟨4, ![1, 128, 6, 1]⟩
abbrev S256 : Shape := ⟨1, ![256]⟩
abbrev S16x8x32x1024 : Shape := ⟨4, ![16, 8, 32, 1024]⟩
abbrev S16x32x8x1024 : Shape := ⟨4, ![16, 32, 8, 1024]⟩
abbrev S16x8x32x2304 : Shape := ⟨4, ![16, 8, 32, 2304]⟩
abbrev S16x32x8x2304 : Shape := ⟨4, ![16, 32, 8, 2304]⟩
abbrev S16x8x32x640 : Shape := ⟨4, ![16, 8, 32, 640]⟩
abbrev S16x32x8x640 : Shape := ⟨4, ![16, 32, 8, 640]⟩
abbrev S2x2 : Shape := ⟨2, ![2, 2]⟩
abbrev S1x2x1x2x1 : Shape := ⟨5, ![1, 2, 1, 2, 1]⟩
abbrev S6x1x128x1x128 : Shape := ⟨5, ![6, 1, 128, 1, 128]⟩
abbrev S6x2x128x2x128 : Shape := ⟨5, ![6, 2, 128, 2, 128]⟩
abbrev S6x256x256 : Shape := ⟨3, ![6, 256, 256]⟩
abbrev S128x6x64 : Shape := ⟨3, ![128, 6, 64]⟩
abbrev S128x384 : Shape := ⟨2, ![128, 384]⟩
abbrev S8x256 : Shape := ⟨2, ![8, 256]⟩
abbrev S1x128x1x384 : Shape := ⟨4, ![1, 128, 1, 384]⟩
abbrev S2x128x1x384 : Shape := ⟨4, ![2, 128, 1, 384]⟩
abbrev S256x384 : Shape := ⟨2, ![256, 384]⟩
abbrev S32x384 : Shape := ⟨2, ![32, 384]⟩
abbrev S256x256 : Shape := ⟨2, ![256, 256]⟩
abbrev S1x1024 : Shape := ⟨2, ![1, 1024]⟩
abbrev S4x256x1024 : Shape := ⟨3, ![4, 256, 1024]⟩
abbrev S256x1024 : Shape := ⟨2, ![256, 1024]⟩
abbrev S256x2304 : Shape := ⟨2, ![256, 2304]⟩
abbrev S256x640 : Shape := ⟨2, ![256, 640]⟩
abbrev S272x256 : Shape := ⟨2, ![272, 256]⟩
abbrev S496x384 : Shape := ⟨2, ![496, 384]⟩
abbrev S16x256 : Shape := ⟨2, ![16, 256]⟩
abbrev S240x384 : Shape := ⟨2, ![240, 384]⟩
abbrev S8x1024 : Shape := ⟨2, ![8, 1024]⟩
abbrev S8x8x256 : Shape := ⟨3, ![8, 8, 256]⟩
abbrev S8x384 : Shape := ⟨2, ![8, 384]⟩
abbrev S32x8x384 : Shape := ⟨3, ![32, 8, 384]⟩
abbrev S1x256x256 : Shape := ⟨3, ![1, 256, 256]⟩
abbrev S256x1 : Shape := ⟨2, ![256, 1]⟩
abbrev S256x128 : Shape := ⟨2, ![256, 128]⟩
abbrev S32x8x1024 : Shape := ⟨3, ![32, 8, 1024]⟩
abbrev S1x256x1024 : Shape := ⟨3, ![1, 256, 1024]⟩
abbrev S2x8x256 : Shape := ⟨3, ![2, 8, 256]⟩
abbrev S1x8x256 : Shape := ⟨3, ![1, 8, 256]⟩
abbrev S32x8x256 : Shape := ⟨3, ![32, 8, 256]⟩
abbrev S30x8x384 : Shape := ⟨3, ![30, 8, 384]⟩
abbrev S1x8x384 : Shape := ⟨3, ![1, 8, 384]⟩
abbrev S384x128 : Shape := ⟨2, ![384, 128]⟩

abbrev nBuf : Space → Nat
  | .hbm => 418
  | .vmem => 53
  | .smem => 0
  | _ => 0

abbrev hbmTy0_0 (i : Nat) : BufTy := match i % 128 with
  | 0 => ⟨S4096x2304, .f32⟩
  | 1 => ⟨S3x256, .f32⟩
  | 2 => ⟨S384, .f32⟩
  | 3 => ⟨S384, .f32⟩
  | 4 => ⟨S6x128x128, .f32⟩
  | 5 => ⟨S6x128, .f32⟩
  | 6 => ⟨S31x384, .f32⟩
  | 7 => ⟨S384, .f32⟩
  | 8 => ⟨S384, .f32⟩
  | 9 => ⟨S384, .f32⟩
  | 10 => ⟨S1024, .f32⟩
  | 11 => ⟨S1024x1024, .f32⟩
  | 12 => ⟨S1024, .f32⟩
  | 13 => ⟨S4096x1024, .f32⟩
  | 14 => ⟨S4096x256, .f32⟩
  | 15 => ⟨S4096x256, .f32⟩
  | 16 => ⟨S4096x256, .f32⟩
  | 17 => ⟨S_, .f32⟩
  | 18 => ⟨S2x256, .f32⟩
  | 19 => ⟨S4098x256, .f32⟩
  | 20 => ⟨S1x256, .f32⟩
  | 21 => ⟨S4096x256, .f32⟩
  | 22 => ⟨S4096x256, .f32⟩
  | 23 => ⟨S4096x256, .f32⟩
  | 24 => ⟨S1x256, .f32⟩
  | 25 => ⟨S4096x256, .f32⟩
  | 26 => ⟨S4096x256, .f32⟩
  | 27 => ⟨S4096x256, .f32⟩
  | 28 => ⟨S4096x256, .f32⟩
  | 29 => ⟨S1x256, .f32⟩
  | 30 => ⟨S4096x256, .f32⟩
  | 31 => ⟨S4096x256, .f32⟩
  | 32 => ⟨S4096x256, .f32⟩
  | 33 => ⟨S4096x256, .f32⟩
  | 34 => ⟨S4096x384, .f32⟩
  | 35 => ⟨S4096x384, .f32⟩
  | 36 => ⟨S4096x384, .f32⟩
  | 37 => ⟨S4096x384, .f32⟩
  | 38 => ⟨S_, .f32⟩
  | 39 => ⟨S4096x384, .f32⟩
  | 40 => ⟨S4096x384, .f32⟩
  | 41 => ⟨S_, .f32⟩
  | 42 => ⟨S4096x384, .f32⟩
  | 43 => ⟨S4096x384, .f32⟩
  | 44 => ⟨S4096x384, .f32⟩
  | 45 => ⟨S_, .f32⟩
  | 46 => ⟨S30x384, .f32⟩
  | 47 => ⟨S4126x384, .f32⟩
  | 48 => ⟨S4096, .i32⟩
  | 49 => ⟨S4096x1, .i32⟩
  | 50 => ⟨S31, .i32⟩
  | 51 => ⟨S1x31, .i32⟩
  | 52 => ⟨S4096x31, .i32⟩
  | 53 => ⟨S4096x31, .i32⟩
  | 54 => ⟨S4096x31, .i32⟩
  | 55 => ⟨S_, .i32⟩
  | 56 => ⟨S4096x31, .i32⟩
  | 57 => ⟨S4096x31, .i1⟩
  | 58 => ⟨S_, .i32⟩
  | 59 => ⟨S4096x31, .i32⟩
  | 60 => ⟨S4096x31, .i32⟩
  | 61 => ⟨S4096x31, .i32⟩
  | 62 => ⟨S4096x31x1, .i32⟩
  | 63 => ⟨S4096x31x384, .f32⟩
  | 64 => ⟨S1x31x384, .f32⟩
  | 65 => ⟨S4096x31x384, .f32⟩
  | 66 => ⟨S4096x31x384, .f32⟩
  | 67 => ⟨S_, .f32⟩
  | 68 => ⟨S4096x384, .f32⟩
  | 69 => ⟨S1x384, .f32⟩
  | 70 => ⟨S4096x384, .f32⟩
  | 71 => ⟨S4096x384, .f32⟩
  | 72 => ⟨S4096x640, .f32⟩
  | 73 => ⟨S4096x256, .f32⟩
  | 74 => ⟨S4096x256, .f32⟩
  | 75 => ⟨S4096x256, .f32⟩
  | 76 => ⟨S4096x256, .f32⟩
  | 77 => ⟨S_, .f32⟩
  | 78 => ⟨S2x256, .f32⟩
  | 79 => ⟨S4098x256, .f32⟩
  | 80 => ⟨S1x256, .f32⟩
  | 81 => ⟨S4096x256, .f32⟩
  | 82 => ⟨S4096x256, .f32⟩
  | 83 => ⟨S4096x256, .f32⟩
  | 84 => ⟨S1x256, .f32⟩
  | 85 => ⟨S4096x256, .f32⟩
  | 86 => ⟨S4096x256, .f32⟩
  | 87 => ⟨S4096x256, .f32⟩
  | 88 => ⟨S4096x256, .f32⟩
  | 89 => ⟨S1x256, .f32⟩
  | 90 => ⟨S4096x256, .f32⟩
  | 91 => ⟨S4096x256, .f32⟩
  | 92 => ⟨S4096x256, .f32⟩
  | 93 => ⟨S4096x256, .f32⟩
  | 94 => ⟨S4096x256, .f32⟩
  | 95 => ⟨S4096x768, .f32⟩
  | 96 => ⟨S_, .f32⟩
  | 97 => ⟨S4096x768, .f32⟩
  | 98 => ⟨S4096x768, .f32⟩
  | 99 => ⟨S4096x768, .f32⟩
  | 100 => ⟨S_, .f32⟩
  | 101 => ⟨S4096x768, .f32⟩
  | 102 => ⟨S4096x768, .f32⟩
  | 103 => ⟨S4096x768, .f32⟩
  | 104 => ⟨S4096x768, .f32⟩
  | 105 => ⟨S4096x384, .f32⟩
  | 106 => ⟨S_, .f32⟩
  | 107 => ⟨S4096, .f32⟩
  | 108 => ⟨S4096x1, .f32⟩
  | 109 => ⟨S_, .f32⟩
  | 110 => ⟨S4096x1, .f32⟩
  | 111 => ⟨S4096x1, .f32⟩
  | 112 => ⟨S4096x384, .f32⟩
  | 113 => ⟨S4096x384, .f32⟩
  | 114 => ⟨S4096x384, .f32⟩
  | 115 => ⟨S_, .f32⟩
  | 116 => ⟨S4096, .f32⟩
  | 117 => ⟨S4096x1, .f32⟩
  | 118 => ⟨S_, .f32⟩
  | 119 => ⟨S4096x1, .f32⟩
  | 120 => ⟨S4096x1, .f32⟩
  | 121 => ⟨S_, .f32⟩
  | 122 => ⟨S4096x1, .f32⟩
  | 123 => ⟨S4096x1, .f32⟩
  | 124 => ⟨S4096x1, .f32⟩
  | 125 => ⟨S4096x384, .f32⟩
  | 126 => ⟨S4096x384, .f32⟩
  | 127 => ⟨S1x384, .f32⟩
  | _ => ⟨S4096x2304, .f32⟩

abbrev hbmTy0_1 (i : Nat) : BufTy := match i % 128 with
  | 0 => ⟨S4096x384, .f32⟩
  | 1 => ⟨S4096x384, .f32⟩
  | 2 => ⟨S1x384, .f32⟩
  | 3 => ⟨S4096x384, .f32⟩
  | 4 => ⟨S4096x384, .f32⟩
  | 5 => ⟨S32x128x6x64, .f32⟩
  | 6 => ⟨S_, .i1⟩
  | 7 => ⟨S128x128, .i1⟩
  | 8 => ⟨S128x128, .i32⟩
  | 9 => ⟨S_, .i32⟩
  | 10 => ⟨S128x128, .i32⟩
  | 11 => ⟨S128x128, .i32⟩
  | 12 => ⟨S128x128, .i32⟩
  | 13 => ⟨S128x128, .i1⟩
  | 14 => ⟨S_, .i1⟩
  | 15 => ⟨S128x128, .i1⟩
  | 16 => ⟨S128x128, .i1⟩
  | 17 => ⟨S1x128x128, .i1⟩
  | 18 => ⟨S_, .f32⟩
  | 19 => ⟨S_, .f32⟩
  | 20 => ⟨S6x128x128, .i1⟩
  | 21 => ⟨S6x128x128, .f32⟩
  | 22 => ⟨S6x128x128, .f32⟩
  | 23 => ⟨S128x128x6, .f32⟩
  | 24 => ⟨S1x128x128x6x1, .f32⟩
  | 25 => ⟨S32x1x128x6x64, .f32⟩
  | 26 => ⟨S32x128x128x6x64, .f32⟩
  | 27 => ⟨S32x128x128x6x64, .f32⟩
  | 28 => ⟨S32x128x128x6x64, .f32⟩
  | 29 => ⟨S_, .f32⟩
  | 30 => ⟨S32x128x6x64, .f32⟩
  | 31 => ⟨S128x6, .f32⟩
  | 32 => ⟨S1x128x6x1, .f32⟩
  | 33 => ⟨S32x128x6x64, .f32⟩
  | 34 => ⟨S32x128x6x64, .f32⟩
  | 35 => ⟨S4096x384, .f32⟩
  | 36 => ⟨S4096x384, .f32⟩
  | 37 => ⟨S4096x384, .f32⟩
  | 38 => ⟨S4096x384, .f32⟩
  | 39 => ⟨S4096x384, .f32⟩
  | 40 => ⟨S4096x384, .f32⟩
  | 41 => ⟨S4096x384, .f32⟩
  | 42 => ⟨S_, .f32⟩
  | 43 => ⟨S4096x384, .f32⟩
  | 44 => ⟨S4096x384, .f32⟩
  | 45 => ⟨S_, .f32⟩
  | 46 => ⟨S4096x384, .f32⟩
  | 47 => ⟨S4096x384, .f32⟩
  | 48 => ⟨S4096x384, .f32⟩
  | 49 => ⟨S_, .f32⟩
  | 50 => ⟨S30x384, .f32⟩
  | 51 => ⟨S4126x384, .f32⟩
  | 52 => ⟨S4096, .i32⟩
  | 53 => ⟨S4096x1, .i32⟩
  | 54 => ⟨S31, .i32⟩
  | 55 => ⟨S1x31, .i32⟩
  | 56 => ⟨S4096x31, .i32⟩
  | 57 => ⟨S4096x31, .i32⟩
  | 58 => ⟨S4096x31, .i32⟩
  | 59 => ⟨S_, .i32⟩
  | 60 => ⟨S4096x31, .i32⟩
  | 61 => ⟨S4096x31, .i1⟩
  | 62 => ⟨S_, .i32⟩
  | 63 => ⟨S4096x31, .i32⟩
  | 64 => ⟨S4096x31, .i32⟩
  | 65 => ⟨S4096x31, .i32⟩
  | 66 => ⟨S4096x31x1, .i32⟩
  | 67 => ⟨S4096x31x384, .f32⟩
  | 68 => ⟨S1x31x384, .f32⟩
  | 69 => ⟨S4096x31x384, .f32⟩
  | 70 => ⟨S4096x31x384, .f32⟩
  | 71 => ⟨S_, .f32⟩
  | 72 => ⟨S4096x384, .f32⟩
  | 73 => ⟨S1x384, .f32⟩
  | 74 => ⟨S4096x384, .f32⟩
  | 75 => ⟨S4096x384, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S4096x384, .f32⟩
  | 83 => ⟨S4096x384, .f32⟩
  | 84 => ⟨S4096x384, .f32⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096x1, .f32⟩
  | 93 => ⟨S4096x1, .f32⟩
  | 94 => ⟨S4096x1, .f32⟩
  | 95 => ⟨S4096x384, .f32⟩
  | 96 => ⟨S4096x384, .f32⟩
  | 97 => ⟨S1x384, .f32⟩
  | 98 => ⟨S4096x384, .f32⟩
  | 99 => ⟨S4096x384, .f32⟩
  | 100 => ⟨S1x384, .f32⟩
  | 101 => ⟨S4096x384, .f32⟩
  | 102 => ⟨S4096x384, .f32⟩
  | 103 => ⟨S4096x384, .f32⟩
  | 104 => ⟨S4096x384, .f32⟩
  | 105 => ⟨S_, .f32⟩
  | 106 => ⟨S4096x384, .f32⟩
  | 107 => ⟨S4096x384, .f32⟩
  | 108 => ⟨S_, .f32⟩
  | 109 => ⟨S4096x384, .f32⟩
  | 110 => ⟨S4096x384, .f32⟩
  | 111 => ⟨S4096x384, .f32⟩
  | 112 => ⟨S256, .f32⟩
  | 113 => ⟨S4096x256, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096x1, .f32⟩
  | 122 => ⟨S4096x1, .f32⟩
  | 123 => ⟨S4096x1, .f32⟩
  | 124 => ⟨S4096x256, .f32⟩
  | 125 => ⟨S4096x256, .f32⟩
  | 126 => ⟨S1x256, .f32⟩
  | 127 => ⟨S4096x256, .f32⟩
  | _ => ⟨S4096x2304, .f32⟩

abbrev hbmTy0_2 (i : Nat) : BufTy := match i % 128 with
  | 0 => ⟨S4096x256, .f32⟩
  | 1 => ⟨S384, .f32⟩
  | 2 => ⟨S4096x384, .f32⟩
  | 3 => ⟨S_, .f32⟩
  | 4 => ⟨S4096, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x1, .f32⟩
  | 13 => ⟨S4096x384, .f32⟩
  | 14 => ⟨S4096x384, .f32⟩
  | 15 => ⟨S1x384, .f32⟩
  | 16 => ⟨S4096x384, .f32⟩
  | 17 => ⟨S4096x384, .f32⟩
  | 18 => ⟨S384, .f32⟩
  | 19 => ⟨S4096x384, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1, .f32⟩
  | 30 => ⟨S4096x384, .f32⟩
  | 31 => ⟨S4096x384, .f32⟩
  | 32 => ⟨S1x384, .f32⟩
  | 33 => ⟨S4096x384, .f32⟩
  | 34 => ⟨S4096x384, .f32⟩
  | 35 => ⟨S4096x1024, .f32⟩
  | 36 => ⟨S4096x1024, .f32⟩
  | 37 => ⟨S16x8x32x1024, .f32⟩
  | 38 => ⟨S16x32x8x1024, .f32⟩
  | 39 => ⟨S4096x1024, .f32⟩
  | 40 => ⟨S16x8x32x1024, .f32⟩
  | 41 => ⟨S16x32x8x1024, .f32⟩
  | 42 => ⟨S4096x1024, .f32⟩
  | 43 => ⟨S16x8x32x2304, .f32⟩
  | 44 => ⟨S16x32x8x2304, .f32⟩
  | 45 => ⟨S4096x2304, .f32⟩
  | 46 => ⟨S16x8x32x640, .f32⟩
  | 47 => ⟨S16x32x8x640, .f32⟩
  | 48 => ⟨S4096x640, .f32⟩
  | 49 => ⟨S_, .i1⟩
  | 50 => ⟨S128x128, .i1⟩
  | 51 => ⟨S128x128, .i32⟩
  | 52 => ⟨S_, .i32⟩
  | 53 => ⟨S128x128, .i32⟩
  | 54 => ⟨S128x128, .i32⟩
  | 55 => ⟨S128x128, .i32⟩
  | 56 => ⟨S128x128, .i1⟩
  | 57 => ⟨S_, .i1⟩
  | 58 => ⟨S128x128, .i1⟩
  | 59 => ⟨S128x128, .i1⟩
  | 60 => ⟨S1x128x128, .i1⟩
  | 61 => ⟨S_, .f32⟩
  | 62 => ⟨S_, .f32⟩
  | 63 => ⟨S6x128x128, .i1⟩
  | 64 => ⟨S6x128x128, .f32⟩
  | 65 => ⟨S6x128x128, .f32⟩
  | 66 => ⟨S2x2, .i32⟩
  | 67 => ⟨S2x2, .i32⟩
  | 68 => ⟨S_, .i32⟩
  | 69 => ⟨S2x2, .i32⟩
  | 70 => ⟨S2x2, .i32⟩
  | 71 => ⟨S2x2, .i1⟩
  | 72 => ⟨S2x2, .f32⟩
  | 73 => ⟨S1x2x1x2x1, .f32⟩
  | 74 => ⟨S6x1x128x1x128, .f32⟩
  | 75 => ⟨S6x2x128x2x128, .f32⟩
  | 76 => ⟨S6x2x128x2x128, .f32⟩
  | 77 => ⟨S6x2x128x2x128, .f32⟩
  | 78 => ⟨S6x256x256, .f32⟩
  | 79 => ⟨S128x6, .f32⟩
  | 80 => ⟨S128x6x64, .f32⟩
  | 81 => ⟨S128x384, .f32⟩
  | 82 => ⟨S_, .i32⟩
  | 83 => ⟨S_, .f32⟩
  | 84 => ⟨S8x256, .f32⟩
  | 85 => ⟨S1x384, .f32⟩
  | 86 => ⟨S1x384, .f32⟩
  | 87 => ⟨S6x256x256, .bf16⟩
  | 88 => ⟨S1x128x1x384, .f32⟩
  | 89 => ⟨S2x128x1x384, .f32⟩
  | 90 => ⟨S256x384, .f32⟩
  | 91 => ⟨S_, .i32⟩
  | 92 => ⟨S_, .f32⟩
  | 93 => ⟨S32x384, .f32⟩
  | 94 => ⟨S1x384, .f32⟩
  | 95 => ⟨S1x384, .f32⟩
  | 96 => ⟨S1x384, .f32⟩
  | 97 => ⟨S256x256, .i32⟩
  | 98 => ⟨S256x256, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S256x256, .i32⟩
  | 106 => ⟨S256x256, .i32⟩
  | 107 => ⟨S_, .i32⟩
  | 108 => ⟨S256x256, .i32⟩
  | 109 => ⟨S256x256, .i1⟩
  | 110 => ⟨S_, .i32⟩
  | 111 => ⟨S256x256, .i32⟩
  | 112 => ⟨S256x256, .i1⟩
  | 113 => ⟨S_, .i32⟩
  | 114 => ⟨S_, .i1⟩
  | 115 => ⟨S256x256, .i1⟩
  | 116 => ⟨S256x256, .i1⟩
  | 117 => ⟨S256x256, .i1⟩
  | 118 => ⟨S256x256, .i32⟩
  | 119 => ⟨S256x256, .i32⟩
  | 120 => ⟨S256x256, .i32⟩
  | 121 => ⟨S_, .i32⟩
  | 122 => ⟨S256x256, .i32⟩
  | 123 => ⟨S256x256, .i32⟩
  | 124 => ⟨S_, .i32⟩
  | 125 => ⟨S_, .i32⟩
  | 126 => ⟨S256x256, .i32⟩
  | 127 => ⟨S256x256, .i32⟩
  | _ => ⟨S4096x2304, .f32⟩

abbrev hbmTy0_3 (i : Nat) : BufTy := match i % 128 with
  | 0 => ⟨S256x256, .i32⟩
  | 1 => ⟨S_, .i32⟩
  | 2 => ⟨S256x256, .i32⟩
  | 3 => ⟨S256x256, .i1⟩
  | 4 => ⟨S256x256, .i32⟩
  | 5 => ⟨S256x256, .i32⟩
  | 6 => ⟨S_, .i32⟩
  | 7 => ⟨S256x256, .i32⟩
  | 8 => ⟨S256x256, .i1⟩
  | 9 => ⟨S256x256, .i1⟩
  | 10 => ⟨S_, .i32⟩
  | 11 => ⟨S256x256, .i32⟩
  | 12 => ⟨S256x256, .i32⟩
  | 13 => ⟨S256x256, .i32⟩
  | 14 => ⟨S256x256, .i32⟩
  | 15 => ⟨S256x256, .i1⟩
  | 16 => ⟨S256x256, .f32⟩
  | 17 => ⟨S1x1024, .f32⟩
  | 18 => ⟨S4x256x1024, .f32⟩
  | 19 => ⟨S4x256x1024, .bf16⟩
  | 20 => ⟨S1x1024, .f32⟩
  | 21 => ⟨S4096x2304, .bf16⟩
  | 22 => ⟨S4x256x1024, .f32⟩
  | 23 => ⟨S1x1024, .f32⟩
  | 24 => ⟨S1x1024, .f32⟩
  | 25 => ⟨S8x256, .f32⟩
  | 26 => ⟨S1x384, .f32⟩
  | 27 => ⟨S1x384, .f32⟩
  | 28 => ⟨S6x128x128, .f32⟩
  | 29 => ⟨S128x128, .f32⟩
  | 30 => ⟨S32x384, .f32⟩
  | 31 => ⟨S1x384, .f32⟩
  | 32 => ⟨S1x384, .f32⟩
  | 33 => ⟨S1x384, .f32⟩
  | _ => ⟨S4096x2304, .f32⟩

abbrev hbmTy (i : Nat) : BufTy := match i / 128 with
  | 0 => hbmTy0_0 i
  | 1 => hbmTy0_1 i
  | 2 => hbmTy0_2 i
  | 3 => hbmTy0_3 i
  | _ => ⟨S4096x2304, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2304, .f32⟩
  | .local _ .vmem, ⟨5, _⟩ => ⟨S256x2304, .f32⟩
  | .local _ .vmem, ⟨6, _⟩ => ⟨S256x640, .f32⟩
  | .local _ .vmem, ⟨7, _⟩ => ⟨S256x640, .f32⟩
  | .local _ .vmem, ⟨8, _⟩ => ⟨S8x256, .f32⟩
  | .local _ .vmem, ⟨9, _⟩ => ⟨S1x384, .f32⟩
  | .local _ .vmem, ⟨10, _⟩ => ⟨S1x384, .f32⟩
  | .local _ .vmem, ⟨11, _⟩ => ⟨S6x256x256, .bf16⟩
  | .local _ .vmem, ⟨12, _⟩ => ⟨S256x384, .f32⟩
  | .local _ .vmem, ⟨13, _⟩ => ⟨S32x384, .f32⟩
  | .local _ .vmem, ⟨14, _⟩ => ⟨S1x384, .f32⟩
  | .local _ .vmem, ⟨15, _⟩ => ⟨S1x384, .f32⟩
  | .local _ .vmem, ⟨16, _⟩ => ⟨S1x384, .f32⟩
  | .local _ .vmem, ⟨17, _⟩ => ⟨S256x256, .f32⟩
  | .local _ .vmem, ⟨18, _⟩ => ⟨S1x1024, .f32⟩
  | .local _ .vmem, ⟨19, _⟩ => ⟨S4x256x1024, .bf16⟩
  | .local _ .vmem, ⟨20, _⟩ => ⟨S1x1024, .f32⟩
  | .local _ .vmem, ⟨21, _⟩ => ⟨S256x2304, .bf16⟩
  | .local _ .vmem, ⟨22, _⟩ => ⟨S256x2304, .bf16⟩
  | .local _ .vmem, ⟨23, _⟩ => ⟨S4x256x1024, .f32⟩
  | .local _ .vmem, ⟨24, _⟩ => ⟨S1x1024, .f32⟩
  | .local _ .vmem, ⟨25, _⟩ => ⟨S1x1024, .f32⟩
  | .local _ .vmem, ⟨26, _⟩ => ⟨S8x256, .f32⟩
  | .local _ .vmem, ⟨27, _⟩ => ⟨S1x384, .f32⟩
  | .local _ .vmem, ⟨28, _⟩ => ⟨S1x384, .f32⟩
  | .local _ .vmem, ⟨29, _⟩ => ⟨S6x128x128, .f32⟩
  | .local _ .vmem, ⟨30, _⟩ => ⟨S128x128, .f32⟩
  | .local _ .vmem, ⟨31, _⟩ => ⟨S32x384, .f32⟩
  | .local _ .vmem, ⟨32, _⟩ => ⟨S1x384, .f32⟩
  | .local _ .vmem, ⟨33, _⟩ => ⟨S1x384, .f32⟩
  | .local _ .vmem, ⟨34, _⟩ => ⟨S1x384, .f32⟩
  | .local _ .vmem, ⟨35, _⟩ => ⟨S272x256, .f32⟩
  | .local _ .vmem, ⟨36, _⟩ => ⟨S496x384, .f32⟩
  | .local _ .vmem, ⟨37, _⟩ => ⟨S16x256, .f32⟩
  | .local _ .vmem, ⟨38, _⟩ => ⟨S240x384, .f32⟩
  | .local _ .vmem, ⟨39, _⟩ => ⟨S8x1024, .f32⟩
  | .local _ .vmem, ⟨40, _⟩ => ⟨S8x1024, .f32⟩
  | .local _ .vmem, ⟨41, _⟩ => ⟨S8x8x256, .f32⟩
  | .local _ .vmem, ⟨42, _⟩ => ⟨S8x384, .f32⟩
  | .local _ .vmem, ⟨43, _⟩ => ⟨S8x384, .f32⟩
  | .local _ .vmem, ⟨44, _⟩ => ⟨S32x8x384, .f32⟩
  | .local _ .vmem, ⟨45, _⟩ => ⟨S8x384, .f32⟩
  | .local _ .vmem, ⟨46, _⟩ => ⟨S8x384, .f32⟩
  | .local _ .vmem, ⟨47, _⟩ => ⟨S8x384, .f32⟩
  | .local _ .vmem, ⟨48, _⟩ => ⟨S6x256x256, .bf16⟩
  | .local _ .vmem, ⟨49, _⟩ => ⟨S6x256x256, .bf16⟩
  | .local _ .vmem, ⟨50, _⟩ => ⟨S256x384, .f32⟩
  | .local _ .vmem, ⟨51, _⟩ => ⟨S6x256x256, .f32⟩
  | .local _ .vmem, ⟨52, _⟩ => ⟨S256x384, .f32⟩
  | _, _ => ⟨S4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_0 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c : Ref sig .tc := ⟨.hbm, 55, rfl⟩
abbrev main_v37 : Ref sig .tc := ⟨.hbm, 56, rfl⟩
abbrev main_v38 : Ref sig .tc := ⟨.hbm, 57, rfl⟩
abbrev main_c_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_6 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_7 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_8 : Ref sig .tc := ⟨.hbm, 106, rfl⟩
abbrev main_v82 : Ref sig .tc := ⟨.hbm, 107, rfl⟩
abbrev main_v83 : Ref sig .tc := ⟨.hbm, 108, rfl⟩
abbrev main_cst_9 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_10 : Ref sig .tc := ⟨.hbm, 115, rfl⟩
abbrev main_v89 : Ref sig .tc := ⟨.hbm, 116, rfl⟩
abbrev main_v90 : Ref sig .tc := ⟨.hbm, 117, rfl⟩
abbrev main_cst_11 : Ref sig .tc := ⟨.hbm, 118, rfl⟩
abbrev main_v91 : Ref sig .tc := ⟨.hbm, 119, rfl⟩
abbrev main_v92 : Ref sig .tc := ⟨.hbm, 120, rfl⟩
abbrev main_cst_12 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_c_13 : Ref sig .tc := ⟨.hbm, 134, rfl⟩
abbrev main_v105 : Ref sig .tc := ⟨.hbm, 135, rfl⟩
abbrev main_call0_v0 : Ref sig .tc := ⟨.hbm, 136, rfl⟩
abbrev main_call0_c : Ref sig .tc := ⟨.hbm, 137, rfl⟩
abbrev main_call0_v1 : Ref sig .tc := ⟨.hbm, 138, rfl⟩
abbrev main_call0_v2 : Ref sig .tc := ⟨.hbm, 139, rfl⟩
abbrev main_call0_v3 : Ref sig .tc := ⟨.hbm, 140, rfl⟩
abbrev main_call0_v4 : Ref sig .tc := ⟨.hbm, 141, rfl⟩
abbrev main_call0_c_0 : Ref sig .tc := ⟨.hbm, 142, rfl⟩
abbrev main_call0_v5 : Ref sig .tc := ⟨.hbm, 143, rfl⟩
abbrev main_v106 : Ref sig .tc := ⟨.hbm, 144, rfl⟩
abbrev main_v107 : Ref sig .tc := ⟨.hbm, 145, rfl⟩
abbrev main_cst_14 : Ref sig .tc := ⟨.hbm, 146, rfl⟩
abbrev main_call1_v0 : Ref sig .tc := ⟨.hbm, 147, rfl⟩
abbrev main_call1_v1 : Ref sig .tc := ⟨.hbm, 148, rfl⟩
abbrev main_call1_v2 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_15 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_16 : Ref sig .tc := ⟨.hbm, 170, rfl⟩
abbrev main_v127 : Ref sig .tc := ⟨.hbm, 171, rfl⟩
abbrev main_v128 : Ref sig .tc := ⟨.hbm, 172, rfl⟩
abbrev main_cst_17 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_18 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_19 : Ref sig .tc := ⟨.hbm, 187, rfl⟩
abbrev main_v141 : Ref sig .tc := ⟨.hbm, 188, rfl⟩
abbrev main_v142 : Ref sig .tc := ⟨.hbm, 189, rfl⟩
abbrev main_c_20 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_21 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_22 : Ref sig .tc := ⟨.hbm, 204, rfl⟩
abbrev main_v155 : Ref sig .tc := ⟨.hbm, 205, rfl⟩
abbrev main_v156 : Ref sig .tc := ⟨.hbm, 206, rfl⟩
abbrev main_cst_23 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_cst_24 : Ref sig .tc := ⟨.hbm, 213, rfl⟩
abbrev main_v162 : Ref sig .tc := ⟨.hbm, 214, rfl⟩
abbrev main_v163 : Ref sig .tc := ⟨.hbm, 215, rfl⟩
abbrev main_cst_25 : Ref sig .tc := ⟨.hbm, 216, rfl⟩
abbrev main_v164 : Ref sig .tc := ⟨.hbm, 217, rfl⟩
abbrev main_v165 : Ref sig .tc := ⟨.hbm, 218, rfl⟩
abbrev main_cst_26 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_call2_v0 : Ref sig .tc := ⟨.hbm, 231, rfl⟩
abbrev main_call2_v1 : Ref sig .tc := ⟨.hbm, 232, rfl⟩
abbrev main_call2_cst : Ref sig .tc := ⟨.hbm, 233, rfl⟩
abbrev main_call2_v2 : Ref sig .tc := ⟨.hbm, 234, rfl⟩
abbrev main_call2_v3 : Ref sig .tc := ⟨.hbm, 235, rfl⟩
abbrev main_call2_cst_0 : Ref sig .tc := ⟨.hbm, 236, rfl⟩
abbrev main_call2_v4 : Ref sig .tc := ⟨.hbm, 237, rfl⟩
abbrev main_call2_v5 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_cst_27 : Ref sig .tc := ⟨.hbm, 242, rfl⟩
abbrev main_v180 : Ref sig .tc := ⟨.hbm, 243, rfl⟩
abbrev main_v181 : Ref sig .tc := ⟨.hbm, 244, rfl⟩
abbrev main_cst_28 : Ref sig .tc := ⟨.hbm, 245, rfl⟩
abbrev main_v182 : Ref sig .tc := ⟨.hbm, 246, rfl⟩
abbrev main_v183 : Ref sig .tc := ⟨.hbm, 247, rfl⟩
abbrev main_cst_29 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_cst_30 : Ref sig .tc := ⟨.hbm, 259, rfl⟩
abbrev main_v194 : Ref sig .tc := ⟨.hbm, 260, rfl⟩
abbrev main_v195 : Ref sig .tc := ⟨.hbm, 261, rfl⟩
abbrev main_cst_31 : Ref sig .tc := ⟨.hbm, 262, rfl⟩
abbrev main_v196 : Ref sig .tc := ⟨.hbm, 263, rfl⟩
abbrev main_v197 : Ref sig .tc := ⟨.hbm, 264, rfl⟩
abbrev main_cst_32 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_cst_33 : Ref sig .tc := ⟨.hbm, 276, rfl⟩
abbrev main_v208 : Ref sig .tc := ⟨.hbm, 277, rfl⟩
abbrev main_v209 : Ref sig .tc := ⟨.hbm, 278, rfl⟩
abbrev main_cst_34 : Ref sig .tc := ⟨.hbm, 279, rfl⟩
abbrev main_v210 : Ref sig .tc := ⟨.hbm, 280, rfl⟩
abbrev main_v211 : Ref sig .tc := ⟨.hbm, 281, rfl⟩
abbrev main_cst_35 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_c_36 : Ref sig .tc := ⟨.hbm, 305, rfl⟩
abbrev main_v234 : Ref sig .tc := ⟨.hbm, 306, rfl⟩
abbrev main_call3_v0 : Ref sig .tc := ⟨.hbm, 307, rfl⟩
abbrev main_call3_c : Ref sig .tc := ⟨.hbm, 308, rfl⟩
abbrev main_call3_v1 : Ref sig .tc := ⟨.hbm, 309, rfl⟩
abbrev main_call3_v2 : Ref sig .tc := ⟨.hbm, 310, rfl⟩
abbrev main_call3_v3 : Ref sig .tc := ⟨.hbm, 311, rfl⟩
abbrev main_call3_v4 : Ref sig .tc := ⟨.hbm, 312, rfl⟩
abbrev main_call3_c_0 : Ref sig .tc := ⟨.hbm, 313, rfl⟩
abbrev main_call3_v5 : Ref sig .tc := ⟨.hbm, 314, rfl⟩
abbrev main_v235 : Ref sig .tc := ⟨.hbm, 315, rfl⟩
abbrev main_v236 : Ref sig .tc := ⟨.hbm, 316, rfl⟩
abbrev main_cst_37 : Ref sig .tc := ⟨.hbm, 317, rfl⟩
abbrev main_call4_v0 : Ref sig .tc := ⟨.hbm, 318, rfl⟩
abbrev main_call4_v1 : Ref sig .tc := ⟨.hbm, 319, rfl⟩
abbrev main_call4_v2 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_c_38 : Ref sig .tc := ⟨.hbm, 324, rfl⟩
abbrev main_v240 : Ref sig .tc := ⟨.hbm, 325, rfl⟩
abbrev main_v241 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_c_39 : Ref sig .tc := ⟨.hbm, 338, rfl⟩
abbrev main_call5_v0 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_c_40 : Ref sig .tc := ⟨.hbm, 347, rfl⟩
abbrev main_call6_v0 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_v263 : Ref sig .tc := ⟨.hbm, 352, rfl⟩
abbrev main_v264 : Ref sig .tc := ⟨.hbm, 353, rfl⟩
abbrev main_v265 : Ref sig .tc := ⟨.hbm, 354, rfl⟩
abbrev main_c_41 : Ref sig .tc := ⟨.hbm, 355, rfl⟩
abbrev main_call7_v0 : Ref sig .tc := ⟨.hbm, 356, rfl⟩
abbrev main_call7_c : Ref sig .tc := ⟨.hbm, 357, rfl⟩
abbrev main_call7_v1 : Ref sig .tc := ⟨.hbm, 358, rfl⟩
abbrev main_call7_c_0 : Ref sig .tc := ⟨.hbm, 359, rfl⟩
abbrev main_call7_v2 : Ref sig .tc := ⟨.hbm, 360, rfl⟩
abbrev main_call7_v3 : Ref sig .tc := ⟨.hbm, 361, rfl⟩
abbrev main_call7_v4 : Ref sig .tc := ⟨.hbm, 362, rfl⟩
abbrev main_call7_c_1 : Ref sig .tc := ⟨.hbm, 363, rfl⟩
abbrev main_call7_v5 : Ref sig .tc := ⟨.hbm, 364, rfl⟩
abbrev main_call7_v6 : Ref sig .tc := ⟨.hbm, 365, rfl⟩
abbrev main_call7_c_2 : Ref sig .tc := ⟨.hbm, 366, rfl⟩
abbrev main_call7_v7 : Ref sig .tc := ⟨.hbm, 367, rfl⟩
abbrev main_call7_v8 : Ref sig .tc := ⟨.hbm, 368, rfl⟩
abbrev main_call7_c_3 : Ref sig .tc := ⟨.hbm, 369, rfl⟩
abbrev main_call7_v9 : Ref sig .tc := ⟨.hbm, 370, rfl⟩
abbrev main_call7_v10 : Ref sig .tc := ⟨.hbm, 371, rfl⟩
abbrev main_call7_v11 : Ref sig .tc := ⟨.hbm, 372, rfl⟩
abbrev main_call7_v12 : Ref sig .tc := ⟨.hbm, 373, rfl⟩
abbrev main_call7_v13 : Ref sig .tc := ⟨.hbm, 374, rfl⟩
abbrev main_call7_v14 : Ref sig .tc := ⟨.hbm, 375, rfl⟩
abbrev main_v266 : Ref sig .tc := ⟨.hbm, 376, rfl⟩
abbrev main_c_42 : Ref sig .tc := ⟨.hbm, 377, rfl⟩
abbrev main_v267 : Ref sig .tc := ⟨.hbm, 378, rfl⟩
abbrev main_v268 : Ref sig .tc := ⟨.hbm, 379, rfl⟩
abbrev main_c_43 : Ref sig .tc := ⟨.hbm, 380, rfl⟩
abbrev main_call8_v0 : Ref sig .tc := ⟨.hbm, 381, rfl⟩
abbrev main_call8_v1 : Ref sig .tc := ⟨.hbm, 382, rfl⟩
abbrev main_call8_v2 : Ref sig .tc := ⟨.hbm, 383, rfl⟩
abbrev main_call8_v3 : Ref sig .tc := ⟨.hbm, 384, rfl⟩
abbrev main_call8_v4 : Ref sig .tc := ⟨.hbm, 385, rfl⟩
abbrev main_call8_v5 : Ref sig .tc := ⟨.hbm, 386, rfl⟩
abbrev main_call8_v6 : Ref sig .tc := ⟨.hbm, 387, rfl⟩
abbrev main_call8_v7 : Ref sig .tc := ⟨.hbm, 388, rfl⟩
abbrev main_call8_v8 : Ref sig .tc := ⟨.hbm, 389, rfl⟩
abbrev main_call8_c : Ref sig .tc := ⟨.hbm, 390, rfl⟩
abbrev main_call8_v9 : Ref sig .tc := ⟨.hbm, 391, rfl⟩
abbrev main_call8_v10 : Ref sig .tc := ⟨.hbm, 392, rfl⟩
abbrev main_call8_v11 : Ref sig .tc := ⟨.hbm, 393, rfl⟩
abbrev main_call8_c_0 : Ref sig .tc := ⟨.hbm, 394, rfl⟩
abbrev main_call8_v12 : Ref sig .tc := ⟨.hbm, 395, rfl⟩
abbrev main_call8_v13 : Ref sig .tc := ⟨.hbm, 396, rfl⟩
abbrev main_v269 : Ref sig .tc := ⟨.hbm, 397, rfl⟩
abbrev main_v270 : Ref sig .tc := ⟨.hbm, 398, rfl⟩
abbrev main_v271 : Ref sig .tc := ⟨.hbm, 399, rfl⟩
abbrev main_v272 : Ref sig .tc := ⟨.hbm, 400, rfl⟩
abbrev main_v273 : Ref sig .tc := ⟨.hbm, 401, rfl⟩
abbrev main_v274 : Ref sig .tc := ⟨.hbm, 402, rfl⟩
abbrev main_v275 : Ref sig .tc := ⟨.hbm, 403, rfl⟩
abbrev main_v276 : Ref sig .tc := ⟨.hbm, 404, rfl⟩
abbrev main_v277_0 : Ref sig .tc := ⟨.hbm, 405, rfl⟩
abbrev main_v277_1 : Ref sig .tc := ⟨.hbm, 406, rfl⟩
abbrev main_v277_2 : Ref sig .tc := ⟨.hbm, 407, rfl⟩
abbrev main_v277_3 : Ref sig .tc := ⟨.hbm, 408, rfl⟩
abbrev main_v277_4 : Ref sig .tc := ⟨.hbm, 409, rfl⟩
abbrev main_v277_5 : Ref sig .tc := ⟨.hbm, 410, rfl⟩
abbrev main_v277_6 : Ref sig .tc := ⟨.hbm, 411, rfl⟩
abbrev main_v277_7 : Ref sig .tc := ⟨.hbm, 412, rfl⟩
abbrev main_v277_8 : Ref sig .tc := ⟨.hbm, 413, rfl⟩
abbrev main_v277_9 : Ref sig .tc := ⟨.hbm, 414, rfl⟩
abbrev main_v277_10 : Ref sig .tc := ⟨.hbm, 415, rfl⟩
abbrev main_v277_11 : Ref sig .tc := ⟨.hbm, 416, rfl⟩
abbrev main_v277_12 : Ref sig .tc := ⟨.hbm, 417, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg26_0 : Ref sig .tc := ⟨.vmem, 31, rfl⟩
abbrev cc0_stg27_0 : Ref sig .tc := ⟨.vmem, 32, rfl⟩
abbrev cc0_stg28_0 : Ref sig .tc := ⟨.vmem, 33, rfl⟩
abbrev cc0_stg29_0 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_scratch3 : Ref sig .tc := ⟨.vmem, 38, rfl⟩
abbrev cc0_scratch4 : Ref sig .tc := ⟨.vmem, 39, rfl⟩
abbrev cc0_scratch5 : Ref sig .tc := ⟨.vmem, 40, rfl⟩
abbrev cc0_scratch6 : Ref sig .tc := ⟨.vmem, 41, rfl⟩
abbrev cc0_scratch7 : Ref sig .tc := ⟨.vmem, 42, rfl⟩
abbrev cc0_scratch8 : Ref sig .tc := ⟨.vmem, 43, rfl⟩
abbrev cc0_scratch9 : Ref sig .tc := ⟨.vmem, 44, rfl⟩
abbrev cc0_scratch10 : Ref sig .tc := ⟨.vmem, 45, rfl⟩
abbrev cc0_scratch11 : Ref sig .tc := ⟨.vmem, 46, rfl⟩
abbrev cc0_scratch12 : Ref sig .tc := ⟨.vmem, 47, rfl⟩
abbrev cc0_scratch13 : Ref sig .tc := ⟨.vmem, 48, rfl⟩
abbrev cc0_scratch14 : Ref sig .tc := ⟨.vmem, 49, rfl⟩
abbrev cc0_scratch15 : Ref sig .tc := ⟨.vmem, 50, rfl⟩
abbrev cc0_scratch16 : Ref sig .tc := ⟨.vmem, 51, rfl⟩
abbrev cc0_scratch17 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem26_0 : DmaSem sig := 31
abbrev cc0_sem27_0 : DmaSem sig := 32
abbrev cc0_sem28_0 : DmaSem sig := 33
abbrev cc0_sem29_0 : DmaSem sig := 34

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1153 : BitVec 1 := Scalar.cmpi .eq arg0 c15_i32
  let v1154 : BitVec 32 := Scalar.extui v1153
  let c0_i32_559 : BitVec 32 := 0#32
  let v1155 : BitVec 1 := Scalar.cmpi .ne v1154 c0_i32_559
  v1155

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x2304 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S4x256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x384 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x384 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S6x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S32x384 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x384 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x384 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x384 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== Reference5Ideal.lean ====
abbrev S4096x2304 : Shape := ⟨2, ![4096, 2304]⟩
abbrev S3x256 : Shape := ⟨2, ![3, 256]⟩
abbrev S384 : Shape := ⟨1, ![384]⟩
abbrev S6x128x128 : Shape := ⟨3, ![6, 128, 128]⟩
abbrev S6x128 : Shape := ⟨2, ![6, 128]⟩
abbrev S31x384 : Shape := ⟨2, ![31, 384]⟩
abbrev S1024 : Shape := ⟨1, ![1024]⟩
abbrev S1024x1024 : Shape := ⟨2, ![1024, 1024]⟩
abbrev S4096x1024 : Shape := ⟨2, ![4096, 1024]⟩
abbrev S4096x256 : Shape := ⟨2, ![4096, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S4096x768 : Shape := ⟨2, ![4096, 768]⟩
abbrev S4096x384 : Shape := ⟨2, ![4096, 384]⟩
abbrev S4096 : Shape := ⟨1, ![4096]⟩
abbrev S4096x1 : Shape := ⟨2, ![4096, 1]⟩
abbrev S1x384 : Shape := ⟨2, ![1, 384]⟩
abbrev S32x128x6x64 : Shape := ⟨4, ![32, 128, 6, 64]⟩
abbrev S128x128 : Shape := ⟨2, ![128, 128]⟩
abbrev S1x128x128 : Shape := ⟨3, ![1, 128, 128]⟩
abbrev S128x128x6 : Shape := ⟨3, ![128, 128, 6]⟩
abbrev S1x128x128x6x1 : Shape := ⟨5, ![1, 128, 128, 6, 1]⟩
abbrev S32x1x128x6x64 : Shape := ⟨5, ![32, 1, 128, 6, 64]⟩
abbrev S32x128x128x6x64 : Shape := ⟨5, ![32, 128, 128, 6, 64]⟩
abbrev S128x6 : Shape := ⟨2, ![128, 6]⟩
abbrev S1x128x6x1 : Shape := ⟨4, ![1, 128, 6, 1]⟩
abbrev S30x384 : Shape := ⟨2, ![30, 384]⟩
abbrev S4126x384 : Shape := ⟨2, ![4126, 384]⟩
abbrev S31 : Shape := ⟨1, ![31]⟩
abbrev S1x31 : Shape := ⟨2, ![1, 31]⟩
abbrev S4096x31 : Shape := ⟨2, ![4096, 31]⟩
abbrev S4096x31x1 : Shape := ⟨3, ![4096, 31, 1]⟩
abbrev S4096x31x384 : Shape := ⟨3, ![4096, 31, 384]⟩
abbrev S1x31x384 : Shape := ⟨3, ![1, 31, 384]⟩
abbrev S256 : Shape := ⟨1, ![256]⟩
abbrev S1x1024 : Shape := ⟨2, ![1, 1024]⟩

abbrev nBuf : Space → Nat
  | .hbm => 257
  | .vmem => 0
  | .smem => 0
  | _ => 0

abbrev hbmTy0_0 (i : Nat) : BufTy := match i % 128 with
  | 0 => ⟨S4096x2304, .f32⟩
  | 1 => ⟨S3x256, .f32⟩
  | 2 => ⟨S384, .f32⟩
  | 3 => ⟨S384, .f32⟩
  | 4 => ⟨S6x128x128, .f32⟩
  | 5 => ⟨S6x128, .f32⟩
  | 6 => ⟨S31x384, .f32⟩
  | 7 => ⟨S384, .f32⟩
  | 8 => ⟨S384, .f32⟩
  | 9 => ⟨S384, .f32⟩
  | 10 => ⟨S1024, .f32⟩
  | 11 => ⟨S1024x1024, .f32⟩
  | 12 => ⟨S1024, .f32⟩
  | 13 => ⟨S4096x1024, .f32⟩
  | 14 => ⟨S4096x256, .f32⟩
  | 15 => ⟨S4096x256, .f32⟩
  | 16 => ⟨S4096x256, .f32⟩
  | 17 => ⟨S4096x256, .f32⟩
  | 18 => ⟨S_, .f32⟩
  | 19 => ⟨S2x256, .f32⟩
  | 20 => ⟨S4098x256, .f32⟩
  | 21 => ⟨S1x256, .f32⟩
  | 22 => ⟨S4096x256, .f32⟩
  | 23 => ⟨S4096x256, .f32⟩
  | 24 => ⟨S4096x256, .f32⟩
  | 25 => ⟨S1x256, .f32⟩
  | 26 => ⟨S4096x256, .f32⟩
  | 27 => ⟨S4096x256, .f32⟩
  | 28 => ⟨S4096x256, .f32⟩
  | 29 => ⟨S4096x256, .f32⟩
  | 30 => ⟨S1x256, .f32⟩
  | 31 => ⟨S4096x256, .f32⟩
  | 32 => ⟨S4096x256, .f32⟩
  | 33 => ⟨S4096x256, .f32⟩
  | 34 => ⟨S4096x256, .f32⟩
  | 35 => ⟨S4096x256, .f32⟩
  | 36 => ⟨S4096x768, .f32⟩
  | 37 => ⟨S_, .f32⟩
  | 38 => ⟨S4096x768, .f32⟩
  | 39 => ⟨S4096x768, .f32⟩
  | 40 => ⟨S4096x768, .f32⟩
  | 41 => ⟨S_, .f32⟩
  | 42 => ⟨S4096x768, .f32⟩
  | 43 => ⟨S4096x768, .f32⟩
  | 44 => ⟨S4096x768, .f32⟩
  | 45 => ⟨S4096x768, .f32⟩
  | 46 => ⟨S4096x384, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x384, .f32⟩
  | 54 => ⟨S4096x384, .f32⟩
  | 55 => ⟨S4096x384, .f32⟩
  | 56 => ⟨S_, .f32⟩
  | 57 => ⟨S4096, .f32⟩
  | 58 => ⟨S4096x1, .f32⟩
  | 59 => ⟨S_, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1, .f32⟩
  | 66 => ⟨S4096x384, .f32⟩
  | 67 => ⟨S4096x384, .f32⟩
  | 68 => ⟨S1x384, .f32⟩
  | 69 => ⟨S4096x384, .f32⟩
  | 70 => ⟨S4096x384, .f32⟩
  | 71 => ⟨S1x384, .f32⟩
  | 72 => ⟨S4096x384, .f32⟩
  | 73 => ⟨S4096x384, .f32⟩
  | 74 => ⟨S32x128x6x64, .f32⟩
  | 75 => ⟨S_, .i1⟩
  | 76 => ⟨S128x128, .i1⟩
  | 77 => ⟨S128x128, .i32⟩
  | 78 => ⟨S_, .i32⟩
  | 79 => ⟨S128x128, .i32⟩
  | 80 => ⟨S128x128, .i32⟩
  | 81 => ⟨S128x128, .i32⟩
  | 82 => ⟨S128x128, .i1⟩
  | 83 => ⟨S_, .i1⟩
  | 84 => ⟨S128x128, .i1⟩
  | 85 => ⟨S128x128, .i1⟩
  | 86 => ⟨S1x128x128, .i1⟩
  | 87 => ⟨S_, .f32⟩
  | 88 => ⟨S_, .f32⟩
  | 89 => ⟨S6x128x128, .i1⟩
  | 90 => ⟨S6x128x128, .f32⟩
  | 91 => ⟨S6x128x128, .f32⟩
  | 92 => ⟨S128x128x6, .f32⟩
  | 93 => ⟨S1x128x128x6x1, .f32⟩
  | 94 => ⟨S32x1x128x6x64, .f32⟩
  | 95 => ⟨S32x128x128x6x64, .f32⟩
  | 96 => ⟨S32x128x128x6x64, .f32⟩
  | 97 => ⟨S32x128x128x6x64, .f32⟩
  | 98 => ⟨S_, .f32⟩
  | 99 => ⟨S32x128x6x64, .f32⟩
  | 100 => ⟨S128x6, .f32⟩
  | 101 => ⟨S1x128x6x1, .f32⟩
  | 102 => ⟨S32x128x6x64, .f32⟩
  | 103 => ⟨S32x128x6x64, .f32⟩
  | 104 => ⟨S4096x384, .f32⟩
  | 105 => ⟨S4096x384, .f32⟩
  | 106 => ⟨S4096x384, .f32⟩
  | 107 => ⟨S4096x384, .f32⟩
  | 108 => ⟨S4096x384, .f32⟩
  | 109 => ⟨S4096x384, .f32⟩
  | 110 => ⟨S4096x384, .f32⟩
  | 111 => ⟨S_, .f32⟩
  | 112 => ⟨S4096x384, .f32⟩
  | 113 => ⟨S4096x384, .f32⟩
  | 114 => ⟨S_, .f32⟩
  | 115 => ⟨S4096x384, .f32⟩
  | 116 => ⟨S4096x384, .f32⟩
  | 117 => ⟨S4096x384, .f32⟩
  | 118 => ⟨S_, .f32⟩
  | 119 => ⟨S30x384, .f32⟩
  | 120 => ⟨S4126x384, .f32⟩
  | 121 => ⟨S4096, .i32⟩
  | 122 => ⟨S4096x1, .i32⟩
  | 123 => ⟨S31, .i32⟩
  | 124 => ⟨S1x31, .i32⟩
  | 125 => ⟨S4096x31, .i32⟩
  | 126 => ⟨S4096x31, .i32⟩
  | 127 => ⟨S4096x31, .i32⟩
  | _ => ⟨S4096x2304, .f32⟩

abbrev hbmTy0_1 (i : Nat) : BufTy := match i % 128 with
  | 0 => ⟨S_, .i32⟩
  | 1 => ⟨S4096x31, .i32⟩
  | 2 => ⟨S4096x31, .i1⟩
  | 3 => ⟨S_, .i32⟩
  | 4 => ⟨S4096x31, .i32⟩
  | 5 => ⟨S4096x31, .i32⟩
  | 6 => ⟨S4096x31, .i32⟩
  | 7 => ⟨S4096x31x1, .i32⟩
  | 8 => ⟨S4096x31x384, .f32⟩
  | 9 => ⟨S1x31x384, .f32⟩
  | 10 => ⟨S4096x31x384, .f32⟩
  | 11 => ⟨S4096x31x384, .f32⟩
  | 12 => ⟨S_, .f32⟩
  | 13 => ⟨S4096x384, .f32⟩
  | 14 => ⟨S1x384, .f32⟩
  | 15 => ⟨S4096x384, .f32⟩
  | 16 => ⟨S4096x384, .f32⟩
  | 17 => ⟨S_, .f32⟩
  | 18 => ⟨S4096, .f32⟩
  | 19 => ⟨S4096x1, .f32⟩
  | 20 => ⟨S_, .f32⟩
  | 21 => ⟨S4096x1, .f32⟩
  | 22 => ⟨S4096x1, .f32⟩
  | 23 => ⟨S4096x384, .f32⟩
  | 24 => ⟨S4096x384, .f32⟩
  | 25 => ⟨S4096x384, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1, .f32⟩
  | 36 => ⟨S4096x384, .f32⟩
  | 37 => ⟨S4096x384, .f32⟩
  | 38 => ⟨S1x384, .f32⟩
  | 39 => ⟨S4096x384, .f32⟩
  | 40 => ⟨S4096x384, .f32⟩
  | 41 => ⟨S1x384, .f32⟩
  | 42 => ⟨S4096x384, .f32⟩
  | 43 => ⟨S4096x384, .f32⟩
  | 44 => ⟨S4096x384, .f32⟩
  | 45 => ⟨S4096x384, .f32⟩
  | 46 => ⟨S_, .f32⟩
  | 47 => ⟨S4096x384, .f32⟩
  | 48 => ⟨S4096x384, .f32⟩
  | 49 => ⟨S_, .f32⟩
  | 50 => ⟨S4096x384, .f32⟩
  | 51 => ⟨S4096x384, .f32⟩
  | 52 => ⟨S4096x384, .f32⟩
  | 53 => ⟨S256, .f32⟩
  | 54 => ⟨S4096x256, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S_, .f32⟩
  | 62 => ⟨S4096x1, .f32⟩
  | 63 => ⟨S4096x1, .f32⟩
  | 64 => ⟨S4096x1, .f32⟩
  | 65 => ⟨S4096x256, .f32⟩
  | 66 => ⟨S4096x256, .f32⟩
  | 67 => ⟨S1x256, .f32⟩
  | 68 => ⟨S4096x256, .f32⟩
  | 69 => ⟨S4096x256, .f32⟩
  | 70 => ⟨S384, .f32⟩
  | 71 => ⟨S4096x384, .f32⟩
  | 72 => ⟨S_, .f32⟩
  | 73 => ⟨S4096, .f32⟩
  | 74 => ⟨S4096x1, .f32⟩
  | 75 => ⟨S_, .f32⟩
  | 76 => ⟨S4096x1, .f32⟩
  | 77 => ⟨S4096x1, .f32⟩
  | 78 => ⟨S_, .f32⟩
  | 79 => ⟨S4096x1, .f32⟩
  | 80 => ⟨S4096x1, .f32⟩
  | 81 => ⟨S4096x1, .f32⟩
  | 82 => ⟨S4096x384, .f32⟩
  | 83 => ⟨S4096x384, .f32⟩
  | 84 => ⟨S1x384, .f32⟩
  | 85 => ⟨S4096x384, .f32⟩
  | 86 => ⟨S4096x384, .f32⟩
  | 87 => ⟨S384, .f32⟩
  | 88 => ⟨S4096x384, .f32⟩
  | 89 => ⟨S_, .f32⟩
  | 90 => ⟨S4096, .f32⟩
  | 91 => ⟨S4096x1, .f32⟩
  | 92 => ⟨S_, .f32⟩
  | 93 => ⟨S4096x1, .f32⟩
  | 94 => ⟨S4096x1, .f32⟩
  | 95 => ⟨S_, .f32⟩
  | 96 => ⟨S4096x1, .f32⟩
  | 97 => ⟨S4096x1, .f32⟩
  | 98 => ⟨S4096x1, .f32⟩
  | 99 => ⟨S4096x384, .f32⟩
  | 100 => ⟨S4096x384, .f32⟩
  | 101 => ⟨S1x384, .f32⟩
  | 102 => ⟨S4096x384, .f32⟩
  | 103 => ⟨S4096x384, .f32⟩
  | 104 => ⟨S4096x1024, .f32⟩
  | 105 => ⟨S4096x1024, .f32⟩
  | 106 => ⟨S4096x1024, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096x1, .f32⟩
  | 115 => ⟨S4096x1, .f32⟩
  | 116 => ⟨S4096x1, .f32⟩
  | 117 => ⟨S4096x1024, .f32⟩
  | 118 => ⟨S4096x1024, .f32⟩
  | 119 => ⟨S1x1024, .f32⟩
  | 120 => ⟨S4096x1024, .f32⟩
  | 121 => ⟨S4096x1024, .f32⟩
  | 122 => ⟨S4096x1024, .f32⟩
  | 123 => ⟨S_, .f32⟩
  | 124 => ⟨S1024, .f32⟩
  | 125 => ⟨S1x1024, .f32⟩
  | 126 => ⟨S_, .f32⟩
  | 127 => ⟨S1024, .f32⟩
  | _ => ⟨S4096x2304, .f32⟩

abbrev hbmTy0_2 (i : Nat) : BufTy := match i % 128 with
  | 0 => ⟨S1x1024, .f32⟩
  | _ => ⟨S4096x2304, .f32⟩

abbrev hbmTy (i : Nat) : BufTy := match i / 128 with
  | 0 => hbmTy0_0 i
  | 1 => hbmTy0_1 i
  | 2 => hbmTy0_2 i
  | _ => ⟨S4096x2304, .f32⟩

abbrev bufTy : (tb : Table) → Fin (tcTables nBuf tb) → BufTy
  | .hbm, ⟨i, _⟩ => hbmTy i
  | _, _ => ⟨S4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c : Ref sig .tc := ⟨.hbm, 75, rfl⟩
abbrev main_v53 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_c_0 : Ref sig .tc := ⟨.hbm, 83, rfl⟩
abbrev main_call0_v5 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_8 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_9 : Ref sig .tc := ⟨.hbm, 111, rfl⟩
abbrev main_v75 : Ref sig .tc := ⟨.hbm, 112, rfl⟩
abbrev main_v76 : Ref sig .tc := ⟨.hbm, 113, rfl⟩
abbrev main_cst_10 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_11 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_12 : Ref sig .tc := ⟨.hbm, 128, rfl⟩
abbrev main_v89 : Ref sig .tc := ⟨.hbm, 129, rfl⟩
abbrev main_v90 : Ref sig .tc := ⟨.hbm, 130, rfl⟩
abbrev main_c_13 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_14 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_15 : Ref sig .tc := ⟨.hbm, 145, rfl⟩
abbrev main_v103 : Ref sig .tc := ⟨.hbm, 146, rfl⟩
abbrev main_v104 : Ref sig .tc := ⟨.hbm, 147, rfl⟩
abbrev main_cst_16 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_17 : Ref sig .tc := ⟨.hbm, 154, rfl⟩
abbrev main_v110 : Ref sig .tc := ⟨.hbm, 155, rfl⟩
abbrev main_v111 : Ref sig .tc := ⟨.hbm, 156, rfl⟩
abbrev main_cst_18 : Ref sig .tc := ⟨.hbm, 157, rfl⟩
abbrev main_v112 : Ref sig .tc := ⟨.hbm, 158, rfl⟩
abbrev main_v113 : Ref sig .tc := ⟨.hbm, 159, rfl⟩
abbrev main_cst_19 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_call2_v0 : Ref sig .tc := ⟨.hbm, 172, rfl⟩
abbrev main_call2_v1 : Ref sig .tc := ⟨.hbm, 173, rfl⟩
abbrev main_call2_cst : Ref sig .tc := ⟨.hbm, 174, rfl⟩
abbrev main_call2_v2 : Ref sig .tc := ⟨.hbm, 175, rfl⟩
abbrev main_call2_v3 : Ref sig .tc := ⟨.hbm, 176, rfl⟩
abbrev main_call2_cst_0 : Ref sig .tc := ⟨.hbm, 177, rfl⟩
abbrev main_call2_v4 : Ref sig .tc := ⟨.hbm, 178, rfl⟩
abbrev main_call2_v5 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_20 : Ref sig .tc := ⟨.hbm, 183, rfl⟩
abbrev main_v128 : Ref sig .tc := ⟨.hbm, 184, rfl⟩
abbrev main_v129 : Ref sig .tc := ⟨.hbm, 185, rfl⟩
abbrev main_cst_21 : Ref sig .tc := ⟨.hbm, 186, rfl⟩
abbrev main_v130 : Ref sig .tc := ⟨.hbm, 187, rfl⟩
abbrev main_v131 : Ref sig .tc := ⟨.hbm, 188, rfl⟩
abbrev main_cst_22 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_23 : Ref sig .tc := ⟨.hbm, 200, rfl⟩
abbrev main_v142 : Ref sig .tc := ⟨.hbm, 201, rfl⟩
abbrev main_v143 : Ref sig .tc := ⟨.hbm, 202, rfl⟩
abbrev main_cst_24 : Ref sig .tc := ⟨.hbm, 203, rfl⟩
abbrev main_v144 : Ref sig .tc := ⟨.hbm, 204, rfl⟩
abbrev main_v145 : Ref sig .tc := ⟨.hbm, 205, rfl⟩
abbrev main_cst_25 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_cst_26 : Ref sig .tc := ⟨.hbm, 217, rfl⟩
abbrev main_v156 : Ref sig .tc := ⟨.hbm, 218, rfl⟩
abbrev main_v157 : Ref sig .tc := ⟨.hbm, 219, rfl⟩
abbrev main_cst_27 : Ref sig .tc := ⟨.hbm, 220, rfl⟩
abbrev main_v158 : Ref sig .tc := ⟨.hbm, 221, rfl⟩
abbrev main_v159 : Ref sig .tc := ⟨.hbm, 222, rfl⟩
abbrev main_cst_28 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_cst_29 : Ref sig .tc := ⟨.hbm, 235, rfl⟩
abbrev main_v171 : Ref sig .tc := ⟨.hbm, 236, rfl⟩
abbrev main_v172 : Ref sig .tc := ⟨.hbm, 237, rfl⟩
abbrev main_cst_30 : Ref sig .tc := ⟨.hbm, 238, rfl⟩
abbrev main_v173 : Ref sig .tc := ⟨.hbm, 239, rfl⟩
abbrev main_v174 : Ref sig .tc := ⟨.hbm, 240, rfl⟩
abbrev main_cst_31 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_cst_32 : Ref sig .tc := ⟨.hbm, 251, rfl⟩
abbrev main_v184 : Ref sig .tc := ⟨.hbm, 252, rfl⟩
abbrev main_v185 : Ref sig .tc := ⟨.hbm, 253, rfl⟩
abbrev main_cst_33 : Ref sig .tc := ⟨.hbm, 254, rfl⟩
abbrev main_v186 : Ref sig .tc := ⟨.hbm, 255, rfl⟩
abbrev main_v187 : Ref sig .tc := ⟨.hbm, 256, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S4x704x1024 : Shape := ⟨3, ![4, 704, 1024]⟩
abbrev S16x8x32x1024 : Shape := ⟨4, ![16, 8, 32, 1024]⟩
abbrev S16x32x8x1024 : Shape := ⟨4, ![16, 32, 8, 1024]⟩
abbrev S1x1024 : Shape := ⟨2, ![1, 1024]⟩
abbrev S_ : Shape := ⟨0, ![]⟩
abbrev S8x5632 : Shape := ⟨2, ![8, 5632]⟩
abbrev S4096x5632 : Shape := ⟨2, ![4096, 5632]⟩
abbrev S256x1024 : Shape := ⟨2, ![256, 1024]⟩
abbrev S256x5632 : Shape := ⟨2, ![256, 5632]⟩
abbrev S272x5632 : Shape := ⟨2, ![272, 5632]⟩
abbrev S16x5632 : Shape := ⟨2, ![16, 5632]⟩
abbrev S4 : Shape := ⟨1, ![4]⟩
abbrev S1 : Shape := ⟨1, ![1]⟩
abbrev S704x1024 : Shape := ⟨2, ![704, 1024]⟩
abbrev S1x704x1024 : Shape := ⟨3, ![1, 704, 1024]⟩
abbrev S256 : Shape := ⟨1, ![256]⟩
abbrev S256x1 : Shape := ⟨2, ![256, 1]⟩
abbrev S1x1024x1408 : Shape := ⟨3, ![1, 1024, 1408]⟩
abbrev S1024x1408 : Shape := ⟨2, ![1024, 1408]⟩
abbrev S256x1408 : Shape := ⟨2, ![256, 1408]⟩
abbrev S2x8x5632 : Shape := ⟨3, ![2, 8, 5632]⟩
abbrev S1x1408 : Shape := ⟨2, ![1, 1408]⟩
abbrev S1408x1024 : Shape := ⟨2, ![1408, 1024]⟩

abbrev nBuf : Space → Nat
  | .hbm => 23
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S4x704x1024, .f32⟩
  | .hbm, ⟨10, _⟩ => ⟨S4x704x1024, .bf16⟩
  | .hbm, ⟨11, _⟩ => ⟨S16x8x32x1024, .f32⟩
  | .hbm, ⟨12, _⟩ => ⟨S16x32x8x1024, .f32⟩
  | .hbm, ⟨13, _⟩ => ⟨S4096x1024, .f32⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S8x5632, .f32⟩
  | .hbm, ⟨18, _⟩ => ⟨S1x1024, .f32⟩
  | .hbm, ⟨19, _⟩ => ⟨S4096x5632, .f32⟩
  | .hbm, ⟨20, _⟩ => ⟨S4096x1024, .bf16⟩
  | .hbm, ⟨21, _⟩ => ⟨S4096x1024, .f32⟩
  | .hbm, ⟨22, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x1408, .bf16⟩
  | .local _ .vmem, ⟨4, _⟩ => ⟨S8x5632, .f32⟩
  | .local _ .vmem, ⟨5, _⟩ => ⟨S1x1024, .f32⟩
  | .local _ .vmem, ⟨6, _⟩ => ⟨S256x5632, .f32⟩
  | .local _ .vmem, ⟨7, _⟩ => ⟨S256x5632, .f32⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S272x5632, .f32⟩
  | .local _ .vmem, ⟨15, _⟩ => ⟨S16x5632, .f32⟩
  | .local _ .vmem, ⟨16, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S4096x1024 : Shape := ⟨2, ![4096, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S16x8x32x5632 : Shape := ⟨4, ![16, 8, 32, 5632]⟩
abbrev S16x32x8x5632 : Shape := ⟨4, ![16, 32, 8, 5632]⟩
abbrev S16x8x32x1024 : Shape := ⟨4, ![16, 8, 32, 1024]⟩
abbrev S16x32x8x1024 : Shape := ⟨4, ![16, 32, 8, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x5632, .f32⟩
  | .hbm, ⟨23, _⟩ => ⟨S_, .f32⟩
  | .hbm, ⟨24, _⟩ => ⟨S2x5632, .f32⟩
  | .hbm, ⟨25, _⟩ => ⟨S4098x5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S1x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S16x8x32x5632, .f32⟩
  | .hbm, ⟨71, _⟩ => ⟨S16x32x8x5632, .f32⟩
  | .hbm, ⟨72, _⟩ => ⟨S4096x5632, .f32⟩
  | .hbm, ⟨73, _⟩ => ⟨S16x8x32x1024, .f32⟩
  | .hbm, ⟨74, _⟩ => ⟨S16x32x8x1024, .f32⟩
  | .hbm, ⟨75, _⟩ => ⟨S4096x1024, .f32⟩
  | .hbm, ⟨76, _⟩ => ⟨S4096x1024, .bf16⟩
  | .hbm, ⟨77, _⟩ => ⟨S16x8x32x1024, .f32⟩
  | .hbm, ⟨78, _⟩ => ⟨S16x32x8x1024, .f32⟩
  | .hbm, ⟨79, _⟩ => ⟨S4096x1024, .f32⟩
  | .hbm, ⟨80, _⟩ => ⟨S16x8x32x1024, .f32⟩
  | .hbm, ⟨81, _⟩ => ⟨S16x32x8x1024, .f32⟩
  | .hbm, ⟨82, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x1408 : Shape := ⟨3, ![4, 1024, 1408]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x5632, .bf16⟩
  | .hbm, ⟨22, _⟩ => ⟨S4x1024x1408, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1x1024x1408, .f32⟩
  | .local _ .vmem, ⟨5, _⟩ => ⟨S1x1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x5632, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x5632, .f32⟩
  | .hbm, ⟨21, _⟩ => ⟨S5632x1024, .f32⟩
  | .hbm, ⟨22, _⟩ => ⟨S1024x5632, .f32⟩
  | .hbm, ⟨23, _⟩ => ⟨S1024x4x1408, .f32⟩
  | .hbm, ⟨24, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4x1024x576 : Shape := ⟨3, ![4, 1024, 576]⟩
abbrev S512x1024 : Shape := ⟨2, ![512, 1024]⟩
abbrev S512x2304 : Shape := ⟨2, ![512, 2304]⟩
abbrev S1024x576 : Shape := ⟨2, ![1024, 576]⟩
abbrev S1x1024x576 : Shape := ⟨3, ![1, 1024, 576]⟩

abbrev nBuf : Space → Nat
  | .hbm => 23
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x2304, .bf16⟩
  | .hbm, ⟨22, _⟩ => ⟨S4x1024x576, .f32⟩
  | .local _ .vmem, ⟨0, _⟩ => ⟨S512x1024, .bf16⟩
  | .local _ .vmem, ⟨1, _⟩ => ⟨S512x1024, .bf16⟩
  | .local _ .vmem, ⟨2, _⟩ => ⟨S512x2304, .bf16⟩
  | .local _ .vmem, ⟨3, _⟩ => ⟨S512x2304, .bf16⟩
  | .local _ .vmem, ⟨4, _⟩ => ⟨S4x1024x576, .f32⟩
  | .local _ .vmem, ⟨5, _⟩ => ⟨S1024x2304, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference8Ideal.lean ====
abbrev S4096x1024 : Shape := ⟨2, ![4096, 1024]⟩
abbrev S1024 : Shape := ⟨1, ![1024]⟩
abbrev S1024x2304 : Shape := ⟨2, ![1024, 2304]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S2304x1024 : Shape := ⟨2, ![2304, 1024]⟩
abbrev S1024x4x576 : Shape := ⟨3, ![1024, 4, 576]⟩
abbrev S4x1024x576 : Shape := ⟨3, ![4, 1024, 576]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2304, .f32⟩
  | .hbm, ⟨3, _⟩ => ⟨S4096x2304, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2304, .f32⟩
  | .hbm, ⟨21, _⟩ => ⟨S2304x1024, .f32⟩
  | .hbm, ⟨22, _⟩ => ⟨S1024x2304, .f32⟩
  | .hbm, ⟨23, _⟩ => ⟨S1024x4x576, .f32⟩
  | .hbm, ⟨24, _⟩ => ⟨S4x1024x576, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Rows.lean ====
module

public import Idealize.ShloMosaic.Lib.Pipeline.ValueKit

/-! The order of rows in which the calls keep their arrays, and sums over it. -/

@[expose] public section

noncomputable section

namespace Cert.Rows

/-- The token at row `p` of the order of rows in which the calls keep their arrays. -/
def tok (p : ℕ) : ℕ := p / 256 * 256 + p % 8 * 32 + p / 8 % 32

/-- The row of that order at which token `n` stands. -/
def row (n : ℕ) : ℕ := n / 256 * 256 + (n % 32) * 8 + n % 256 / 32

theorem tok_lt {p : ℕ} (h : p < 4096) : tok p < 4096 := by unfold tok; omega
theorem row_lt {p : ℕ} (h : p < 4096) : row p < 4096 := by unfold row; omega
theorem tok_mk {a b s : ℕ} (hb : b < 32) (hs : s < 8) : tok (256 * a + 8 * b + s) = 256 * a + 32 * s + b := by
  unfold tok; omega
theorem row_mk {a b s : ℕ} (hb : b < 32) (hs : s < 8) : row (256 * a + 32 * s + b) = 256 * a + 8 * b + s := by
  unfold row; omega
theorem row_tok (p : ℕ) : row (tok p) = p := by
  have e : p = 256 * (p / 256) + 8 * (p % 256 / 8) + p % 8 := by omega
  rw [e, tok_mk (by omega) (by omega), row_mk (by omega) (by omega)]
theorem tok_row (p : ℕ) : tok (row p) = p := by
  have e : p = 256 * (p / 256) + 32 * (p % 256 / 32) + p % 32 := by omega
  rw [e, row_mk (by omega) (by omega), tok_mk (by omega) (by omega)]

/-- Rows and tokens, one for one. -/
def perm : Equiv.Perm (Fin 4096) where
  toFun p := ⟨tok p, tok_lt p.isLt⟩
  invFun p := ⟨row p, row_lt p.isLt⟩
  left_inv p := Fin.ext (row_tok p)
  right_inv p := Fin.ext (tok_row p)

/-- A sum over the rows of the call's order is the sum over the tokens. -/
theorem sum_tok {M : Type*} [AddCommMonoid M] (f : Fin 4096 → M) :
    ∑ p : Fin 4096, f ⟨tok p, tok_lt p.isLt⟩ = ∑ n : Fin 4096, f n := Equiv.sum_comp perm f

theorem three_lt {a b c n : ℕ} (h : a * (b * c) = n) (i : Fin a) (j : Fin b) (k : Fin c) :
    i.val * (b * c) + j.val * c + k.val < n := by
  have hi := i.isLt; have hj := j.isLt; have hk := k.isLt
  subst h
  calc i.val * (b * c) + j.val * c + k.val < i.val * (b * c) + j.val * c + c := by omega
    _ = i.val * (b * c) + (j.val + 1) * c := by ring
    _ ≤ i.val * (b * c) + b * c := by gcongr; omega
    _ = (i.val + 1) * (b * c) := by ring
    _ ≤ a * (b * c) := by gcongr; omega

/-- A sum over tiles, groups of eight rows and the rows of a group is the sum over all rows. -/
theorem sum_three {M : Type*} [AddCommMonoid M] {a b c n : ℕ} (h : a * (b * c) = n) (f : Fin n → M) :
    ∑ i : Fin a, ∑ j : Fin b, ∑ k : Fin c, f ⟨i.val * (b * c) + j.val * c + k.val, three_lt h i j k⟩
      = ∑ p : Fin n, f p := by
  subst h
  simp only [← Fintype.sum_prod_type']
  refine Fintype.sum_equiv ((Equiv.prodAssoc _ _ _).symm.trans
    (((Equiv.prodAssoc _ _ _).trans ((Equiv.refl _).prodCongr finProdFinEquiv)).trans finProdFinEquiv)) _ _ fun x => ?_
  congr 1
  ext
  simp [finProdFinEquiv]
  ring

/-- The sum over the tokens, taken by the place in a group of eight rows first, then by tiles of `b` groups. -/
theorem sum_groups {M : Type*} [AddCommMonoid M] {a b N : ℕ} (hN : N = a) (h : a * (b * 8) = 4096) (f : Fin 4096 → M)
    (g : Fin 8 → Fin N → Fin b → M)
    (hg : ∀ (s : Fin 8) (t : Fin N) (k : Fin b) (hp : t.val * (b * 8) + k.val * 8 + s.val < 4096),
      g s t k = f ⟨tok (t.val * (b * 8) + k.val * 8 + s.val), tok_lt hp⟩) :
    ∑ s : Fin 8, ∑ t : Fin N, ∑ k : Fin b, g s t k = ∑ n : Fin 4096, f n := by
  subst hN
  rw [← sum_tok f, ← sum_three h, Finset.sum_comm]
  refine Finset.sum_congr rfl fun t _ => ?_
  rw [Finset.sum_comm]
  exact Finset.sum_congr rfl fun k _ => Finset.sum_congr rfl fun s _ => hg s t k (three_lt h t k s)

/-- The sum over the rows, taken by the place in a group of eight rows first, then by tiles of `b` groups. -/
theorem sum_groups_rows {M : Type*} [AddCommMonoid M] {a b N n : ℕ} (hN : N = a) (h : a * (b * 8) = n) (f : Fin n → M)
    (g : Fin 8 → Fin N → Fin b → M)
    (hg : ∀ (s : Fin 8) (t : Fin N) (k : Fin b) (hp : t.val * (b * 8) + k.val * 8 + s.val < n),
      g s t k = f ⟨t.val * (b * 8) + k.val * 8 + s.val, hp⟩) :
    ∑ s : Fin 8, ∑ t : Fin N, ∑ k : Fin b, g s t k = ∑ p : Fin n, f p := by
  subst hN
  rw [← sum_three h f, Finset.sum_comm]
  refine Finset.sum_congr rfl fun t _ => ?_
  rw [Finset.sum_comm]
  exact Finset.sum_congr rfl fun k _ => Finset.sum_congr rfl fun s _ => hg s t k (three_lt h t k s)

/-- A sum over blocks and the places of a block is the sum over all places. -/
theorem sum_blocks {M : Type*} [AddCommMonoid M] {a b n : ℕ} (h : a * b = n) (f : Fin n → M) :
    ∑ i : Fin a, ∑ k : Fin b, f ⟨b * i.val + k.val, by
      have hi := i.isLt; have hk := k.isLt; subst h
      calc b * i.val + k.val < b * (i.val + 1) := by rw [Nat.mul_add]; omega
        _ ≤ b * a := Nat.mul_le_mul_left _ (by omega)
        _ = a * b := Nat.mul_comm _ _⟩ = ∑ p : Fin n, f p := by
  subst h
  rw [← Fintype.sum_prod_type']
  refine Fintype.sum_equiv finProdFinEquiv _ _ fun x => ?_
  congr 1
  ext
  simp [finProdFinEquiv]
  ring

/-- Four blocks, one after the other. -/
theorem sum_four {M : Type*} [AddCommMonoid M] {b n : ℕ} (h : 4 * b = n) (f : Fin n → M) :
    (∑ k : Fin b, f ⟨k.val, by omega⟩) + (∑ k : Fin b, f ⟨b + k.val, by omega⟩)
      + (∑ k : Fin b, f ⟨b * 2 + k.val, by omega⟩) + (∑ k : Fin b, f ⟨b * 3 + k.val, by omega⟩) = ∑ p : Fin n, f p := by
  rw [← sum_blocks h f, Fin.sum_univ_four]
  refine congrArg₂ (· + ·) (congrArg₂ (· + ·) (congrArg₂ (· + ·) ?_ ?_) ?_) ?_ <;>
    exact Finset.sum_congr rfl fun k _ => congrArg f (Fin.ext (by simp))

/-- A sum over three blocks of places, the blocks added in order. -/
theorem sum_three_blocks {M : Type*} [AddCommMonoid M] {b n : ℕ} (h : 3 * b = n) (f : Fin n → M) :
    (∑ k : Fin b, f ⟨k.val, by omega⟩) + (∑ k : Fin b, f ⟨b + k.val, by omega⟩)
      + (∑ k : Fin b, f ⟨b * 2 + k.val, by omega⟩) = ∑ p : Fin n, f p := by
  rw [← sum_blocks h f, Fin.sum_univ_three]
  refine congrArg₂ (· + ·) (congrArg₂ (· + ·) ?_ ?_) ?_ <;>
    exact Finset.sum_congr rfl fun k _ => congrArg f (Fin.ext (by simp))

end Cert.Rows
-- ==== Proof.Loss.lean ====
module

public import proofs.«01_k».proof.Defs
public import proofs.«01_k».proof.Proof.Gen.KernelIdeal.Frame
public import proofs.«01_k».proof.Proof.Rows
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Loss

open Cert.Rows Cert.KernelIdeal Cert.KernelIdeal.Gen

variable (m : (ℓ : Loc nD τ sig) → Buf (Elt Ideal) ℓ)

theorem idx : ∀ t : Fin cfg0.N, win0_0.index t = ![t.val, 0] ∧ win0_1.index t = ![t.val, 0]
    ∧ win0_2.index t = ![t.val, 0] ∧ win0_3.index t = ![0, 0] := (by decide +kernel : ∀ t : Fin grid0.N, _)

/-- The first argument at a token and a column. -/
def y (c : Dev nD) (n : Fin 4096) (l : Fin 1024) : EReal :=
  (m ((c : Thread nD τ).loc main_arg0) : Vec Ideal S4096x1024 .f32) (ix2 n l)

/-- The second argument at a token and a column. -/
def tgt (c : Dev nD) (n : Fin 4096) (l : Fin 1024) : EReal :=
  (m ((c : Thread nD τ).loc main_arg1) : Vec Ideal S4096x1024 .f32) (ix2 n l)

/-- Their difference. -/
def d (c : Dev nD) (n : Fin 4096) (l : Fin 1024) : EReal := y m c n l - tgt m c n l

/-- Row `r` of tile `t`, as a token. -/
def at_ (t : Fin cfg0.N) (r : Fin 512) : Fin 4096 :=
  ⟨tok (512 * t.val + r.val), tok_lt (by have := t.isLt; have : cfg0.N = 8 := N_0; omega)⟩

theorem blk0 (c : Dev nD) (t : Fin cfg0.N) (r : Fin 512) (l : Fin 1024) :
    (iblk m c 0 t : Vec Ideal S512x1024 .f32) (ix2 r l) = (m ((c : Thread nD τ).loc main_arg0) : Vec Ideal S4096x1024 .f32)
      (ix2 (at_ t r) l) := by
  blk_simp [iblk, idx t]
  entry_read
  pointwise
  blk_ext [idx t]
  all_goals simp only [at_, tok]; omega

theorem blk1 (c : Dev nD) (t : Fin cfg0.N) (r : Fin 512) (l : Fin 1024) :
    (iblk m c 1 t : Vec Ideal S512x1024 .f32) (ix2 r l) = (m ((c : Thread nD τ).loc main_arg1) : Vec Ideal S4096x1024 .f32)
      (ix2 (at_ t r) l) := by
  blk_simp [iblk, idx t]
  entry_read
  pointwise
  blk_ext [idx t]
  all_goals simp only [at_, tok]; omega

theorem pay3 (x y : Vec Ideal S512x1024 .f32) (j : S512x1024.Idx) :
    k0_pay3 x y j = (x j - y j) * Ideal.ofBits .f32 0x3A800000#32 := by
  pointwise [k0_pay3, k0_pay2]

theorem pay1 (j : S8x1024.Idx) : k0_pay1 (F := Ideal) j = 0 := by
  pointwise [k0_pay1]

theorem pay4 (x y : Vec Ideal S512x1024 .f32) (a : Vec Ideal S8x1024 .f32) (s : Fin 8) (l : Fin 1024) :
    k0_pay4 x y a (ix2 s l) = a (ix2 s l) + ∑ k : Fin 64, (x (ix2 ⟨k.val * 8 + s.val, by omega⟩ l) - y (ix2 ⟨k.val * 8 + s.val, by omega⟩ l)) * (x (ix2 ⟨k.val * 8 + s.val, by omega⟩ l) - y (ix2 ⟨k.val * 8 + s.val, by omega⟩ l)) := by
  pointwise [k0_pay4, k0_pay2]

theorem pay5 (a : Vec Ideal S8x1024 .f32) (j : S1x1.Idx) :
    k0_pay5 a j = Ideal.ofBits .f32 0x3A000000#32 * ∑ l : Fin 1024, ∑ s : Fin 8, a (ix2 s l) := by
  pointwise [k0_pay5]

/-- The gradient, in the call's order of rows. -/
def dyArr (c : Dev nD) : Vec Ideal S4096x1024 .f32 :=
  fun j : S4096x1024.Idx => d m c ⟨tok (j 0), tok_lt (j 0).isLt⟩ (j 1) * Ideal.ofBits .f32 0x3A800000#32

/-- The first result. -/
theorem dy (c : Dev nD) : (dats m 0 c).arrAt 2 cfg0.N = dyArr m c := by
  refine (dats m 0 c).arrAt_eq_of_covers 2 _ (by decide +kernel) fun t hf z => ?_
  blk_simp
  rw [after0_2]
  have hN : t.val < 8 := lt_of_lt_of_eq t.isLt N_0
  have e : k0_pay3 (iblk m c 0 t) (iblk m c 1 t) = fun j : S512x1024.Idx =>
      dyArr m c (ix2 ⟨512 * t.val + (j 0).val, by have : (j 0).val < 512 := (j 0).isLt; omega⟩ (j 1)) := by
    funext j
    idx_vars j
    rw [pay3, blk0, blk1]
    rfl
  have e2 : (outsAt0 m c t.val t.isLt).1 = k0_pay3 (iblk m c 0 t) (iblk m c 1 t) := by
    by_cases h0 : t.val % 8 = 0
    · rw [outsAt0_A m c t h0 (by omega)]; frame_out
    · by_cases h1 : t.val % 8 = 7
      · rw [outsAt0_C m c t h0 h1]; frame_out
      · rw [outsAt0_B m c t h0 h1]; frame_out
  rw [e2, e]
  refine congrArg (dyArr m c) ?_
  idx_vars z
  blk_ext [idx t]
  all_goals omega

/-- What point `t` adds to the running sums. -/
def term (c : Dev nD) (t : Fin cfg0.N) (j : S8x1024.Idx) : EReal :=
  ∑ k : Fin 64, d m c (at_ t ⟨k.val * 8 + (j 0).val, by have : (j 0).val < 8 := (j 0).isLt; omega⟩) (j 1)
    * d m c (at_ t ⟨k.val * 8 + (j 0).val, by have : (j 0).val < 8 := (j 0).isLt; omega⟩) (j 1)

theorem step (c : Dev nD) (t : Fin cfg0.N) (a : Vec Ideal S8x1024 .f32) (j : S8x1024.Idx) :
    k0_pay4 (iblk m c 0 t) (iblk m c 1 t) a j = a j + term m c t j := by
  idx_vars j
  rw [pay4]
  simp only [blk0, blk1]
  rfl

/-- The running sums after the last point. -/
theorem acc (c : Dev nD) (t : Fin cfg0.N) (ht : t.val + 1 = cfg0.N) (j : S8x1024.Idx) :
    ((outsAt0 m c t.val t.isLt).2.2 : Vec Ideal S8x1024 .f32) j = 0 + ∑ t : Fin cfg0.N, term m c t j := by
  refine Pipeline.eq_sum_fin_of_reset_step_apply_last (fun n h => (outsAt0 m c n h).2.2) 8 (fun _ => (0 : EReal)) (term m c)
    (fun t h j => ?_) (fun t h j => ?_) (le_of_eq N_0) t ht j
  · have e : (outsAt0 m c t.val t.isLt).2.2 = k0_pay4 (iblk m c 0 t) (iblk m c 1 t) (k0_pay1 (F := Ideal)) := by
      rw [outsAt0_A m c t h (by omega)]; frame_out
    rw [e, step, pay1]
  · have e : (outsAt0 m c t.val t.isLt).2.2 = k0_pay4 (iblk m c 0 t) (iblk m c 1 t) (outsAt0 m c (t.val - 1) (Nat.lt_of_le_of_lt (Nat.sub_le _ _) t.isLt)).2.2 := by
      by_cases h1 : t.val % 8 = 7
      · rw [outsAt0_C m c t h h1]; frame_out; exact congrArg (k0_pay4 _ _) ((Memref.isWhole_whole cc0_scratch0).read_unread _)
      · rw [outsAt0_B m c t h h1]; frame_out; exact congrArg (k0_pay4 _ _) ((Memref.isWhole_whole cc0_scratch0).read_unread _)
    rw [e, step]

/-- All points' additions together: every token and column once. -/
theorem sums (c : Dev nD) : ∑ l : Fin 1024, ∑ s : Fin 8, ∑ t : Fin cfg0.N, term m c t (ix2 s l)
    = ∑ n : Fin 4096, ∑ l : Fin 1024, d m c n l * d m c n l := by
  rw [Finset.sum_comm (s := (Finset.univ : Finset (Fin 4096)))]
  refine Finset.sum_congr rfl fun l _ => ?_
  exact sum_groups (b := 64) N_0 rfl (fun n => d m c n l * d m c n l) _ fun s t k hp => by
    have e : at_ t ⟨k.val * 8 + s.val, by omega⟩ = ⟨tok (t.val * (64 * 8) + k.val * 8 + s.val), tok_lt hp⟩ :=
      Fin.ext (congrArg tok (show 512 * t.val + (k.val * 8 + s.val) = _ by omega))
    exact congrArg (fun n => d m c n l * d m c n l) e

/-- The second result: the sum of the squares over all tokens and columns, scaled. -/
theorem loss (c : Dev nD) : ((dats m 0 c).arrAt 3 cfg0.N : Vec Ideal S1x1 .f32)
    = fun _ => Ideal.ofBits .f32 0x3A000000#32 * ∑ n : Fin 4096, ∑ l : Fin 1024, d m c n l * d m c n l := by
  refine (dats m 0 c).arrAt_eq_of_after_last 3 t0_7 (by decide +kernel) _ fun j => ?_
  rw [after0_3]
  have e : (outsAt0 m c t0_7.val t0_7.isLt).2.1 = k0_pay5 (outsAt0 m c t0_7.val t0_7.isLt).2.2 := by
    rw [outsAt0_C m c t0_7 (by decide) (by decide)]; frame_out
  rw [e, pay5]
  simp only [acc m c t0_7 rfl, zero_add]
  exact congrArg (Ideal.ofBits .f32 0x3A000000#32 * ·) (sums m c)

end Cert.KernelIdeal.Loss
-- ==== Proof.Consts.lean ====
module

public import Idealize.ShloMosaic.PureOps.Ideal
public import Idealize.ShloMosaic.Lib.IdealHost

/-! The float constants of the programs as real numbers. -/

@[expose] public section

noncomputable section

open Idealize.ShloMosaic

namespace Cert.Consts

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem n1024 : Ideal.ofBits .f32 0x44800000#32 = ((1024 : ℝ) : EReal) := by
  simp [Ideal.ofBits, Ideal.ieee, -EReal.coe_mul]; norm_num
theorem inv1024 : Ideal.ofBits .f32 0x3A800000#32 = ((1 / 1024 : ℝ) : EReal) := by
  simp [Ideal.ofBits, Ideal.ieee, -EReal.coe_mul]; norm_num
theorem inv2048 : Ideal.ofBits .f32 0x3A000000#32 = ((1 / 2048 : ℝ) : EReal) := by
  simp [Ideal.ofBits, Ideal.ieee, -EReal.coe_mul]; norm_num

theorem neg_half : Ideal.ofBits .f32 0xBF000000#32 = ((-1 / 2 : ℝ) : EReal) := by
  simp [Ideal.ofBits, Ideal.ieee, -EReal.coe_mul]; norm_num
theorem zero : Ideal.ofBits .f32 0x00000000#32 = 0 := by
  simp [Ideal.ofBits, Ideal.ieee]
theorem one : Ideal.ofBits .f32 0x3F800000#32 = ((1 : ℝ) : EReal) := by
  simp [Ideal.ofBits, Ideal.ieee, -EReal.coe_mul]; norm_num
theorem infinity : Ideal.ofBits .f32 0x7F800000#32 = ⊤ := by
  simp [Ideal.ofBits, Ideal.ieee]
/-- The small number under the norms' roots is a positive real. -/
theorem eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

/-- A sum scaled by a non-negative real, term by term. -/
theorem sum_mul_real {ι : Type*} (s : Finset ι) (f : ι → EReal) {r : ℝ} (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

end Cert.Consts
-- ==== Proof.LossClaim.lean ====
module

public import proofs.«01_k».proof.Proof.Loss
public import proofs.«01_k».proof.Proof.Consts
public import Idealize.ShloMosaic.Lib.Quiescent
public import proofs.«01_k».proof.Proof.Gen.KernelIdeal.Value
public import proofs.«01_k».proof.Proof.Gen.ReferenceIdeal.Run

/-! The loss call against the loss and its gradient. -/

@[expose] public section

set_option maxRecDepth 16384

noncomputable section

open Idealize.ShloMosaic Idealize.ShloMosaic.TcCoe Idealize.SL.Sem

namespace Cert.KernelIdeal.Loss

open Cert.Consts

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem algebraic : Cert.algebraic_KernelIdeal_ReferenceIdeal := by
  pair_intro
  · run_from Cert.KernelIdeal.Value.run_blocks m g
  run_from Cert.ReferenceIdeal.Value.run m' g'
  · rw [dy]
    funext j
    idx_vars j
    pointwise [dyArr]
    show Ideal.div _ _ * (_ * d m c _ j1) = _
    rw [half, two, n1024, inv1024, Ideal.div_coe (by norm_num), ← mul_assoc, mul_comm]
    congr 1
    norm_cast
    norm_num
  · rw [loss]
    funext j
    pointwise
    show _ * ∑ x : Fin 4096, Ideal.div (∑ l : Fin 1024, d m c x l * d m c x l) _ = _
    simp only [half, n1024, inv2048, Ideal.div_coe (show (1024 : ℝ) ≠ 0 by norm_num)]
    rw [sum_mul_real _ _ (by norm_num), mul_left_comm, mul_comm]
    congr 1
    norm_cast
    norm_num

end Cert.KernelIdeal.Loss
-- ==== Proof.FwdBufs.lean ====
/- The forward call of the channel mixer: what its body is given at a grid point (the staging buffers and the scratch, the
   blocks staged in, the carried scratch), and how what it leaves is stated. -/
module

public import proofs.«01_k».proof.Proof.Gen.Kernel6Ideal.Frame.Runs

@[expose] public section

set_option maxRecDepth 16384

noncomputable section

namespace Cert.Kernel6Ideal.FfnFwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The buffers the body works on: the five input blocks, the four output blocks and the three scratch buffers, each whole. -/
structure Bufs where
  a1 : Memref sig .tc .vmem S256x1024 .f32
  h1 : a1.IsWhole
  a2 : Memref sig .tc .vmem S1x1024 .f32
  h2 : a2.IsWhole
  a3 : Memref sig .tc .vmem S4x1024x1408 .bf16
  h3 : a3.IsWhole
  a4 : Memref sig .tc .vmem S8x5632 .f32
  h4 : a4.IsWhole
  a6 : Memref sig .tc .vmem S1x1024 .f32
  h6 : a6.IsWhole
  a7 : Memref sig .tc .vmem S256x5632 .f32
  h7 : a7.IsWhole
  a8 : Memref sig .tc .vmem S256x1024 .bf16
  h8 : a8.IsWhole
  a9 : Memref sig .tc .vmem S256x1024 .f32
  h9 : a9.IsWhole
  a10 : Memref sig .tc .vmem S256x1024 .f32
  h10 : a10.IsWhole
  a11 : Memref sig .tc .vmem S272x5632 .f32
  h11 : a11.IsWhole
  a12 : Memref sig .tc .vmem S16x5632 .f32
  h12 : a12.IsWhole
  a13 : Memref sig .tc .vmem S2816x1024 .bf16
  h13 : a13.IsWhole

/-- The five blocks staged in: the rows, the opening norm's gain, the projection up in four blocks of columns, the taps, the
closing norm's gain. -/
structure Ins (F : FTy → Type) where
  x0 : Vec F S256x1024 .f32
  x1 : Vec F S1x1024 .f32
  x2 : Vec F S4x1024x1408 .bf16
  x3 : Vec F S8x5632 .f32
  x4 : Vec F S1x1024 .f32

/-- The scratch carried from a point to the next: a tile's last rows, the projection down. -/
structure Held (F : FTy → Type) where
  rows : Vec F S16x5632 .f32
  wt : Vec F S2816x1024 .bf16

/-- What a point leaves: the four output blocks and the carried scratch. -/
structure Left (F : FTy → Type) where
  o5 : Vec F S256x5632 .f32
  o6 : Vec F S256x1024 .bf16
  o7 : Vec F S256x1024 .f32
  o8 : Vec F S256x1024 .f32
  held : Held F

/-- What a buffer's stores are, last first. -/
abbrev Puts (F : FTy → Type) (S : Shape) (e : EltTy) : Type := List (View.Piece (Elt F) S e)

/-- The stores of a point: into the four outputs and the three scratch buffers. -/
structure Stores (F : FTy → Type) where
  p7 : Puts F S256x5632 .f32
  p8 : Puts F S256x1024 .bf16
  p9 : Puts F S256x1024 .f32
  p10 : Puts F S256x1024 .f32
  p11 : Puts F S272x5632 .f32
  p12 : Puts F S16x5632 .f32
  p13 : Puts F S2816x1024 .bf16

/-- The buffer holds `x`. -/
abbrev own (c : Dev nD) {S : Shape} {e : EltTy} (a : Memref sig .tc .vmem S e) (x : Vec F S e) : sProp 𝕄 :=
  owns (c : Thread nD τ) a fullShare x

/-- The buffer holds anything. -/
abbrev any (c : Dev nD) {S : Shape} {e : EltTy} (a : Memref sig .tc .vmem S e) : sProp 𝕄 :=
  iprop(∃ d, owns (c : Thread nD τ) a fullShare d)

/-- The buffer has received the stores `L`, over something. -/
abbrev put (c : Dev nD) {S : Shape} {e : EltTy} (a : Memref sig .tc .vmem S e) (L : Puts F S e) : sProp 𝕄 :=
  iprop(∃ f, a.view.loc (c : Thread nD τ) ↦[a.view.set]{fullShare} a.view.writes (Elt F) f L)

/-- A copy's counter at zero. -/
abbrev cell (c : Dev nD) (n : DmaSem sig) : sProp 𝕄 := semVal ((c : Thread nD τ), SemLoc.dma n) 0

/-- The body on these buffers. -/
abbrev body (i : grid0.Coords) (b : Bufs) : Prog (TpuEff nD τ sig (Elt F) Λ₀ .tc) PUnit :=
  cc0_ffn_fwd i b.a1 b.h1 b.a2 b.h2 b.a3 b.h3 b.a4 b.h4 (Memref.whole main_v4) (Memref.isWhole_whole _) b.a6 b.h6
    b.a7 b.h7 b.a8 b.h8 b.a9 b.h9 b.a10 b.h10 b.a11 b.h11 b.a12 b.h12 b.a13 b.h13 cc0_scratch3

/-- A buffer that received stores covering it holds what they say, whatever it held before. -/
theorem own_of_put (c : Dev nD) {S : Shape} {e : EltTy} (a : Memref sig .tc .vmem S e) (L : Puts F S e)
    (h : ∀ y, ∃ p ∈ L, y ∈ p.1.set) : (put c a L : sProp 𝕄) ⊢ own c a (View.canon L) := by
  unfold put own owns
  iintro ⟨%f, H⟩
  iexists _; isplitr
  swap; · iexact H
  ipureintro; exact View.read_writes_eq_canon _ _ _ h

/-- A buffer written in parts, over something, holds something. -/
theorem any_of_put (c : Dev nD) {S : Shape} {e : EltTy} (a : Memref sig .tc .vmem S e) (L : Puts F S e) :
    (put c a L : sProp 𝕄) ⊢ any c a := by
  unfold put any owns
  iintro ⟨%f, H⟩
  iexists _, _; isplitr
  swap; · iexact H
  ipureintro; rfl

/-- The five blocks staged in, in their buffers. -/
abbrev given (c : Dev nD) (b : Bufs) (x : Ins F) : sProp 𝕄 :=
  iprop(own c b.a1 x.x0 ∗ own c b.a2 x.x1 ∗ own c b.a3 x.x2 ∗ own c b.a4 x.x3 ∗ own c b.a6 x.x4)

/-- The copies' counters and the weight they copy. -/
abbrev copies (c : Dev nD) (fh : HbBuf0 (F := F) c hbM0_0) : sProp 𝕄 :=
  iprop(cell c 14 ∗ cell c 15 ∗ cell c 16 ∗ cell c 17 ∗ hbPt0 c hbM0_0 fh)

/-- The outputs' buffers and the scratch after a point. -/
abbrev leaves (c : Dev nD) (b : Bufs) (l : Left F) : sProp 𝕄 :=
  iprop(own c b.a7 l.o5 ∗ own c b.a8 l.o6 ∗ own c b.a9 l.o7 ∗ own c b.a10 l.o8 ∗ any c b.a11 ∗ own c b.a12 l.held.rows ∗ own c b.a13 l.held.wt)

end Cert.Kernel6Ideal.FfnFwd

end
-- ==== Proof.FwdFirst.lean ====
module

public import proofs.«01_k».proof.Proof.FwdBufs

/-! The forward call of the channel mixer, its body at the first grid point. -/

@[expose] public section

set_option maxRecDepth 16384

noncomputable section

namespace Cert.Kernel6Ideal.FfnFwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
set_option sl_exec.dmaWindow true in
set_option sl_exec.dmaWindowSet true in
/-- At the first point the weight's rows are copied in: the stores found, with the body's triple. -/
def runFirst (c : Dev nD) (i : grid0.Coords) (b : Bufs) (hc0 : cond0_0 i) (x : Ins F) (fh : HbBuf0 (F := F) c hbM0_0) :
    { L : Stores F // ∀ (W : Waits sig Unit) (K : PUnit → sProp 𝕄),
        iprop(given c b x ∗ any c b.a7 ∗ any c b.a8 ∗ any c b.a9 ∗ any c b.a10 ∗ any c b.a11 ∗ any c b.a12 ∗ any c b.a13 ∗ copies c fh
            ∗ owes (c : Thread nD τ) 0 W
            ∗ (iprop(given c b x ∗ put c b.a7 L.p7 ∗ put c b.a8 L.p8 ∗ put c b.a9 L.p9 ∗ put c b.a10 L.p10 ∗ put c b.a11 L.p11 ∗
              put c b.a12 L.p12 ∗ put c b.a13 L.p13 ∗ copies c fh ∗ (∃ W', owes (c : Thread nD τ) 0 W')) -∗ K ⟨⟩))
          ⊢ wp frame (wpE (defs₀ (F := F)) Variants.none c none) Set.univ (body i b) K } := by
  refine ⟨⟨?_, ?_, ?_, ?_, ?_, ?_, ?_⟩, fun W K => ?run⟩
  case run =>
    dsimp only
    simp only [body, cc0_ffn_fwd_eq_skeleton]; unfold cc0_ffn_fwd_skel
    simp only [k0_part2_eq_skeleton, k0_part1_eq_skeleton, k0_part3_eq_skeleton, k0_part4_eq_skeleton, k0_part5_eq_skeleton]
    unfold given copies own any put cell owns
    iintro ⟨⟨⟨%f0, %e0, H0⟩, ⟨%f1, %e1, H1⟩, ⟨%f2, %e2, H2⟩, ⟨%f3, %e3, H3⟩, ⟨%f4, %e4, H4⟩⟩, ⟨%d5, %f5, -, H5⟩,
      ⟨%d6, %f6, -, H6⟩, ⟨%d7, %f7, -, H7⟩, ⟨%d8, %f8, -, H8⟩, ⟨%u0, %g0, -, S0⟩, ⟨%u1, %g1, -, S1⟩, ⟨%u2, %g2, -, S2⟩,
      ⟨Q0, Q1, Q2, Q3, HM⟩, HW, Hk⟩
    obtain rfl := b.h1.eq_unread e0; obtain rfl := b.h2.eq_unread e1; obtain rfl := b.h3.eq_unread e2
    obtain rfl := b.h4.eq_unread e3; obtain rfl := b.h6.eq_unread e4
    sl_exec (disch := first | sl_exact hc0)
    sl_step
    iapply Hk
    isplitl [H0 H1 H2 H3 H4]
    · isplitl [H0]
      · iexists _; isplitr; · ipureintro; exact b.h1.read_unread _
        iexact H0
      isplitl [H1]
      · iexists _; isplitr; · ipureintro; exact b.h2.read_unread _
        iexact H1
      isplitl [H2]
      · iexists _; isplitr; · ipureintro; exact b.h3.read_unread _
        iexact H2
      isplitl [H3]
      · iexists _; isplitr; · ipureintro; exact b.h4.read_unread _
        iexact H3
      iexists _; isplitr; · ipureintro; exact b.h6.read_unread _
      iexact H4
    isplitl [H5]; · iexists _; iexact H5
    isplitl [H6]; · iexists _; iexact H6
    isplitl [H7]; · iexists _; iexact H7
    isplitl [H8]; · iexists _; iexact H8
    isplitl [S0]; · iexists _; iexact S0
    isplitl [S1]; · iexists _; iexact S1
    isplitl [S2]; · iexists _; iexact S2
    isplitl [Q0 Q1 Q2 Q3 HM]
    · isplitl [Q0]; · iexact Q0
      isplitl [Q1]; · iexact Q1
      isplitl [Q2]; · iexact Q2
      isplitl [Q3]; · iexact Q3
      iexact HM
    iexists _; iexact HW

section
variable (c : Dev nD) (i : grid0.Coords) (b : Bufs) (hc0 : cond0_0 i) (x : Ins F) (fh : HbBuf0 (F := F) c hbM0_0)

/-- What the first point leaves. -/
def leftFirst : Left F where
  o5 := View.canon (runFirst c i b hc0 x fh).1.p7
  o6 := View.canon (runFirst c i b hc0 x fh).1.p8
  o7 := View.canon (runFirst c i b hc0 x fh).1.p9
  o8 := View.canon (runFirst c i b hc0 x fh).1.p10
  held := ⟨View.canon (runFirst c i b hc0 x fh).1.p12, View.canon (runFirst c i b hc0 x fh).1.p13⟩

theorem coverFirst_p7 : ∀ y, ∃ p ∈ (runFirst c i b hc0 x fh).1.p7, y ∈ p.1.set :=
  View.cover_of_tiledL (runFirst c i b hc0 x fh).1.p7 S256x1408.size (by sl_kernel_rfl)

theorem coverFirst_p8 : ∀ y, ∃ p ∈ (runFirst c i b hc0 x fh).1.p8, y ∈ p.1.set :=
  View.cover_of_tiledL (runFirst c i b hc0 x fh).1.p8 S256x1024.size (by sl_kernel_rfl)

theorem coverFirst_p9 : ∀ y, ∃ p ∈ (runFirst c i b hc0 x fh).1.p9, y ∈ p.1.set :=
  View.cover_of_tiledL (runFirst c i b hc0 x fh).1.p9 S256x1024.size (by sl_kernel_rfl)

theorem coverFirst_p10 : ∀ y, ∃ p ∈ (runFirst c i b hc0 x fh).1.p10, y ∈ p.1.set :=
  View.cover_of_tiledL (runFirst c i b hc0 x fh).1.p10 S256x1024.size (by sl_kernel_rfl)

theorem coverFirst_p12 : ∀ y, ∃ p ∈ (runFirst c i b hc0 x fh).1.p12, y ∈ p.1.set :=
  View.cover_of_tiledL (runFirst c i b hc0 x fh).1.p12 S16x5632.size (by sl_kernel_rfl)

theorem coverFirst_p13 : ∀ y, ∃ p ∈ (runFirst c i b hc0 x fh).1.p13, y ∈ p.1.set :=
  View.cover_of_tiledL (runFirst c i b hc0 x fh).1.p13 S704x1024.size (by sl_kernel_rfl)

/-- The body's triple with what is left named. -/
theorem stepFirst (W : Waits sig Unit) (K : PUnit → sProp 𝕄) :
    iprop(given c b x ∗ any c b.a7 ∗ any c b.a8 ∗ any c b.a9 ∗ any c b.a10 ∗ any c b.a11 ∗ any c b.a12 ∗ any c b.a13 ∗ copies c fh
        ∗ owes (c : Thread nD τ) 0 W
        ∗ (iprop(given c b x ∗ leaves c b (leftFirst c i b hc0 x fh) ∗ copies c fh ∗ (∃ W', owes (c : Thread nD τ) 0 W')) -∗ K ⟨⟩))
      ⊢ wp frame (wpE (defs₀ (F := F)) Variants.none c none) Set.univ (body i b) K := by
  dsimp only [leaves, leftFirst]
  iintro ⟨HI, H7, H8, H9, H10, S0, S1, S2, HC, HW, Hk⟩
  iapply ((runFirst c i b hc0 x fh).2 W _)
  isplitl [HI]; · iexact HI
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [HC]; · iexact HC
  isplitl [HW]; · iexact HW
  iintro ⟨HI, H7, H8, H9, H10, S0, S1, S2, HC, HW⟩
  iapply Hk
  isplitl [HI]; · iexact HI
  isplitl [H7 H8 H9 H10 S0 S1 S2]
  · isplitl [H7]; · iapply (own_of_put c b.a7 _ (coverFirst_p7 c i b hc0 x fh)); iexact H7
    isplitl [H8]; · iapply (own_of_put c b.a8 _ (coverFirst_p8 c i b hc0 x fh)); iexact H8
    isplitl [H9]; · iapply (own_of_put c b.a9 _ (coverFirst_p9 c i b hc0 x fh)); iexact H9
    isplitl [H10]; · iapply (own_of_put c b.a10 _ (coverFirst_p10 c i b hc0 x fh)); iexact H10
    isplitl [S0]; · iapply (any_of_put c b.a11 _); iexact S0
    isplitl [S1]; · iapply (own_of_put c b.a12 _ (coverFirst_p12 c i b hc0 x fh)); iexact S1
    iapply (own_of_put c b.a13 _ (coverFirst_p13 c i b hc0 x fh)); iexact S2
  isplitl [HC]; · iexact HC
  iexact HW

end

end Cert.Kernel6Ideal.FfnFwd

end
-- ==== Proof.FwdLater.lean ====
module

public import proofs.«01_k».proof.Proof.FwdFirst

/-! The forward call of the channel mixer, its body at the grid points past the first. -/

@[expose] public section

set_option maxRecDepth 16384

noncomputable section

namespace Cert.Kernel6Ideal.FfnFwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
set_option sl_exec.dmaWindow true in
set_option sl_exec.dmaWindowSet true in
/-- At a later point, over what the point before left: the stores found, with the body's triple. -/
def runLater (c : Dev nD) (i : grid0.Coords) (b : Bufs) (hc0 : ¬cond0_0 i) (x : Ins F) (s : Held F) (fh : HbBuf0 (F := F) c hbM0_0) :
    { L : Stores F // ∀ (W : Waits sig Unit) (K : PUnit → sProp 𝕄),
        iprop(given c b x ∗ any c b.a7 ∗ any c b.a8 ∗ any c b.a9 ∗ any c b.a10 ∗ any c b.a11 ∗ own c b.a12 s.rows ∗ own c b.a13 s.wt ∗ copies c fh
            ∗ owes (c : Thread nD τ) 0 W
            ∗ (iprop(given c b x ∗ put c b.a7 L.p7 ∗ put c b.a8 L.p8 ∗ put c b.a9 L.p9 ∗ put c b.a10 L.p10 ∗ put c b.a11 L.p11 ∗
              put c b.a12 L.p12 ∗ own c b.a13 s.wt ∗ copies c fh ∗ (∃ W', owes (c : Thread nD τ) 0 W')) -∗ K ⟨⟩))
          ⊢ wp frame (wpE (defs₀ (F := F)) Variants.none c none) Set.univ (body i b) K } := by
  refine ⟨⟨?_, ?_, ?_, ?_, ?_, ?_, []⟩, fun W K => ?run⟩
  case run =>
    dsimp only
    simp only [body, cc0_ffn_fwd_eq_skeleton]; unfold cc0_ffn_fwd_skel
    simp only [k0_part2_eq_skeleton, k0_part3_eq_skeleton, k0_part4_eq_skeleton, k0_part5_eq_skeleton]
    unfold given copies own any put cell owns
    iintro ⟨⟨⟨%f0, %e0, H0⟩, ⟨%f1, %e1, H1⟩, ⟨%f2, %e2, H2⟩, ⟨%f3, %e3, H3⟩, ⟨%f4, %e4, H4⟩⟩, ⟨%d5, %f5, -, H5⟩,
      ⟨%d6, %f6, -, H6⟩, ⟨%d7, %f7, -, H7⟩, ⟨%d8, %f8, -, H8⟩, ⟨%u0, %g0, -, S0⟩, ⟨%g1, %w1, S1⟩, ⟨%g2, %w2, S2⟩,
      ⟨Q0, Q1, Q2, Q3, HM⟩, HW, Hk⟩
    obtain rfl := b.h1.eq_unread e0; obtain rfl := b.h2.eq_unread e1; obtain rfl := b.h3.eq_unread e2
    obtain rfl := b.h4.eq_unread e3; obtain rfl := b.h6.eq_unread e4
    obtain rfl := b.h12.eq_unread w1; obtain rfl := b.h13.eq_unread w2
    sl_exec (disch := first | sl_exact hc0)
    sl_step
    iapply Hk
    isplitl [H0 H1 H2 H3 H4]
    · isplitl [H0]
      · iexists _; isplitr; · ipureintro; exact b.h1.read_unread _
        iexact H0
      isplitl [H1]
      · iexists _; isplitr; · ipureintro; exact b.h2.read_unread _
        iexact H1
      isplitl [H2]
      · iexists _; isplitr; · ipureintro; exact b.h3.read_unread _
        iexact H2
      isplitl [H3]
      · iexists _; isplitr; · ipureintro; exact b.h4.read_unread _
        iexact H3
      iexists _; isplitr; · ipureintro; exact b.h6.read_unread _
      iexact H4
    isplitl [H5]; · iexists _; iexact H5
    isplitl [H6]; · iexists _; iexact H6
    isplitl [H7]; · iexists _; iexact H7
    isplitl [H8]; · iexists _; iexact H8
    isplitl [S0]; · iexists _; iexact S0
    isplitl [S1]; · iexists _; iexact S1
    isplitl [S2]
    · iexists _; isplitr; · ipureintro; exact b.h13.read_unread _
      iexact S2
    isplitl [Q0 Q1 Q2 Q3 HM]
    · isplitl [Q0]; · iexact Q0
      isplitl [Q1]; · iexact Q1
      isplitl [Q2]; · iexact Q2
      isplitl [Q3]; · iexact Q3
      iexact HM
    iexists _; iexact HW

section
variable (c : Dev nD) (i : grid0.Coords) (b : Bufs) (hc0 : ¬cond0_0 i) (x : Ins F) (s : Held F) (fh : HbBuf0 (F := F) c hbM0_0)

/-- What a later point leaves. -/
def leftLater : Left F where
  o5 := View.canon (runLater c i b hc0 x s fh).1.p7
  o6 := View.canon (runLater c i b hc0 x s fh).1.p8
  o7 := View.canon (runLater c i b hc0 x s fh).1.p9
  o8 := View.canon (runLater c i b hc0 x s fh).1.p10
  held := ⟨View.canon (runLater c i b hc0 x s fh).1.p12, s.wt⟩

theorem coverLater_p7 : ∀ y, ∃ p ∈ (runLater c i b hc0 x s fh).1.p7, y ∈ p.1.set :=
  View.cover_of_tiledL (runLater c i b hc0 x s fh).1.p7 S256x1408.size (by sl_kernel_rfl)

theorem coverLater_p8 : ∀ y, ∃ p ∈ (runLater c i b hc0 x s fh).1.p8, y ∈ p.1.set :=
  View.cover_of_tiledL (runLater c i b hc0 x s fh).1.p8 S256x1024.size (by sl_kernel_rfl)

theorem coverLater_p9 : ∀ y, ∃ p ∈ (runLater c i b hc0 x s fh).1.p9, y ∈ p.1.set :=
  View.cover_of_tiledL (runLater c i b hc0 x s fh).1.p9 S256x1024.size (by sl_kernel_rfl)

theorem coverLater_p10 : ∀ y, ∃ p ∈ (runLater c i b hc0 x s fh).1.p10, y ∈ p.1.set :=
  View.cover_of_tiledL (runLater c i b hc0 x s fh).1.p10 S256x1024.size (by sl_kernel_rfl)

theorem coverLater_p12 : ∀ y, ∃ p ∈ (runLater c i b hc0 x s fh).1.p12, y ∈ p.1.set :=
  View.cover_of_tiledL (runLater c i b hc0 x s fh).1.p12 S16x5632.size (by sl_kernel_rfl)

/-- The body's triple with what is left named. -/
theorem stepLater (W : Waits sig Unit) (K : PUnit → sProp 𝕄) :
    iprop(given c b x ∗ any c b.a7 ∗ any c b.a8 ∗ any c b.a9 ∗ any c b.a10 ∗ any c b.a11 ∗ own c b.a12 s.rows ∗ own c b.a13 s.wt ∗ copies c fh
        ∗ owes (c : Thread nD τ) 0 W
        ∗ (iprop(given c b x ∗ leaves c b (leftLater c i b hc0 x s fh) ∗ copies c fh ∗ (∃ W', owes (c : Thread nD τ) 0 W')) -∗ K ⟨⟩))
      ⊢ wp frame (wpE (defs₀ (F := F)) Variants.none c none) Set.univ (body i b) K := by
  dsimp only [leaves, leftLater]
  iintro ⟨HI, H7, H8, H9, H10, S0, S1, S2, HC, HW, Hk⟩
  iapply ((runLater c i b hc0 x s fh).2 W _)
  isplitl [HI]; · iexact HI
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [HC]; · iexact HC
  isplitl [HW]; · iexact HW
  iintro ⟨HI, H7, H8, H9, H10, S0, S1, S2, HC, HW⟩
  iapply Hk
  isplitl [HI]; · iexact HI
  isplitl [H7 H8 H9 H10 S0 S1 S2]
  · isplitl [H7]; · iapply (own_of_put c b.a7 _ (coverLater_p7 c i b hc0 x s fh)); iexact H7
    isplitl [H8]; · iapply (own_of_put c b.a8 _ (coverLater_p8 c i b hc0 x s fh)); iexact H8
    isplitl [H9]; · iapply (own_of_put c b.a9 _ (coverLater_p9 c i b hc0 x s fh)); iexact H9
    isplitl [H10]; · iapply (own_of_put c b.a10 _ (coverLater_p10 c i b hc0 x s fh)); iexact H10
    isplitl [S0]; · iapply (any_of_put c b.a11 _); iexact S0
    isplitl [S1]; · iapply (own_of_put c b.a12 _ (coverLater_p12 c i b hc0 x s fh)); iexact S1
    iexact S2
  isplitl [HC]; · iexact HC
  iexact HW

end

end Cert.Kernel6Ideal.FfnFwd

end
-- ==== Proof.FwdFrame.lean ====
/- The forward call of the channel mixer: the grid point by point, the launch, and the frame. -/
module

public import proofs.«01_k».proof.Proof.FwdLater
public import Idealize.ShloMosaic.Lib.Claim

@[expose] public section

set_option maxRecDepth 16384

noncomputable section

namespace Cert.Kernel6Ideal.FfnFwd

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers at point `t`. -/
abbrev bufs (t : Fin cfg0.N) : Bufs where
  a1 := ms0_0 t
  h1 := hs0_0 t
  a2 := ms0_1 t
  h2 := hs0_1 t
  a3 := ms0_2 t
  h3 := hs0_2 t
  a4 := ms0_3 t
  h4 := hs0_3 t
  a6 := ms0_4 t
  h6 := hs0_4 t
  a7 := ms0_5 t
  h7 := hs0_5 t
  a8 := ms0_6 t
  h8 := hs0_6 t
  a9 := ms0_7 t
  h9 := hs0_7 t
  a10 := ms0_8 t
  h10 := hs0_8 t
  a11 := scM0_0
  h11 := Memref.isWhole_whole _
  a12 := scM0_1
  h12 := Memref.isWhole_whole _
  a13 := scM0_2
  h13 := Memref.isWhole_whole _

/-- The blocks staged in at point `t`. -/
abbrev ins (c : Dev nD) (t : Fin cfg0.N) : Ins F := ⟨iblk m c 0 t, iblk m c 1 t, iblk m c 2 t, iblk m c 3 t, iblk m c 4 t⟩

theorem lt16 (t : Fin cfg0.N) : t.val < 16 := lt_of_lt_of_eq t.isLt N_0

theorem cond_first (t : Fin cfg0.N) (h : t.val = 0) : cond0_0 (grid0.coords t) := (hcond0_0 t).mpr (by omega)

theorem cond_later (t : Fin cfg0.N) (h : ¬t.val = 0) : ¬cond0_0 (grid0.coords t) := fun e => by
  have := (hcond0_0 t).mp e; have := lt16 t; omega

/-- What point `n` leaves, over what the point before it left. -/
def leftAt (c : Dev nD) : (n : ℕ) → n < cfg0.N → Left F
  | 0, h => leftFirst c (grid0.coords ⟨0, h⟩) (bufs ⟨0, h⟩) (cond_first ⟨0, h⟩ rfl) (ins m c ⟨0, h⟩) (V m c main_v4)
  | n + 1, h => leftLater c (grid0.coords ⟨n + 1, h⟩) (bufs ⟨n + 1, h⟩) (cond_later ⟨n + 1, h⟩ (Nat.succ_ne_zero n))
      (ins m c ⟨n + 1, h⟩) (leftAt c n (Nat.lt_of_succ_lt h)).held (V m c main_v4)

/-- What the point before `t` left. -/
abbrev before (c : Dev nD) (t : Fin cfg0.N) : Held F := (leftAt m c (t.val - 1) (Nat.lt_of_le_of_lt (Nat.sub_le _ _) t.isLt)).held

theorem leftAt_first (c : Dev nD) (t : Fin cfg0.N) (h0 : t.val = 0) :
    leftAt m c t.val t.isLt = leftFirst c (grid0.coords t) (bufs t) (cond_first t h0) (ins m c t) (V m c main_v4) := by
  obtain ⟨n, hn⟩ := t
  cases n with
  | zero => rfl
  | succ n => exact absurd h0 (Nat.succ_ne_zero n)

theorem leftAt_later (c : Dev nD) (t : Fin cfg0.N) (h0 : ¬t.val = 0) :
    leftAt m c t.val t.isLt = leftLater c (grid0.coords t) (bufs t) (cond_later t h0) (ins m c t) (before m c t) (V m c main_v4) := by
  obtain ⟨n, hn⟩ := t
  cases n with
  | zero => exact absurd rfl h0
  | succ n => rfl

/-- What stays with the body between two points beside the scratch: the generator register, the copies' counters, the weight. -/
abbrev rest (c : Dev nD) : sProp 𝕄 :=
  iprop((∃ r, prngReg c r) ∗ iprop(cell c 14 ∗ cell c 15 ∗ cell c 16 ∗ cell c 17) ∗ iprop(hbPt0 c hbM0_0 (V m c main_v4)))

/-- What holds between the points: before the first the launch's, afterwards the carried scratch at what was left. -/
def inv (c : Dev nD) : (n : ℕ) → n ≤ cfg0.N → sProp 𝕄
  | 0, _ => Pipeline.ΦD osem0 spec0 H0 (V m) c
  | n + 1, h => iprop(iprop(any c scM0_0 ∗ own c scM0_1 (leftAt m c n h).held.rows ∗ own c scM0_2 (leftAt m c n h).held.wt) ∗ rest m c)

theorem inv_first (c : Dev nD) (n : ℕ) (h : n ≤ cfg0.N) (e : n = 0) :
    inv m c n h = iprop(iprop(any c scM0_0 ∗ any c scM0_1 ∗ any c scM0_2) ∗ rest m c) := by
  subst e; exact PhiD0_eq m c

theorem inv_later (c : Dev nD) (n : ℕ) (h : n ≤ cfg0.N) (e : ¬n = 0) :
    inv m c n h = iprop(iprop(any c scM0_0 ∗ own c scM0_1 (leftAt m c (n - 1) (by omega)).held.rows
      ∗ own c scM0_2 (leftAt m c (n - 1) (by omega)).held.wt) ∗ rest m c) := by
  cases n with
  | zero => exact absurd rfl e
  | succ n => rfl

/-- The pipeline's data: each input's buffer at its block, each output's at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (leftAt m c t.val t.isLt).o5
    | ⟨6, _⟩ => (leftAt m c t.val t.isLt).o6
    | ⟨7, _⟩ => (leftAt m c t.val t.isLt).o7
    | ⟨8, _⟩ => (leftAt m c t.val t.isLt).o8
  Φ t := inv m c t.val (Nat.le_of_lt_succ t.isLt)
  q w := Pipeline.shareOf spec0 w
  owed _ := 0

theorem arr_eq (c : Dev nD) (w : Fin cfg0.W) : (dats m 0 c).A w = V m c (Pipeline.arrRef spec0 w) := by dsimp only [dats]

theorem inv_here (c : Dev nD) (t : Fin cfg0.N) : (dats m 0 c).Φ t.castSucc = inv m c t.val (Nat.le_of_lt t.isLt) := by
  dsimp only [dats]; exact Pipeline.Dat.Φ_castSucc (inv m c) t

theorem inv_next (c : Dev nD) (t : Fin cfg0.N) : (dats m 0 c).Φ t.succ = iprop(iprop(any c scM0_0
    ∗ own c scM0_1 (leftAt m c t.val t.isLt).held.rows ∗ own c scM0_2 (leftAt m c t.val t.isLt).held.wt) ∗ rest m c) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (leftAt m c t.val t.isLt).o5 := by dsimp only [dats]
theorem after6 (c : Dev nD) (t : Fin cfg0.N) : (dats m 0 c).after 6 t = (leftAt m c t.val t.isLt).o6 := by dsimp only [dats]
theorem after7 (c : Dev nD) (t : Fin cfg0.N) : (dats m 0 c).after 7 t = (leftAt m c t.val t.isLt).o7 := by dsimp only [dats]
theorem after8 (c : Dev nD) (t : Fin cfg0.N) : (dats m 0 c).after 8 t = (leftAt m c t.val t.isLt).o8 := by dsimp only [dats]

theorem block0 (c : Dev nD) (t : Fin cfg0.N) (d) : (dats m 0 c).before 0 t d = iblk m c 0 t :=
  before0_0_of m (dats m 0 c) (arr_eq m c 0) (after0 m c) t d
theorem block1 (c : Dev nD) (t : Fin cfg0.N) (d) : (dats m 0 c).before 1 t d = iblk m c 1 t :=
  before0_1_of m (dats m 0 c) (arr_eq m c 1) (after1 m c) t d
theorem block2 (c : Dev nD) (t : Fin cfg0.N) (d) : (dats m 0 c).before 2 t d = iblk m c 2 t :=
  before0_2_of m (dats m 0 c) (arr_eq m c 2) (after2 m c) t d
theorem block3 (c : Dev nD) (t : Fin cfg0.N) (d) : (dats m 0 c).before 3 t d = iblk m c 3 t :=
  before0_3_of m (dats m 0 c) (arr_eq m c 3) (after3 m c) t d
theorem block4 (c : Dev nD) (t : Fin cfg0.N) (d) : (dats m 0 c).before 4 t d = iblk m c 4 t :=
  before0_4_of m (dats m 0 c) (arr_eq m c 4) (after4 m c) t d

/-- What the pipeline hands the body at a point. -/
def handed (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it takes back. -/
def taken (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 4000000 in
/-- The body at any point takes what it is given to what is taken back. -/
theorem sound (c : Dev nD) (t : Fin cfg0.N) :
    handed m c t ⊢ wp frame (wpE (defs₀ (F := F)) Variants.none c none) Set.univ (body (grid0.coords t) (bufs t)) (fun _ => taken m c t) := by
  unfold handed taken
  simp only [block0, block1, block2, block3, block4, after0, after1, after2, after3, after4, after5, after6, after7, after8]
  rw [inv_here, inv_next]
  unfold Dat.owesAt Pipeline.owesWithin
  rw [show (dats m 0 c).owed t.castSucc = 0 from rfl, show (dats m 0 c).owed t.succ = 0 from rfl]
  by_cases h0 : t.val = 0
  · rw [inv_first m c _ _ h0, leftAt_first m c t h0]
    iintro ⟨⟨⟨S0, S1, S2⟩, HG, ⟨Q0, Q1, Q2, Q3⟩, HM⟩, ⟨%W, -, HW⟩, ⟨%d0, H0⟩, ⟨%d1, H1⟩, ⟨%d2, H2⟩, ⟨%d3, H3⟩, ⟨%d4, H4⟩,
      ⟨%d5, H5⟩, ⟨%d6, H6⟩, ⟨%d7, H7⟩, ⟨%d8, H8⟩⟩
    iapply (stepFirst c (grid0.coords t) (bufs t) (cond_first t h0) (ins m c t) (V m c main_v4) W _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [H8]; · iexists _; iexact H8
    isplitl [S0]; · iexact S0
    isplitl [S1]; · iexact S1
    isplitl [S2]; · iexact S2
    isplitl [Q0 Q1 Q2 Q3 HM]
    · isplitl [Q0]; · iexact Q0
      isplitl [Q1]; · iexact Q1
      isplitl [Q2]; · iexact Q2
      isplitl [Q3]; · iexact Q3
      iexact HM
    isplitl [HW]; · iexact HW
    iintro ⟨⟨H0, H1, H2, H3, H4⟩, ⟨H5, H6, H7, H8, S0, S1, S2⟩, ⟨Q0, Q1, Q2, Q3, HM⟩, ⟨%W', HW⟩⟩
    isplitl [S0 S1 S2 HG Q0 Q1 Q2 Q3 HM]
    · isplitl [S0 S1 S2]
      · isplitl [S0]; · iexact S0
        isplitl [S1]; · iexact S1
        iexact S2
      isplitl [HG]; · iexact HG
      isplitl [Q0 Q1 Q2 Q3]
      · isplitl [Q0]; · iexact Q0
        isplitl [Q1]; · iexact Q1
        isplitl [Q2]; · iexact Q2
        iexact Q3
      iexact HM
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [inv_later m c _ _ h0, leftAt_later m c t h0]
    iintro ⟨⟨⟨S0, S1, S2⟩, HG, ⟨Q0, Q1, Q2, Q3⟩, HM⟩, ⟨%W, -, HW⟩, ⟨%d0, H0⟩, ⟨%d1, H1⟩, ⟨%d2, H2⟩, ⟨%d3, H3⟩, ⟨%d4, H4⟩,
      ⟨%d5, H5⟩, ⟨%d6, H6⟩, ⟨%d7, H7⟩, ⟨%d8, H8⟩⟩
    iapply (stepLater c (grid0.coords t) (bufs t) (cond_later t h0) (ins m c t) (before m c t) (V m c main_v4) W _)
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [H8]; · iexists _; iexact H8
    isplitl [S0]; · iexact S0
    isplitl [S1]; · iexact S1
    isplitl [S2]; · iexact S2
    isplitl [Q0 Q1 Q2 Q3 HM]
    · isplitl [Q0]; · iexact Q0
      isplitl [Q1]; · iexact Q1
      isplitl [Q2]; · iexact Q2
      isplitl [Q3]; · iexact Q3
      iexact HM
    isplitl [HW]; · iexact HW
    iintro ⟨⟨H0, H1, H2, H3, H4⟩, ⟨H5, H6, H7, H8, S0, S1, S2⟩, ⟨Q0, Q1, Q2, Q3, HM⟩, ⟨%W', HW⟩⟩
    isplitl [S0 S1 S2 HG Q0 Q1 Q2 Q3 HM]
    · isplitl [S0 S1 S2]
      · isplitl [S0]; · iexact S0
        isplitl [S1]; · iexact S1
        iexact S2
      isplitl [HG]; · iexact HG
      isplitl [Q0 Q1 Q2 Q3]
      · isplitl [Q0]; · iexact Q0
        isplitl [Q1]; · iexact Q1
        isplitl [Q2]; · iexact Q2
        iexact Q3
      iexact HM
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body meets the pipeline's demand at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = body (grid0.coords t) (bufs t) from by
    unfold defs₀; rw [Defs.onTc_tc]]
  exact triple_restated (sound m c t) rfl .rfl fun _ => .rfl

theorem enter (c : Dev nD) : Pipeline.ΦD osem0 spec0 H0 (V m) c ⊢ (dats m 0 c).Φ 0 := Idealize.SL.BI.Entails.refl _

theorem leave (c : Dev nD) : (dats m 0 c).Φ (Fin.last cfg0.N) ⊢ Pipeline.ΦD osem0 spec0 H0 (V m) c := by
  have hN : cfg0.N = 16 := N_0
  rw [show (dats m 0 c).Φ (Fin.last cfg0.N) = inv m c cfg0.N le_rfl from rfl, inv_later m c _ _ (by omega), PhiD0_eq]
  iintro ⟨⟨S0, S1, S2⟩, HR⟩
  isplitl [S0 S1 S2]
  · isplitl [S0]; · iexact S0
    isplitl [S1]; · iexists _; iexact S1
    iexists _; iexact S2
  iexact HR

set_option backward.isDefEq.respectTransparency.types false in
/-- The whole call, run: every array of the pipeline at what the points leave, every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame_dma_shared (Q' := _) cfgs (dats m) (0 : Fin 1) launch0.to₀ osem0 defs₀ Variants.none ownSemFacts0 H0 H0_sub m ρ main
    (hbody := fun c => (obligation m c).loose) (hq := fun _ _ _ => rfl)
    (howed := fun _ _ => rfl) (V := V m) (hmain := hmain m Variants.none) (hA := arr_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_zero m ρ)

/-- The run with each output array after it named, the arguments unchanged. -/
theorem run_blocks : θ_run defs (onTc (τ := τ) (main (F := F))) ⟨m, fun _ => 0, ρ⟩ (fun r => ∀ c : Dev nD,
      r.2.mem ((c.tc : Thread nD τ).loc main_v11_0) = (dats m 0 c).arrAt 5 cfg0.N
      ∧ r.2.mem ((c.tc : Thread nD τ).loc main_v11_1) = (dats m 0 c).arrAt 6 cfg0.N
      ∧ r.2.mem ((c.tc : Thread nD τ).loc main_v11_2) = (dats m 0 c).arrAt 7 cfg0.N
      ∧ r.2.mem ((c.tc : Thread nD τ).loc main_v11_3) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.2 c).1 5, (h.2 c).1 6, (h.2 c).1 7, (h.2 c).1 8, h.1 c⟩)
    (θ_run_and (frame_of m ρ (dats m) (arr_eq m) (run_main m ρ)) (run_main m ρ))

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (arr_eq m) (run_main m ρ)) ((θ_run defs _ _).mono (fun _ h => h.2) (run_zero m ρ))

end Cert.Kernel6Ideal.FfnFwd

end
-- ==== Proof.FfnPay.lean ====
module

public import proofs.«01_k».proof.Proof.Gen.Kernel2Ideal.Skeleton
public import proofs.«01_k».proof.Proof.Consts
public import Idealize.ShloMosaic.Lib.Pipeline.ValueKit
public import Idealize.ShloMosaic.Lib.Pointwise

/-! The backward call of the channel mixer: what its body computes, entry by entry. -/

@[expose] public section

set_option maxRecDepth 16384

noncomputable section

open Idealize.ShloMosaic Idealize.ShloMosaic.TcCoe

namespace Cert.Kernel2Ideal.FfnBwd

open Cert.Kernel2Ideal Cert.Kernel2Ideal.Gen

/-- The mask of the rows that stand first in their group of eight. -/
theorem pay10 (q : Fin 16) (l : Fin 5632) : k0_pay10 (ix2 q l) = if q.val % 8 = 0 then 1#1 else 0#1 := by
  pointwise [k0_pay10]
  revert q
  decide +kernel

/-- The halo before a tile: of a group of eight rows the last one of the tile before, then the first seven of this one. -/
theorem pay12 (i : grid0.Coords) (v u : Vec Ideal S16x5632 .f32) (q : Fin 16) (l : Fin 5632) :
    k0_pay12 v k0_pay10 (k0_pay11 i u) 1#32 (ix2 q l) = if q.val % 8 = 0
      then (if (i 0).val < 15 then u (ix2 ⟨(q.val + 7) % 16, Nat.mod_lt _ (by decide)⟩ l) else 0)
      else v (ix2 ⟨q.val - 1, by omega⟩ l) := by
  have hi : (i 0).val < 16 := (i 0).isLt
  have hm : ∀ n : Fin 16, Scalar.cmpi .sgt (Scalar.subi 15#32 (BitVec.ofNat 32 n.val)) 0#32 = if n.val < 15 then 1#1 else 0#1 := by
    decide +kernel
  pointwise [k0_pay12, k0_pay11, pay10]
  by_cases h : q.val % 8 = 0
  · simp only [h, if_true, if_pos]
    rw [show Scalar.cmpi .sgt (Scalar.subi 15#32 (BitVec.ofNat 32 (i 0).val)) 0#32 = _ from hm ⟨(i 0).val, hi⟩]
    by_cases k : (i 0).val < 15
    · simp only [k, if_true]
      exact congrArg u (congrArg (ix2 · l) (Fin.ext (by show q.val / 8 * 8 + (0 + 8 - 1) % 8 = (q.val + 7) % 16; omega)))
    · simp only [k, if_false]
      rfl
  · simp only [h, if_false]
    exact congrArg v (congrArg (ix2 · l) (Fin.ext (by show q.val / 8 * 8 + (q.val % 8 + 8 - 1) % 8 = q.val - 1; omega)))

/-- The mask of the rows that stand last in their group of eight and the halo after a tile. -/
theorem pay38 (v u : Vec Ideal S16x5632 .f32) (q : Fin 16) (l : Fin 5632) :
    k0_pay38 v u (iota .tc S16x5632 32 [0] iota_S16x5632_d0_w32) 8#32 0#32 (ix2 q l) = if q.val % 8 = 7
      then u (ix2 ⟨q.val - 7, by omega⟩ l) else v (ix2 ⟨(q.val + 1) % 16, Nat.mod_lt _ (by decide)⟩ l) := by
  pointwise [k0_pay38]
  refine (congrArg (fun z => Scalar.select z _ _) (?_ : _ = if q.val % 8 = 7 then 1#1 else 0#1)).trans ?_
  · clear u v l
    revert q
    decide +kernel
  by_cases h : q.val % 8 = 7
  · simp only [h, if_true]
    exact congrArg u (congrArg (ix2 · l) (Fin.ext (by show q.val / 8 * 8 + (7 + 8 - 7) % 8 = q.val - 7; omega)))
  · simp only [h, if_false]
    exact congrArg v (congrArg (ix2 · l) (Fin.ext (by show q.val / 8 * 8 + (q.val % 8 + 8 - 7) % 8 = (q.val + 1) % 16; omega)))

/-- The sum of three rows scaled by the taps, at a column of the block of columns from `o` on. -/
def conv (w : Vec Ideal S8x5632 .f32) (a b d : Vec Ideal S256x1408 .f32) (o : ℕ) (ho : o + 1408 ≤ 5632) (r : Fin 256)
    (l : Fin 1408) : EReal :=
  w (ix2 0 ⟨o + l.val, by omega⟩) * a (ix2 r l) + w (ix2 1 ⟨o + l.val, by omega⟩) * b (ix2 r l)
    + w (ix2 2 ⟨o + l.val, by omega⟩) * d (ix2 r l)

theorem pay21 (w : Vec Ideal S8x5632 .f32) (a b d : Vec Ideal S256x1408 .f32) (r : Fin 256) (l : Fin 1408) :
    k0_pay21 w a b d (ix2 r l) = conv w a b d 0 (by decide) r l := by
  pointwise [k0_pay21, conv]

theorem pay22 (w : Vec Ideal S8x5632 .f32) (a b d : Vec Ideal S256x1408 .f32) (r : Fin 256) (l : Fin 1408) :
    k0_pay22 w a b d (ix2 r l) = conv w a b d 2816 (by decide) r l := by
  pointwise [k0_pay22, conv]

theorem pay29 (w : Vec Ideal S8x5632 .f32) (a b d : Vec Ideal S256x1408 .f32) (r : Fin 256) (l : Fin 1408) :
    k0_pay29 w a b d (ix2 r l) = conv w a b d 1408 (by decide) r l := by
  pointwise [k0_pay29, conv]

theorem pay31 (w : Vec Ideal S8x5632 .f32) (a b d : Vec Ideal S256x1408 .f32) (r : Fin 256) (l : Fin 1408) :
    k0_pay31 w a (k0_pay30 w) b d (ix2 r l) = conv w a b d 4224 (by decide) r l := by
  pointwise [k0_pay30, k0_pay31, conv]

theorem pay44 (w : Vec Ideal S8x5632 .f32) (a b d : Vec Ideal S256x1408 .f32) (r : Fin 256) (l : Fin 1408) :
    k0_pay47 (k0_pay44 w (k0_pay41 w a) b d) (ix2 r l) = conv w a b d 0 (by decide) r l := by
  pointwise [k0_pay41, k0_pay44, k0_pay47, conv]

theorem pay53 (w : Vec Ideal S8x5632 .f32) (a b d : Vec Ideal S256x1408 .f32) (r : Fin 256) (l : Fin 1408) :
    k0_pay53 w (k0_pay50 w a b) d (ix2 r l) = conv w a b d 1408 (by decide) r l := by
  pointwise [k0_pay50, k0_pay53, conv]

theorem pay60 (w : Vec Ideal S8x5632 .f32) (a b d : Vec Ideal S256x1408 .f32) (r : Fin 256) (l : Fin 1408) :
    k0_pay60 w (k0_pay55 w a) (k0_pay57 w b) d (ix2 r l) = conv w a b d 2816 (by decide) r l := by
  pointwise [k0_pay55, k0_pay57, k0_pay60, conv]

theorem pay65 (w : Vec Ideal S8x5632 .f32) (a b d : Vec Ideal S256x1408 .f32) (r : Fin 256) (l : Fin 1408) :
    k0_pay2 (k0_pay65 w (k0_pay62 w a) b d) (ix2 r l) = conv w a b d 4224 (by decide) r l := by
  pointwise [k0_pay2, k0_pay62, k0_pay65, conv]

/-- A running sum and the products of two tiles' rows at its place in the groups of eight. -/
def accum (x y : Vec Ideal S256x1408 .f32) (s : Vec Ideal S1x8x1408 .f32) (q : Fin 8) (l : Fin 1408) : EReal :=
  s (ix3 0 q l) + ∑ k : Fin 32, y (ix2 ⟨k.val * 8 + q.val, by omega⟩ l) * x (ix2 ⟨k.val * 8 + q.val, by omega⟩ l)

theorem pay42 (x y : Vec Ideal S256x1408 .f32) (s : Vec Ideal S1x8x1408 .f32) (q : Fin 8) (l : Fin 1408) :
    k0_pay42 (k0_pay40 x) y s (ix3 0 q l) = accum x y s q l := by
  pointwise [k0_pay40, k0_pay42, accum]

theorem pay43 (x y : Vec Ideal S256x1408 .f32) (s : Vec Ideal S1x8x1408 .f32) (q : Fin 8) (l : Fin 1408) :
    k0_pay43 (k0_pay40 x) y s (ix3 0 q l) = accum x y s q l := by
  pointwise [k0_pay40, k0_pay43, accum]

theorem pay45 (x y : Vec Ideal S256x1408 .f32) (s : Vec Ideal S1x8x1408 .f32) (q : Fin 8) (l : Fin 1408) :
    k0_pay46 (k0_pay45 (k0_pay40 x) y s) (ix3 0 q l) = accum x y s q l := by
  pointwise [k0_pay40, k0_pay45, k0_pay46, accum]

theorem pay49 (x y : Vec Ideal S256x1408 .f32) (s : Vec Ideal S1x8x1408 .f32) (q : Fin 8) (l : Fin 1408) :
    k0_pay49 x y s (ix3 0 q l) = accum x y s q l := by
  pointwise [k0_pay48, k0_pay49, accum]

theorem pay51 (x y : Vec Ideal S256x1408 .f32) (s : Vec Ideal S1x8x1408 .f32) (q : Fin 8) (l : Fin 1408) :
    k0_pay51 x y s (ix3 0 q l) = accum x y s q l := by
  pointwise [k0_pay48, k0_pay51, accum]

theorem pay52 (x y : Vec Ideal S256x1408 .f32) (s : Vec Ideal S1x8x1408 .f32) (q : Fin 8) (l : Fin 1408) :
    k0_pay52 (k0_pay48 x) y s (ix3 0 q l) = accum x y s q l := by
  pointwise [k0_pay48, k0_pay52, accum]

theorem pay56 (x y : Vec Ideal S256x1408 .f32) (s : Vec Ideal S1x8x1408 .f32) (q : Fin 8) (l : Fin 1408) :
    k0_pay56 x y s (ix3 0 q l) = accum x y s q l := by
  pointwise [k0_pay54, k0_pay56, accum]

theorem pay58 (x y : Vec Ideal S256x1408 .f32) (s : Vec Ideal S1x8x1408 .f32) (q : Fin 8) (l : Fin 1408) :
    k0_pay58 (k0_pay54 x) y s (ix3 0 q l) = accum x y s q l := by
  pointwise [k0_pay54, k0_pay58, accum]

theorem pay59 (x y : Vec Ideal S256x1408 .f32) (s : Vec Ideal S1x8x1408 .f32) (q : Fin 8) (l : Fin 1408) :
    k0_pay59 (k0_pay54 x) y s (ix3 0 q l) = accum x y s q l := by
  pointwise [k0_pay54, k0_pay59, accum]

theorem pay63 (x y : Vec Ideal S256x1408 .f32) (s : Vec Ideal S1x8x1408 .f32) (q : Fin 8) (l : Fin 1408) :
    k0_pay63 (k0_pay61 x) y s (ix3 0 q l) = accum x y s q l := by
  pointwise [k0_pay61, k0_pay63, accum]

theorem pay64 (x y : Vec Ideal S256x1408 .f32) (s : Vec Ideal S1x8x1408 .f32) (q : Fin 8) (l : Fin 1408) :
    k0_pay64 (k0_pay61 x) y s (ix3 0 q l) = accum x y s q l := by
  pointwise [k0_pay61, k0_pay64, accum]

theorem pay66 (x y : Vec Ideal S256x1408 .f32) (s : Vec Ideal S1x8x1408 .f32) (q : Fin 8) (l : Fin 1408) :
    k0_pay1 (k0_pay66 (k0_pay61 x) y s) (ix3 0 q l) = accum x y s q l := by
  pointwise [k0_pay1, k0_pay61, k0_pay66, accum]

/-- The reciprocal root mean square of a row, as the body writes it. -/
def rs (v : Fin 1024 → EReal) : EReal :=
  Ideal.rsqrt (Ideal.div (∑ k, v k * v k) (Ideal.ofBits .f32 0x44800000#32) + Ideal.ofBits .f32 0x358637BD#32)

theorem pay16 (v : Vec Ideal S256x1024 .f32) (r : Fin 256) : k0_pay16 v (ix2 r 0) = rs fun k => v (ix2 r k) := by
  pointwise [k0_pay16, k0_pay14, rs]

theorem pay17 (v y : Vec Ideal S256x1024 .f32) (a : Vec Ideal S8x1024 .f32) (s : Fin 8) (l : Fin 1024) :
    k0_pay17 v y a (ix2 s l) = a (ix2 s l) + ∑ k : Fin 32, y (ix2 ⟨k.val * 8 + s.val, by omega⟩ l)
      * v (ix2 ⟨k.val * 8 + s.val, by omega⟩ l) * rs fun i => v (ix2 ⟨k.val * 8 + s.val, by omega⟩ i) := by
  pointwise [k0_pay17, k0_pay14, k0_pay15, pay16]

/-- The gradient of the closing norm. -/
theorem pay20 (v y : Vec Ideal S256x1024 .f32) (p : Vec Ideal S1x1024 .f32) (r : Fin 256) (l : Fin 1024) :
    k0_pay20 (k0_pay14 v) (k0_pay16 v) (k0_pay18 y p) (k0_pay19 v y p) (ix2 r l)
      = (rs fun k => v (ix2 r k)) * (p (ix2 0 l) * y (ix2 r l))
        - v (ix2 r l) * ((rs fun k => v (ix2 r k)) * (rs fun k => v (ix2 r k)) * (rs fun k => v (ix2 r k)))
          * Ideal.div (∑ k : Fin 1024, p (ix2 0 k) * y (ix2 r k) * v (ix2 r k)) (Ideal.ofBits .f32 0x44800000#32) := by
  pointwise [k0_pay20, k0_pay14, k0_pay15, k0_pay18, k0_pay19, pay16]

theorem pay3 (a : Vec Ideal S8x1024 .f32) (l : Fin 1024) : k0_pay3 a (ix2 0 l) = ∑ s : Fin 8, a (ix2 s l) := by
  pointwise [k0_pay3]
theorem pay4 (a : Vec Ideal S8x8x5632 .f32) (k : Fin 8) (l : Fin 5632) : k0_pay4 a (ix2 k l) = ∑ s : Fin 8, a (ix3 k s l) := by
  pointwise [k0_pay4]
theorem pay5 (j : S8x1024.Idx) : k0_pay5 (F := Ideal) j = 0 := by
  pointwise [k0_pay5]
theorem pay6 (j : S8x8x5632.Idx) : k0_pay6 (F := Ideal) j = 0 := by
  pointwise [k0_pay6]
theorem pay7 (j : S16x5632.Idx) : k0_pay7 (F := Ideal) j = 0 := by
  pointwise [k0_pay7]
theorem pay8 (v : Vec Ideal S256x5632 .f32) : k0_pay8 v = v := by
  funext j
  idx_vars j
  pointwise [k0_pay8]
theorem pay9 (v : Vec Ideal S16x5632 .f32) : k0_pay9 v = v := by
  funext j
  idx_vars j
  pointwise [k0_pay9]
theorem pay13 (v : Vec Ideal S8x5632 .f32) : k0_pay13 v = v := by
  funext j
  idx_vars j
  pointwise [k0_pay13]
theorem pay39 (v : Vec Ideal S16x5632 .f32) : k0_pay39 v = v := by
  funext j
  idx_vars j
  pointwise [k0_pay39]

/-- A gate under its logistic curve. -/
def sg (z : EReal) : EReal := Ideal.logistic z

/-- The activation of a row. -/
theorem pay25 (w : Vec Ideal S8x5632 .f32) (a b d a' b' d' : Vec Ideal S256x1408 .f32) (r : Fin 256) (l : Fin 1408) :
    k0_pay25 (k0_pay21 w a b d) (k0_pay22 w a' b' d') (k0_pay23 w a b d) (ix2 r l)
      = conv w a b d 0 (by decide) r l * sg (conv w a b d 0 (by decide) r l) * conv w a' b' d' 2816 (by decide) r l := by
  pointwise [k0_pay25, k0_pay23, k0_pay24, pay21, pay22, sg]
theorem pay34 (w : Vec Ideal S8x5632 .f32) (a b d a' b' d' : Vec Ideal S256x1408 .f32) (r : Fin 256) (l : Fin 1408) :
    k0_pay34 w (k0_pay29 w a b d) a' (k0_pay30 w) b' d' (ix2 r l)
      = conv w a b d 1408 (by decide) r l * sg (conv w a b d 1408 (by decide) r l) * conv w a' b' d' 4224 (by decide) r l := by
  pointwise [k0_pay34, k0_pay32, k0_pay33, pay29, pay31, sg]

/-- The rows behind the projection down. -/
def behind (x : Vec Ideal S256x1024 .bf16) (w : Vec Ideal S1408x1024 .bf16) (r : Fin 256) (l : Fin 1408) : EReal :=
  ∑ k : Fin 1024, x (ix2 r k) * w (ix2 l k)
theorem pay26 (x : Vec Ideal S256x1024 .bf16) (w : Vec Ideal S1408x1024 .bf16) (r : Fin 256) (l : Fin 1408) :
    k0_pay26 x w (ix2 r l) = behind x w r l := by
  pointwise [k0_pay26, behind]
theorem pay35 (x : Vec Ideal S256x1024 .bf16) (w : Vec Ideal S1408x1024 .bf16) (r : Fin 256) (l : Fin 1408) :
    k0_pay35 x w (ix2 r l) = behind x w r l := by
  pointwise [k0_pay35, behind]

/-- The gradient of a gate, from the gradient `da` of the activation, the gate and the value beside it. -/
def dgate (da gate val : EReal) : EReal := da * val * (sg gate * (1 + gate * (1 - sg gate)))

theorem pay27 (x : Vec Ideal S256x1024 .bf16) (wd : Vec Ideal S1408x1024 .bf16) (w : Vec Ideal S8x5632 .f32)
    (a b d a' b' d' : Vec Ideal S256x1408 .f32) (r : Fin 256) (l : Fin 1408) :
    k0_pay27 x (k0_pay21 w a b d) (k0_pay22 w a' b' d') (k0_pay23 w a b d) wd (ix2 r l)
      = dgate (behind x wd r l) (conv w a b d 0 (by decide) r l) (conv w a' b' d' 2816 (by decide) r l) := by
  pointwise [k0_pay27, pay26, k0_pay23, pay21, pay22, dgate, sg, Consts.one]
  rfl
theorem pay28 (x : Vec Ideal S256x1024 .bf16) (wd : Vec Ideal S1408x1024 .bf16) (w : Vec Ideal S8x5632 .f32)
    (a b d : Vec Ideal S256x1408 .f32) (r : Fin 256) (l : Fin 1408) :
    k0_pay28 x (k0_pay21 w a b d) (k0_pay23 w a b d) wd (ix2 r l)
      = behind x wd r l * (conv w a b d 0 (by decide) r l * sg (conv w a b d 0 (by decide) r l)) := by
  pointwise [k0_pay28, pay26, k0_pay23, k0_pay24, pay21, sg]
theorem pay36 (x : Vec Ideal S256x1024 .bf16) (wd : Vec Ideal S1408x1024 .bf16) (w : Vec Ideal S8x5632 .f32)
    (a b d a' b' d' : Vec Ideal S256x1408 .f32) (r : Fin 256) (l : Fin 1408) :
    k0_pay36 w x (k0_pay29 w a b d) a' (k0_pay30 w) b' d' wd (ix2 r l)
      = dgate (behind x wd r l) (conv w a b d 1408 (by decide) r l) (conv w a' b' d' 4224 (by decide) r l) := by
  pointwise [k0_pay36, pay35, k0_pay32, pay29, pay31, dgate, sg, Consts.one]
  rfl
theorem pay37 (x : Vec Ideal S256x1024 .bf16) (wd : Vec Ideal S1408x1024 .bf16) (w : Vec Ideal S8x5632 .f32)
    (a b d : Vec Ideal S256x1408 .f32) (r : Fin 256) (l : Fin 1408) :
    k0_pay37 x (k0_pay29 w a b d) wd (ix2 r l)
      = behind x wd r l * (conv w a b d 1408 (by decide) r l * sg (conv w a b d 1408 (by decide) r l)) := by
  pointwise [k0_pay37, pay35, k0_pay32, k0_pay33, pay29, sg]

end Cert.Kernel2Ideal.FfnBwd
-- ==== Proof.FwdPay.lean ====
module

public import proofs.«01_k».proof.Proof.Gen.Kernel6Ideal.Skeleton
public import proofs.«01_k».proof.Proof.FfnPay

/-! The forward call of the channel mixer: what its body computes, entry by entry. -/

@[expose] public section

set_option maxRecDepth 16384

noncomputable section

open Idealize.ShloMosaic Idealize.ShloMosaic.TcCoe

namespace Cert.Kernel6Ideal.FfnFwd

open Cert.Kernel6Ideal Cert.Kernel6Ideal.Gen
open Cert.Kernel2Ideal.FfnBwd (conv rs sg)

/-- A row under the opening norm. -/
def hp (v : Vec Ideal S256x1024 .f32) (g : Vec Ideal S1x1024 .f32) (r : Fin 256) (l : Fin 1024) : EReal :=
  v (ix2 r l) * (rs fun k => v (ix2 r k)) * g (ix2 0 l)

/-- Rows before a block of columns of the projection up. -/
def up (h : Vec Ideal S256x1024 .bf16) (w : Vec Ideal S1x1024x1408 .bf16) (r : Fin 256) (l : Fin 1408) : EReal :=
  ∑ k : Fin 1024, h (ix2 r k) * w (ix3 0 k l)

theorem pay3 (j : S16x5632.Idx) : k0_pay3 (F := Ideal) j = 0 := by
  pointwise [k0_pay3]
theorem pay4 (v : Vec Ideal S256x1024 .f32) : k0_pay4 v = v := by
  funext j
  idx_vars j
  pointwise [k0_pay4]
theorem pay5 (v : Vec Ideal S256x1024 .f32) (g : Vec Ideal S1x1024 .f32) (r : Fin 256) (l : Fin 1024) :
    k0_pay5 v g (ix2 r l) = hp v g r l := by
  pointwise [k0_pay5, pay4, hp, rs]
theorem pay6 (v : Vec Ideal S256x1024 .f32) (g : Vec Ideal S1x1024 .f32) (w : Vec Ideal S1x1024x1408 .bf16) (r : Fin 256)
    (l : Fin 1408) : k0_pay6 v g w (ix2 r l) = up (k0_pay5 v g) w r l := by
  pointwise [k0_pay6, up]
theorem pay7 (v : Vec Ideal S256x1024 .f32) (g : Vec Ideal S1x1024 .f32) (w : Vec Ideal S1x1024x1408 .bf16) (r : Fin 256)
    (l : Fin 1408) : k0_pay7 v g w (ix2 r l) = up (k0_pay5 v g) w r l := by
  pointwise [k0_pay7, pay6]
theorem pay8 (v : Vec Ideal S256x1024 .f32) (g : Vec Ideal S1x1024 .f32) (w : Vec Ideal S1x1024x1408 .bf16) (r : Fin 256)
    (l : Fin 1408) : k0_pay8 v g w (ix2 r l) = up (k0_pay5 v g) w r l := by
  pointwise [k0_pay8, up]
theorem pay9 (v : Vec Ideal S256x1408 .f32) : k0_pay9 (F := Ideal) v = v := by
  funext j
  idx_vars j
  pointwise [k0_pay9]
theorem pay10 (h : Vec Ideal S256x1024 .bf16) (w : Vec Ideal S1x1024x1408 .bf16) (r : Fin 256) (l : Fin 1408) :
    k0_pay10 h w (ix2 r l) = up h w r l := by
  pointwise [k0_pay10, up]
theorem pay11 (h : Vec Ideal S256x1024 .bf16) (w : Vec Ideal S1x1024x1408 .bf16) (r : Fin 256) (l : Fin 1408) :
    k0_pay11 h w (ix2 r l) = up h w r l := by
  pointwise [k0_pay11, pay10]
theorem pay12 (h : Vec Ideal S256x1024 .bf16) (w : Vec Ideal S1x1024x1408 .bf16) (r : Fin 256) (l : Fin 1408) :
    k0_pay12 h w (ix2 r l) = up h w r l := by
  pointwise [k0_pay12, up]
theorem pay13 (h : Vec Ideal S256x1024 .bf16) (w : Vec Ideal S1x1024x1408 .bf16) (r : Fin 256) (l : Fin 1408) :
    k0_pay13 h w (ix2 r l) = up h w r l := by
  pointwise [k0_pay13, pay12]
theorem pay17 (v : Vec Ideal S16x5632 .f32) : k0_pay17 v = v := by
  funext j
  idx_vars j
  pointwise [k0_pay17]
theorem pay18 (v : Vec Ideal S8x5632 .f32) : k0_pay18 v = v := by
  funext j
  idx_vars j
  pointwise [k0_pay18]

/-- The halo before a tile: of a group of eight rows the last one of the tile before, then the first seven of this one. -/
theorem pay16 (v u : Vec Ideal S16x5632 .f32) (q : Fin 16) (l : Fin 5632) :
    k0_pay16 v u (Scalar.select (Scalar.cmpi .eq 8#32 0#32) 1#32 8#32) k0_pay14 k0_pay15 (ix2 q l) = if q.val % 8 = 0
      then u (ix2 ⟨(q.val + 7) % 16, Nat.mod_lt _ (by decide)⟩ l) else v (ix2 ⟨q.val - 1, by omega⟩ l) := by
  pointwise [k0_pay16, k0_pay14, k0_pay15]
  refine (congrArg (fun z => Scalar.select z _ _) (?_ : _ = if q.val % 8 = 0 then 1#1 else 0#1)).trans ?_
  · clear u v l
    revert q
    decide +kernel
  by_cases h : q.val % 8 = 0
  · simp only [h, if_true]
    exact congrArg u (congrArg (ix2 · l) (Fin.ext (by show q.val / 8 * 8 + (0 + 8 - 1) % 8 = (q.val + 7) % 16; omega)))
  · simp only [h, if_false]
    exact congrArg v (congrArg (ix2 · l) (Fin.ext (by show q.val / 8 * 8 + (q.val % 8 + 8 - 1) % 8 = q.val - 1; omega)))

/-- The activation of a row from its gate and the value beside it. -/
def glu (gate val : EReal) : EReal := gate * sg gate * val

theorem pay22 (w : Vec Ideal S8x5632 .f32) (a b d a' b' d' : Vec Ideal S256x1408 .f32) (wd : Vec Ideal S1408x1024 .bf16) (r : Fin 256)
    (l : Fin 1024) : k0_pay22 (k0_pay18 w) (k0_pay19 (F := Ideal)) (k0_pay20 w a b) (k0_pay21 w) d a' b' d' wd (ix2 r l)
      = ∑ k : Fin 1408, glu (conv w a b d 0 (by decide) r k) (conv w a' b' d' 2816 (by decide) r k) * wd (ix2 k l) := by
  pointwise [k0_pay22, k0_pay19, k0_pay20, k0_pay21, pay18, glu, conv, sg]

theorem pay1 (w : Vec Ideal S8x5632 .f32) (s : Vec Ideal S256x1024 .f32) (a b d a' b' d' : Vec Ideal S256x1408 .f32)
    (wd : Vec Ideal S1408x1024 .bf16) (r : Fin 256) (l : Fin 1024) :
    k0_pay1 (k0_pay18 w) s (k0_pay23 (k0_pay18 w) a b d) a' (k0_pay24 (k0_pay18 w)) b' d' wd (ix2 r l)
      = s (ix2 r l) + ∑ k : Fin 1408, glu (conv w a b d 1408 (by decide) r k) (conv w a' b' d' 4224 (by decide) r k) * wd (ix2 k l) := by
  pointwise [k0_pay1, k0_pay23, k0_pay24, pay18, glu, conv, sg]

/-- The closing norm and the residual sum. -/
theorem pay2 (x : Vec Ideal S256x1024 .f32) (w : FVec Ideal S8x5632 .f32) (s : FVec Ideal S256x1024 .f32) (g : FVec Ideal S256x1408 .f32)
    (a' : Vec Ideal S256x1408 .f32) (t : FVec Ideal S256x1408 .f32) (b' d' : Vec Ideal S256x1408 .f32)
    (wd : Vec Ideal S1408x1024 .bf16) (p : Vec Ideal S1x1024 .f32) (r : Fin 256) (l : Fin 1024) :
    k0_pay2 (k0_pay4 x) w s g a' t b' d' wd p (ix2 r l) = x (ix2 r l) + k0_pay1 w s g a' t b' d' wd (ix2 r l)
      * (rs fun k => k0_pay1 w s g a' t b' d' wd (ix2 r k)) * p (ix2 0 l) := by
  rw [pay4]
  pointwise [k0_pay2, rs]

end Cert.Kernel6Ideal.FfnFwd
-- ==== Proof.FfnBufs.lean ====
/- The backward call of the channel mixer: what its body is given at a grid point (the staging buffers and the scratch, the
   blocks staged in, the carried scratch), and how what it leaves is stated. -/
module

public import proofs.«01_k».proof.Proof.Gen.Kernel2Ideal.Frame.Runs

@[expose] public section

set_option maxRecDepth 16384

noncomputable section

namespace Cert.Kernel2Ideal.FfnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The buffers the body works on: the six input blocks, the five output blocks and the six scratch buffers, each whole. -/
structure Bufs where
  a1 : Memref sig .tc .vmem S256x1024 .f32
  h1 : a1.IsWhole
  a2 : Memref sig .tc .vmem S256x1024 .f32
  h2 : a2.IsWhole
  a3 : Memref sig .tc .vmem S256x5632 .f32
  h3 : a3.IsWhole
  a4 : Memref sig .tc .vmem S16x5632 .f32
  h4 : a4.IsWhole
  a5 : Memref sig .tc .vmem S8x5632 .f32
  h5 : a5.IsWhole
  a7 : Memref sig .tc .vmem S1x1024 .f32
  h7 : a7.IsWhole
  a8 : Memref sig .tc .vmem S256x1024 .bf16
  h8 : a8.IsWhole
  a9 : Memref sig .tc .vmem S256x2816 .bf16
  h9 : a9.IsWhole
  a10 : Memref sig .tc .vmem S256x5632 .bf16
  h10 : a10.IsWhole
  a11 : Memref sig .tc .vmem S1x1024 .f32
  h11 : a11.IsWhole
  a12 : Memref sig .tc .vmem S8x5632 .f32
  h12 : a12.IsWhole
  a13 : Memref sig .tc .vmem S272x5632 .f32
  h13 : a13.IsWhole
  a14 : Memref sig .tc .vmem S272x5632 .f32
  h14 : a14.IsWhole
  a15 : Memref sig .tc .vmem S16x5632 .f32
  h15 : a15.IsWhole
  a16 : Memref sig .tc .vmem S8x1024 .f32
  h16 : a16.IsWhole
  a17 : Memref sig .tc .vmem S8x8x5632 .f32
  h17 : a17.IsWhole
  a18 : Memref sig .tc .vmem S2816x1024 .bf16
  h18 : a18.IsWhole

/-- The six blocks staged in. -/
structure Ins (F : FTy → Type) where
  x0 : Vec F S256x1024 .f32
  x1 : Vec F S256x1024 .f32
  x2 : Vec F S256x5632 .f32
  x3 : Vec F S16x5632 .f32
  x4 : Vec F S8x5632 .f32
  x5 : Vec F S1x1024 .f32

/-- The scratch carried from a point to the next: the later rows' halo, the two sums, the weight. -/
structure Held (F : FTy → Type) where
  s2 : Vec F S16x5632 .f32
  s3 : Vec F S8x1024 .f32
  s4 : Vec F S8x8x5632 .f32
  s5 : Vec F S2816x1024 .bf16

/-- What a buffer's stores are, last first. -/
abbrev Puts (F : FTy → Type) (S : Shape) (e : EltTy) : Type := List (View.Piece (Elt F) S e)

/-- The stores of a point: into the five outputs, the four carried scratch buffers, the two others. -/
abbrev Stores (F : FTy → Type) : Type :=
  Puts F S256x1024 .bf16 × Puts F S256x2816 .bf16 × Puts F S256x5632 .bf16 × Puts F S1x1024 .f32 × Puts F S8x5632 .f32 × Puts F S16x5632 .f32 × Puts F S8x1024 .f32 × Puts F S8x8x5632 .f32 × Puts F S2816x1024 .bf16 × Puts F S272x5632 .f32 × Puts F S272x5632 .f32

/-- The buffer holds `x`. -/
abbrev own (c : Dev nD) {S : Shape} {e : EltTy} (a : Memref sig .tc .vmem S e) (x : Vec F S e) : sProp 𝕄 :=
  owns (c : Thread nD τ) a fullShare x

/-- The buffer holds anything. -/
abbrev any (c : Dev nD) {S : Shape} {e : EltTy} (a : Memref sig .tc .vmem S e) : sProp 𝕄 :=
  iprop(∃ d, owns (c : Thread nD τ) a fullShare d)

/-- The buffer has received the stores `L`, over something. -/
abbrev put (c : Dev nD) {S : Shape} {e : EltTy} (a : Memref sig .tc .vmem S e) (L : Puts F S e) : sProp 𝕄 :=
  iprop(∃ f, a.view.loc (c : Thread nD τ) ↦[a.view.set]{fullShare} a.view.writes (Elt F) f L)

/-- A copy's counter at zero. -/
abbrev cell (c : Dev nD) (n : DmaSem sig) : sProp 𝕄 := semVal ((c : Thread nD τ), SemLoc.dma n) 0

/-- The body on these buffers. -/
abbrev body (i : grid0.Coords) (b : Bufs) : Prog (TpuEff nD τ sig (Elt F) Λ₀ .tc) PUnit :=
  cc0_ffn_bwd i b.a1 b.h1 b.a2 b.h2 b.a3 b.h3 b.a4 b.h4 b.a5 b.h5 (Memref.whole main_v36) (Memref.isWhole_whole _) b.a7 b.h7
    b.a8 b.h8 b.a9 b.h9 b.a10 b.h10 b.a11 b.h11 b.a12 b.h12 b.a13 b.h13 b.a14 b.h14 b.a15 b.h15 b.a16 b.h16 b.a17 b.h17
    b.a18 b.h18 cc0_scratch6

end Cert.Kernel2Ideal.FfnBwd

end
-- ==== Proof.FfnTile.lean ====
module

public import proofs.«01_k».proof.Proof.FfnBufs
public import proofs.«01_k».proof.Proof.FfnPay

/-! The backward call of the channel mixer: one tile of its rows, entry by entry. -/

@[expose] public section

set_option maxRecDepth 16384

noncomputable section

open Idealize.ShloMosaic Idealize.ShloMosaic.TcCoe

namespace Cert.Kernel2Ideal.FfnBwd

open Cert.Kernel2Ideal Cert.Kernel2Ideal.Gen

/-- The rows before a tile's own: the last of the tile before and the first of this one, in groups of eight. -/
def halo (i : grid0.Coords) (x : Ins Ideal) (q : Fin 16) (l : Fin 5632) : EReal :=
  if q.val % 8 = 0 then (if (i 0).val < 15 then x.x3 (ix2 ⟨(q.val + 7) % 16, Nat.mod_lt _ (by decide)⟩ l) else 0)
  else x.x2 (ix2 ⟨240 + (q.val - 1), by omega⟩ l)

/-- A tile's rows with the ones before it. -/
def ext (i : grid0.Coords) (x : Ins Ideal) (q : Fin 272) (l : Fin 5632) : EReal :=
  if h : q.val < 16 then halo i x ⟨q.val, h⟩ l else x.x2 (ix2 ⟨q.val - 16, by omega⟩ l)

/-- The array of them, as it is written. -/
def extArr (i : grid0.Coords) (x : Ins Ideal) : Vec Ideal S272x5632 .f32 := View.canon (Val := Elt Ideal)
  [(⟨Rect.unit (s := S272x5632) ![0, 0] ![16, 5632] inb_S272x5632_S16x5632_0_0,
      k0_pay12 (k0_pay9 (View.ld x.x2 (Rect.unit ![240, 0] ![16, 5632] inb_S256x5632_S16x5632_240_0))) k0_pay10
        (k0_pay11 i x.x3) 1#32⟩ : View.Piece (Elt Ideal) S272x5632 .f32),
    ⟨Rect.unit ![16, 0] ![256, 5632] inb_S272x5632_S256x5632_16_0, k0_pay8 x.x2⟩]

theorem fold_ext (i : grid0.Coords) (x : Ins Ideal) : View.canon (Val := Elt Ideal)
  [(⟨Rect.unit (s := S272x5632) ![0, 0] ![16, 5632] inb_S272x5632_S16x5632_0_0,
      k0_pay12 (k0_pay9 (View.ld x.x2 (Rect.unit ![240, 0] ![16, 5632] inb_S256x5632_S16x5632_240_0))) k0_pay10
        (k0_pay11 i x.x3) 1#32⟩ : View.Piece (Elt Ideal) S272x5632 .f32),
    ⟨Rect.unit ![16, 0] ![256, 5632] inb_S272x5632_S256x5632_16_0, k0_pay8 x.x2⟩] = extArr i x := rfl

/-- A place of an array by its two numbers' bounds. -/
theorem mem_block {a b : ℕ} (o u p q : ℕ) (inb) (y : (⟨2, ![a, b]⟩ : Shape).Idx)
    (h0 : o ≤ (y 0).val ∧ (y 0).val < o + p) (h1 : u ≤ (y 1).val ∧ (y 1).val < u + q) :
    y ∈ (Rect.unit (s := (⟨2, ![a, b]⟩ : Shape)) ![o, u] ![p, q] inb).set :=
  Rect.mem_set_unit.mpr (Fin.forall_fin_two.mpr ⟨h0, h1⟩)

/-- A function of two numbers at a place of a block. -/
theorem at_block {a b p q : ℕ} {α : Type} (f : Fin a → Fin b → α) (o u : ℕ) (inb) (r : Fin p) (l : Fin q) (hr : o + r.val < a)
    (hl : u + l.val < b) : f ((Rect.unit (s := (⟨2, ![a, b]⟩ : Shape)) ![o, u] ![p, q] inb).emb (ix2 r l) 0)
      ((Rect.unit (s := (⟨2, ![a, b]⟩ : Shape)) ![o, u] ![p, q] inb).emb (ix2 r l) 1) = f ⟨o + r.val, hr⟩ ⟨u + l.val, hl⟩ :=
  congrArg₂ f (Fin.ext (by rw [ValueKit.rect_emb_unit_val]; rfl)) (Fin.ext (by rw [ValueKit.rect_emb_unit_val]; rfl))

theorem extArr_eq (i : grid0.Coords) (x : Ins Ideal) : extArr i x = fun j : S272x5632.Idx => ext i x (j 0) (j 1) := by
  unfold extArr
  funext y
  refine View.canon_apply_of_pieces (Val := Elt Ideal) (e := .f32) (fun j : S272x5632.Idx => ext i x (j 0) (j 1)) _ ?_ y ?_
  · intro p hp
    simp only [List.mem_cons, List.not_mem_nil, or_false] at hp
    rcases hp with rfl | rfl <;> intro z <;> idx_vars z
    · refine Eq.trans ?_ (at_block (ext i x) 0 0 inb_S272x5632_S16x5632_0_0 z0 z1 (by omega) (by omega)).symm
      rw [pay12, pay9]
      have e : 0 + z0.val < 16 := by omega
      simp only [ext, halo, dif_pos e, Nat.zero_add]
      pointwise []
    · refine Eq.trans ?_ (at_block (ext i x) 16 0 inb_S272x5632_S256x5632_16_0 z0 z1 (by omega) (by omega)).symm
      have e : ¬16 + z0.val < 16 := by omega
      simp only [pay8, ext, dif_neg e, Nat.zero_add, Nat.add_sub_cancel_left]
  · have h0 : (y 0).val < 272 := (y 0).isLt
    have h1 : (y 1).val < 5632 := (y 1).isLt
    by_cases a : (y 0).val < 16
    · exact ⟨_, .head _, mem_block 0 0 16 5632 inb_S272x5632_S16x5632_0_0 y ⟨by omega, by omega⟩ ⟨by omega, by omega⟩⟩
    · exact ⟨_, .tail _ (.head _), mem_block 16 0 256 5632 inb_S272x5632_S256x5632_16_0 y ⟨by omega, by omega⟩ ⟨by omega, by omega⟩⟩

/-- The causal convolution of a tile's rows. -/
def cv (i : grid0.Coords) (x : Ins Ideal) (r : Fin 256) (l : Fin 5632) : EReal :=
  x.x4 (ix2 0 l) * ext i x ⟨r.val, by omega⟩ l + x.x4 (ix2 1 l) * ext i x ⟨8 + r.val, by omega⟩ l
    + x.x4 (ix2 2 l) * ext i x ⟨16 + r.val, by omega⟩ l

theorem conv_ext (i : grid0.Coords) (x : Ins Ideal) (o : ℕ) (ho : o + 1408 ≤ 5632) (h0 h1 h2) (r : Fin 256) (l : Fin 1408) :
    conv (k0_pay13 x.x4) (View.ld (extArr i x) (Rect.unit (s := S272x5632) ![0, o] ![256, 1408] h0))
      (View.ld (extArr i x) (Rect.unit (s := S272x5632) ![8, o] ![256, 1408] h1))
      (View.ld (extArr i x) (Rect.unit (s := S272x5632) ![16, o] ![256, 1408] h2)) o ho r l = cv i x r ⟨o + l.val, by omega⟩ := by
  rw [extArr_eq, pay13]
  pointwise [conv, cv]

/-- The gradient before the closing norm, as it is computed. -/
def ddArr (x : Ins Ideal) : Vec Ideal S256x1024 .bf16 :=
  k0_pay20 (k0_pay14 x.x1) (k0_pay16 x.x1) (k0_pay18 x.x0 x.x5) (k0_pay19 x.x1 x.x0 x.x5)

/-- The first half of the gates, as it is computed. -/
def gateArr (i : grid0.Coords) (x : Ins Ideal) : FVec Ideal S256x1408 .f32 := k0_pay21 (k0_pay13 x.x4)
  (View.ld (extArr i x) (Rect.unit ![0, 0] ![256, 1408] inb_S272x5632_S256x1408_0_0))
  (View.ld (extArr i x) (Rect.unit ![8, 0] ![256, 1408] inb_S272x5632_S256x1408_8_0))
  (View.ld (extArr i x) (Rect.unit ![16, 0] ![256, 1408] inb_S272x5632_S256x1408_16_0))
/-- The logistic curve at the first half of the gates. -/
def curveArr (i : grid0.Coords) (x : Ins Ideal) : FVec Ideal S256x1408 .f32 := k0_pay23 (k0_pay13 x.x4)
  (View.ld (extArr i x) (Rect.unit ![0, 0] ![256, 1408] inb_S272x5632_S256x1408_0_0))
  (View.ld (extArr i x) (Rect.unit ![8, 0] ![256, 1408] inb_S272x5632_S256x1408_8_0))
  (View.ld (extArr i x) (Rect.unit ![16, 0] ![256, 1408] inb_S272x5632_S256x1408_16_0))
/-- The first half of the values. -/
def valArr (i : grid0.Coords) (x : Ins Ideal) : FVec Ideal S256x1408 .f32 := k0_pay22 (k0_pay13 x.x4)
  (View.ld (extArr i x) (Rect.unit ![0, 2816] ![256, 1408] inb_S272x5632_S256x1408_0_2816))
  (View.ld (extArr i x) (Rect.unit ![8, 2816] ![256, 1408] inb_S272x5632_S256x1408_8_2816))
  (View.ld (extArr i x) (Rect.unit ![16, 2816] ![256, 1408] inb_S272x5632_S256x1408_16_2816))
/-- The second half of the gates. -/
def gateArr' (i : grid0.Coords) (x : Ins Ideal) : FVec Ideal S256x1408 .f32 := k0_pay29 (k0_pay13 x.x4)
  (View.ld (extArr i x) (Rect.unit ![0, 1408] ![256, 1408] inb_S272x5632_S256x1408_0_1408))
  (View.ld (extArr i x) (Rect.unit ![8, 1408] ![256, 1408] inb_S272x5632_S256x1408_8_1408))
  (View.ld (extArr i x) (Rect.unit ![16, 1408] ![256, 1408] inb_S272x5632_S256x1408_16_1408))

/-- A tile's activations. -/
def actArr (i : grid0.Coords) (x : Ins Ideal) : Vec Ideal S256x2816 .bf16 := View.canon (Val := Elt Ideal)
  [(⟨Rect.unit (s := S256x2816) ![0, 1408] ![256, 1408] inb_S256x2816_S256x1408_0_1408, k0_pay34 (k0_pay13 x.x4) (gateArr' i x)
      (View.ld (extArr i x) (Rect.unit ![0, 4224] ![256, 1408] inb_S272x5632_S256x1408_0_4224)) (k0_pay30 (k0_pay13 x.x4))
      (View.ld (extArr i x) (Rect.unit ![8, 4224] ![256, 1408] inb_S272x5632_S256x1408_8_4224))
      (View.ld (extArr i x) (Rect.unit ![16, 4224] ![256, 1408] inb_S272x5632_S256x1408_16_4224))⟩
        : View.Piece (Elt Ideal) S256x2816 .bf16),
    ⟨Rect.unit ![0, 0] ![256, 1408] inb_S256x2816_S256x1408_0_0, k0_pay25 (gateArr i x) (valArr i x) (curveArr i x)⟩]

/-- What is written of the gradient before the convolution: the four blocks of columns. -/
def dupPieces (i : grid0.Coords) (x : Ins Ideal) (w0 w1 : Vec Ideal S1408x1024 .bf16) : List (View.Piece (Elt Ideal) S272x5632 .f32) :=
  [⟨Rect.unit ![0, 4224] ![256, 1408] inb_S272x5632_S256x1408_0_4224, k0_pay37 (ddArr x) (gateArr' i x) w1⟩,
    ⟨Rect.unit ![0, 1408] ![256, 1408] inb_S272x5632_S256x1408_0_1408, k0_pay36 (k0_pay13 x.x4) (ddArr x) (gateArr' i x)
      (View.ld (extArr i x) (Rect.unit ![0, 4224] ![256, 1408] inb_S272x5632_S256x1408_0_4224)) (k0_pay30 (k0_pay13 x.x4))
      (View.ld (extArr i x) (Rect.unit ![8, 4224] ![256, 1408] inb_S272x5632_S256x1408_8_4224))
      (View.ld (extArr i x) (Rect.unit ![16, 4224] ![256, 1408] inb_S272x5632_S256x1408_16_4224)) w1⟩,
    ⟨Rect.unit ![0, 2816] ![256, 1408] inb_S272x5632_S256x1408_0_2816, k0_pay28 (ddArr x) (gateArr i x) (curveArr i x) w0⟩,
    ⟨Rect.unit ![0, 0] ![256, 1408] inb_S272x5632_S256x1408_0_0, k0_pay27 (ddArr x) (gateArr i x) (valArr i x) (curveArr i x) w0⟩]

/-- The gradient before the convolution, a tile's own rows. -/
def ownArr (i : grid0.Coords) (x : Ins Ideal) (w0 w1 : Vec Ideal S1408x1024 .bf16) : Vec Ideal S272x5632 .f32 :=
  View.canon (Val := Elt Ideal) (dupPieces i x w0 w1)

/-- A tile's own rows of it and the ones behind. -/
def dupArr (i : grid0.Coords) (x : Ins Ideal) (w0 w1 : Vec Ideal S1408x1024 .bf16) (s : Vec Ideal S16x5632 .f32) :
    Vec Ideal S272x5632 .f32 := View.canon (Val := Elt Ideal) (⟨Rect.unit ![256, 0] ![16, 5632] inb_S272x5632_S16x5632_256_0,
  k0_pay38 (View.ld (ownArr i x w0 w1) (Rect.unit ![0, 0] ![16, 5632] inb_S272x5632_S16x5632_0_0)) s
    (iota .tc S16x5632 32 [0] iota_S16x5632_d0_w32) 8#32 0#32⟩ :: dupPieces i x w0 w1)

/-- What is read back of pieces is a block of the array they make. -/
theorem readCov_ld {sig : RefSig} {S : Shape} {e : EltTy} {κ : Kind} {sp : Space} (v : View sig κ sp S e) (L : List (View.Piece (Elt Ideal) S e))
    (r : Rect S) : v.readCov (Val := Elt Ideal) L r.toLoadRect = View.ld (View.canon L) r := by
  rw [View.readCov_eq_canon']

section
variable (i : grid0.Coords) (x : Ins Ideal)

theorem fold_dd : k0_pay20 (k0_pay14 x.x1) (k0_pay16 x.x1) (k0_pay18 x.x0 x.x5) (k0_pay19 x.x1 x.x0 x.x5) = ddArr x := rfl

theorem fold_gateArr : k0_pay21 (F := Ideal) (k0_pay13 x.x4) (View.ld (extArr i x) (Rect.unit ![0, 0] ![256, 1408] inb_S272x5632_S256x1408_0_0))
    (View.ld (extArr i x) (Rect.unit ![8, 0] ![256, 1408] inb_S272x5632_S256x1408_8_0))
    (View.ld (extArr i x) (Rect.unit ![16, 0] ![256, 1408] inb_S272x5632_S256x1408_16_0)) = gateArr i x := rfl

theorem fold_curveArr : k0_pay23 (F := Ideal) (k0_pay13 x.x4) (View.ld (extArr i x) (Rect.unit ![0, 0] ![256, 1408] inb_S272x5632_S256x1408_0_0))
    (View.ld (extArr i x) (Rect.unit ![8, 0] ![256, 1408] inb_S272x5632_S256x1408_8_0))
    (View.ld (extArr i x) (Rect.unit ![16, 0] ![256, 1408] inb_S272x5632_S256x1408_16_0)) = curveArr i x := rfl

theorem fold_valArr : k0_pay22 (F := Ideal) (k0_pay13 x.x4) (View.ld (extArr i x) (Rect.unit ![0, 2816] ![256, 1408] inb_S272x5632_S256x1408_0_2816))
    (View.ld (extArr i x) (Rect.unit ![8, 2816] ![256, 1408] inb_S272x5632_S256x1408_8_2816))
    (View.ld (extArr i x) (Rect.unit ![16, 2816] ![256, 1408] inb_S272x5632_S256x1408_16_2816)) = valArr i x := rfl

theorem fold_gateArr' : k0_pay29 (F := Ideal) (k0_pay13 x.x4) (View.ld (extArr i x) (Rect.unit ![0, 1408] ![256, 1408] inb_S272x5632_S256x1408_0_1408))
    (View.ld (extArr i x) (Rect.unit ![8, 1408] ![256, 1408] inb_S272x5632_S256x1408_8_1408))
    (View.ld (extArr i x) (Rect.unit ![16, 1408] ![256, 1408] inb_S272x5632_S256x1408_16_1408)) = gateArr' i x := rfl

theorem fold_own (w0 w1 : Vec Ideal S1408x1024 .bf16) : View.canon (Val := Elt Ideal)
   [(⟨Rect.unit (s := S272x5632) ![0, 4224] ![256, 1408] inb_S272x5632_S256x1408_0_4224, k0_pay37 (ddArr x) (gateArr' i x) w1⟩ : View.Piece (Elt Ideal) S272x5632 .f32),
    ⟨Rect.unit ![0, 1408] ![256, 1408] inb_S272x5632_S256x1408_0_1408, k0_pay36 (k0_pay13 x.x4) (ddArr x) (gateArr' i x)
      (View.ld (extArr i x) (Rect.unit ![0, 4224] ![256, 1408] inb_S272x5632_S256x1408_0_4224)) (k0_pay30 (k0_pay13 x.x4))
      (View.ld (extArr i x) (Rect.unit ![8, 4224] ![256, 1408] inb_S272x5632_S256x1408_8_4224))
      (View.ld (extArr i x) (Rect.unit ![16, 4224] ![256, 1408] inb_S272x5632_S256x1408_16_4224)) w1⟩,
    ⟨Rect.unit ![0, 2816] ![256, 1408] inb_S272x5632_S256x1408_0_2816, k0_pay28 (ddArr x) (gateArr i x) (curveArr i x) w0⟩,
    ⟨Rect.unit ![0, 0] ![256, 1408] inb_S272x5632_S256x1408_0_0, k0_pay27 (ddArr x) (gateArr i x) (valArr i x) (curveArr i x) w0⟩] = ownArr i x w0 w1 := rfl

theorem fold_dup (w0 w1 : Vec Ideal S1408x1024 .bf16) (s : Vec Ideal S16x5632 .f32) : View.canon (Val := Elt Ideal)
   [(⟨Rect.unit (s := S272x5632) ![256, 0] ![16, 5632] inb_S272x5632_S16x5632_256_0,
      k0_pay38 (View.ld (ownArr i x w0 w1) (Rect.unit ![0, 0] ![16, 5632] inb_S272x5632_S16x5632_0_0)) s
        (iota .tc S16x5632 32 [0] iota_S16x5632_d0_w32) 8#32 0#32⟩ : View.Piece (Elt Ideal) S272x5632 .f32),
    ⟨Rect.unit ![0, 4224] ![256, 1408] inb_S272x5632_S256x1408_0_4224, k0_pay37 (ddArr x) (gateArr' i x) w1⟩,
    ⟨Rect.unit ![0, 1408] ![256, 1408] inb_S272x5632_S256x1408_0_1408, k0_pay36 (k0_pay13 x.x4) (ddArr x) (gateArr' i x)
      (View.ld (extArr i x) (Rect.unit ![0, 4224] ![256, 1408] inb_S272x5632_S256x1408_0_4224)) (k0_pay30 (k0_pay13 x.x4))
      (View.ld (extArr i x) (Rect.unit ![8, 4224] ![256, 1408] inb_S272x5632_S256x1408_8_4224))
      (View.ld (extArr i x) (Rect.unit ![16, 4224] ![256, 1408] inb_S272x5632_S256x1408_16_4224)) w1⟩,
    ⟨Rect.unit ![0, 2816] ![256, 1408] inb_S272x5632_S256x1408_0_2816, k0_pay28 (ddArr x) (gateArr i x) (curveArr i x) w0⟩,
    ⟨Rect.unit ![0, 0] ![256, 1408] inb_S272x5632_S256x1408_0_0, k0_pay27 (ddArr x) (gateArr i x) (valArr i x) (curveArr i x) w0⟩] = dupArr i x w0 w1 s := rfl

end

/-- The gradient before the closing norm, entry by entry. -/
def dd (x : Ins Ideal) (r : Fin 256) (l : Fin 1024) : EReal :=
  (rs fun k => x.x1 (ix2 r k)) * (x.x5 (ix2 0 l) * x.x0 (ix2 r l))
    - x.x1 (ix2 r l) * ((rs fun k => x.x1 (ix2 r k)) * (rs fun k => x.x1 (ix2 r k)) * (rs fun k => x.x1 (ix2 r k)))
      * Ideal.div (∑ k : Fin 1024, x.x5 (ix2 0 k) * x.x0 (ix2 r k) * x.x1 (ix2 r k)) (Ideal.ofBits .f32 0x44800000#32)

theorem ddArr_apply (x : Ins Ideal) (r : Fin 256) (l : Fin 1024) : ddArr x (ix2 r l) = dd x r l := pay20 _ _ _ r l

/-- The gradient of the activations, from the weight's entries. -/
def da (x : Ins Ideal) (wt : Fin 2816 → Fin 1024 → EReal) (r : Fin 256) (l : Fin 2816) : EReal :=
  ∑ k : Fin 1024, dd x r k * wt l k

theorem behind_eq (x : Ins Ideal) (wt : Fin 2816 → Fin 1024 → EReal) (w : Vec Ideal S1408x1024 .bf16) (o : ℕ) (ho : o + 1408 ≤ 2816)
    (hw : ∀ (l : Fin 1408) k, w (ix2 l k) = wt ⟨o + l.val, by omega⟩ k) (r : Fin 256) (l : Fin 1408) :
    behind (ddArr x) w r l = da x wt r ⟨o + l.val, by omega⟩ :=
  Finset.sum_congr rfl fun k _ => congrArg₂ (· * ·) (ddArr_apply x r k) (hw l k)

/-- The activation, entry by entry. -/
def act (i : grid0.Coords) (x : Ins Ideal) (r : Fin 256) (l : Fin 2816) : EReal :=
  cv i x r ⟨l.val, by omega⟩ * sg (cv i x r ⟨l.val, by omega⟩) * cv i x r ⟨2816 + l.val, by omega⟩

theorem actArr_eq (i : grid0.Coords) (x : Ins Ideal) : actArr i x = fun j : S256x2816.Idx => act i x (j 0) (j 1) := by
  unfold actArr
  funext y
  refine View.canon_apply_of_pieces (Val := Elt Ideal) (e := .bf16) (fun j : S256x2816.Idx => act i x (j 0) (j 1)) _ ?_ y ?_
  · intro p hp
    simp only [List.mem_cons, List.not_mem_nil, or_false] at hp
    rcases hp with rfl | rfl <;> intro z <;> idx_vars z
    · refine Eq.trans ?_ (at_block (act i x) 0 1408 inb_S256x2816_S256x1408_0_1408 z0 z1 (by omega) (by omega)).symm
      unfold gateArr'
      rw [pay34, conv_ext, conv_ext]
      simp only [act, Nat.zero_add, ← Nat.add_assoc]
    · refine Eq.trans ?_ (at_block (act i x) 0 0 inb_S256x2816_S256x1408_0_0 z0 z1 (by omega) (by omega)).symm
      unfold gateArr valArr curveArr
      rw [pay25, conv_ext, conv_ext]
      simp only [act, Nat.zero_add]
  · have h0 : (y 0).val < 256 := (y 0).isLt
    have h1 : (y 1).val < 2816 := (y 1).isLt
    by_cases a : (y 1).val < 1408
    · exact ⟨_, .tail _ (.head _), mem_block 0 0 256 1408 inb_S256x2816_S256x1408_0_0 y ⟨by omega, by omega⟩ ⟨by omega, by omega⟩⟩
    · exact ⟨_, .head _, mem_block 0 1408 256 1408 inb_S256x2816_S256x1408_0_1408 y ⟨by omega, by omega⟩ ⟨by omega, by omega⟩⟩

/-- The gradient before the convolution, a tile's own rows, entry by entry: the gates' half and the values'. -/
def dup (i : grid0.Coords) (x : Ins Ideal) (wt : Fin 2816 → Fin 1024 → EReal) (r : Fin 256) (l : Fin 5632) : EReal :=
  if h : l.val < 2816 then dgate (da x wt r ⟨l.val, h⟩) (cv i x r l) (cv i x r ⟨2816 + l.val, by omega⟩)
  else da x wt r ⟨l.val - 2816, by omega⟩ * (cv i x r ⟨l.val - 2816, by omega⟩ * sg (cv i x r ⟨l.val - 2816, by omega⟩))

/-- The same with the rows behind, from the next tile's first rows `s`. -/
def dup' (i : grid0.Coords) (x : Ins Ideal) (wt : Fin 2816 → Fin 1024 → EReal) (s : Vec Ideal S16x5632 .f32) (q : Fin 272)
    (l : Fin 5632) : EReal :=
  if h : q.val < 256 then dup i x wt ⟨q.val, h⟩ l
  else if (q.val - 256) % 8 = 7 then s (ix2 ⟨q.val - 256 - 7, by omega⟩ l)
  else dup i x wt ⟨(q.val - 256 + 1) % 16, by omega⟩ l

section
variable (i : grid0.Coords) (x : Ins Ideal) (wt : Fin 2816 → Fin 1024 → EReal) (w0 w1 : Vec Ideal S1408x1024 .bf16)
  (hw0 : ∀ (l : Fin 1408) k, w0 (ix2 l k) = wt ⟨0 + l.val, by omega⟩ k)
  (hw1 : ∀ (l : Fin 1408) k, w1 (ix2 l k) = wt ⟨1408 + l.val, by omega⟩ k)
include hw0 hw1

/-- Each piece is a block of columns of `dup'`. -/
theorem dupPieces_apply (s : Vec Ideal S16x5632 .f32) : ∀ p ∈ dupPieces i x w0 w1, ∀ z : p.1.shape.Idx,
    p.2 z = (fun j : S272x5632.Idx => (dup' i x wt s (j 0) (j 1) : Elt Ideal .f32)) (p.1.emb z) := by
  intro p hp
  simp only [dupPieces, List.mem_cons, List.not_mem_nil, or_false] at hp
  rcases hp with rfl | rfl | rfl | rfl <;> intro z <;> idx_vars z
  · refine Eq.trans ?_ (at_block (dup' i x wt s) 0 4224 inb_S272x5632_S256x1408_0_4224 z0 z1 (by omega) (by omega)).symm
    have e : 0 + z0.val < 256 := by omega
    have e' : ¬4224 + z1.val < 2816 := by omega
    have e'' : 4224 + z1.val - 2816 = 1408 + z1.val := by omega
    unfold gateArr'
    rw [pay37, conv_ext, behind_eq x wt w1 1408 (by decide) hw1]
    simp only [dup', dup, dif_pos e, dif_neg e', e'', Nat.zero_add]
  · refine Eq.trans ?_ (at_block (dup' i x wt s) 0 1408 inb_S272x5632_S256x1408_0_1408 z0 z1 (by omega) (by omega)).symm
    have e : 0 + z0.val < 256 := by omega
    have e' : 1408 + z1.val < 2816 := by omega
    unfold gateArr'
    rw [pay36, conv_ext, conv_ext, behind_eq x wt w1 1408 (by decide) hw1]
    simp only [dup', dup, dif_pos e, dif_pos e', ← Nat.add_assoc, Nat.zero_add]
  · refine Eq.trans ?_ (at_block (dup' i x wt s) 0 2816 inb_S272x5632_S256x1408_0_2816 z0 z1 (by omega) (by omega)).symm
    have e : 0 + z0.val < 256 := by omega
    have e' : ¬2816 + z1.val < 2816 := by omega
    unfold gateArr curveArr
    rw [pay28, conv_ext, behind_eq x wt w0 0 (by decide) hw0]
    simp only [dup', dup, dif_pos e, dif_neg e', Nat.zero_add, Nat.add_sub_cancel_left]
  · refine Eq.trans ?_ (at_block (dup' i x wt s) 0 0 inb_S272x5632_S256x1408_0_0 z0 z1 (by omega) (by omega)).symm
    have e : 0 + z0.val < 256 := by omega
    have e' : z1.val < 2816 := by omega
    unfold gateArr valArr curveArr
    rw [pay27, conv_ext, conv_ext, behind_eq x wt w0 0 (by decide) hw0]
    simp only [dup', dup, dif_pos e, dif_pos e', Nat.zero_add]

omit hw0 hw1 in
theorem dupPieces_cover (y : S272x5632.Idx) (h : (y 0).val < 256) : ∃ p ∈ dupPieces i x w0 w1, y ∈ p.1.set := by
  have h1 : (y 1).val < 5632 := (y 1).isLt
  by_cases a : (y 1).val < 1408
  · exact ⟨_, .tail _ (.tail _ (.tail _ (.head _))),
      mem_block 0 0 256 1408 inb_S272x5632_S256x1408_0_0 y ⟨by omega, by omega⟩ ⟨by omega, by omega⟩⟩
  by_cases a : (y 1).val < 2816
  · exact ⟨_, .tail _ (.head _),
      mem_block 0 1408 256 1408 inb_S272x5632_S256x1408_0_1408 y ⟨by omega, by omega⟩ ⟨by omega, by omega⟩⟩
  by_cases a : (y 1).val < 4224
  · exact ⟨_, .tail _ (.tail _ (.head _)),
      mem_block 0 2816 256 1408 inb_S272x5632_S256x1408_0_2816 y ⟨by omega, by omega⟩ ⟨by omega, by omega⟩⟩
  · exact ⟨_, .head _,
      mem_block 0 4224 256 1408 inb_S272x5632_S256x1408_0_4224 y ⟨by omega, by omega⟩ ⟨by omega, by omega⟩⟩

theorem ownArr_apply (r : Fin 16) (l : Fin 5632) :
    View.ld (ownArr i x w0 w1) (Rect.unit ![0, 0] ![16, 5632] inb_S272x5632_S16x5632_0_0) (ix2 r l) = dup i x wt ⟨r.val, by omega⟩ l := by
  have e : r.val < 256 := by omega
  have h := View.canon_apply_of_pieces (Val := Elt Ideal) (e := .f32) (fun j : S272x5632.Idx => dup' i x wt (fun _ => 0) (j 0) (j 1))
    (dupPieces i x w0 w1) (dupPieces_apply i x wt w0 w1 hw0 hw1 _) (ix2 (⟨r.val, by omega⟩ : Fin 272) l) (dupPieces_cover i x w0 w1 _ e)
  pointwise []
  refine Eq.trans ?_ (h.trans ?_)
  · rfl
  · show dup' i x wt (fun _ => 0) ⟨r.val, _⟩ l = _
    simp only [dup', dif_pos e]

theorem dupArr_eq (s : Vec Ideal S16x5632 .f32) :
    dupArr i x w0 w1 s = fun j : S272x5632.Idx => dup' i x wt s (j 0) (j 1) := by
  unfold dupArr
  funext y
  refine View.canon_apply_of_pieces (Val := Elt Ideal) (e := .f32) (fun j : S272x5632.Idx => dup' i x wt s (j 0) (j 1)) _ ?_ y ?_
  · intro p hp
    rcases List.mem_cons.mp hp with rfl | hp
    · intro z
      idx_vars z
      refine Eq.trans ?_ (at_block (dup' i x wt s) 256 0 inb_S272x5632_S16x5632_256_0 z0 z1 (by omega) (by omega)).symm
      have e : ¬256 + z0.val < 256 := by omega
      rw [pay38, ownArr_apply i x wt w0 w1 hw0 hw1]
      simp only [dup', dif_neg e, Nat.zero_add, Nat.add_sub_cancel_left]
    · exact dupPieces_apply i x wt w0 w1 hw0 hw1 s p hp
  · have h0 : (y 0).val < 272 := (y 0).isLt
    have h1 : (y 1).val < 5632 := (y 1).isLt
    by_cases a : (y 0).val < 256
    · obtain ⟨p, hp, hy⟩ := dupPieces_cover i x w0 w1 y a
      exact ⟨p, .tail _ hp, hy⟩
    · exact ⟨_, .head _, mem_block 256 0 16 5632 inb_S272x5632_S16x5632_256_0 y ⟨by omega, by omega⟩ ⟨by omega, by omega⟩⟩

end

/-- The same, from the weight's entries in the two halves. -/
theorem dupArr_at (i : grid0.Coords) (x : Ins Ideal) (wt : Fin 2816 → Fin 1024 → EReal) (w0 w1 : Vec Ideal S1408x1024 .bf16)
    (hw0 : ∀ (l : Fin 1408) k (h : 0 + l.val < 2816), w0 (ix2 l k) = wt ⟨0 + l.val, h⟩ k)
    (hw1 : ∀ (l : Fin 1408) k (h : 1408 + l.val < 2816), w1 (ix2 l k) = wt ⟨1408 + l.val, h⟩ k) (s : Vec Ideal S16x5632 .f32) :
    dupArr i x w0 w1 s = fun j : S272x5632.Idx => dup' i x wt s (j 0) (j 1) :=
  dupArr_eq i x wt w0 w1 (fun l k => hw0 l k _) (fun l k => hw1 l k _) s

end Cert.Kernel2Ideal.FfnBwd
-- ==== Proof.FfnTaps.lean ====
module

public import proofs.«01_k».proof.Proof.FfnTile

/-! The backward call of the channel mixer: the running sums of the taps' gradient. -/

@[expose] public section

set_option maxRecDepth 16384

noncomputable section

open Idealize.ShloMosaic Idealize.ShloMosaic.TcCoe

namespace Cert.Kernel2Ideal.FfnBwd

open Cert.Kernel2Ideal Cert.Kernel2Ideal.Gen

variable (x : Vec Ideal S256x5632 .f32) (D : Vec Ideal S272x5632 .f32)

/- What is stored, block of columns by block of columns and tap by tap, over the sums `a`. -/

def cw0 (a : Vec Ideal S8x8x5632 .f32) : View.Piece (Elt Ideal) S8x8x5632 .f32 :=
  ⟨Rect.unit ![0, 0, 0] ![1, 8, 1408] inb_S8x8x5632_S1x8x1408_0_0_0,
    k0_pay42 (k0_pay40 (View.ld x (Rect.unit ![0, 0] ![256, 1408] inb_S256x5632_S256x1408_0_0))) (View.ld D (Rect.unit ![16, 0] ![256, 1408] inb_S272x5632_S256x1408_16_0)) (View.ld a (Rect.unit ![0, 0, 0] ![1, 8, 1408] inb_S8x8x5632_S1x8x1408_0_0_0))⟩

def cw1 (a : Vec Ideal S8x8x5632 .f32) : View.Piece (Elt Ideal) S8x8x5632 .f32 :=
  ⟨Rect.unit ![1, 0, 0] ![1, 8, 1408] inb_S8x8x5632_S1x8x1408_1_0_0,
    k0_pay43 (k0_pay40 (View.ld x (Rect.unit ![0, 0] ![256, 1408] inb_S256x5632_S256x1408_0_0))) (View.ld D (Rect.unit ![8, 0] ![256, 1408] inb_S272x5632_S256x1408_8_0)) (View.ld a (Rect.unit ![1, 0, 0] ![1, 8, 1408] inb_S8x8x5632_S1x8x1408_1_0_0))⟩

def cw2 (a : Vec Ideal S8x8x5632 .f32) : View.Piece (Elt Ideal) S8x8x5632 .f32 :=
  ⟨Rect.unit ![2, 0, 0] ![1, 8, 1408] inb_S8x8x5632_S1x8x1408_2_0_0,
    k0_pay46 (k0_pay45 (k0_pay40 (View.ld x (Rect.unit ![0, 0] ![256, 1408] inb_S256x5632_S256x1408_0_0))) (View.ld D (Rect.unit ![0, 0] ![256, 1408] inb_S272x5632_S256x1408_0_0)) (View.ld a (Rect.unit ![2, 0, 0] ![1, 8, 1408] inb_S8x8x5632_S1x8x1408_2_0_0)))⟩

def cw3 (a : Vec Ideal S8x8x5632 .f32) : View.Piece (Elt Ideal) S8x8x5632 .f32 :=
  ⟨Rect.unit ![0, 0, 1408] ![1, 8, 1408] inb_S8x8x5632_S1x8x1408_0_0_1408,
    k0_pay49 (View.ld x (Rect.unit ![0, 1408] ![256, 1408] inb_S256x5632_S256x1408_0_1408)) (View.ld D (Rect.unit ![16, 1408] ![256, 1408] inb_S272x5632_S256x1408_16_1408)) (View.ld a (Rect.unit ![0, 0, 1408] ![1, 8, 1408] inb_S8x8x5632_S1x8x1408_0_0_1408))⟩

def cw4 (a : Vec Ideal S8x8x5632 .f32) : View.Piece (Elt Ideal) S8x8x5632 .f32 :=
  ⟨Rect.unit ![1, 0, 1408] ![1, 8, 1408] inb_S8x8x5632_S1x8x1408_1_0_1408,
    k0_pay51 (View.ld x (Rect.unit ![0, 1408] ![256, 1408] inb_S256x5632_S256x1408_0_1408)) (View.ld D (Rect.unit ![8, 1408] ![256, 1408] inb_S272x5632_S256x1408_8_1408)) (View.ld a (Rect.unit ![1, 0, 1408] ![1, 8, 1408] inb_S8x8x5632_S1x8x1408_1_0_1408))⟩

def cw5 (a : Vec Ideal S8x8x5632 .f32) : View.Piece (Elt Ideal) S8x8x5632 .f32 :=
  ⟨Rect.unit ![2, 0, 1408] ![1, 8, 1408] inb_S8x8x5632_S1x8x1408_2_0_1408,
    k0_pay52 (k0_pay48 (View.ld x (Rect.unit ![0, 1408] ![256, 1408] inb_S256x5632_S256x1408_0_1408))) (View.ld D (Rect.unit ![0, 1408] ![256, 1408] inb_S272x5632_S256x1408_0_1408)) (View.ld a (Rect.unit ![2, 0, 1408] ![1, 8, 1408] inb_S8x8x5632_S1x8x1408_2_0_1408))⟩

def cw6 (a : Vec Ideal S8x8x5632 .f32) : View.Piece (Elt Ideal) S8x8x5632 .f32 :=
  ⟨Rect.unit ![0, 0, 2816] ![1, 8, 1408] inb_S8x8x5632_S1x8x1408_0_0_2816,
    k0_pay56 (View.ld x (Rect.unit ![0, 2816] ![256, 1408] inb_S256x5632_S256x1408_0_2816)) (View.ld D (Rect.unit ![16, 2816] ![256, 1408] inb_S272x5632_S256x1408_16_2816)) (View.ld a (Rect.unit ![0, 0, 2816] ![1, 8, 1408] inb_S8x8x5632_S1x8x1408_0_0_2816))⟩

def cw7 (a : Vec Ideal S8x8x5632 .f32) : View.Piece (Elt Ideal) S8x8x5632 .f32 :=
  ⟨Rect.unit ![1, 0, 2816] ![1, 8, 1408] inb_S8x8x5632_S1x8x1408_1_0_2816,
    k0_pay58 (k0_pay54 (View.ld x (Rect.unit ![0, 2816] ![256, 1408] inb_S256x5632_S256x1408_0_2816))) (View.ld D (Rect.unit ![8, 2816] ![256, 1408] inb_S272x5632_S256x1408_8_2816)) (View.ld a (Rect.unit ![1, 0, 2816] ![1, 8, 1408] inb_S8x8x5632_S1x8x1408_1_0_2816))⟩

def cw8 (a : Vec Ideal S8x8x5632 .f32) : View.Piece (Elt Ideal) S8x8x5632 .f32 :=
  ⟨Rect.unit ![2, 0, 2816] ![1, 8, 1408] inb_S8x8x5632_S1x8x1408_2_0_2816,
    k0_pay59 (k0_pay54 (View.ld x (Rect.unit ![0, 2816] ![256, 1408] inb_S256x5632_S256x1408_0_2816))) (View.ld D (Rect.unit ![0, 2816] ![256, 1408] inb_S272x5632_S256x1408_0_2816)) (View.ld a (Rect.unit ![2, 0, 2816] ![1, 8, 1408] inb_S8x8x5632_S1x8x1408_2_0_2816))⟩

def cw9 (a : Vec Ideal S8x8x5632 .f32) : View.Piece (Elt Ideal) S8x8x5632 .f32 :=
  ⟨Rect.unit ![0, 0, 4224] ![1, 8, 1408] inb_S8x8x5632_S1x8x1408_0_0_4224,
    k0_pay63 (k0_pay61 (View.ld x (Rect.unit ![0, 4224] ![256, 1408] inb_S256x5632_S256x1408_0_4224))) (View.ld D (Rect.unit ![16, 4224] ![256, 1408] inb_S272x5632_S256x1408_16_4224)) (View.ld a (Rect.unit ![0, 0, 4224] ![1, 8, 1408] inb_S8x8x5632_S1x8x1408_0_0_4224))⟩

def cw10 (a : Vec Ideal S8x8x5632 .f32) : View.Piece (Elt Ideal) S8x8x5632 .f32 :=
  ⟨Rect.unit ![1, 0, 4224] ![1, 8, 1408] inb_S8x8x5632_S1x8x1408_1_0_4224,
    k0_pay64 (k0_pay61 (View.ld x (Rect.unit ![0, 4224] ![256, 1408] inb_S256x5632_S256x1408_0_4224))) (View.ld D (Rect.unit ![8, 4224] ![256, 1408] inb_S272x5632_S256x1408_8_4224)) (View.ld a (Rect.unit ![1, 0, 4224] ![1, 8, 1408] inb_S8x8x5632_S1x8x1408_1_0_4224))⟩

def cw11 (a : Vec Ideal S8x8x5632 .f32) : View.Piece (Elt Ideal) S8x8x5632 .f32 :=
  ⟨Rect.unit ![2, 0, 4224] ![1, 8, 1408] inb_S8x8x5632_S1x8x1408_2_0_4224,
    k0_pay1 (k0_pay66 (k0_pay61 (View.ld x (Rect.unit ![0, 4224] ![256, 1408] inb_S256x5632_S256x1408_0_4224))) (View.ld D (Rect.unit ![0, 4224] ![256, 1408] inb_S272x5632_S256x1408_0_4224)) (View.ld a (Rect.unit ![2, 0, 4224] ![1, 8, 1408] inb_S8x8x5632_S1x8x1408_2_0_4224)))⟩

/-- What a tile adds at a place: nothing past the third tap. -/
def cwSum (j : S8x8x5632.Idx) : EReal :=
  if h : (j 0).val < 3 then ∑ k : Fin 32, D (ix2 ⟨8 * (2 - (j 0).val) + (k.val * 8 + (j 1).val), by
      have h1 : (j 1).val < 8 := (j 1).isLt
      omega⟩ ⟨(j 2).val, (j 2).isLt⟩)
    * x (ix2 ⟨k.val * 8 + (j 1).val, by
      have h1 : (j 1).val < 8 := (j 1).isLt
      omega⟩ ⟨(j 2).val, (j 2).isLt⟩)
  else 0

theorem ld_block {a b p q : ℕ} {e : EltTy} (w : Vec Ideal (⟨2, ![a, b]⟩ : Shape) e) (o u : ℕ) (inb) (r : Fin p) (l : Fin q) (m : Fin a) (k : Fin b)
    (hr : o + r.val = m.val) (hl : u + l.val = k.val) :
    View.ld w (Rect.unit (s := (⟨2, ![a, b]⟩ : Shape)) ![o, u] ![p, q] inb) (ix2 r l) = w (ix2 m k) := by
  refine (congrArg w ?_ : w ((Rect.unit (s := (⟨2, ![a, b]⟩ : Shape)) ![o, u] ![p, q] inb).emb (ix2 r l)) = _)
  funext d
  revert d
  refine Fin.forall_fin_two.mpr ⟨Fin.ext ?_, Fin.ext ?_⟩
  · rw [ValueKit.rect_emb_unit_val]; exact hr
  · rw [ValueKit.rect_emb_unit_val]; exact hl

theorem idx_block (z : S1x8x1408.Idx) : ∃ (q : Fin 8) (l : Fin 1408), z = ix3 0 q l := by
  refine ⟨z 1, z 2, ?_⟩
  idx_vars z
  obtain rfl : z0 = 0 := Subsingleton.elim _ _
  rfl

theorem sum_block (k off c : ℕ) (inb inb' inb'') (hoff : off = 8 * (2 - k)) (q : Fin 8) (l : Fin 1408) (hk : k < 3) :
    (∑ j : Fin 32, View.ld D (Rect.unit (s := S272x5632) ![off, c] ![256, 1408] inb'') (ix2 ⟨j.val * 8 + q.val, by omega⟩ l)
      * View.ld x (Rect.unit (s := S256x5632) ![0, c] ![256, 1408] inb') (ix2 ⟨j.val * 8 + q.val, by omega⟩ l))
    = cwSum x D ((Rect.unit (s := S8x8x5632) ![k, 0, c] ![1, 8, 1408] inb).emb (ix3 0 q l)) := by
  subst hoff
  have e0 : ((Rect.unit (s := S8x8x5632) ![k, 0, c] ![1, 8, 1408] inb).emb (ix3 0 q l) 0).val = k := by
    rw [ValueKit.rect_emb_unit_val]; rfl
  have e1 : ((Rect.unit (s := S8x8x5632) ![k, 0, c] ![1, 8, 1408] inb).emb (ix3 0 q l) 1).val = 0 + q.val := by
    rw [ValueKit.rect_emb_unit_val]; rfl
  have e2 : ((Rect.unit (s := S8x8x5632) ![k, 0, c] ![1, 8, 1408] inb).emb (ix3 0 q l) 2).val = c + l.val := by
    rw [ValueKit.rect_emb_unit_val]; rfl
  unfold cwSum
  rw [dif_pos (by rw [e0]; exact hk)]
  refine Finset.sum_congr rfl fun j _ => congrArg₂ (· * ·) ?_ ?_
  · refine ld_block D _ _ _ _ _ _ _ ?_ ?_
    · show 8 * (2 - k) + (j.val * 8 + q.val) = 8 * (2 - _) + (j.val * 8 + _)
      rw [e0, e1]; omega
    · exact e2.symm
  · refine ld_block x _ _ _ _ _ _ _ ?_ ?_
    · show 0 + (j.val * 8 + q.val) = j.val * 8 + _
      rw [e1]; omega
    · exact e2.symm

/-- Where a place stands in the order of the stores. -/
def ord (y : S8x8x5632.Idx) : ℕ := if (y 0).val < 3 then 3 * ((y 2).val / 1408) + (y 0).val else 12

theorem mem_piece (k c n : ℕ) (inb) (y : S8x8x5632.Idx) (hk : k < 3) (hc : c < 5632) (hn : c = 1408 * (n / 3) ∧ k = n % 3) :
    y ∈ (Rect.unit (s := S8x8x5632) ![k, 0, c] ![1, 8, 1408] inb).set ↔ ord y = n := by
  have h0 : (y 0).val < 8 := (y 0).isLt
  have h1 : (y 1).val < 8 := (y 1).isLt
  have h2 : (y 2).val < 5632 := (y 2).isLt
  rw [Rect.mem_set_unit]
  unfold ord
  constructor
  · intro h
    have a0 : k ≤ (y 0).val ∧ (y 0).val < k + 1 := h 0
    have a2 : c ≤ (y 2).val ∧ (y 2).val < c + 1408 := h 2
    rw [if_pos (by omega)]; omega
  · intro h d
    by_cases h3 : (y 0).val < 3
    · rw [if_pos h3] at h
      have a0 : k ≤ (y 0).val ∧ (y 0).val < k + 1 := by omega
      have a1 : 0 ≤ (y 1).val ∧ (y 1).val < 0 + 8 := by omega
      have a2 : c ≤ (y 2).val ∧ (y 2).val < c + 1408 := by omega
      exact d.cases a0 fun d => d.cases a1 fun d => d.cases a2 fun d => d.elim0
    · rw [if_neg h3] at h; omega

theorem chain_step (p : Vec Ideal S8x8x5632 .f32 → View.Piece (Elt Ideal) S8x8x5632 .f32) (n : ℕ) (hm : ∀ a y, y ∈ (p a).1.set ↔ ord y = n)
    (hp : ∀ a z, (p a).2 z = a ((p a).1.emb z) + cwSum x D ((p a).1.emb z)) (L : List (View.Piece (Elt Ideal) S8x8x5632 .f32))
    (hL : ∀ y, View.canon L y = if ord y < n then cwSum x D y else 0) (y : S8x8x5632.Idx) :
    View.canon (p (View.canon L) :: L) y = if ord y < n + 1 then cwSum x D y else 0 := by
  by_cases h : y ∈ (p (View.canon L)).1.set
  · have ho := (hm _ y).mp h
    obtain ⟨z, hz⟩ := (p (View.canon L)).1.exists_idx_of_mem h
    have hz' : (p (View.canon L)).1.emb z = y := hz
    have e := View.canon_cons_emb (p (View.canon L)).1 (p (View.canon L)).2 L z
    rw [hz'] at e
    refine e.trans ?_
    rw [hp, hz', hL y, if_neg (show ¬ ord y < n by omega), if_pos (show ord y < n + 1 by omega), zero_add]
  · have ho : ¬ ord y = n := fun e => h ((hm _ y).mpr e)
    rw [View.canon_cons_of_not_mem _ _ h, hL y]
    by_cases h1 : ord y < n
    · rw [if_pos h1, if_pos (by omega)]
    · rw [if_neg h1, if_neg (by omega)]

theorem sums_step (p : Vec Ideal S8x8x5632 .f32 → View.Piece (Elt Ideal) S8x8x5632 .f32) (n : ℕ) (hm : ∀ a y, y ∈ (p a).1.set ↔ ord y = n)
    (hp : ∀ a z, (p a).2 z = a ((p a).1.emb z) + cwSum x D ((p a).1.emb z))
    {sig : RefSig} {κ : Kind} {sp : Space} (v : View sig κ sp S8x8x5632 .f32) (f : v.ty.Contents (Elt Ideal)) (a : Vec Ideal S8x8x5632 .f32)
    (L : List (View.Piece (Elt Ideal) S8x8x5632 .f32))
    (hL : ∀ y, v.read (Elt Ideal) (v.writes (Elt Ideal) f L) y = if ord y < n then a y + cwSum x D y else a y) (y : S8x8x5632.Idx) :
    v.read (Elt Ideal) (v.writes (Elt Ideal) f (p a :: L)) y = if ord y < n + 1 then a y + cwSum x D y else a y := by
  by_cases h : y ∈ (p a).1.set
  · have ho := (hm _ y).mp h
    obtain ⟨z, hz⟩ := (p a).1.exists_idx_of_mem h
    have hz' : (p a).1.emb z = y := hz
    have e := v.read_writes_cons_emb f (p a).1 (p a).2 L z
    rw [hz'] at e
    refine e.trans ?_
    rw [hp, hz', if_pos (show ord y < n + 1 by omega)]
  · have ho : ¬ ord y = n := fun e => h ((hm _ y).mpr e)
    refine (v.read_writes_cons_miss f (p a) L y h).trans ?_
    rw [hL y]
    by_cases h1 : ord y < n
    · rw [if_pos h1, if_pos (by omega)]
    · rw [if_neg h1, if_neg (by omega)]

theorem cw0_apply (a : Vec Ideal S8x8x5632 .f32) (z : (cw0 x D a).1.shape.Idx) :
    (cw0 x D a).2 z = a ((cw0 x D a).1.emb z) + cwSum x D ((cw0 x D a).1.emb z) := by
  revert z
  show ∀ z : S1x8x1408.Idx, _
  intro z
  obtain ⟨q, l, rfl⟩ := idx_block z
  refine (pay42 _ _ _ q l).trans (congrArg₂ (· + ·) rfl ?_)
  exact sum_block x D 0 16 0 inb_S8x8x5632_S1x8x1408_0_0_0 inb_S256x5632_S256x1408_0_0 inb_S272x5632_S256x1408_16_0 rfl q l (by decide)

theorem cw0_mem (a : Vec Ideal S8x8x5632 .f32) (y : S8x8x5632.Idx) : y ∈ (cw0 x D a).1.set ↔ ord y = 0 :=
  mem_piece 0 0 0 inb_S8x8x5632_S1x8x1408_0_0_0 y (by decide) (by decide) (by decide)
theorem cw1_apply (a : Vec Ideal S8x8x5632 .f32) (z : (cw1 x D a).1.shape.Idx) :
    (cw1 x D a).2 z = a ((cw1 x D a).1.emb z) + cwSum x D ((cw1 x D a).1.emb z) := by
  revert z
  show ∀ z : S1x8x1408.Idx, _
  intro z
  obtain ⟨q, l, rfl⟩ := idx_block z
  refine (pay43 _ _ _ q l).trans (congrArg₂ (· + ·) rfl ?_)
  exact sum_block x D 1 8 0 inb_S8x8x5632_S1x8x1408_1_0_0 inb_S256x5632_S256x1408_0_0 inb_S272x5632_S256x1408_8_0 rfl q l (by decide)

theorem cw1_mem (a : Vec Ideal S8x8x5632 .f32) (y : S8x8x5632.Idx) : y ∈ (cw1 x D a).1.set ↔ ord y = 1 :=
  mem_piece 1 0 1 inb_S8x8x5632_S1x8x1408_1_0_0 y (by decide) (by decide) (by decide)
theorem cw2_apply (a : Vec Ideal S8x8x5632 .f32) (z : (cw2 x D a).1.shape.Idx) :
    (cw2 x D a).2 z = a ((cw2 x D a).1.emb z) + cwSum x D ((cw2 x D a).1.emb z) := by
  revert z
  show ∀ z : S1x8x1408.Idx, _
  intro z
  obtain ⟨q, l, rfl⟩ := idx_block z
  refine (pay45 _ _ _ q l).trans (congrArg₂ (· + ·) rfl ?_)
  exact sum_block x D 2 0 0 inb_S8x8x5632_S1x8x1408_2_0_0 inb_S256x5632_S256x1408_0_0 inb_S272x5632_S256x1408_0_0 rfl q l (by decide)

theorem cw2_mem (a : Vec Ideal S8x8x5632 .f32) (y : S8x8x5632.Idx) : y ∈ (cw2 x D a).1.set ↔ ord y = 2 :=
  mem_piece 2 0 2 inb_S8x8x5632_S1x8x1408_2_0_0 y (by decide) (by decide) (by decide)
theorem cw3_apply (a : Vec Ideal S8x8x5632 .f32) (z : (cw3 x D a).1.shape.Idx) :
    (cw3 x D a).2 z = a ((cw3 x D a).1.emb z) + cwSum x D ((cw3 x D a).1.emb z) := by
  revert z
  show ∀ z : S1x8x1408.Idx, _
  intro z
  obtain ⟨q, l, rfl⟩ := idx_block z
  refine (pay49 _ _ _ q l).trans (congrArg₂ (· + ·) rfl ?_)
  exact sum_block x D 0 16 1408 inb_S8x8x5632_S1x8x1408_0_0_1408 inb_S256x5632_S256x1408_0_1408 inb_S272x5632_S256x1408_16_1408 rfl q l (by decide)

theorem cw3_mem (a : Vec Ideal S8x8x5632 .f32) (y : S8x8x5632.Idx) : y ∈ (cw3 x D a).1.set ↔ ord y = 3 :=
  mem_piece 0 1408 3 inb_S8x8x5632_S1x8x1408_0_0_1408 y (by decide) (by decide) (by decide)
theorem cw4_apply (a : Vec Ideal S8x8x5632 .f32) (z : (cw4 x D a).1.shape.Idx) :
    (cw4 x D a).2 z = a ((cw4 x D a).1.emb z) + cwSum x D ((cw4 x D a).1.emb z) := by
  revert z
  show ∀ z : S1x8x1408.Idx, _
  intro z
  obtain ⟨q, l, rfl⟩ := idx_block z
  refine (pay51 _ _ _ q l).trans (congrArg₂ (· + ·) rfl ?_)
  exact sum_block x D 1 8 1408 inb_S8x8x5632_S1x8x1408_1_0_1408 inb_S256x5632_S256x1408_0_1408 inb_S272x5632_S256x1408_8_1408 rfl q l (by decide)

theorem cw4_mem (a : Vec Ideal S8x8x5632 .f32) (y : S8x8x5632.Idx) : y ∈ (cw4 x D a).1.set ↔ ord y = 4 :=
  mem_piece 1 1408 4 inb_S8x8x5632_S1x8x1408_1_0_1408 y (by decide) (by decide) (by decide)
theorem cw5_apply (a : Vec Ideal S8x8x5632 .f32) (z : (cw5 x D a).1.shape.Idx) :
    (cw5 x D a).2 z = a ((cw5 x D a).1.emb z) + cwSum x D ((cw5 x D a).1.emb z) := by
  revert z
  show ∀ z : S1x8x1408.Idx, _
  intro z
  obtain ⟨q, l, rfl⟩ := idx_block z
  refine (pay52 _ _ _ q l).trans (congrArg₂ (· + ·) rfl ?_)
  exact sum_block x D 2 0 1408 inb_S8x8x5632_S1x8x1408_2_0_1408 inb_S256x5632_S256x1408_0_1408 inb_S272x5632_S256x1408_0_1408 rfl q l (by decide)

theorem cw5_mem (a : Vec Ideal S8x8x5632 .f32) (y : S8x8x5632.Idx) : y ∈ (cw5 x D a).1.set ↔ ord y = 5 :=
  mem_piece 2 1408 5 inb_S8x8x5632_S1x8x1408_2_0_1408 y (by decide) (by decide) (by decide)
theorem cw6_apply (a : Vec Ideal S8x8x5632 .f32) (z : (cw6 x D a).1.shape.Idx) :
    (cw6 x D a).2 z = a ((cw6 x D a).1.emb z) + cwSum x D ((cw6 x D a).1.emb z) := by
  revert z
  show ∀ z : S1x8x1408.Idx, _
  intro z
  obtain ⟨q, l, rfl⟩ := idx_block z
  refine (pay56 _ _ _ q l).trans (congrArg₂ (· + ·) rfl ?_)
  exact sum_block x D 0 16 2816 inb_S8x8x5632_S1x8x1408_0_0_2816 inb_S256x5632_S256x1408_0_2816 inb_S272x5632_S256x1408_16_2816 rfl q l (by decide)

theorem cw6_mem (a : Vec Ideal S8x8x5632 .f32) (y : S8x8x5632.Idx) : y ∈ (cw6 x D a).1.set ↔ ord y = 6 :=
  mem_piece 0 2816 6 inb_S8x8x5632_S1x8x1408_0_0_2816 y (by decide) (by decide) (by decide)
theorem cw7_apply (a : Vec Ideal S8x8x5632 .f32) (z : (cw7 x D a).1.shape.Idx) :
    (cw7 x D a).2 z = a ((cw7 x D a).1.emb z) + cwSum x D ((cw7 x D a).1.emb z) := by
  revert z
  show ∀ z : S1x8x1408.Idx, _
  intro z
  obtain ⟨q, l, rfl⟩ := idx_block z
  refine (pay58 _ _ _ q l).trans (congrArg₂ (· + ·) rfl ?_)
  exact sum_block x D 1 8 2816 inb_S8x8x5632_S1x8x1408_1_0_2816 inb_S256x5632_S256x1408_0_2816 inb_S272x5632_S256x1408_8_2816 rfl q l (by decide)

theorem cw7_mem (a : Vec Ideal S8x8x5632 .f32) (y : S8x8x5632.Idx) : y ∈ (cw7 x D a).1.set ↔ ord y = 7 :=
  mem_piece 1 2816 7 inb_S8x8x5632_S1x8x1408_1_0_2816 y (by decide) (by decide) (by decide)
theorem cw8_apply (a : Vec Ideal S8x8x5632 .f32) (z : (cw8 x D a).1.shape.Idx) :
    (cw8 x D a).2 z = a ((cw8 x D a).1.emb z) + cwSum x D ((cw8 x D a).1.emb z) := by
  revert z
  show ∀ z : S1x8x1408.Idx, _
  intro z
  obtain ⟨q, l, rfl⟩ := idx_block z
  refine (pay59 _ _ _ q l).trans (congrArg₂ (· + ·) rfl ?_)
  exact sum_block x D 2 0 2816 inb_S8x8x5632_S1x8x1408_2_0_2816 inb_S256x5632_S256x1408_0_2816 inb_S272x5632_S256x1408_0_2816 rfl q l (by decide)

theorem cw8_mem (a : Vec Ideal S8x8x5632 .f32) (y : S8x8x5632.Idx) : y ∈ (cw8 x D a).1.set ↔ ord y = 8 :=
  mem_piece 2 2816 8 inb_S8x8x5632_S1x8x1408_2_0_2816 y (by decide) (by decide) (by decide)
theorem cw9_apply (a : Vec Ideal S8x8x5632 .f32) (z : (cw9 x D a).1.shape.Idx) :
    (cw9 x D a).2 z = a ((cw9 x D a).1.emb z) + cwSum x D ((cw9 x D a).1.emb z) := by
  revert z
  show ∀ z : S1x8x1408.Idx, _
  intro z
  obtain ⟨q, l, rfl⟩ := idx_block z
  refine (pay63 _ _ _ q l).trans (congrArg₂ (· + ·) rfl ?_)
  exact sum_block x D 0 16 4224 inb_S8x8x5632_S1x8x1408_0_0_4224 inb_S256x5632_S256x1408_0_4224 inb_S272x5632_S256x1408_16_4224 rfl q l (by decide)

theorem cw9_mem (a : Vec Ideal S8x8x5632 .f32) (y : S8x8x5632.Idx) : y ∈ (cw9 x D a).1.set ↔ ord y = 9 :=
  mem_piece 0 4224 9 inb_S8x8x5632_S1x8x1408_0_0_4224 y (by decide) (by decide) (by decide)
theorem cw10_apply (a : Vec Ideal S8x8x5632 .f32) (z : (cw10 x D a).1.shape.Idx) :
    (cw10 x D a).2 z = a ((cw10 x D a).1.emb z) + cwSum x D ((cw10 x D a).1.emb z) := by
  revert z
  show ∀ z : S1x8x1408.Idx, _
  intro z
  obtain ⟨q, l, rfl⟩ := idx_block z
  refine (pay64 _ _ _ q l).trans (congrArg₂ (· + ·) rfl ?_)
  exact sum_block x D 1 8 4224 inb_S8x8x5632_S1x8x1408_1_0_4224 inb_S256x5632_S256x1408_0_4224 inb_S272x5632_S256x1408_8_4224 rfl q l (by decide)

theorem cw10_mem (a : Vec Ideal S8x8x5632 .f32) (y : S8x8x5632.Idx) : y ∈ (cw10 x D a).1.set ↔ ord y = 10 :=
  mem_piece 1 4224 10 inb_S8x8x5632_S1x8x1408_1_0_4224 y (by decide) (by decide) (by decide)
theorem cw11_apply (a : Vec Ideal S8x8x5632 .f32) (z : (cw11 x D a).1.shape.Idx) :
    (cw11 x D a).2 z = a ((cw11 x D a).1.emb z) + cwSum x D ((cw11 x D a).1.emb z) := by
  revert z
  show ∀ z : S1x8x1408.Idx, _
  intro z
  obtain ⟨q, l, rfl⟩ := idx_block z
  refine (pay66 _ _ _ q l).trans (congrArg₂ (· + ·) rfl ?_)
  exact sum_block x D 2 0 4224 inb_S8x8x5632_S1x8x1408_2_0_4224 inb_S256x5632_S256x1408_0_4224 inb_S272x5632_S256x1408_0_4224 rfl q l (by decide)

theorem cw11_mem (a : Vec Ideal S8x8x5632 .f32) (y : S8x8x5632.Idx) : y ∈ (cw11 x D a).1.set ↔ ord y = 11 :=
  mem_piece 2 4224 11 inb_S8x8x5632_S1x8x1408_2_0_4224 y (by decide) (by decide) (by decide)

theorem ord_le (y : S8x8x5632.Idx) (a b : EReal) (hb : ¬ (y 0).val < 3 → b = a) : (if ord y < 11 + 1 then b else a) = b := by
  have h2 : (y 2).val < 5632 := (y 2).isLt
  by_cases h : (y 0).val < 3
  · rw [if_pos (by unfold ord; rw [if_pos h]; omega)]
  · rw [if_neg (by unfold ord; rw [if_neg h]; omega), hb h]

/- The stores of the first tile, one after another from zero. -/

def cwChain0 : List (View.Piece (Elt Ideal) S8x8x5632 .f32) := [⟨Rect.unit ![0, 0, 0] ![8, 8, 5632] inb_S8x8x5632_S8x8x5632_0_0_0, k0_pay6 (F := Ideal)⟩]
def cwChain1 : List (View.Piece (Elt Ideal) S8x8x5632 .f32) := cw0 x D (View.canon (cwChain0)) :: cwChain0
def cwChain2 : List (View.Piece (Elt Ideal) S8x8x5632 .f32) := cw1 x D (View.canon (cwChain1 x D)) :: cwChain1 x D
def cwChain3 : List (View.Piece (Elt Ideal) S8x8x5632 .f32) := cw2 x D (View.canon (cwChain2 x D)) :: cwChain2 x D
def cwChain4 : List (View.Piece (Elt Ideal) S8x8x5632 .f32) := cw3 x D (View.canon (cwChain3 x D)) :: cwChain3 x D
def cwChain5 : List (View.Piece (Elt Ideal) S8x8x5632 .f32) := cw4 x D (View.canon (cwChain4 x D)) :: cwChain4 x D
def cwChain6 : List (View.Piece (Elt Ideal) S8x8x5632 .f32) := cw5 x D (View.canon (cwChain5 x D)) :: cwChain5 x D
def cwChain7 : List (View.Piece (Elt Ideal) S8x8x5632 .f32) := cw6 x D (View.canon (cwChain6 x D)) :: cwChain6 x D
def cwChain8 : List (View.Piece (Elt Ideal) S8x8x5632 .f32) := cw7 x D (View.canon (cwChain7 x D)) :: cwChain7 x D
def cwChain9 : List (View.Piece (Elt Ideal) S8x8x5632 .f32) := cw8 x D (View.canon (cwChain8 x D)) :: cwChain8 x D
def cwChain10 : List (View.Piece (Elt Ideal) S8x8x5632 .f32) := cw9 x D (View.canon (cwChain9 x D)) :: cwChain9 x D
def cwChain11 : List (View.Piece (Elt Ideal) S8x8x5632 .f32) := cw10 x D (View.canon (cwChain10 x D)) :: cwChain10 x D
def cwChain12 : List (View.Piece (Elt Ideal) S8x8x5632 .f32) := cw11 x D (View.canon (cwChain11 x D)) :: cwChain11 x D

theorem chain_eq (y : S8x8x5632.Idx) : View.canon (cwChain12 x D) y = cwSum x D y := by
  refine Eq.trans ?_ (ord_le y 0 (cwSum x D y) fun h => dif_neg h)
  refine chain_step x D (cw11 x D) 11 (cw11_mem x D) (cw11_apply x D) _ ?_ y
  clear y
  intro y
  refine chain_step x D (cw10 x D) 10 (cw10_mem x D) (cw10_apply x D) _ ?_ y
  clear y
  intro y
  refine chain_step x D (cw9 x D) 9 (cw9_mem x D) (cw9_apply x D) _ ?_ y
  clear y
  intro y
  refine chain_step x D (cw8 x D) 8 (cw8_mem x D) (cw8_apply x D) _ ?_ y
  clear y
  intro y
  refine chain_step x D (cw7 x D) 7 (cw7_mem x D) (cw7_apply x D) _ ?_ y
  clear y
  intro y
  refine chain_step x D (cw6 x D) 6 (cw6_mem x D) (cw6_apply x D) _ ?_ y
  clear y
  intro y
  refine chain_step x D (cw5 x D) 5 (cw5_mem x D) (cw5_apply x D) _ ?_ y
  clear y
  intro y
  refine chain_step x D (cw4 x D) 4 (cw4_mem x D) (cw4_apply x D) _ ?_ y
  clear y
  intro y
  refine chain_step x D (cw3 x D) 3 (cw3_mem x D) (cw3_apply x D) _ ?_ y
  clear y
  intro y
  refine chain_step x D (cw2 x D) 2 (cw2_mem x D) (cw2_apply x D) _ ?_ y
  clear y
  intro y
  refine chain_step x D (cw1 x D) 1 (cw1_mem x D) (cw1_apply x D) _ ?_ y
  clear y
  intro y
  refine chain_step x D (cw0 x D) 0 (cw0_mem x D) (cw0_apply x D) _ ?_ y
  clear y
  intro y
  rw [if_neg (Nat.not_lt_zero _)]
  have e := View.canon_cons_emb (Val := Elt Ideal) (e := .f32) (Rect.unit (s := S8x8x5632) ![0, 0, 0] ![8, 8, 5632] inb_S8x8x5632_S8x8x5632_0_0_0) (k0_pay6 (F := Ideal)) [] y
  rw [show (Rect.unit (s := S8x8x5632) ![0, 0, 0] ![8, 8, 5632] inb_S8x8x5632_S8x8x5632_0_0_0).emb y = y from
    funext fun a => Fin.ext (by
      rw [ValueKit.rect_emb_unit_val]
      exact a.cases (by simp) fun a => a.cases (by simp) fun a => a.cases (by simp) fun a => a.elim0)] at e
  exact e.trans (pay6 y)

/-- The sums after a later tile. -/
theorem sums_eq {sig : RefSig} {κ : Kind} {sp : Space} (v : View sig κ sp S8x8x5632 .f32) (f : v.ty.Contents (Elt Ideal)) (a : Vec Ideal S8x8x5632 .f32)
    (hf : v.read (Elt Ideal) f = a) (y : S8x8x5632.Idx) :
    v.read (Elt Ideal) (v.writes (Elt Ideal) f [cw11 x D a, cw10 x D a, cw9 x D a, cw8 x D a, cw7 x D a, cw6 x D a, cw5 x D a, cw4 x D a, cw3 x D a, cw2 x D a, cw1 x D a, cw0 x D a]) y = a y + cwSum x D y := by
  refine Eq.trans ?_ (ord_le y (a y) (a y + cwSum x D y) fun h => by unfold cwSum; rw [dif_neg h, add_zero])
  refine sums_step x D (cw11 x D) 11 (cw11_mem x D) (cw11_apply x D) v f a _ ?_ y
  clear y
  intro y
  refine sums_step x D (cw10 x D) 10 (cw10_mem x D) (cw10_apply x D) v f a _ ?_ y
  clear y
  intro y
  refine sums_step x D (cw9 x D) 9 (cw9_mem x D) (cw9_apply x D) v f a _ ?_ y
  clear y
  intro y
  refine sums_step x D (cw8 x D) 8 (cw8_mem x D) (cw8_apply x D) v f a _ ?_ y
  clear y
  intro y
  refine sums_step x D (cw7 x D) 7 (cw7_mem x D) (cw7_apply x D) v f a _ ?_ y
  clear y
  intro y
  refine sums_step x D (cw6 x D) 6 (cw6_mem x D) (cw6_apply x D) v f a _ ?_ y
  clear y
  intro y
  refine sums_step x D (cw5 x D) 5 (cw5_mem x D) (cw5_apply x D) v f a _ ?_ y
  clear y
  intro y
  refine sums_step x D (cw4 x D) 4 (cw4_mem x D) (cw4_apply x D) v f a _ ?_ y
  clear y
  intro y
  refine sums_step x D (cw3 x D) 3 (cw3_mem x D) (cw3_apply x D) v f a _ ?_ y
  clear y
  intro y
  refine sums_step x D (cw2 x D) 2 (cw2_mem x D) (cw2_apply x D) v f a _ ?_ y
  clear y
  intro y
  refine sums_step x D (cw1 x D) 1 (cw1_mem x D) (cw1_apply x D) v f a _ ?_ y
  clear y
  intro y
  refine sums_step x D (cw0 x D) 0 (cw0_mem x D) (cw0_apply x D) v f a _ ?_ y
  clear y
  intro y
  rw [if_neg (Nat.not_lt_zero _)]
  exact congrFun hf y

end Cert.Kernel2Ideal.FfnBwd
-- ==== Proof.FwdTile.lean ====
module

public import proofs.«01_k».proof.Proof.FwdBufs
public import proofs.«01_k».proof.Proof.FwdPay
public import proofs.«01_k».proof.Proof.FfnTaps

/-! The forward call of the channel mixer: one tile of its rows, entry by entry. -/

@[expose] public section

set_option maxRecDepth 16384

noncomputable section

open Idealize.ShloMosaic Idealize.ShloMosaic.TcCoe Idealize.SL.Sem

namespace Cert.Kernel6Ideal.FfnFwd

open Cert.Kernel6Ideal Cert.Kernel6Ideal.Gen
open Cert.Kernel2Ideal.FfnBwd (conv rs sg mem_block at_block readCov_ld ld_block)

/-- The rows before the convolution: the normed rows before the projection up. -/
def uAt (x : Ins Ideal) (r : Fin 256) (l : Fin 5632) : EReal :=
  ∑ k : Fin 1024, hp x.x0 x.x1 r k * x.x2 (ix3 (⟨l.val / 1408, by omega⟩ : Fin 4) k (⟨l.val % 1408, Nat.mod_lt _ (by decide)⟩ : Fin 1408))

theorem up_block (x : Ins Ideal) (q : Fin 4) (inb) (r : Fin 256) (l : Fin 1408) (h : 1408 * q.val + l.val < 5632) :
    up (k0_pay5 x.x0 x.x1) (View.ld x.x2 (Rect.unit (s := S4x1024x1408) ![q.val, 0, 0] ![1, 1024, 1408] inb)) r l
      = uAt x r ⟨1408 * q.val + l.val, h⟩ := by
  unfold up uAt
  refine Finset.sum_congr rfl fun k _ => congrArg₂ (· * ·) (pay5 x.x0 x.x1 r k) ?_
  refine congrArg x.x2 (?_ : (Rect.unit (s := S4x1024x1408) ![q.val, 0, 0] ![1, 1024, 1408] inb).emb (ix3 0 k l) = _)
  funext a
  fin_cases a <;> refine Fin.ext ?_ <;> rw [ValueKit.rect_emb_unit_val]
  · show q.val + 0 = (1408 * q.val + l.val) / 1408
    omega
  · exact Nat.zero_add k.val
  · show 0 + l.val = (1408 * q.val + l.val) % 1408
    omega

/-- The rows before a tile's own: the last of the tile before, kept in `s`, and the first of this one, in groups of eight. -/
def halo (x : Ins Ideal) (s : Vec Ideal S16x5632 .f32) (q : Fin 16) (l : Fin 5632) : EReal :=
  if q.val % 8 = 0 then s (ix2 ⟨(q.val + 7) % 16, Nat.mod_lt _ (by decide)⟩ l) else uAt x ⟨240 + (q.val - 1), by omega⟩ l

/-- A tile's rows with the ones before it. -/
def ext (x : Ins Ideal) (s : Vec Ideal S16x5632 .f32) (q : Fin 272) (l : Fin 5632) : EReal :=
  if h : q.val < 16 then halo x s ⟨q.val, h⟩ l else uAt x ⟨q.val - 16, by omega⟩ l

/-- A tile's own rows, as they are written: four blocks of columns. -/
def ownPieces (x : Ins Ideal) : List (View.Piece (Elt Ideal) S272x5632 .f32) :=
  [⟨Rect.unit (s := S272x5632) ![16, 4224] ![256, 1408] inb_S272x5632_S256x1408_16_4224, k0_pay13 (k0_pay5 x.x0 x.x1) (View.ld x.x2 (Rect.unit (s := S4x1024x1408) ![3, 0, 0] ![1, 1024, 1408] inb_S4x1024x1408_S1x1024x1408_3_0_0))⟩,
    ⟨Rect.unit (s := S272x5632) ![16, 2816] ![256, 1408] inb_S272x5632_S256x1408_16_2816, k0_pay11 (k0_pay5 x.x0 x.x1) (View.ld x.x2 (Rect.unit (s := S4x1024x1408) ![2, 0, 0] ![1, 1024, 1408] inb_S4x1024x1408_S1x1024x1408_2_0_0))⟩,
    ⟨Rect.unit (s := S272x5632) ![16, 1408] ![256, 1408] inb_S272x5632_S256x1408_16_1408, k0_pay9 (k0_pay8 x.x0 x.x1 (View.ld x.x2 (Rect.unit (s := S4x1024x1408) ![1, 0, 0] ![1, 1024, 1408] inb_S4x1024x1408_S1x1024x1408_1_0_0)))⟩,
    ⟨Rect.unit (s := S272x5632) ![16, 0] ![256, 1408] inb_S272x5632_S256x1408_16_0, k0_pay7 x.x0 x.x1 (View.ld x.x2 (Rect.unit (s := S4x1024x1408) ![0, 0, 0] ![1, 1024, 1408] inb_S4x1024x1408_S1x1024x1408_0_0_0))⟩]

/-- A tile's last rows, kept for the next. -/
def lastArr (x : Ins Ideal) : Vec Ideal S16x5632 .f32 :=
  View.ld (View.canon (Val := Elt Ideal) (ownPieces x)) (Rect.unit (s := S272x5632) ![256, 0] ![16, 5632] inb_S272x5632_S16x5632_256_0)

/-- The rows before a tile's own, as they are written. -/
def haloArr (x : Ins Ideal) (s : Vec Ideal S16x5632 .f32) : FVec Ideal S16x5632 .f32 :=
  k0_pay16 (lastArr x) s (Scalar.select (Scalar.cmpi .eq 8#32 0#32) 1#32 8#32) k0_pay14 k0_pay15

/-- A tile's rows with the ones before it, as they are written. -/
def extArr (x : Ins Ideal) (s : Vec Ideal S16x5632 .f32) : Vec Ideal S272x5632 .f32 := View.canon (Val := Elt Ideal)
  (⟨Rect.unit (s := S272x5632) ![0, 0] ![16, 5632] inb_S272x5632_S16x5632_0_0, haloArr x s⟩ :: ownPieces x)

/-- The rows before the convolution, as they are written. -/
def uPieces (x : Ins Ideal) : List (View.Piece (Elt Ideal) S256x5632 .f32) :=
  [⟨Rect.unit (s := S256x5632) ![0, 4224] ![256, 1408] inb_S256x5632_S256x1408_0_4224, k0_pay12 (k0_pay5 x.x0 x.x1) (View.ld x.x2 (Rect.unit (s := S4x1024x1408) ![3, 0, 0] ![1, 1024, 1408] inb_S4x1024x1408_S1x1024x1408_3_0_0))⟩,
    ⟨Rect.unit (s := S256x5632) ![0, 2816] ![256, 1408] inb_S256x5632_S256x1408_0_2816, k0_pay10 (k0_pay5 x.x0 x.x1) (View.ld x.x2 (Rect.unit (s := S4x1024x1408) ![2, 0, 0] ![1, 1024, 1408] inb_S4x1024x1408_S1x1024x1408_2_0_0))⟩,
    ⟨Rect.unit (s := S256x5632) ![0, 1408] ![256, 1408] inb_S256x5632_S256x1408_0_1408, k0_pay8 x.x0 x.x1 (View.ld x.x2 (Rect.unit (s := S4x1024x1408) ![1, 0, 0] ![1, 1024, 1408] inb_S4x1024x1408_S1x1024x1408_1_0_0))⟩,
    ⟨Rect.unit (s := S256x5632) ![0, 0] ![256, 1408] inb_S256x5632_S256x1408_0_0, k0_pay6 x.x0 x.x1 (View.ld x.x2 (Rect.unit (s := S4x1024x1408) ![0, 0, 0] ![1, 1024, 1408] inb_S4x1024x1408_S1x1024x1408_0_0_0))⟩]

theorem ownPieces_apply (x : Ins Ideal) (s : Vec Ideal S16x5632 .f32) : ∀ p ∈ ownPieces x, ∀ z : p.1.shape.Idx,
    p.2 z = (fun j : S272x5632.Idx => (ext x s (j 0) (j 1) : Elt Ideal .f32)) (p.1.emb z) := by
  intro p hp
  simp only [ownPieces, List.mem_cons, List.not_mem_nil, or_false] at hp
  rcases hp with rfl | rfl | rfl | rfl <;> intro z <;> idx_vars z
  · refine Eq.trans ?_ (at_block (ext x s) 16 4224 inb_S272x5632_S256x1408_16_4224 z0 z1 (by omega) (by omega)).symm
    refine (pay13 _ _ z0 z1).trans ((up_block x 3 _ z0 z1 (by show 1408 * 3 + z1.val < 5632; omega)).trans ?_)
    have e : ¬16 + z0.val < 16 := by omega
    simp only [ext, dif_neg e, Nat.add_sub_cancel_left]
    rfl
  · refine Eq.trans ?_ (at_block (ext x s) 16 2816 inb_S272x5632_S256x1408_16_2816 z0 z1 (by omega) (by omega)).symm
    refine (pay11 _ _ z0 z1).trans ((up_block x 2 _ z0 z1 (by show 1408 * 2 + z1.val < 5632; omega)).trans ?_)
    have e : ¬16 + z0.val < 16 := by omega
    simp only [ext, dif_neg e, Nat.add_sub_cancel_left]
    rfl
  · refine Eq.trans ?_ (at_block (ext x s) 16 1408 inb_S272x5632_S256x1408_16_1408 z0 z1 (by omega) (by omega)).symm
    refine ((congrFun (pay9 _) (ix2 z0 z1)).trans (pay8 _ _ _ z0 z1)).trans ((up_block x 1 _ z0 z1 (by show 1408 * 1 + z1.val < 5632; omega)).trans ?_)
    have e : ¬16 + z0.val < 16 := by omega
    simp only [ext, dif_neg e, Nat.add_sub_cancel_left]
    rfl
  · refine Eq.trans ?_ (at_block (ext x s) 16 0 inb_S272x5632_S256x1408_16_0 z0 z1 (by omega) (by omega)).symm
    refine (pay7 _ _ _ z0 z1).trans ((up_block x 0 _ z0 z1 (by show 1408 * 0 + z1.val < 5632; omega)).trans ?_)
    have e : ¬16 + z0.val < 16 := by omega
    simp only [ext, dif_neg e, Nat.add_sub_cancel_left]
    rfl

theorem ownPieces_cover (x : Ins Ideal) (y : S272x5632.Idx) (h : 16 ≤ (y 0).val) : ∃ p ∈ ownPieces x, y ∈ p.1.set := by
  have h0 : (y 0).val < 272 := (y 0).isLt
  have h1 : (y 1).val < 5632 := (y 1).isLt
  by_cases a : (y 1).val < 1408
  · exact ⟨_, .tail _ (.tail _ (.tail _ (.head _))), mem_block 16 0 256 1408 inb_S272x5632_S256x1408_16_0 y ⟨by omega, by omega⟩ ⟨by omega, by omega⟩⟩
  by_cases a : (y 1).val < 2816
  · exact ⟨_, .tail _ (.tail _ (.head _)), mem_block 16 1408 256 1408 inb_S272x5632_S256x1408_16_1408 y ⟨by omega, by omega⟩ ⟨by omega, by omega⟩⟩
  by_cases a : (y 1).val < 4224
  · exact ⟨_, .tail _ (.head _), mem_block 16 2816 256 1408 inb_S272x5632_S256x1408_16_2816 y ⟨by omega, by omega⟩ ⟨by omega, by omega⟩⟩
  · exact ⟨_, .head _, mem_block 16 4224 256 1408 inb_S272x5632_S256x1408_16_4224 y ⟨by omega, by omega⟩ ⟨by omega, by omega⟩⟩

theorem lastArr_apply (x : Ins Ideal) (q : Fin 16) (l : Fin 5632) : lastArr x (ix2 q l) = uAt x ⟨240 + q.val, by omega⟩ l := by
  refine (ld_block _ _ _ _ _ _ (⟨256 + q.val, by omega⟩ : Fin 272) l rfl (Nat.zero_add _)).trans ?_
  refine (View.canon_apply_of_pieces (Val := Elt Ideal) (e := .f32)
    (fun j : S272x5632.Idx => (ext x (fun _ => 0) (j 0) (j 1) : Elt Ideal .f32)) (ownPieces x) (ownPieces_apply x _)
    (ix2 (⟨256 + q.val, by omega⟩ : Fin 272) l) (ownPieces_cover x _ (show 16 ≤ 256 + q.val by omega))).trans ?_
  show ext x (fun _ => 0) ⟨256 + q.val, _⟩ l = _
  unfold ext
  rw [dif_neg (show ¬256 + q.val < 16 by omega)]
  exact congrArg (fun n => uAt x n l) (Fin.ext (show 256 + q.val - 16 = 240 + q.val by omega))

theorem haloArr_apply (x : Ins Ideal) (s : Vec Ideal S16x5632 .f32) (q : Fin 16) (l : Fin 5632) : haloArr x s (ix2 q l) = halo x s q l := by
  unfold haloArr halo
  rw [pay16, lastArr_apply]

theorem extArr_eq (x : Ins Ideal) (s : Vec Ideal S16x5632 .f32) : extArr x s = fun j : S272x5632.Idx => ext x s (j 0) (j 1) := by
  unfold extArr
  funext y
  refine View.canon_apply_of_pieces (Val := Elt Ideal) (e := .f32) (fun j : S272x5632.Idx => (ext x s (j 0) (j 1) : Elt Ideal .f32)) _ ?_ y ?_
  · intro p hp
    rcases List.mem_cons.mp hp with rfl | hp
    · intro z
      idx_vars z
      refine Eq.trans ?_ (at_block (ext x s) 0 0 inb_S272x5632_S16x5632_0_0 z0 z1 (by omega) (by omega)).symm
      have e : z0.val < 16 := z0.isLt
      refine (haloArr_apply x s z0 z1).trans ?_
      simp only [ext, Nat.zero_add, dif_pos e]
    · exact ownPieces_apply x s p hp
  · have h1 : (y 1).val < 5632 := (y 1).isLt
    by_cases a : (y 0).val < 16
    · exact ⟨_, .head _, mem_block 0 0 16 5632 inb_S272x5632_S16x5632_0_0 y ⟨by omega, by omega⟩ ⟨by omega, by omega⟩⟩
    · obtain ⟨p, hp, hy⟩ := ownPieces_cover x y (by omega)
      exact ⟨p, .tail _ hp, hy⟩

/-- The array of the rows before the convolution. -/
def uArr (x : Ins Ideal) : Vec Ideal S256x5632 .f32 := View.canon (Val := Elt Ideal) (uPieces x)

theorem uArr_eq (x : Ins Ideal) : uArr x = fun j : S256x5632.Idx => uAt x (j 0) (j 1) := by
  unfold uArr
  funext y
  refine View.canon_apply_of_pieces (Val := Elt Ideal) (e := .f32) (fun j : S256x5632.Idx => (uAt x (j 0) (j 1) : Elt Ideal .f32)) _ ?_ y ?_
  · intro p hp
    simp only [uPieces, List.mem_cons, List.not_mem_nil, or_false] at hp
    rcases hp with rfl | rfl | rfl | rfl <;> intro z <;> idx_vars z
    · refine Eq.trans ?_ (at_block (uAt x) 0 4224 inb_S256x5632_S256x1408_0_4224 z0 z1 (by omega) (by omega)).symm
      refine (pay12 _ _ z0 z1).trans ((up_block x 3 _ z0 z1 (by show 1408 * 3 + z1.val < 5632; omega)).trans ?_)
      simp only [Nat.zero_add]
      rfl
    · refine Eq.trans ?_ (at_block (uAt x) 0 2816 inb_S256x5632_S256x1408_0_2816 z0 z1 (by omega) (by omega)).symm
      refine (pay10 _ _ z0 z1).trans ((up_block x 2 _ z0 z1 (by show 1408 * 2 + z1.val < 5632; omega)).trans ?_)
      simp only [Nat.zero_add]
      rfl
    · refine Eq.trans ?_ (at_block (uAt x) 0 1408 inb_S256x5632_S256x1408_0_1408 z0 z1 (by omega) (by omega)).symm
      refine (pay8 _ _ _ z0 z1).trans ((up_block x 1 _ z0 z1 (by show 1408 * 1 + z1.val < 5632; omega)).trans ?_)
      simp only [Nat.zero_add]
      rfl
    · refine Eq.trans ?_ (at_block (uAt x) 0 0 inb_S256x5632_S256x1408_0_0 z0 z1 (by omega) (by omega)).symm
      refine (pay6 _ _ _ z0 z1).trans ((up_block x 0 _ z0 z1 (by show 1408 * 0 + z1.val < 5632; omega)).trans ?_)
      simp only [Nat.zero_add]
      exact congrArg (uAt x z0) (Fin.ext (show 1408 * 0 + z1.val = z1.val by omega))
  · have h0 : (y 0).val < 256 := (y 0).isLt
    have h1 : (y 1).val < 5632 := (y 1).isLt
    by_cases a : (y 1).val < 1408
    · exact ⟨_, .tail _ (.tail _ (.tail _ (.head _))), mem_block 0 0 256 1408 inb_S256x5632_S256x1408_0_0 y ⟨by omega, by omega⟩ ⟨by omega, by omega⟩⟩
    by_cases a : (y 1).val < 2816
    · exact ⟨_, .tail _ (.tail _ (.head _)), mem_block 0 1408 256 1408 inb_S256x5632_S256x1408_0_1408 y ⟨by omega, by omega⟩ ⟨by omega, by omega⟩⟩
    by_cases a : (y 1).val < 4224
    · exact ⟨_, .tail _ (.head _), mem_block 0 2816 256 1408 inb_S256x5632_S256x1408_0_2816 y ⟨by omega, by omega⟩ ⟨by omega, by omega⟩⟩
    · exact ⟨_, .head _, mem_block 0 4224 256 1408 inb_S256x5632_S256x1408_0_4224 y ⟨by omega, by omega⟩ ⟨by omega, by omega⟩⟩

/-- The causal convolution of a tile's rows. -/
def cv (x : Ins Ideal) (s : Vec Ideal S16x5632 .f32) (r : Fin 256) (l : Fin 5632) : EReal :=
  x.x3 (ix2 0 l) * ext x s ⟨r.val, by omega⟩ l + x.x3 (ix2 1 l) * ext x s ⟨8 + r.val, by omega⟩ l
    + x.x3 (ix2 2 l) * ext x s ⟨16 + r.val, by omega⟩ l

theorem conv_ext (x : Ins Ideal) (s : Vec Ideal S16x5632 .f32) (o : ℕ) (ho : o + 1408 ≤ 5632) (h0 h1 h2) (r : Fin 256) (l : Fin 1408) :
    conv x.x3 (View.ld (extArr x s) (Rect.unit (s := S272x5632) ![0, o] ![256, 1408] h0))
      (View.ld (extArr x s) (Rect.unit (s := S272x5632) ![8, o] ![256, 1408] h1))
      (View.ld (extArr x s) (Rect.unit (s := S272x5632) ![16, o] ![256, 1408] h2)) o ho r l = cv x s r ⟨o + l.val, by omega⟩ := by
  rw [extArr_eq]
  pointwise [conv, cv]

/-- The activation, entry by entry. -/
def act (x : Ins Ideal) (s : Vec Ideal S16x5632 .f32) (r : Fin 256) (l : Fin 2816) : EReal :=
  glu (cv x s r ⟨l.val, by omega⟩) (cv x s r ⟨2816 + l.val, by omega⟩)

/-- The projection down's first half, as it is computed. -/
def halfArr (x : Ins Ideal) (s : Vec Ideal S16x5632 .f32) (W : Vec Ideal S2816x1024 .bf16) : FVec Ideal S256x1024 .f32 :=
  k0_pay22 (k0_pay18 x.x3) (k0_pay19 (F := Ideal)) (k0_pay20 x.x3 (View.ld (extArr x s) (Rect.unit (s := S272x5632) ![0, 0] ![256, 1408] inb_S272x5632_S256x1408_0_0)) (View.ld (extArr x s) (Rect.unit (s := S272x5632) ![8, 0] ![256, 1408] inb_S272x5632_S256x1408_8_0)))
    (k0_pay21 x.x3) (View.ld (extArr x s) (Rect.unit (s := S272x5632) ![16, 0] ![256, 1408] inb_S272x5632_S256x1408_16_0))
    (View.ld (extArr x s) (Rect.unit (s := S272x5632) ![0, 2816] ![256, 1408] inb_S272x5632_S256x1408_0_2816)) (View.ld (extArr x s) (Rect.unit (s := S272x5632) ![8, 2816] ![256, 1408] inb_S272x5632_S256x1408_8_2816))
    (View.ld (extArr x s) (Rect.unit (s := S272x5632) ![16, 2816] ![256, 1408] inb_S272x5632_S256x1408_16_2816))
    (View.ld W (Rect.unit (s := S2816x1024) ![0, 0] ![1408, 1024] inb_S2816x1024_S1408x1024_0_0))

/-- The second half of the gates, as it is computed. -/
def gateArr (x : Ins Ideal) (s : Vec Ideal S16x5632 .f32) : FVec Ideal S256x1408 .f32 :=
  k0_pay23 (k0_pay18 x.x3) (View.ld (extArr x s) (Rect.unit (s := S272x5632) ![0, 1408] ![256, 1408] inb_S272x5632_S256x1408_0_1408)) (View.ld (extArr x s) (Rect.unit (s := S272x5632) ![8, 1408] ![256, 1408] inb_S272x5632_S256x1408_8_1408))
    (View.ld (extArr x s) (Rect.unit (s := S272x5632) ![16, 1408] ![256, 1408] inb_S272x5632_S256x1408_16_1408))

/-- The rows behind the projection down, as they are computed. -/
def downArr (x : Ins Ideal) (s : Vec Ideal S16x5632 .f32) (W : Vec Ideal S2816x1024 .bf16) : FVec Ideal S256x1024 .f32 :=
  k0_pay1 (k0_pay18 x.x3) (halfArr x s W) (gateArr x s) (View.ld (extArr x s) (Rect.unit (s := S272x5632) ![0, 4224] ![256, 1408] inb_S272x5632_S256x1408_0_4224))
    (k0_pay24 (k0_pay18 x.x3)) (View.ld (extArr x s) (Rect.unit (s := S272x5632) ![8, 4224] ![256, 1408] inb_S272x5632_S256x1408_8_4224))
    (View.ld (extArr x s) (Rect.unit (s := S272x5632) ![16, 4224] ![256, 1408] inb_S272x5632_S256x1408_16_4224))
    (View.ld W (Rect.unit (s := S2816x1024) ![1408, 0] ![1408, 1024] inb_S2816x1024_S1408x1024_1408_0))

/-- The rows that leave the call, as they are computed. -/
def outArr (x : Ins Ideal) (s : Vec Ideal S16x5632 .f32) (W : Vec Ideal S2816x1024 .bf16) : FVec Ideal S256x1024 .f32 :=
  k0_pay2 (k0_pay4 x.x0) (k0_pay18 x.x3) (halfArr x s W) (gateArr x s) (View.ld (extArr x s) (Rect.unit (s := S272x5632) ![0, 4224] ![256, 1408] inb_S272x5632_S256x1408_0_4224))
    (k0_pay24 (k0_pay18 x.x3)) (View.ld (extArr x s) (Rect.unit (s := S272x5632) ![8, 4224] ![256, 1408] inb_S272x5632_S256x1408_8_4224))
    (View.ld (extArr x s) (Rect.unit (s := S272x5632) ![16, 4224] ![256, 1408] inb_S272x5632_S256x1408_16_4224))
    (View.ld W (Rect.unit (s := S2816x1024) ![1408, 0] ![1408, 1024] inb_S2816x1024_S1408x1024_1408_0)) x.x4

/-- The rows behind the projection down, entry by entry. -/
def down (x : Ins Ideal) (s : Vec Ideal S16x5632 .f32) (W : Vec Ideal S2816x1024 .bf16) (r : Fin 256) (l : Fin 1024) : EReal :=
  ∑ k : Fin 2816, act x s r k * W (ix2 k l)

theorem downArr_apply (x : Ins Ideal) (s : Vec Ideal S16x5632 .f32) (W : Vec Ideal S2816x1024 .bf16) (r : Fin 256) (l : Fin 1024) :
    downArr x s W (ix2 r l) = down x s W r l := by
  unfold downArr gateArr halfArr
  rw [pay1, pay22]
  simp only [conv_ext]
  unfold down
  refine Eq.trans ?_ (Fin.sum_univ_add (a := 1408) (b := 1408) fun k => act x s r k * W (ix2 k l)).symm
  refine congrArg₂ (· + ·) (Finset.sum_congr rfl fun k _ => congrArg₂ (· * ·) ?_ ?_) (Finset.sum_congr rfl fun k _ => congrArg₂ (· * ·) ?_ ?_)
  · simp only [act, Nat.zero_add]
    rfl
  · exact ld_block _ _ _ _ _ _ (Fin.castAdd 1408 k) l (Nat.zero_add _) (Nat.zero_add _)
  · simp only [act, Fin.val_natAdd, ← Nat.add_assoc]
  · exact ld_block _ _ _ _ _ _ (Fin.natAdd 1408 k) l rfl (Nat.zero_add _)

theorem outArr_apply (x : Ins Ideal) (s : Vec Ideal S16x5632 .f32) (W : Vec Ideal S2816x1024 .bf16) (r : Fin 256) (l : Fin 1024) :
    outArr x s W (ix2 r l) = x.x0 (ix2 r l) + down x s W r l * (rs fun k => down x s W r k) * x.x4 (ix2 0 l) := by
  unfold outArr
  rw [pay2]
  simp only [← downArr_apply]
  rfl

end Cert.Kernel6Ideal.FfnFwd
-- ==== Proof.FwdLeft.lean ====
module

public import proofs.«01_k».proof.Proof.FwdFrame
public import proofs.«01_k».proof.Proof.FwdTile

/-! The forward call of the channel mixer: what a point leaves, as arrays of its blocks. -/

@[expose] public section

set_option maxRecDepth 16384

noncomputable section

open Idealize.ShloMosaic Idealize.ShloMosaic.TcCoe Idealize.SL.Sem

namespace Cert.Kernel6Ideal.FfnFwd

open Cert.Kernel6Ideal Cert.Kernel6Ideal.Gen
open Cert.Kernel2Ideal.FfnBwd (readCov_ld)

section
variable (x : Ins Ideal) (s : Vec Ideal S16x5632 .f32)

theorem fold_last : View.ld (View.canon (Val := Elt Ideal)
    ([⟨Rect.unit (s := S272x5632) ![16, 4224] ![256, 1408] inb_S272x5632_S256x1408_16_4224, k0_pay13 (k0_pay5 x.x0 x.x1) (View.ld x.x2 (Rect.unit (s := S4x1024x1408) ![3, 0, 0] ![1, 1024, 1408] inb_S4x1024x1408_S1x1024x1408_3_0_0))⟩,
    ⟨Rect.unit (s := S272x5632) ![16, 2816] ![256, 1408] inb_S272x5632_S256x1408_16_2816, k0_pay11 (k0_pay5 x.x0 x.x1) (View.ld x.x2 (Rect.unit (s := S4x1024x1408) ![2, 0, 0] ![1, 1024, 1408] inb_S4x1024x1408_S1x1024x1408_2_0_0))⟩,
    ⟨Rect.unit (s := S272x5632) ![16, 1408] ![256, 1408] inb_S272x5632_S256x1408_16_1408, k0_pay9 (k0_pay8 x.x0 x.x1 (View.ld x.x2 (Rect.unit (s := S4x1024x1408) ![1, 0, 0] ![1, 1024, 1408] inb_S4x1024x1408_S1x1024x1408_1_0_0)))⟩,
    ⟨Rect.unit (s := S272x5632) ![16, 0] ![256, 1408] inb_S272x5632_S256x1408_16_0, k0_pay7 x.x0 x.x1 (View.ld x.x2 (Rect.unit (s := S4x1024x1408) ![0, 0, 0] ![1, 1024, 1408] inb_S4x1024x1408_S1x1024x1408_0_0_0))⟩] : List (View.Piece (Elt Ideal) S272x5632 .f32)))
    (Rect.unit (s := S272x5632) ![256, 0] ![16, 5632] inb_S272x5632_S16x5632_256_0) = lastArr x := rfl

theorem fold_ext : View.canon (Val := Elt Ideal)
    (⟨Rect.unit (s := S272x5632) ![0, 0] ![16, 5632] inb_S272x5632_S16x5632_0_0, k0_pay16 (lastArr x) s 8#32 k0_pay14 k0_pay15⟩ ::
    [⟨Rect.unit (s := S272x5632) ![16, 4224] ![256, 1408] inb_S272x5632_S256x1408_16_4224, k0_pay13 (k0_pay5 x.x0 x.x1) (View.ld x.x2 (Rect.unit (s := S4x1024x1408) ![3, 0, 0] ![1, 1024, 1408] inb_S4x1024x1408_S1x1024x1408_3_0_0))⟩,
    ⟨Rect.unit (s := S272x5632) ![16, 2816] ![256, 1408] inb_S272x5632_S256x1408_16_2816, k0_pay11 (k0_pay5 x.x0 x.x1) (View.ld x.x2 (Rect.unit (s := S4x1024x1408) ![2, 0, 0] ![1, 1024, 1408] inb_S4x1024x1408_S1x1024x1408_2_0_0))⟩,
    ⟨Rect.unit (s := S272x5632) ![16, 1408] ![256, 1408] inb_S272x5632_S256x1408_16_1408, k0_pay9 (k0_pay8 x.x0 x.x1 (View.ld x.x2 (Rect.unit (s := S4x1024x1408) ![1, 0, 0] ![1, 1024, 1408] inb_S4x1024x1408_S1x1024x1408_1_0_0)))⟩,
    ⟨Rect.unit (s := S272x5632) ![16, 0] ![256, 1408] inb_S272x5632_S256x1408_16_0, k0_pay7 x.x0 x.x1 (View.ld x.x2 (Rect.unit (s := S4x1024x1408) ![0, 0, 0] ![1, 1024, 1408] inb_S4x1024x1408_S1x1024x1408_0_0_0))⟩] : List (View.Piece (Elt Ideal) S272x5632 .f32)) = extArr x s := rfl
end

/-- The weight as the first point copies it, block of rows by block of rows. -/
def wtArr (c : Dev nD) (fh : HbBuf0 (F := Ideal) c hbM0_0) : Vec Ideal S2816x1024 .bf16 := View.canon (Val := Elt Ideal)
  [(⟨Rect.unit (s := S2816x1024) ![2112, 0] ![704, 1024] inb_S2816x1024_S704x1024_2112_0,
      ReadAs.same.apply (View.read (Elt Ideal) (((View.whole main_v4).slice (Rect.unit ![3, 0, 0] ![1, 704, 1024] inb_S4x704x1024_S1x704x1024_3_0_0)).reshape S704x1024 squeezes_S1x704x1024_S704x1024.numel_eq) fh)⟩ : View.Piece (Elt Ideal) S2816x1024 .bf16),
    (⟨Rect.unit (s := S2816x1024) ![1408, 0] ![704, 1024] inb_S2816x1024_S704x1024_1408_0,
      ReadAs.same.apply (View.read (Elt Ideal) (((View.whole main_v4).slice (Rect.unit ![2, 0, 0] ![1, 704, 1024] inb_S4x704x1024_S1x704x1024_2_0_0)).reshape S704x1024 squeezes_S1x704x1024_S704x1024.numel_eq) fh)⟩ : View.Piece (Elt Ideal) S2816x1024 .bf16),
    (⟨Rect.unit (s := S2816x1024) ![704, 0] ![704, 1024] inb_S2816x1024_S704x1024_704_0,
      ReadAs.same.apply (View.read (Elt Ideal) (((View.whole main_v4).slice (Rect.unit ![1, 0, 0] ![1, 704, 1024] inb_S4x704x1024_S1x704x1024_1_0_0)).reshape S704x1024 squeezes_S1x704x1024_S704x1024.numel_eq) fh)⟩ : View.Piece (Elt Ideal) S2816x1024 .bf16),
    (⟨Rect.unit (s := S2816x1024) ![0, 0] ![704, 1024] inb_S2816x1024_S704x1024_0_0,
      ReadAs.same.apply (View.read (Elt Ideal) (((View.whole main_v4).slice (Rect.unit ![0, 0, 0] ![1, 704, 1024] inb_S4x704x1024_S1x704x1024_0_0_0)).reshape S704x1024 squeezes_S1x704x1024_S704x1024.numel_eq) fh)⟩ : View.Piece (Elt Ideal) S2816x1024 .bf16)]

section
variable (c : Dev nD) (i : grid0.Coords) (b : Bufs) (hc0 : cond0_0 i) (x : Ins Ideal) (fh : HbBuf0 (F := Ideal) c hbM0_0)

theorem uFirst : (leftFirst c i b hc0 x fh).o5 = uArr x := by
  dsimp only [leftFirst]; funext j; frame_out; rfl
theorem hFirst : (leftFirst c i b hc0 x fh).o6 = k0_pay5 x.x0 x.x1 := by
  dsimp only [leftFirst]; funext j; frame_out
theorem rowsFirst : (leftFirst c i b hc0 x fh).held.rows = k0_pay17 (View.ld (extArr x (k0_pay3 (F := Ideal))) (Rect.unit (s := S272x5632) ![256, 0] ![16, 5632] inb_S272x5632_S16x5632_256_0)) := by
  dsimp only [leftFirst]; funext j; frame_out; simp only [readCov_ld, fold_last, fold_ext]; rfl
theorem wtFirst : (leftFirst c i b hc0 x fh).held.wt = (wtArr c fh) := by
  dsimp only [leftFirst]; funext j; frame_out; try rfl
theorem dFirst : (leftFirst c i b hc0 x fh).o7 = downArr x (k0_pay3 (F := Ideal)) (wtArr c fh) := by
  dsimp only [leftFirst]; funext j; frame_out; simp only [readCov_ld, fold_last, fold_ext]; rfl
theorem yFirst : (leftFirst c i b hc0 x fh).o8 = outArr x (k0_pay3 (F := Ideal)) (wtArr c fh) := by
  dsimp only [leftFirst]; funext j; frame_out; simp only [readCov_ld, fold_last, fold_ext]; rfl
end

section
variable (c : Dev nD) (i : grid0.Coords) (b : Bufs) (hc0 : ¬cond0_0 i) (x : Ins Ideal) (s : Held Ideal) (fh : HbBuf0 (F := Ideal) c hbM0_0)

theorem uLater : (leftLater c i b hc0 x s fh).o5 = uArr x := by
  dsimp only [leftLater]; funext j; frame_out; rfl
theorem hLater : (leftLater c i b hc0 x s fh).o6 = k0_pay5 x.x0 x.x1 := by
  dsimp only [leftLater]; funext j; frame_out
theorem rowsLater : (leftLater c i b hc0 x s fh).held.rows = k0_pay17 (View.ld (extArr x s.rows) (Rect.unit (s := S272x5632) ![256, 0] ![16, 5632] inb_S272x5632_S16x5632_256_0)) := by
  dsimp only [leftLater]; funext j; frame_out; simp only [readCov_ld, fold_last, fold_ext]; rfl
theorem wtLater : (leftLater c i b hc0 x s fh).held.wt = s.wt := by
  dsimp only [leftLater]
theorem dLater : (leftLater c i b hc0 x s fh).o7 = downArr x s.rows s.wt := by
  dsimp only [leftLater]; funext j; frame_out; simp only [readCov_ld, fold_last, fold_ext]; rfl
theorem yLater : (leftLater c i b hc0 x s fh).o8 = outArr x s.rows s.wt := by
  dsimp only [leftLater]; funext j; frame_out; simp only [readCov_ld, fold_last, fold_ext]; rfl
end

end Cert.Kernel6Ideal.FfnFwd
-- ==== Proof.FfnRunFirst.lean ====
/- The backward call of the channel mixer, its body at the first grid point. -/
module

public import proofs.«01_k».proof.Proof.FfnBufs

@[expose] public section

set_option maxRecDepth 16384

noncomputable section

namespace Cert.Kernel2Ideal.FfnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
set_option sl_exec.dmaWindow true in
set_option sl_exec.dmaWindowSet true in
/-- At the first point the weight's rows are copied in and the sums cleared: the stores found, with the body's triple. -/
def runFirst (c : Dev nD) (i : grid0.Coords) (b : Bufs) (hc0 : cond0_0 i) (hc1 : ¬cond0_1 i) (x : Ins F)
    (fh : HbBuf0 (F := F) c hbM0_0) :
    { L : Stores F // ∀ (xi9 : Vec F S1x1024 .f32) (xi10 : Vec F S8x5632 .f32) (W : Waits sig Unit) (K : PUnit → sProp 𝕄),
        iprop(own c b.a1 x.x0 ∗ own c b.a2 x.x1 ∗ own c b.a3 x.x2 ∗ own c b.a4 x.x3 ∗ own c b.a5 x.x4 ∗
          own c b.a7 x.x5 ∗ any c b.a8 ∗ any c b.a9 ∗ any c b.a10 ∗ own c b.a11 xi9 ∗ own c b.a12 xi10 ∗
          any c b.a13 ∗ any c b.a14 ∗ any c b.a15 ∗ any c b.a16 ∗ any c b.a17 ∗ any c b.a18 ∗ cell c 18 ∗
          cell c 19 ∗ cell c 20 ∗ cell c 21 ∗ hbPt0 c hbM0_0 fh ∗ owes (c : Thread nD τ) 0 W
            ∗ (iprop(own c b.a1 x.x0 ∗ own c b.a2 x.x1 ∗ own c b.a3 x.x2 ∗ own c b.a4 x.x3 ∗ own c b.a5 x.x4 ∗
            own c b.a7 x.x5 ∗ put c b.a8 L.1 ∗ put c b.a9 L.2.1 ∗ put c b.a10 L.2.2.1 ∗ own c b.a11 xi9 ∗
            own c b.a12 xi10 ∗ put c b.a13 L.2.2.2.2.2.2.2.2.2.1 ∗ put c b.a14 L.2.2.2.2.2.2.2.2.2.2 ∗
            put c b.a15 L.2.2.2.2.2.1 ∗ put c b.a16 L.2.2.2.2.2.2.1 ∗ put c b.a17 L.2.2.2.2.2.2.2.1 ∗
            put c b.a18 L.2.2.2.2.2.2.2.2.1 ∗ cell c 18 ∗ cell c 19 ∗ cell c 20 ∗ cell c 21 ∗
            hbPt0 c hbM0_0 fh ∗ (∃ W', owes (c : Thread nD τ) 0 W')) -∗ K ⟨⟩))
          ⊢ wp frame (wpE (defs₀ (F := F)) Variants.none c none) Set.univ (body i b) K } := by
  refine ⟨(?_, ?_, ?_, [], [], ?_, ?_, ?_, ?_, ?_, ?_), fun xi9 xi10 W K => ?run⟩
  case run =>
    dsimp only
    simp only [body, cc0_ffn_bwd_eq_skeleton]; unfold cc0_ffn_bwd_skel
    simp only [k0_part3_eq_skeleton, k0_part1_eq_skeleton, k0_part2_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton]
    unfold own any put cell owns
    iintro ⟨⟨%f0, %e0, H0⟩, ⟨%f1, %e1, H1⟩, ⟨%f2, %e2, H2⟩, ⟨%f3, %e3, H3⟩, ⟨%f4, %e4, H4⟩,
      ⟨%f5, %e5, H5⟩, ⟨%d6, %f6, -, H6⟩, ⟨%d7, %f7, -, H7⟩, ⟨%d8, %f8, -, H8⟩, ⟨%f9, %e9, H9⟩,
      ⟨%f10, %e10, H10⟩, ⟨%u0, %g0, -, S0⟩, ⟨%u1, %g1, -, S1⟩, ⟨%u2, %g2, -, S2⟩, ⟨%u3, %g3, -, S3⟩,
      ⟨%u4, %g4, -, S4⟩, ⟨%u5, %g5, -, S5⟩,
      Q0, Q1, Q2, Q3, HM, HW, Hk⟩
    obtain rfl := b.h1.eq_unread e0; obtain rfl := b.h2.eq_unread e1
    obtain rfl := b.h3.eq_unread e2; obtain rfl := b.h4.eq_unread e3
    obtain rfl := b.h5.eq_unread e4; obtain rfl := b.h7.eq_unread e5
    obtain rfl := b.h11.eq_unread e9; obtain rfl := b.h12.eq_unread e10
    sl_exec (disch := first | sl_exact hc0 | sl_exact hc1)
    sl_step
    iapply Hk
    isplitl [H0]
    · iexists _; isplitr; · ipureintro; exact b.h1.read_unread _
      iexact H0
    isplitl [H1]
    · iexists _; isplitr; · ipureintro; exact b.h2.read_unread _
      iexact H1
    isplitl [H2]
    · iexists _; isplitr; · ipureintro; exact b.h3.read_unread _
      iexact H2
    isplitl [H3]
    · iexists _; isplitr; · ipureintro; exact b.h4.read_unread _
      iexact H3
    isplitl [H4]
    · iexists _; isplitr; · ipureintro; exact b.h5.read_unread _
      iexact H4
    isplitl [H5]
    · iexists _; isplitr; · ipureintro; exact b.h7.read_unread _
      iexact H5
    isplitl [H6]; · iexists _; iexact H6
    isplitl [H7]; · iexists _; iexact H7
    isplitl [H8]; · iexists _; iexact H8
    isplitl [H9]
    · iexists _; isplitr; · ipureintro; exact b.h11.read_unread _
      iexact H9
    isplitl [H10]
    · iexists _; isplitr; · ipureintro; exact b.h12.read_unread _
      iexact H10
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [Q0]; · iexact Q0
    isplitl [Q1]; · iexact Q1
    isplitl [Q2]; · iexact Q2
    isplitl [Q3]; · iexact Q3
    isplitl [HM]; · iexact HM
    iexists _; iexact HW

end Cert.Kernel2Ideal.FfnBwd

end
-- ==== Proof.FfnRunMid.lean ====
/- The backward call of the channel mixer, its body between the first and the last grid point. -/
module

public import proofs.«01_k».proof.Proof.FfnRunFirst

@[expose] public section

set_option maxRecDepth 16384

noncomputable section

namespace Cert.Kernel2Ideal.FfnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
set_option sl_exec.dmaWindow true in
set_option sl_exec.dmaWindowSet true in
/-- At a point that is neither the first nor the last: the stores found, over what the point before left, with the body's triple. -/
def runMid (c : Dev nD) (i : grid0.Coords) (b : Bufs) (hc0 : ¬cond0_0 i) (hc1 : ¬cond0_1 i) (x : Ins F) (s : Held F)
    (fh : HbBuf0 (F := F) c hbM0_0) :
    { L : Stores F // ∀ (xi9 : Vec F S1x1024 .f32) (xi10 : Vec F S8x5632 .f32) (W : Waits sig Unit) (K : PUnit → sProp 𝕄),
        iprop(own c b.a1 x.x0 ∗ own c b.a2 x.x1 ∗ own c b.a3 x.x2 ∗ own c b.a4 x.x3 ∗ own c b.a5 x.x4 ∗
          own c b.a7 x.x5 ∗ any c b.a8 ∗ any c b.a9 ∗ any c b.a10 ∗ own c b.a11 xi9 ∗ own c b.a12 xi10 ∗
          any c b.a13 ∗ any c b.a14 ∗ own c b.a15 s.s2 ∗ own c b.a16 s.s3 ∗ own c b.a17 s.s4 ∗
          own c b.a18 s.s5 ∗ cell c 18 ∗ cell c 19 ∗ cell c 20 ∗ cell c 21 ∗ hbPt0 c hbM0_0 fh ∗
          owes (c : Thread nD τ) 0 W
            ∗ (iprop(own c b.a1 x.x0 ∗ own c b.a2 x.x1 ∗ own c b.a3 x.x2 ∗ own c b.a4 x.x3 ∗ own c b.a5 x.x4 ∗
            own c b.a7 x.x5 ∗ put c b.a8 L.1 ∗ put c b.a9 L.2.1 ∗ put c b.a10 L.2.2.1 ∗ own c b.a11 xi9 ∗
            own c b.a12 xi10 ∗ put c b.a13 L.2.2.2.2.2.2.2.2.2.1 ∗ put c b.a14 L.2.2.2.2.2.2.2.2.2.2 ∗
            put c b.a15 L.2.2.2.2.2.1 ∗ put c b.a16 L.2.2.2.2.2.2.1 ∗
            (b.a17.view.loc (c : Thread nD τ) ↦[b.a17.view.set]{fullShare} b.a17.view.writes (Elt F) (b.h17.unread s.s4) L.2.2.2.2.2.2.2.1) ∗
            own c b.a18 s.s5 ∗ cell c 18 ∗ cell c 19 ∗ cell c 20 ∗ cell c 21 ∗ hbPt0 c hbM0_0 fh ∗
            (∃ W', owes (c : Thread nD τ) 0 W')) -∗ K ⟨⟩))
          ⊢ wp frame (wpE (defs₀ (F := F)) Variants.none c none) Set.univ (body i b) K } := by
  refine ⟨(?_, ?_, ?_, [], [], ?_, ?_, ?_, [], ?_, ?_), fun xi9 xi10 W K => ?run⟩
  case run =>
    dsimp only
    simp only [body, cc0_ffn_bwd_eq_skeleton]; unfold cc0_ffn_bwd_skel
    simp only [k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton]
    unfold own any put cell owns
    iintro ⟨⟨%f0, %e0, H0⟩, ⟨%f1, %e1, H1⟩, ⟨%f2, %e2, H2⟩, ⟨%f3, %e3, H3⟩, ⟨%f4, %e4, H4⟩,
      ⟨%f5, %e5, H5⟩, ⟨%d6, %f6, -, H6⟩, ⟨%d7, %f7, -, H7⟩, ⟨%d8, %f8, -, H8⟩, ⟨%f9, %e9, H9⟩,
      ⟨%f10, %e10, H10⟩, ⟨%u0, %g0, -, S0⟩, ⟨%u1, %g1, -, S1⟩, ⟨%g2, %w2, S2⟩, ⟨%g3, %w3, S3⟩,
      ⟨%g4, %w4, S4⟩, ⟨%g5, %w5, S5⟩,
      Q0, Q1, Q2, Q3, HM, HW, Hk⟩
    obtain rfl := b.h1.eq_unread e0; obtain rfl := b.h2.eq_unread e1
    obtain rfl := b.h3.eq_unread e2; obtain rfl := b.h4.eq_unread e3
    obtain rfl := b.h5.eq_unread e4; obtain rfl := b.h7.eq_unread e5
    obtain rfl := b.h11.eq_unread e9; obtain rfl := b.h12.eq_unread e10
    obtain rfl := b.h15.eq_unread w2; obtain rfl := b.h16.eq_unread w3
    obtain rfl := b.h17.eq_unread w4; obtain rfl := b.h18.eq_unread w5
    sl_exec (disch := first | sl_exact hc0 | sl_exact hc1)
    sl_step
    iapply Hk
    isplitl [H0]
    · iexists _; isplitr; · ipureintro; exact b.h1.read_unread _
      iexact H0
    isplitl [H1]
    · iexists _; isplitr; · ipureintro; exact b.h2.read_unread _
      iexact H1
    isplitl [H2]
    · iexists _; isplitr; · ipureintro; exact b.h3.read_unread _
      iexact H2
    isplitl [H3]
    · iexists _; isplitr; · ipureintro; exact b.h4.read_unread _
      iexact H3
    isplitl [H4]
    · iexists _; isplitr; · ipureintro; exact b.h5.read_unread _
      iexact H4
    isplitl [H5]
    · iexists _; isplitr; · ipureintro; exact b.h7.read_unread _
      iexact H5
    isplitl [H6]; · iexists _; iexact H6
    isplitl [H7]; · iexists _; iexact H7
    isplitl [H8]; · iexists _; iexact H8
    isplitl [H9]
    · iexists _; isplitr; · ipureintro; exact b.h11.read_unread _
      iexact H9
    isplitl [H10]
    · iexists _; isplitr; · ipureintro; exact b.h12.read_unread _
      iexact H10
    isplitl [S0]; · iexists _; iexact S0
    isplitl [S1]; · iexists _; iexact S1
    isplitl [S2]; · iexists _; iexact S2
    isplitl [S3]; · iexists _; iexact S3
    isplitl [S4]; · iexact S4
    isplitl [S5]
    · iexists _; isplitr; · ipureintro; exact b.h18.read_unread _
      iexact S5
    isplitl [Q0]; · iexact Q0
    isplitl [Q1]; · iexact Q1
    isplitl [Q2]; · iexact Q2
    isplitl [Q3]; · iexact Q3
    isplitl [HM]; · iexact HM
    iexists _; iexact HW

end Cert.Kernel2Ideal.FfnBwd

end
-- ==== Proof.FfnRunLast.lean ====
/- The backward call of the channel mixer, its body at the last grid point. -/
module

public import proofs.«01_k».proof.Proof.FfnRunMid

@[expose] public section

set_option maxRecDepth 16384

noncomputable section

namespace Cert.Kernel2Ideal.FfnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 1000000 in
set_option sl_exec.dmaWindow true in
set_option sl_exec.dmaWindowSet true in
/-- At the last point the two sums are written out as well: the stores found, with the body's triple. -/
def runLast (c : Dev nD) (i : grid0.Coords) (b : Bufs) (hc0 : ¬cond0_0 i) (hc1 : cond0_1 i) (x : Ins F) (s : Held F)
    (fh : HbBuf0 (F := F) c hbM0_0) :
    { L : Stores F // ∀ (W : Waits sig Unit) (K : PUnit → sProp 𝕄),
        iprop(own c b.a1 x.x0 ∗ own c b.a2 x.x1 ∗ own c b.a3 x.x2 ∗ own c b.a4 x.x3 ∗ own c b.a5 x.x4 ∗
          own c b.a7 x.x5 ∗ any c b.a8 ∗ any c b.a9 ∗ any c b.a10 ∗ any c b.a11 ∗ any c b.a12 ∗ any c b.a13 ∗
          any c b.a14 ∗ own c b.a15 s.s2 ∗ own c b.a16 s.s3 ∗ own c b.a17 s.s4 ∗ own c b.a18 s.s5 ∗
          cell c 18 ∗ cell c 19 ∗ cell c 20 ∗ cell c 21 ∗ hbPt0 c hbM0_0 fh ∗ owes (c : Thread nD τ) 0 W
            ∗ (iprop(own c b.a1 x.x0 ∗ own c b.a2 x.x1 ∗ own c b.a3 x.x2 ∗ own c b.a4 x.x3 ∗ own c b.a5 x.x4 ∗
            own c b.a7 x.x5 ∗ put c b.a8 L.1 ∗ put c b.a9 L.2.1 ∗ put c b.a10 L.2.2.1 ∗ put c b.a11 L.2.2.2.1 ∗
            put c b.a12 L.2.2.2.2.1 ∗ put c b.a13 L.2.2.2.2.2.2.2.2.2.1 ∗ put c b.a14 L.2.2.2.2.2.2.2.2.2.2 ∗
            put c b.a15 L.2.2.2.2.2.1 ∗ put c b.a16 L.2.2.2.2.2.2.1 ∗
            (b.a17.view.loc (c : Thread nD τ) ↦[b.a17.view.set]{fullShare} b.a17.view.writes (Elt F) (b.h17.unread s.s4) L.2.2.2.2.2.2.2.1) ∗
            own c b.a18 s.s5 ∗ cell c 18 ∗ cell c 19 ∗ cell c 20 ∗ cell c 21 ∗ hbPt0 c hbM0_0 fh ∗
            (∃ W', owes (c : Thread nD τ) 0 W')) -∗ K ⟨⟩))
          ⊢ wp frame (wpE (defs₀ (F := F)) Variants.none c none) Set.univ (body i b) K } := by
  refine ⟨(?_, ?_, ?_, ?_, ?_, ?_, ?_, ?_, [], ?_, ?_), fun W K => ?run⟩
  case run =>
    dsimp only
    simp only [body, cc0_ffn_bwd_eq_skeleton]; unfold cc0_ffn_bwd_skel
    simp only [k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton]
    unfold own any put cell owns
    iintro ⟨⟨%f0, %e0, H0⟩, ⟨%f1, %e1, H1⟩, ⟨%f2, %e2, H2⟩, ⟨%f3, %e3, H3⟩, ⟨%f4, %e4, H4⟩,
      ⟨%f5, %e5, H5⟩, ⟨%d6, %f6, -, H6⟩, ⟨%d7, %f7, -, H7⟩, ⟨%d8, %f8, -, H8⟩, ⟨%d9, %f9, -, H9⟩,
      ⟨%d10, %f10, -, H10⟩, ⟨%u0, %g0, -, S0⟩, ⟨%u1, %g1, -, S1⟩, ⟨%g2, %w2, S2⟩, ⟨%g3, %w3, S3⟩,
      ⟨%g4, %w4, S4⟩, ⟨%g5, %w5, S5⟩,
      Q0, Q1, Q2, Q3, HM, HW, Hk⟩
    obtain rfl := b.h1.eq_unread e0; obtain rfl := b.h2.eq_unread e1
    obtain rfl := b.h3.eq_unread e2; obtain rfl := b.h4.eq_unread e3
    obtain rfl := b.h5.eq_unread e4; obtain rfl := b.h7.eq_unread e5
    obtain rfl := b.h15.eq_unread w2; obtain rfl := b.h16.eq_unread w3
    obtain rfl := b.h17.eq_unread w4; obtain rfl := b.h18.eq_unread w5
    sl_exec (disch := first | sl_exact hc0 | sl_exact hc1)
    sl_step
    iapply Hk
    isplitl [H0]
    · iexists _; isplitr; · ipureintro; exact b.h1.read_unread _
      iexact H0
    isplitl [H1]
    · iexists _; isplitr; · ipureintro; exact b.h2.read_unread _
      iexact H1
    isplitl [H2]
    · iexists _; isplitr; · ipureintro; exact b.h3.read_unread _
      iexact H2
    isplitl [H3]
    · iexists _; isplitr; · ipureintro; exact b.h4.read_unread _
      iexact H3
    isplitl [H4]
    · iexists _; isplitr; · ipureintro; exact b.h5.read_unread _
      iexact H4
    isplitl [H5]
    · iexists _; isplitr; · ipureintro; exact b.h7.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [S0]; · iexists _; iexact S0
    isplitl [S1]; · iexists _; iexact S1
    isplitl [S2]; · iexists _; iexact S2
    isplitl [S3]; · iexists _; iexact S3
    isplitl [S4]; · iexact S4
    isplitl [S5]
    · iexists _; isplitr; · ipureintro; exact b.h18.read_unread _
      iexact S5
    isplitl [Q0]; · iexact Q0
    isplitl [Q1]; · iexact Q1
    isplitl [Q2]; · iexact Q2
    isplitl [Q3]; · iexact Q3
    isplitl [HM]; · iexact HM
    iexists _; iexact HW

end Cert.Kernel2Ideal.FfnBwd

end
-- ==== Proof.FfnStep.lean ====
/- The backward call of the channel mixer: what each grid point leaves in the buffers. -/
module

public import proofs.«01_k».proof.Proof.FfnRunLast

@[expose] public section

set_option maxRecDepth 16384

noncomputable section

namespace Cert.Kernel2Ideal.FfnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What a point leaves: the five output blocks and the carried scratch. -/
structure Left (F : FTy → Type) where
  o6 : Vec F S256x1024 .bf16
  o7 : Vec F S256x2816 .bf16
  o8 : Vec F S256x5632 .bf16
  o9 : Vec F S1x1024 .f32
  o10 : Vec F S8x5632 .f32
  held : Held F

/-- A buffer that received stores covering it holds what they say, whatever it held before. -/
theorem own_of_put (c : Dev nD) {S : Shape} {e : EltTy} (a : Memref sig .tc .vmem S e) (L : Puts F S e)
    (h : ∀ y, ∃ p ∈ L, y ∈ p.1.set) : (put c a L : sProp 𝕄) ⊢ own c a (View.canon L) := by
  unfold put own owns
  iintro ⟨%f, H⟩
  iexists _; isplitr
  swap; · iexact H
  ipureintro; exact View.read_writes_eq_canon _ _ _ h

/-- A buffer that holds something holds anything. -/
theorem any_of_own (c : Dev nD) {S : Shape} {e : EltTy} (a : Memref sig .tc .vmem S e) (x : Vec F S e) :
    (own c a x : sProp 𝕄) ⊢ any c a := by
  unfold own any
  iintro H
  iexists _; iexact H

/-- A buffer written in parts, over something, holds something. -/
theorem any_of_put (c : Dev nD) {S : Shape} {e : EltTy} (a : Memref sig .tc .vmem S e) (L : Puts F S e) :
    (put c a L : sProp 𝕄) ⊢ any c a := by
  unfold put any owns
  iintro ⟨%f, H⟩
  iexists _, _; isplitr
  swap; · iexact H
  ipureintro; rfl

/-- What the first point leaves. -/
def leftFirst (c : Dev nD) (i : grid0.Coords) (b : Bufs) (hc0 : cond0_0 i) (hc1 : ¬cond0_1 i) (x : Ins F)
    (fh : HbBuf0 (F := F) c hbM0_0) : Left F where
  o6 := View.canon (runFirst c i b hc0 hc1 x fh).1.1
  o7 := View.canon (runFirst c i b hc0 hc1 x fh).1.2.1
  o8 := View.canon (runFirst c i b hc0 hc1 x fh).1.2.2.1
  o9 := View.canon (runFirst c i b hc0 hc1 x fh).1.2.2.2.1
  o10 := View.canon (runFirst c i b hc0 hc1 x fh).1.2.2.2.2.1
  held :=
    { s2 := View.canon (runFirst c i b hc0 hc1 x fh).1.2.2.2.2.2.1
      s3 := View.canon (runFirst c i b hc0 hc1 x fh).1.2.2.2.2.2.2.1
      s4 := View.canon (runFirst c i b hc0 hc1 x fh).1.2.2.2.2.2.2.2.1
      s5 := View.canon (runFirst c i b hc0 hc1 x fh).1.2.2.2.2.2.2.2.2.1 }

theorem coverFirst8 (c : Dev nD) (i : grid0.Coords) (b : Bufs) (hc0 : cond0_0 i) (hc1 : ¬cond0_1 i) (x : Ins F)
    (fh : HbBuf0 (F := F) c hbM0_0) :
    ∀ y, ∃ p ∈ (runFirst c i b hc0 hc1 x fh).1.1, y ∈ p.1.set :=
  View.cover_of_tiledL (runFirst c i b hc0 hc1 x fh).1.1 S256x1024.size (by sl_kernel_rfl)

theorem coverFirst9 (c : Dev nD) (i : grid0.Coords) (b : Bufs) (hc0 : cond0_0 i) (hc1 : ¬cond0_1 i) (x : Ins F)
    (fh : HbBuf0 (F := F) c hbM0_0) :
    ∀ y, ∃ p ∈ (runFirst c i b hc0 hc1 x fh).1.2.1, y ∈ p.1.set :=
  View.cover_of_tiledL (runFirst c i b hc0 hc1 x fh).1.2.1 S256x1408.size (by sl_kernel_rfl)

theorem coverFirst10 (c : Dev nD) (i : grid0.Coords) (b : Bufs) (hc0 : cond0_0 i) (hc1 : ¬cond0_1 i) (x : Ins F)
    (fh : HbBuf0 (F := F) c hbM0_0) :
    ∀ y, ∃ p ∈ (runFirst c i b hc0 hc1 x fh).1.2.2.1, y ∈ p.1.set :=
  View.cover_of_tiledL (runFirst c i b hc0 hc1 x fh).1.2.2.1 S256x1408.size (by sl_kernel_rfl)

theorem coverFirst15 (c : Dev nD) (i : grid0.Coords) (b : Bufs) (hc0 : cond0_0 i) (hc1 : ¬cond0_1 i) (x : Ins F)
    (fh : HbBuf0 (F := F) c hbM0_0) :
    ∀ y, ∃ p ∈ (runFirst c i b hc0 hc1 x fh).1.2.2.2.2.2.1, y ∈ p.1.set :=
  View.cover_of_tiledL (runFirst c i b hc0 hc1 x fh).1.2.2.2.2.2.1 S16x5632.size (by sl_kernel_rfl)

theorem coverFirst16 (c : Dev nD) (i : grid0.Coords) (b : Bufs) (hc0 : cond0_0 i) (hc1 : ¬cond0_1 i) (x : Ins F)
    (fh : HbBuf0 (F := F) c hbM0_0) :
    ∀ y, ∃ p ∈ (runFirst c i b hc0 hc1 x fh).1.2.2.2.2.2.2.1, y ∈ p.1.set :=
  View.cover_of_tiledL (runFirst c i b hc0 hc1 x fh).1.2.2.2.2.2.2.1 S8x1024.size (by sl_kernel_rfl)

theorem coverFirst17 (c : Dev nD) (i : grid0.Coords) (b : Bufs) (hc0 : cond0_0 i) (hc1 : ¬cond0_1 i) (x : Ins F)
    (fh : HbBuf0 (F := F) c hbM0_0) :
    ∀ y, ∃ p ∈ (runFirst c i b hc0 hc1 x fh).1.2.2.2.2.2.2.2.1, y ∈ p.1.set :=
  View.cover_of_wholeMem (runFirst c i b hc0 hc1 x fh).1.2.2.2.2.2.2.2.1 (by sl_whole_mem)

theorem coverFirst18 (c : Dev nD) (i : grid0.Coords) (b : Bufs) (hc0 : cond0_0 i) (hc1 : ¬cond0_1 i) (x : Ins F)
    (fh : HbBuf0 (F := F) c hbM0_0) :
    ∀ y, ∃ p ∈ (runFirst c i b hc0 hc1 x fh).1.2.2.2.2.2.2.2.2.1, y ∈ p.1.set :=
  View.cover_of_tiledL (runFirst c i b hc0 hc1 x fh).1.2.2.2.2.2.2.2.2.1 S704x1024.size (by sl_kernel_rfl)

/-- The body's triple with what the first point leaves named. -/
theorem stepFirst (c : Dev nD) (i : grid0.Coords) (b : Bufs) (hc0 : cond0_0 i) (hc1 : ¬cond0_1 i) (x : Ins F)
    (fh : HbBuf0 (F := F) c hbM0_0)
    (y11 : Vec F S1x1024 .f32) (y12 : Vec F S8x5632 .f32) (W : Waits sig Unit)
    (K : PUnit → sProp 𝕄) :
    iprop(own c b.a1 x.x0 ∗ own c b.a2 x.x1 ∗ own c b.a3 x.x2 ∗ own c b.a4 x.x3 ∗ own c b.a5 x.x4 ∗ own c b.a7 x.x5 ∗
      any c b.a8 ∗ any c b.a9 ∗ any c b.a10 ∗ own c b.a11 y11 ∗ own c b.a12 y12 ∗ any c b.a13 ∗ any c b.a14 ∗
      any c b.a15 ∗ any c b.a16 ∗ any c b.a17 ∗ any c b.a18 ∗ cell c 18 ∗ cell c 19 ∗ cell c 20 ∗ cell c 21 ∗
      hbPt0 c hbM0_0 fh ∗ owes (c : Thread nD τ) 0 W
        ∗ (iprop(own c b.a1 x.x0 ∗ own c b.a2 x.x1 ∗ own c b.a3 x.x2 ∗ own c b.a4 x.x3 ∗ own c b.a5 x.x4 ∗ own c b.a7 x.x5 ∗
          own c b.a8 (leftFirst c i b hc0 hc1 x fh).o6 ∗ own c b.a9 (leftFirst c i b hc0 hc1 x fh).o7 ∗
          own c b.a10 (leftFirst c i b hc0 hc1 x fh).o8 ∗ own c b.a11 y11 ∗ own c b.a12 y12 ∗ any c b.a13 ∗
          any c b.a14 ∗ own c b.a15 (leftFirst c i b hc0 hc1 x fh).held.s2 ∗
          own c b.a16 (leftFirst c i b hc0 hc1 x fh).held.s3 ∗ own c b.a17 (leftFirst c i b hc0 hc1 x fh).held.s4 ∗
          own c b.a18 (leftFirst c i b hc0 hc1 x fh).held.s5 ∗ cell c 18 ∗ cell c 19 ∗ cell c 20 ∗ cell c 21 ∗
          hbPt0 c hbM0_0 fh ∗ (∃ W', owes (c : Thread nD τ) 0 W')) -∗ K ⟨⟩))
      ⊢ wp frame (wpE (defs₀ (F := F)) Variants.none c none) Set.univ (body i b) K := by
  dsimp only [leftFirst]
  iintro ⟨H0, H1, H2, H3, H4, H5, H6, H7, H8, H9, H10, S0, S1, S2, S3, S4, S5, Q0, Q1, Q2, Q3, HM, HW, Hk⟩
  iapply ((runFirst c i b hc0 hc1 x fh).2 _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [Q0]; · iexact Q0
  isplitl [Q1]; · iexact Q1
  isplitl [Q2]; · iexact Q2
  isplitl [Q3]; · iexact Q3
  isplitl [HM]; · iexact HM
  isplitl [HW]; · iexact HW
  iintro ⟨H0, H1, H2, H3, H4, H5, H6, H7, H8, H9, H10, S0, S1, S2, S3, S4, S5, Q0, Q1, Q2, Q3, HM, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (own_of_put c b.a8 _ (coverFirst8 c i b hc0 hc1 x fh)); iexact H6
  isplitl [H7]; · iapply (own_of_put c b.a9 _ (coverFirst9 c i b hc0 hc1 x fh)); iexact H7
  isplitl [H8]; · iapply (own_of_put c b.a10 _ (coverFirst10 c i b hc0 hc1 x fh)); iexact H8
  isplitl [H9]; · iexact H9
  isplitl [H10]; · iexact H10
  isplitl [S0]; · iapply (any_of_put c b.a13 _); iexact S0
  isplitl [S1]; · iapply (any_of_put c b.a14 _); iexact S1
  isplitl [S2]; · iapply (own_of_put c b.a15 _ (coverFirst15 c i b hc0 hc1 x fh)); iexact S2
  isplitl [S3]; · iapply (own_of_put c b.a16 _ (coverFirst16 c i b hc0 hc1 x fh)); iexact S3
  isplitl [S4]; · iapply (own_of_put c b.a17 _ (coverFirst17 c i b hc0 hc1 x fh)); iexact S4
  isplitl [S5]; · iapply (own_of_put c b.a18 _ (coverFirst18 c i b hc0 hc1 x fh)); iexact S5
  isplitl [Q0]; · iexact Q0
  isplitl [Q1]; · iexact Q1
  isplitl [Q2]; · iexact Q2
  isplitl [Q3]; · iexact Q3
  isplitl [HM]; · iexact HM
  iexact HW

/-- What a middle point leaves, over what the point before left. -/
def leftMid (c : Dev nD) (i : grid0.Coords) (b : Bufs) (hc0 : ¬cond0_0 i) (hc1 : ¬cond0_1 i) (x : Ins F) (s : Held F)
    (fh : HbBuf0 (F := F) c hbM0_0) : Left F where
  o6 := View.canon (runMid c i b hc0 hc1 x s fh).1.1
  o7 := View.canon (runMid c i b hc0 hc1 x s fh).1.2.1
  o8 := View.canon (runMid c i b hc0 hc1 x s fh).1.2.2.1
  o9 := View.canon (runMid c i b hc0 hc1 x s fh).1.2.2.2.1
  o10 := View.canon (runMid c i b hc0 hc1 x s fh).1.2.2.2.2.1
  held :=
    { s2 := View.canon (runMid c i b hc0 hc1 x s fh).1.2.2.2.2.2.1
      s3 := View.canon (runMid c i b hc0 hc1 x s fh).1.2.2.2.2.2.2.1
      s4 := b.a17.view.read (Elt F) (b.a17.view.writes (Elt F) (b.h17.unread s.s4) (runMid c i b hc0 hc1 x s fh).1.2.2.2.2.2.2.2.1)
      s5 := s.s5 }

theorem coverMid8 (c : Dev nD) (i : grid0.Coords) (b : Bufs) (hc0 : ¬cond0_0 i) (hc1 : ¬cond0_1 i) (x : Ins F) (s : Held F)
    (fh : HbBuf0 (F := F) c hbM0_0) :
    ∀ y, ∃ p ∈ (runMid c i b hc0 hc1 x s fh).1.1, y ∈ p.1.set :=
  View.cover_of_tiledL (runMid c i b hc0 hc1 x s fh).1.1 S256x1024.size (by sl_kernel_rfl)

theorem coverMid9 (c : Dev nD) (i : grid0.Coords) (b : Bufs) (hc0 : ¬cond0_0 i) (hc1 : ¬cond0_1 i) (x : Ins F) (s : Held F)
    (fh : HbBuf0 (F := F) c hbM0_0) :
    ∀ y, ∃ p ∈ (runMid c i b hc0 hc1 x s fh).1.2.1, y ∈ p.1.set :=
  View.cover_of_tiledL (runMid c i b hc0 hc1 x s fh).1.2.1 S256x1408.size (by sl_kernel_rfl)

theorem coverMid10 (c : Dev nD) (i : grid0.Coords) (b : Bufs) (hc0 : ¬cond0_0 i) (hc1 : ¬cond0_1 i) (x : Ins F) (s : Held F)
    (fh : HbBuf0 (F := F) c hbM0_0) :
    ∀ y, ∃ p ∈ (runMid c i b hc0 hc1 x s fh).1.2.2.1, y ∈ p.1.set :=
  View.cover_of_tiledL (runMid c i b hc0 hc1 x s fh).1.2.2.1 S256x1408.size (by sl_kernel_rfl)

theorem coverMid15 (c : Dev nD) (i : grid0.Coords) (b : Bufs) (hc0 : ¬cond0_0 i) (hc1 : ¬cond0_1 i) (x : Ins F) (s : Held F)
    (fh : HbBuf0 (F := F) c hbM0_0) :
    ∀ y, ∃ p ∈ (runMid c i b hc0 hc1 x s fh).1.2.2.2.2.2.1, y ∈ p.1.set :=
  View.cover_of_tiledL (runMid c i b hc0 hc1 x s fh).1.2.2.2.2.2.1 S16x5632.size (by sl_kernel_rfl)

theorem coverMid16 (c : Dev nD) (i : grid0.Coords) (b : Bufs) (hc0 : ¬cond0_0 i) (hc1 : ¬cond0_1 i) (x : Ins F) (s : Held F)
    (fh : HbBuf0 (F := F) c hbM0_0) :
    ∀ y, ∃ p ∈ (runMid c i b hc0 hc1 x s fh).1.2.2.2.2.2.2.1, y ∈ p.1.set :=
  View.cover_of_tiledL (runMid c i b hc0 hc1 x s fh).1.2.2.2.2.2.2.1 S8x1024.size (by sl_kernel_rfl)

/-- The body's triple with what a middle point leaves named. -/
theorem stepMid (c : Dev nD) (i : grid0.Coords) (b : Bufs) (hc0 : ¬cond0_0 i) (hc1 : ¬cond0_1 i) (x : Ins F) (s : Held F)
    (fh : HbBuf0 (F := F) c hbM0_0)
    (y11 : Vec F S1x1024 .f32) (y12 : Vec F S8x5632 .f32) (W : Waits sig Unit)
    (K : PUnit → sProp 𝕄) :
    iprop(own c b.a1 x.x0 ∗ own c b.a2 x.x1 ∗ own c b.a3 x.x2 ∗ own c b.a4 x.x3 ∗ own c b.a5 x.x4 ∗ own c b.a7 x.x5 ∗
      any c b.a8 ∗ any c b.a9 ∗ any c b.a10 ∗ own c b.a11 y11 ∗ own c b.a12 y12 ∗ any c b.a13 ∗ any c b.a14 ∗
      own c b.a15 s.s2 ∗ own c b.a16 s.s3 ∗ own c b.a17 s.s4 ∗ own c b.a18 s.s5 ∗ cell c 18 ∗ cell c 19 ∗
      cell c 20 ∗ cell c 21 ∗ hbPt0 c hbM0_0 fh ∗ owes (c : Thread nD τ) 0 W
        ∗ (iprop(own c b.a1 x.x0 ∗ own c b.a2 x.x1 ∗ own c b.a3 x.x2 ∗ own c b.a4 x.x3 ∗ own c b.a5 x.x4 ∗ own c b.a7 x.x5 ∗
          own c b.a8 (leftMid c i b hc0 hc1 x s fh).o6 ∗ own c b.a9 (leftMid c i b hc0 hc1 x s fh).o7 ∗
          own c b.a10 (leftMid c i b hc0 hc1 x s fh).o8 ∗ own c b.a11 y11 ∗ own c b.a12 y12 ∗ any c b.a13 ∗
          any c b.a14 ∗ own c b.a15 (leftMid c i b hc0 hc1 x s fh).held.s2 ∗
          own c b.a16 (leftMid c i b hc0 hc1 x s fh).held.s3 ∗ own c b.a17 (leftMid c i b hc0 hc1 x s fh).held.s4 ∗
          own c b.a18 (leftMid c i b hc0 hc1 x s fh).held.s5 ∗ cell c 18 ∗ cell c 19 ∗ cell c 20 ∗ cell c 21 ∗
          hbPt0 c hbM0_0 fh ∗ (∃ W', owes (c : Thread nD τ) 0 W')) -∗ K ⟨⟩))
      ⊢ wp frame (wpE (defs₀ (F := F)) Variants.none c none) Set.univ (body i b) K := by
  dsimp only [leftMid]
  iintro ⟨H0, H1, H2, H3, H4, H5, H6, H7, H8, H9, H10, S0, S1, S2, S3, S4, S5, Q0, Q1, Q2, Q3, HM, HW, Hk⟩
  iapply ((runMid c i b hc0 hc1 x s fh).2 _ _ W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [Q0]; · iexact Q0
  isplitl [Q1]; · iexact Q1
  isplitl [Q2]; · iexact Q2
  isplitl [Q3]; · iexact Q3
  isplitl [HM]; · iexact HM
  isplitl [HW]; · iexact HW
  iintro ⟨H0, H1, H2, H3, H4, H5, H6, H7, H8, H9, H10, S0, S1, S2, S3, S4, S5, Q0, Q1, Q2, Q3, HM, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (own_of_put c b.a8 _ (coverMid8 c i b hc0 hc1 x s fh)); iexact H6
  isplitl [H7]; · iapply (own_of_put c b.a9 _ (coverMid9 c i b hc0 hc1 x s fh)); iexact H7
  isplitl [H8]; · iapply (own_of_put c b.a10 _ (coverMid10 c i b hc0 hc1 x s fh)); iexact H8
  isplitl [H9]; · iexact H9
  isplitl [H10]; · iexact H10
  isplitl [S0]; · iapply (any_of_put c b.a13 _); iexact S0
  isplitl [S1]; · iapply (any_of_put c b.a14 _); iexact S1
  isplitl [S2]; · iapply (own_of_put c b.a15 _ (coverMid15 c i b hc0 hc1 x s fh)); iexact S2
  isplitl [S3]; · iapply (own_of_put c b.a16 _ (coverMid16 c i b hc0 hc1 x s fh)); iexact S3
  isplitl [S4]
  · unfold own owns; iexists _; isplitr
    swap; · iexact S4
    ipureintro; rfl
  isplitl [S5]; · iexact S5
  isplitl [Q0]; · iexact Q0
  isplitl [Q1]; · iexact Q1
  isplitl [Q2]; · iexact Q2
  isplitl [Q3]; · iexact Q3
  isplitl [HM]; · iexact HM
  iexact HW

/-- What the last point leaves, over what the point before left. -/
def leftLast (c : Dev nD) (i : grid0.Coords) (b : Bufs) (hc0 : ¬cond0_0 i) (hc1 : cond0_1 i) (x : Ins F) (s : Held F)
    (fh : HbBuf0 (F := F) c hbM0_0) : Left F where
  o6 := View.canon (runLast c i b hc0 hc1 x s fh).1.1
  o7 := View.canon (runLast c i b hc0 hc1 x s fh).1.2.1
  o8 := View.canon (runLast c i b hc0 hc1 x s fh).1.2.2.1
  o9 := View.canon (runLast c i b hc0 hc1 x s fh).1.2.2.2.1
  o10 := View.canon (runLast c i b hc0 hc1 x s fh).1.2.2.2.2.1
  held :=
    { s2 := View.canon (runLast c i b hc0 hc1 x s fh).1.2.2.2.2.2.1
      s3 := View.canon (runLast c i b hc0 hc1 x s fh).1.2.2.2.2.2.2.1
      s4 := b.a17.view.read (Elt F) (b.a17.view.writes (Elt F) (b.h17.unread s.s4) (runLast c i b hc0 hc1 x s fh).1.2.2.2.2.2.2.2.1)
      s5 := s.s5 }

theorem coverLast8 (c : Dev nD) (i : grid0.Coords) (b : Bufs) (hc0 : ¬cond0_0 i) (hc1 : cond0_1 i) (x : Ins F) (s : Held F)
    (fh : HbBuf0 (F := F) c hbM0_0) :
    ∀ y, ∃ p ∈ (runLast c i b hc0 hc1 x s fh).1.1, y ∈ p.1.set :=
  View.cover_of_tiledL (runLast c i b hc0 hc1 x s fh).1.1 S256x1024.size (by sl_kernel_rfl)

theorem coverLast9 (c : Dev nD) (i : grid0.Coords) (b : Bufs) (hc0 : ¬cond0_0 i) (hc1 : cond0_1 i) (x : Ins F) (s : Held F)
    (fh : HbBuf0 (F := F) c hbM0_0) :
    ∀ y, ∃ p ∈ (runLast c i b hc0 hc1 x s fh).1.2.1, y ∈ p.1.set :=
  View.cover_of_tiledL (runLast c i b hc0 hc1 x s fh).1.2.1 S256x1408.size (by sl_kernel_rfl)

theorem coverLast10 (c : Dev nD) (i : grid0.Coords) (b : Bufs) (hc0 : ¬cond0_0 i) (hc1 : cond0_1 i) (x : Ins F) (s : Held F)
    (fh : HbBuf0 (F := F) c hbM0_0) :
    ∀ y, ∃ p ∈ (runLast c i b hc0 hc1 x s fh).1.2.2.1, y ∈ p.1.set :=
  View.cover_of_tiledL (runLast c i b hc0 hc1 x s fh).1.2.2.1 S256x1408.size (by sl_kernel_rfl)

theorem coverLast11 (c : Dev nD) (i : grid0.Coords) (b : Bufs) (hc0 : ¬cond0_0 i) (hc1 : cond0_1 i) (x : Ins F) (s : Held F)
    (fh : HbBuf0 (F := F) c hbM0_0) :
    ∀ y, ∃ p ∈ (runLast c i b hc0 hc1 x s fh).1.2.2.2.1, y ∈ p.1.set :=
  View.cover_of_tiledL (runLast c i b hc0 hc1 x s fh).1.2.2.2.1 S1x1024.size (by sl_kernel_rfl)

theorem coverLast12 (c : Dev nD) (i : grid0.Coords) (b : Bufs) (hc0 : ¬cond0_0 i) (hc1 : cond0_1 i) (x : Ins F) (s : Held F)
    (fh : HbBuf0 (F := F) c hbM0_0) :
    ∀ y, ∃ p ∈ (runLast c i b hc0 hc1 x s fh).1.2.2.2.2.1, y ∈ p.1.set :=
  View.cover_of_tiledL (runLast c i b hc0 hc1 x s fh).1.2.2.2.2.1 S8x5632.size (by sl_kernel_rfl)

theorem coverLast15 (c : Dev nD) (i : grid0.Coords) (b : Bufs) (hc0 : ¬cond0_0 i) (hc1 : cond0_1 i) (x : Ins F) (s : Held F)
    (fh : HbBuf0 (F := F) c hbM0_0) :
    ∀ y, ∃ p ∈ (runLast c i b hc0 hc1 x s fh).1.2.2.2.2.2.1, y ∈ p.1.set :=
  View.cover_of_tiledL (runLast c i b hc0 hc1 x s fh).1.2.2.2.2.2.1 S16x5632.size (by sl_kernel_rfl)

theorem coverLast16 (c : Dev nD) (i : grid0.Coords) (b : Bufs) (hc0 : ¬cond0_0 i) (hc1 : cond0_1 i) (x : Ins F) (s : Held F)
    (fh : HbBuf0 (F := F) c hbM0_0) :
    ∀ y, ∃ p ∈ (runLast c i b hc0 hc1 x s fh).1.2.2.2.2.2.2.1, y ∈ p.1.set :=
  View.cover_of_tiledL (runLast c i b hc0 hc1 x s fh).1.2.2.2.2.2.2.1 S8x1024.size (by sl_kernel_rfl)

/-- The body's triple with what the last point leaves named. -/
theorem stepLast (c : Dev nD) (i : grid0.Coords) (b : Bufs) (hc0 : ¬cond0_0 i) (hc1 : cond0_1 i) (x : Ins F) (s : Held F)
    (fh : HbBuf0 (F := F) c hbM0_0) (W : Waits sig Unit)
    (K : PUnit → sProp 𝕄) :
    iprop(own c b.a1 x.x0 ∗ own c b.a2 x.x1 ∗ own c b.a3 x.x2 ∗ own c b.a4 x.x3 ∗ own c b.a5 x.x4 ∗ own c b.a7 x.x5 ∗
      any c b.a8 ∗ any c b.a9 ∗ any c b.a10 ∗ any c b.a11 ∗ any c b.a12 ∗ any c b.a13 ∗ any c b.a14 ∗
      own c b.a15 s.s2 ∗ own c b.a16 s.s3 ∗ own c b.a17 s.s4 ∗ own c b.a18 s.s5 ∗ cell c 18 ∗ cell c 19 ∗
      cell c 20 ∗ cell c 21 ∗ hbPt0 c hbM0_0 fh ∗ owes (c : Thread nD τ) 0 W
        ∗ (iprop(own c b.a1 x.x0 ∗ own c b.a2 x.x1 ∗ own c b.a3 x.x2 ∗ own c b.a4 x.x3 ∗ own c b.a5 x.x4 ∗ own c b.a7 x.x5 ∗
          own c b.a8 (leftLast c i b hc0 hc1 x s fh).o6 ∗ own c b.a9 (leftLast c i b hc0 hc1 x s fh).o7 ∗
          own c b.a10 (leftLast c i b hc0 hc1 x s fh).o8 ∗ own c b.a11 (leftLast c i b hc0 hc1 x s fh).o9 ∗
          own c b.a12 (leftLast c i b hc0 hc1 x s fh).o10 ∗ any c b.a13 ∗ any c b.a14 ∗
          own c b.a15 (leftLast c i b hc0 hc1 x s fh).held.s2 ∗ own c b.a16 (leftLast c i b hc0 hc1 x s fh).held.s3 ∗
          own c b.a17 (leftLast c i b hc0 hc1 x s fh).held.s4 ∗ own c b.a18 (leftLast c i b hc0 hc1 x s fh).held.s5 ∗
          cell c 18 ∗ cell c 19 ∗ cell c 20 ∗ cell c 21 ∗ hbPt0 c hbM0_0 fh ∗ (∃ W', owes (c : Thread nD τ) 0 W')) -∗ K ⟨⟩))
      ⊢ wp frame (wpE (defs₀ (F := F)) Variants.none c none) Set.univ (body i b) K := by
  dsimp only [leftLast]
  iintro ⟨H0, H1, H2, H3, H4, H5, H6, H7, H8, H9, H10, S0, S1, S2, S3, S4, S5, Q0, Q1, Q2, Q3, HM, HW, Hk⟩
  iapply ((runLast c i b hc0 hc1 x s fh).2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [Q0]; · iexact Q0
  isplitl [Q1]; · iexact Q1
  isplitl [Q2]; · iexact Q2
  isplitl [Q3]; · iexact Q3
  isplitl [HM]; · iexact HM
  isplitl [HW]; · iexact HW
  iintro ⟨H0, H1, H2, H3, H4, H5, H6, H7, H8, H9, H10, S0, S1, S2, S3, S4, S5, Q0, Q1, Q2, Q3, HM, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iapply (own_of_put c b.a8 _ (coverLast8 c i b hc0 hc1 x s fh)); iexact H6
  isplitl [H7]; · iapply (own_of_put c b.a9 _ (coverLast9 c i b hc0 hc1 x s fh)); iexact H7
  isplitl [H8]; · iapply (own_of_put c b.a10 _ (coverLast10 c i b hc0 hc1 x s fh)); iexact H8
  isplitl [H9]; · iapply (own_of_put c b.a11 _ (coverLast11 c i b hc0 hc1 x s fh)); iexact H9
  isplitl [H10]; · iapply (own_of_put c b.a12 _ (coverLast12 c i b hc0 hc1 x s fh)); iexact H10
  isplitl [S0]; · iapply (any_of_put c b.a13 _); iexact S0
  isplitl [S1]; · iapply (any_of_put c b.a14 _); iexact S1
  isplitl [S2]; · iapply (own_of_put c b.a15 _ (coverLast15 c i b hc0 hc1 x s fh)); iexact S2
  isplitl [S3]; · iapply (own_of_put c b.a16 _ (coverLast16 c i b hc0 hc1 x s fh)); iexact S3
  isplitl [S4]
  · unfold own owns; iexists _; isplitr
    swap; · iexact S4
    ipureintro; rfl
  isplitl [S5]; · iexact S5
  isplitl [Q0]; · iexact Q0
  isplitl [Q1]; · iexact Q1
  isplitl [Q2]; · iexact Q2
  isplitl [Q3]; · iexact Q3
  isplitl [HM]; · iexact HM
  iexact HW

end Cert.Kernel2Ideal.FfnBwd

end
-- ==== Proof.FfnFrame.lean ====
/- The backward call of the channel mixer: the grid point by point, the launch, and the frame. -/
module

public import proofs.«01_k».proof.Proof.FfnStep
public import Idealize.ShloMosaic.Lib.Claim

@[expose] public section

set_option maxRecDepth 16384

noncomputable section

namespace Cert.Kernel2Ideal.FfnBwd

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers at point `t`. -/
abbrev bufs (t : Fin cfg0.N) : Bufs where
  a1 := ms0_0 t
  h1 := hs0_0 t
  a2 := ms0_1 t
  h2 := hs0_1 t
  a3 := ms0_2 t
  h3 := hs0_2 t
  a4 := ms0_3 t
  h4 := hs0_3 t
  a5 := ms0_4 t
  h5 := hs0_4 t
  a7 := ms0_5 t
  h7 := hs0_5 t
  a8 := ms0_6 t
  h8 := hs0_6 t
  a9 := ms0_7 t
  h9 := hs0_7 t
  a10 := ms0_8 t
  h10 := hs0_8 t
  a11 := ms0_9 t
  h11 := hs0_9 t
  a12 := ms0_10 t
  h12 := hs0_10 t
  a13 := scM0_0
  h13 := Memref.isWhole_whole _
  a14 := scM0_1
  h14 := Memref.isWhole_whole _
  a15 := scM0_2
  h15 := Memref.isWhole_whole _
  a16 := scM0_3
  h16 := Memref.isWhole_whole _
  a17 := scM0_4
  h17 := Memref.isWhole_whole _
  a18 := scM0_5
  h18 := Memref.isWhole_whole _

/-- The blocks staged in at point `t`. -/
abbrev ins (c : Dev nD) (t : Fin cfg0.N) : Ins F :=
  ⟨iblk m c 0 t, iblk m c 1 t, iblk m c 2 t, iblk m c 3 t, iblk m c 4 t, iblk m c 5 t⟩

theorem lt16 (t : Fin cfg0.N) : t.val < 16 := lt_of_lt_of_eq t.isLt N_0

theorem cond_first (t : Fin cfg0.N) (h : t.val = 0) : cond0_0 (grid0.coords t) := (hcond0_0 t).mpr (by omega)

theorem cond_not_first (t : Fin cfg0.N) (h : ¬t.val = 0) : ¬cond0_0 (grid0.coords t) := fun e => by
  have := (hcond0_0 t).mp e; have := lt16 t; omega

theorem cond_last (t : Fin cfg0.N) (h : t.val = 15) : cond0_1 (grid0.coords t) := (hcond0_1 t).mpr (by omega)

theorem cond_not_last (t : Fin cfg0.N) (h : ¬t.val = 15) : ¬cond0_1 (grid0.coords t) := fun e => by
  have := (hcond0_1 t).mp e; have := lt16 t; omega

/-- What point `n` leaves, over what the point before it left. -/
def leftAt (c : Dev nD) : (n : ℕ) → n < cfg0.N → Left F
  | 0, h => leftFirst c (grid0.coords ⟨0, h⟩) (bufs ⟨0, h⟩) (cond_first ⟨0, h⟩ rfl) (cond_not_last ⟨0, h⟩ (by decide : ¬(0 = 15)))
      (ins m c ⟨0, h⟩) (V m c main_v36)
  | n + 1, h =>
    if e : n + 1 = 15 then
      leftLast c (grid0.coords ⟨n + 1, h⟩) (bufs ⟨n + 1, h⟩) (cond_not_first ⟨n + 1, h⟩ (Nat.succ_ne_zero n)) (cond_last ⟨n + 1, h⟩ e)
        (ins m c ⟨n + 1, h⟩) (leftAt c n (Nat.lt_of_succ_lt h)).held (V m c main_v36)
    else
      leftMid c (grid0.coords ⟨n + 1, h⟩) (bufs ⟨n + 1, h⟩) (cond_not_first ⟨n + 1, h⟩ (Nat.succ_ne_zero n)) (cond_not_last ⟨n + 1, h⟩ e)
        (ins m c ⟨n + 1, h⟩) (leftAt c n (Nat.lt_of_succ_lt h)).held (V m c main_v36)

/-- What the point before `t` left. -/
abbrev before (c : Dev nD) (t : Fin cfg0.N) : Held F := (leftAt m c (t.val - 1) (Nat.lt_of_le_of_lt (Nat.sub_le _ _) t.isLt)).held

theorem leftAt_first (c : Dev nD) (t : Fin cfg0.N) (h0 : t.val = 0) (h1 : ¬t.val = 15) :
    leftAt m c t.val t.isLt = leftFirst c (grid0.coords t) (bufs t) (cond_first t h0) (cond_not_last t h1) (ins m c t) (V m c main_v36) := by
  obtain ⟨n, hn⟩ := t
  cases n with
  | zero => rfl
  | succ n => exact absurd h0 (Nat.succ_ne_zero n)

theorem leftAt_mid (c : Dev nD) (t : Fin cfg0.N) (h0 : ¬t.val = 0) (h1 : ¬t.val = 15) :
    leftAt m c t.val t.isLt = leftMid c (grid0.coords t) (bufs t) (cond_not_first t h0) (cond_not_last t h1) (ins m c t) (before m c t)
      (V m c main_v36) := by
  obtain ⟨n, hn⟩ := t
  cases n with
  | zero => exact absurd rfl h0
  | succ n => exact dif_neg h1

theorem leftAt_last (c : Dev nD) (t : Fin cfg0.N) (h0 : ¬t.val = 0) (h1 : t.val = 15) :
    leftAt m c t.val t.isLt = leftLast c (grid0.coords t) (bufs t) (cond_not_first t h0) (cond_last t h1) (ins m c t) (before m c t)
      (V m c main_v36) := by
  obtain ⟨n, hn⟩ := t
  cases n with
  | zero => exact absurd rfl h0
  | succ n => exact dif_pos h1

/-- The scratch buffers with the carried ones at `s`, the generator register, the copies' counters and the weight. -/
def carried (c : Dev nD) (s : Held F) : sProp 𝕄 :=
  iprop(iprop(any c scM0_0 ∗ any c scM0_1 ∗ own c scM0_2 s.s2 ∗ own c scM0_3 s.s3 ∗ own c scM0_4 s.s4 ∗ own c scM0_5 s.s5)
    ∗ (∃ r, prngReg c r) ∗ iprop(cell c 18 ∗ cell c 19 ∗ cell c 20 ∗ cell c 21) ∗ iprop(hbPt0 c hbM0_0 (V m c main_v36)))

/-- The same with every scratch buffer at anything. -/
def fresh (c : Dev nD) : sProp 𝕄 :=
  iprop(iprop(any c scM0_0 ∗ any c scM0_1 ∗ any c scM0_2 ∗ any c scM0_3 ∗ any c scM0_4 ∗ any c scM0_5)
    ∗ (∃ r, prngReg c r) ∗ iprop(cell c 18 ∗ cell c 19 ∗ cell c 20 ∗ cell c 21) ∗ iprop(hbPt0 c hbM0_0 (V m c main_v36)))

/-- What holds between the points: before the first the launch's, afterwards the carried scratch at what was left. -/
def inv (c : Dev nD) : (n : ℕ) → n ≤ cfg0.N → sProp 𝕄
  | 0, _ => Pipeline.ΦD osem0 spec0 H0 (V m) c
  | n + 1, h => carried m c (leftAt m c n h).held

theorem inv_first (c : Dev nD) (n : ℕ) (h : n ≤ cfg0.N) (e : n = 0) : inv m c n h = fresh m c := by
  subst e; exact PhiD0_eq m c

theorem inv_later (c : Dev nD) (n : ℕ) (h : n ≤ cfg0.N) (e : ¬n = 0) :
    inv m c n h = carried m c (leftAt m c (n - 1) (by omega)).held := by
  cases n with
  | zero => exact absurd rfl e
  | succ n => rfl

/-- The pipeline's data: each input's buffer at its block, each output's at what the point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (leftAt m c t.val t.isLt).o6
    | ⟨7, _⟩ => (leftAt m c t.val t.isLt).o7
    | ⟨8, _⟩ => (leftAt m c t.val t.isLt).o8
    | ⟨9, _⟩ => (leftAt m c t.val t.isLt).o9
    | ⟨10, _⟩ => (leftAt m c t.val t.isLt).o10
  Φ t := inv m c t.val (Nat.le_of_lt_succ t.isLt)
  q w := Pipeline.shareOf spec0 w
  owed _ := 0

theorem arr_eq (c : Dev nD) (w : Fin cfg0.W) : (dats m 0 c).A w = V m c (Pipeline.arrRef spec0 w) := by dsimp only [dats]

theorem inv_here (c : Dev nD) (t : Fin cfg0.N) : (dats m 0 c).Φ t.castSucc = inv m c t.val (Nat.le_of_lt t.isLt) := by
  dsimp only [dats]; exact Pipeline.Dat.Φ_castSucc (inv m c) t

theorem inv_next (c : Dev nD) (t : Fin cfg0.N) : (dats m 0 c).Φ t.succ = carried m c (leftAt m c t.val t.isLt).held := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (leftAt m c t.val t.isLt).o6 := by dsimp only [dats]
theorem after7 (c : Dev nD) (t : Fin cfg0.N) : (dats m 0 c).after 7 t = (leftAt m c t.val t.isLt).o7 := by dsimp only [dats]
theorem after8 (c : Dev nD) (t : Fin cfg0.N) : (dats m 0 c).after 8 t = (leftAt m c t.val t.isLt).o8 := by dsimp only [dats]
theorem after9 (c : Dev nD) (t : Fin cfg0.N) : (dats m 0 c).after 9 t = (leftAt m c t.val t.isLt).o9 := by dsimp only [dats]
theorem after10 (c : Dev nD) (t : Fin cfg0.N) : (dats m 0 c).after 10 t = (leftAt m c t.val t.isLt).o10 := by dsimp only [dats]

theorem block0 (c : Dev nD) (t : Fin cfg0.N) (d) : (dats m 0 c).before 0 t d = iblk m c 0 t :=
  before0_0_of m (dats m 0 c) (arr_eq m c 0) (after0 m c) t d
theorem block1 (c : Dev nD) (t : Fin cfg0.N) (d) : (dats m 0 c).before 1 t d = iblk m c 1 t :=
  before0_1_of m (dats m 0 c) (arr_eq m c 1) (after1 m c) t d
theorem block2 (c : Dev nD) (t : Fin cfg0.N) (d) : (dats m 0 c).before 2 t d = iblk m c 2 t :=
  before0_2_of m (dats m 0 c) (arr_eq m c 2) (after2 m c) t d
theorem block3 (c : Dev nD) (t : Fin cfg0.N) (d) : (dats m 0 c).before 3 t d = iblk m c 3 t :=
  before0_3_of m (dats m 0 c) (arr_eq m c 3) (after3 m c) t d
theorem block4 (c : Dev nD) (t : Fin cfg0.N) (d) : (dats m 0 c).before 4 t d = iblk m c 4 t :=
  before0_4_of m (dats m 0 c) (arr_eq m c 4) (after4 m c) t d
theorem block5 (c : Dev nD) (t : Fin cfg0.N) (d) : (dats m 0 c).before 5 t d = iblk m c 5 t :=
  before0_5_of m (dats m 0 c) (arr_eq m c 5) (after5 m c) t d

theorem leaves0 (c : Dev nD) (t : Fin cfg0.N) : (dats m 0 c).leavesExact 0 t = own c (ms0_0 t) (iblk m c 0 t) := by
  unfold Dat.leavesExact; rw [liveAt0_0 t, after0]
theorem leaves1 (c : Dev nD) (t : Fin cfg0.N) : (dats m 0 c).leavesExact 1 t = own c (ms0_1 t) (iblk m c 1 t) := by
  unfold Dat.leavesExact; rw [liveAt0_1 t, after1]
theorem leaves2 (c : Dev nD) (t : Fin cfg0.N) : (dats m 0 c).leavesExact 2 t = own c (ms0_2 t) (iblk m c 2 t) := by
  unfold Dat.leavesExact; rw [liveAt0_2 t, after2]
theorem leaves3 (c : Dev nD) (t : Fin cfg0.N) : (dats m 0 c).leavesExact 3 t = own c (ms0_3 t) (iblk m c 3 t) := by
  unfold Dat.leavesExact; rw [liveAt0_3 t, after3]
theorem leaves4 (c : Dev nD) (t : Fin cfg0.N) : (dats m 0 c).leavesExact 4 t = own c (ms0_4 t) (iblk m c 4 t) := by
  unfold Dat.leavesExact; rw [liveAt0_4 t, after4]
theorem leaves5 (c : Dev nD) (t : Fin cfg0.N) : (dats m 0 c).leavesExact 5 t = own c (ms0_5 t) (iblk m c 5 t) := by
  unfold Dat.leavesExact; rw [liveAt0_5 t, after5]
theorem leaves6 (c : Dev nD) (t : Fin cfg0.N) :
    (dats m 0 c).leavesExact 6 t = own c (ms0_6 t) (leftAt m c t.val t.isLt).o6 := by
  unfold Dat.leavesExact; rw [liveAt0_6 t, after6]
theorem leaves7 (c : Dev nD) (t : Fin cfg0.N) :
    (dats m 0 c).leavesExact 7 t = own c (ms0_7 t) (leftAt m c t.val t.isLt).o7 := by
  unfold Dat.leavesExact; rw [liveAt0_7 t, after7]
theorem leaves8 (c : Dev nD) (t : Fin cfg0.N) :
    (dats m 0 c).leavesExact 8 t = own c (ms0_8 t) (leftAt m c t.val t.isLt).o8 := by
  unfold Dat.leavesExact; rw [liveAt0_8 t, after8]

/-- Before the last point the two sums' blocks are untouched. -/
theorem leaves_idle (c : Dev nD) (t : Fin cfg0.N) (h1 : ¬t.val = 15) :
    ((dats m 0 c).leavesExact 9 t = iprop(∃ d, owns (c : Thread nD τ) (ms0_9 t) fullShare ((dats m 0 c).before 9 t d)))
      ∧ ((dats m 0 c).leavesExact 10 t = iprop(∃ d, owns (c : Thread nD τ) (ms0_10 t) fullShare ((dats m 0 c).before 10 t d))) := by
  by_cases h0 : t.val = 0
  · have a := cond_first t h0; have b := cond_not_last t h1
    exact ⟨Dat.leavesExact_idle (dats m 0 c) 9 t (idleAt0_9_A t a b) (noFlush0_9_A t a b),
      Dat.leavesExact_idle (dats m 0 c) 10 t (idleAt0_10_A t a b) (noFlush0_10_A t a b)⟩
  · have a := cond_not_first t h0; have b := cond_not_last t h1
    exact ⟨Dat.leavesExact_idle (dats m 0 c) 9 t (idleAt0_9_B t a b) (noFlush0_9_B t a b),
      Dat.leavesExact_idle (dats m 0 c) 10 t (idleAt0_10_B t a b) (noFlush0_10_B t a b)⟩

theorem leaves_last9 (c : Dev nD) (t : Fin cfg0.N) (h0 : ¬t.val = 0) (h1 : t.val = 15) :
    (dats m 0 c).leavesExact 9 t = own c (ms0_9 t) (leftAt m c t.val t.isLt).o9 := by
  unfold Dat.leavesExact; rw [liveAt0_9_C t (cond_not_first t h0) (cond_last t h1), after9]

theorem leaves_last10 (c : Dev nD) (t : Fin cfg0.N) (h0 : ¬t.val = 0) (h1 : t.val = 15) :
    (dats m 0 c).leavesExact 10 t = own c (ms0_10 t) (leftAt m c t.val t.isLt).o10 := by
  unfold Dat.leavesExact; rw [liveAt0_10_C t (cond_not_first t h0) (cond_last t h1), after10]

/-- What the pipeline hands the body at a point. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it takes back. -/
def taken (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point takes what it is given to what is taken back. -/
theorem sound (c : Dev nD) (t : Fin cfg0.N) :
    given m c t ⊢ wp frame (wpE (defs₀ (F := F)) Variants.none c none) Set.univ (body (grid0.coords t) (bufs t)) (fun _ => taken m c t) := by
  unfold given taken
  simp only [block0, block1, block2, block3, block4, block5, leaves0, leaves1, leaves2, leaves3, leaves4, leaves5, leaves6,
    leaves7, leaves8]
  rw [inv_here, inv_next]
  unfold Dat.owesAt Pipeline.owesWithin
  rw [show (dats m 0 c).owed t.castSucc = 0 from rfl, show (dats m 0 c).owed t.succ = 0 from rfl]
  by_cases h0 : t.val = 0
  · have h1 : ¬t.val = 15 := by omega
    rw [inv_first m c _ _ h0, leftAt_first m c t h0 h1, (leaves_idle m c t h1).1, (leaves_idle m c t h1).2]
    unfold fresh carried
    iintro ⟨⟨⟨S0, S1, S2, S3, S4, S5⟩, HG, ⟨Q0, Q1, Q2, Q3⟩, HM⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (stepFirst c (grid0.coords t) (bufs t) (cond_first t h0) (cond_not_last t h1) (ins m c t) (V m c main_v36) _ _ W _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    isplitl [S5]; · iexact S5
    isplitl [Q0]; · iexact Q0
    isplitl [Q1]; · iexact Q1
    isplitl [Q2]; · iexact Q2
    isplitl [Q3]; · iexact Q3
    isplitl [HM]; · iexact HM
    isplitl [HW]; · iexact HW
    iintro ⟨H0, H1, H2, H3, H4, H5, H6, H7, H8, H9, H10, S0, S1, S2, S3, S4, S5, Q0, Q1, Q2, Q3, HM, ⟨%W', HW⟩⟩
    isplitl [S0 S1 S2 S3 S4 S5 HG Q0 Q1 Q2 Q3 HM]
    · isplitl [S0 S1 S2 S3 S4 S5]
      · isplitl [S0]; · iexact S0
        isplitl [S1]; · iexact S1
        isplitl [S2]; · iexact S2
        isplitl [S3]; · iexact S3
        isplitl [S4]; · iexact S4
        iexact S5
      isplitl [HG]; · iexact HG
      isplitl [Q0 Q1 Q2 Q3]
      · isplitl [Q0]; · iexact Q0
        isplitl [Q1]; · iexact Q1
        isplitl [Q2]; · iexact Q2
        iexact Q3
      iexact HM
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists d9; iexact H9
    iexists d10; iexact H10
  · by_cases h1 : t.val = 15
    · rw [inv_later m c _ _ h0, leaves_last9 m c t h0 h1, leaves_last10 m c t h0 h1, leftAt_last m c t h0 h1]
      unfold carried
      iintro ⟨⟨⟨S0, S1, S2, S3, S4, S5⟩, HG, ⟨Q0, Q1, Q2, Q3⟩, HM⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (stepLast c (grid0.coords t) (bufs t) (cond_not_first t h0) (cond_last t h1) (ins m c t) (before m c t) (V m c main_v36) W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexists _; iexact H9
      isplitl [H10]; · iexists _; iexact H10
      isplitl [S0]; · iexact S0
      isplitl [S1]; · iexact S1
      isplitl [S2]; · iexact S2
      isplitl [S3]; · iexact S3
      isplitl [S4]; · iexact S4
      isplitl [S5]; · iexact S5
      isplitl [Q0]; · iexact Q0
      isplitl [Q1]; · iexact Q1
      isplitl [Q2]; · iexact Q2
      isplitl [Q3]; · iexact Q3
      isplitl [HM]; · iexact HM
      isplitl [HW]; · iexact HW
      iintro ⟨H0, H1, H2, H3, H4, H5, H6, H7, H8, H9, H10, S0, S1, S2, S3, S4, S5, Q0, Q1, Q2, Q3, HM, ⟨%W', HW⟩⟩
      isplitl [S0 S1 S2 S3 S4 S5 HG Q0 Q1 Q2 Q3 HM]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [HG]; · iexact HG
        isplitl [Q0 Q1 Q2 Q3]
        · isplitl [Q0]; · iexact Q0
          isplitl [Q1]; · iexact Q1
          isplitl [Q2]; · iexact Q2
          iexact Q3
        iexact HM
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · rw [inv_later m c _ _ h0, leftAt_mid m c t h0 h1, (leaves_idle m c t h1).1, (leaves_idle m c t h1).2]
      unfold carried
      iintro ⟨⟨⟨S0, S1, S2, S3, S4, S5⟩, HG, ⟨Q0, Q1, Q2, Q3⟩, HM⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (stepMid c (grid0.coords t) (bufs t) (cond_not_first t h0) (cond_not_last t h1) (ins m c t) (before m c t) (V m c main_v36) _ _ W _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      isplitl [H10]; · iexact H10
      isplitl [S0]; · iexact S0
      isplitl [S1]; · iexact S1
      isplitl [S2]; · iexact S2
      isplitl [S3]; · iexact S3
      isplitl [S4]; · iexact S4
      isplitl [S5]; · iexact S5
      isplitl [Q0]; · iexact Q0
      isplitl [Q1]; · iexact Q1
      isplitl [Q2]; · iexact Q2
      isplitl [Q3]; · iexact Q3
      isplitl [HM]; · iexact HM
      isplitl [HW]; · iexact HW
      iintro ⟨H0, H1, H2, H3, H4, H5, H6, H7, H8, H9, H10, S0, S1, S2, S3, S4, S5, Q0, Q1, Q2, Q3, HM, ⟨%W', HW⟩⟩
      isplitl [S0 S1 S2 S3 S4 S5 HG Q0 Q1 Q2 Q3 HM]
      · isplitl [S0 S1 S2 S3 S4 S5]
        · isplitl [S0]; · iexact S0
          isplitl [S1]; · iexact S1
          isplitl [S2]; · iexact S2
          isplitl [S3]; · iexact S3
          isplitl [S4]; · iexact S4
          iexact S5
        isplitl [HG]; · iexact HG
        isplitl [Q0 Q1 Q2 Q3]
        · isplitl [Q0]; · iexact Q0
          isplitl [Q1]; · iexact Q1
          isplitl [Q2]; · iexact Q2
          iexact Q3
        iexact HM
      isplitl [HW]
      · iexists W'; isplitr; · ipureintro; exact fun _ _ => Or.inl trivial
        iexact HW
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists d9; iexact H9
      iexists d10; iexact H10

/-- The body meets the pipeline's demand at every point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = body (grid0.coords t) (bufs t) from by
    unfold defs₀; rw [Defs.onTc_tc]]
  exact triple_restated (sound m c t) rfl .rfl fun _ => .rfl

theorem enter (c : Dev nD) : Pipeline.ΦD osem0 spec0 H0 (V m) c ⊢ (dats m 0 c).Φ 0 := Idealize.SL.BI.Entails.refl _

theorem leave (c : Dev nD) : (dats m 0 c).Φ (Fin.last cfg0.N) ⊢ Pipeline.ΦD osem0 spec0 H0 (V m) c := by
  have hN : cfg0.N = 16 := N_0
  rw [show (dats m 0 c).Φ (Fin.last cfg0.N) = inv m c cfg0.N le_rfl from rfl, inv_later m c _ _ (by omega), PhiD0_eq]
  unfold carried
  iintro ⟨⟨S0, S1, S2, S3, S4, S5⟩, HG, ⟨Q0, Q1, Q2, Q3⟩, HM⟩
  isplitl [S0 S1 S2 S3 S4 S5]
  · isplitl [S0]; · iexact S0
    isplitl [S1]; · iexact S1
    isplitl [S2]; · iexists _; iexact S2
    isplitl [S3]; · iexists _; iexact S3
    isplitl [S4]; · iexists _; iexact S4
    iexists _; iexact S5
  isplitl [HG]; · iexact HG
  isplitl [Q0 Q1 Q2 Q3]
  · isplitl [Q0]; · iexact Q0
    isplitl [Q1]; · iexact Q1
    isplitl [Q2]; · iexact Q2
    iexact Q3
  iexact HM

set_option backward.isDefEq.respectTransparency.types false in
/-- The whole call, run: every array of the pipeline at what the points leave, every counter at zero. -/
theorem run_zero : θ_run defs (onTc (τ := τ) (main (F := F))) (s₀ m ρ)
    (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (obligation m c).loose) (hq := fun _ _ _ => rfl)
    (howed := fun _ _ => rfl) (V := V m) (hmain := hmain m Variants.none) (hA := arr_eq m)
    (hin := enter m) (hout := leave m)

theorem run_main : θ_run defs (onTc (τ := τ) (main (F := F))) (s₀ m ρ) (Pipeline.FramePost cfgs (dats m) 0 (V m)) :=
  (θ_run defs _ _).mono (fun _ h => h.1) (run_zero m ρ)

/-- The run with each output array after it named, the arguments unchanged. -/
theorem run_blocks : θ_run defs (onTc (τ := τ) (main (F := F))) ⟨m, fun _ => 0, ρ⟩ (fun r => ∀ c : Dev nD,
      r.2.mem ((c.tc : Thread nD τ).loc main_v48_0) = (dats m 0 c).arrAt 6 cfg0.N
      ∧ r.2.mem ((c.tc : Thread nD τ).loc main_v48_1) = (dats m 0 c).arrAt 7 cfg0.N
      ∧ r.2.mem ((c.tc : Thread nD τ).loc main_v48_2) = (dats m 0 c).arrAt 8 cfg0.N
      ∧ r.2.mem ((c.tc : Thread nD τ).loc main_v48_3) = (dats m 0 c).arrAt 9 cfg0.N
      ∧ r.2.mem ((c.tc : Thread nD τ).loc main_v48_4) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h.2 c).1 6, (h.2 c).1 7, (h.2 c).1 8, (h.2 c).1 9, (h.2 c).1 10, h.1 c⟩)
    (θ_run_and (frame_of m ρ (dats m) (arr_eq m) (run_main m ρ)) (run_main m ρ))

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (arr_eq m) (run_main m ρ)) ((θ_run defs _ _).mono (fun _ h => h.2) (run_zero m ρ))

end Cert.Kernel2Ideal.FfnBwd

end
-- ==== Proof.FfnHost.lean ====
module

public import proofs.«01_k».proof.Proof.FfnFrame
public import proofs.«01_k».proof.Proof.FfnTile

/-! The backward call of the channel mixer: the operands the host prepares. -/

@[expose] public section

set_option maxRecDepth 16384

noncomputable section

open Idealize.ShloMosaic Idealize.ShloMosaic.TcCoe Idealize.SL.Sem
open Idealize.ShloMosaic.Pipeline (Dat)

namespace Cert.Kernel2Ideal.FfnBwd

open Cert.Kernel2Ideal Cert.Kernel2Ideal.Gen

variable (m : (ℓ : Loc nD τ sig) → Buf (Elt Ideal) ℓ)

theorem after_join {τ : _} {sig : _} (A B : List (HloOp τ sig (Elt Ideal))) (σ : Valuation τ sig (Elt Ideal)) :
    StableHlo.after (A ++ B) σ = StableHlo.after B (StableHlo.after A σ) := by
  induction A generalizing σ with
  | nil => rfl
  | cons a A ih => exact ih _

/-- Rows of 5632 in the order of the calls' tiles. -/
def wide (X : Vec Ideal S4096x5632 .f32) : Vec Ideal S4096x5632 .f32 :=
  shapeCast S4096x5632 (transpose S16x32x8x5632 [0, 2, 1, 3] (shapeCast S16x8x32x5632 (X) shapeCasts_S4096x5632_S16x8x32x5632)
      transposes_S16x8x32x5632_S16x32x8x5632_0_2_1_3) shapeCasts_S16x32x8x5632_S4096x5632

/-- Rows of 1024 in the order of the calls' tiles. -/
def slim (X : Vec Ideal S4096x1024 .f32) : Vec Ideal S4096x1024 .f32 :=
  shapeCast S4096x1024 (transpose S16x32x8x1024 [0, 2, 1, 3] (shapeCast S16x8x32x1024 (X) shapeCasts_S4096x1024_S16x8x32x1024)
      transposes_S16x8x32x1024_S16x32x8x1024_0_2_1_3) shapeCasts_S16x32x8x1024_S4096x1024

/-- Rows under a norm. -/
def normOf (a : FVec Ideal S4096x1024 .f32) (g : FVec Ideal S1024 .f32) : FVec Ideal S4096x1024 .f32 :=
  mulf
    (mulf a
      (broadcastInDim S4096x1024 ![0, 1] bcast_S4096x1_S4096x1024_0_1
        (Host.rsqrt
          (addf
            (Host.divf
              (broadcastInDim S4096x1 ![0] bcast_S4096_S4096x1_0
                (Host.reduceAdd (mulf a a)
                  (constant S_ FTy.f32 0#32) reducesTo_S4096x1024_S4096_d1 h_S_))
              (broadcastInDim S4096x1 ![] bcast_S_S4096x1 (constant S_ FTy.f32 1149239296#32)))
            (broadcastInDim S4096x1 ![] bcast_S_S4096x1 (constant S_ FTy.f32 897988541#32))))))
    (broadcastInDim S4096x1024 ![0, 1] bcast_S1x1024_S4096x1024_0_1
      (broadcastInDim S1x1024 ![1] bcast_S1024_S1x1024_1 g))

/-- The rows before the convolution, from the arguments. -/
def upOf (a : FVec Ideal S4096x1024 .f32) (g : FVec Ideal S1024 .f32) (w : FVec Ideal S1024x5632 .f32) : FVec Ideal S4096x5632 .f32 :=
  Host.dotGeneral dot_S4096x1024_S1024x5632_S4096x5632_1_0_0_1_n_n none (normOf a g) w

/-- The rows with two rows of zeros before them. -/
def under (u : FVec Ideal S4096x5632 .f32) : FVec Ideal S4098x5632 .f32 :=
  concatenate S4098x5632 0 [⟨S2x5632, broadcastInDim S2x5632 ![] bcast_S_S2x5632 (constant (F := Ideal) S_ FTy.f32 0#32)⟩, ⟨S4096x5632, u⟩]
    concatenates_S2x5632_S4096x5632_S4098x5632_d0

/-- The convolution of the rows. -/
def convOf (w : FVec Ideal S3x5632 .f32) (u : FVec Ideal S4096x5632 .f32) : FVec Ideal S4096x5632 .f32 :=
  addf
    (addf
      (mulf (broadcastInDim S4096x5632 ![0, 1] bcast_S1x5632_S4096x5632_0_1
          (extractStridedSlice S1x5632 ![0, 0] w slices_S3x5632_S1x5632_0_0))
        (extractStridedSlice S4096x5632 ![0, 0] (under u) slices_S4098x5632_S4096x5632_0_0))
      (mulf (broadcastInDim S4096x5632 ![0, 1] bcast_S1x5632_S4096x5632_0_1
          (extractStridedSlice S1x5632 ![1, 0] w slices_S3x5632_S1x5632_1_0))
        (extractStridedSlice S4096x5632 ![1, 0] (under u) slices_S4098x5632_S4096x5632_1_0)))
    (mulf (broadcastInDim S4096x5632 ![0, 1] bcast_S1x5632_S4096x5632_0_1
        (extractStridedSlice S1x5632 ![2, 0] w slices_S3x5632_S1x5632_2_0))
      (extractStridedSlice S4096x5632 ![2, 0] (under u) slices_S4098x5632_S4096x5632_2_0))

/-- A gate times its logistic curve. -/
def siluOf (z : FVec Ideal S4096x2816 .f32) : FVec Ideal S4096x2816 .f32 :=
  mulf z (Host.divf (broadcastInDim S4096x2816 ![] bcast_S_S4096x2816 (constant (F := Ideal) S_ FTy.f32 1065353216#32))
    (addf (broadcastInDim S4096x2816 ![] bcast_S_S4096x2816 (constant (F := Ideal) S_ FTy.f32 1065353216#32)) (Host.exp (Host.negf z))))

/-- The projection down of the activations. -/
def downOf (z v : FVec Ideal S4096x2816 .f32) (w : FVec Ideal S2816x1024 .f32) : FVec Ideal S4096x1024 .f32 :=
  Host.dotGeneral dot_S4096x2816_S2816x1024_S4096x1024_1_0_0_1_n_n none (mulf z v) w

/-- The rows behind the projection down, from the arguments. -/
def dOf (a : FVec Ideal S4096x1024 .f32) (g : FVec Ideal S1024 .f32) (w : FVec Ideal S1024x5632 .f32) (k : FVec Ideal S3x5632 .f32)
    (v : FVec Ideal S2816x1024 .f32) : FVec Ideal S4096x1024 .f32 :=
  downOf (siluOf (extractStridedSlice S4096x2816 ![0, 0] (convOf k (upOf a g w)) slices_S4096x5632_S4096x2816_0_0))
    (extractStridedSlice S4096x2816 ![0, 2816] (convOf k (upOf a g w)) slices_S4096x5632_S4096x2816_0_2816) v

section
variable (σ : Valuation τ sig (Elt Ideal))

theorem tail45 : StableHlo.after (hostOps0_4 (F := Ideal)) (StableHlo.after (hostOps0_3 (F := Ideal)) (StableHlo.after (hostOps0_2 (F := Ideal)) σ)) (Proc.tc.devRef main_v45) = wide (σ (Proc.tc.devRef main_v13)) := by
  entry_read
  rfl
theorem tail42 : StableHlo.after (hostOps0_4 (F := Ideal)) (StableHlo.after (hostOps0_3 (F := Ideal)) (StableHlo.after (hostOps0_2 (F := Ideal)) σ)) (Proc.tc.devRef main_v42) = slim (StableHlo.after (hostOps0_2 (F := Ideal)) σ (Proc.tc.devRef main_v34)) := by
  entry_read
  rfl
theorem tail39 : StableHlo.after (hostOps0_4 (F := Ideal)) (StableHlo.after (hostOps0_3 (F := Ideal)) (StableHlo.after (hostOps0_2 (F := Ideal)) σ)) (Proc.tc.devRef main_v39) = slim (σ (Proc.tc.devRef main_arg6)) := by
  entry_read
  rfl
theorem tail36 : StableHlo.after (hostOps0_4 (F := Ideal)) (StableHlo.after (hostOps0_3 (F := Ideal)) (StableHlo.after (hostOps0_2 (F := Ideal)) σ)) (Proc.tc.devRef main_v36)
    = (shapeCast S4x704x1024 (σ (Proc.tc.devRef main_arg4) : Vec Ideal S2816x1024 .f32) shapeCasts_S2816x1024_S4x704x1024 : Vec Ideal S4x704x1024 .bf16) := by
  entry_read
  rfl
theorem tail46 : StableHlo.after (hostOps0_4 (F := Ideal)) (StableHlo.after (hostOps0_3 (F := Ideal)) (StableHlo.after (hostOps0_2 (F := Ideal)) σ)) (Proc.tc.devRef main_v46)
    = pad S8x5632 ![0, 0] ![5, 0] ![0, 0] (σ (Proc.tc.devRef main_arg3) : Vec Ideal S3x5632 .f32)
        (sitofp (F := Ideal) FTy.f32 (constantI S_ 32 0#32)) pads_S3x5632_S8x5632_050_000 h_S_ := by
  entry_read
  rfl
theorem tail47 : StableHlo.after (hostOps0_4 (F := Ideal)) (StableHlo.after (hostOps0_3 (F := Ideal)) (StableHlo.after (hostOps0_2 (F := Ideal)) σ)) (Proc.tc.devRef main_v47)
    = shapeCast S1x1024 (σ (Proc.tc.devRef main_arg5) : Vec Ideal S1024 .f32) shapeCasts_S1024_S1x1024 := by
  entry_read
  rfl
theorem tail34 : StableHlo.after (hostOps0_2 (F := Ideal)) σ (Proc.tc.devRef main_v34)
    = downOf (σ (Proc.tc.devRef main_v32)) (σ (Proc.tc.devRef main_v31)) (σ (Proc.tc.devRef main_arg4)) := by
  entry_read
  rfl
theorem mid13 : StableHlo.after (hostOps0_1 (F := Ideal)) σ (Proc.tc.devRef main_v13) = σ (Proc.tc.devRef main_v13) := by
  entry_read
  rfl
theorem mid32 : StableHlo.after (hostOps0_1 (F := Ideal)) σ (Proc.tc.devRef main_v32) = siluOf (σ (Proc.tc.devRef main_v30)) := by
  entry_read
  rfl
theorem mid31 : StableHlo.after (hostOps0_1 (F := Ideal)) σ (Proc.tc.devRef main_v31) = σ (Proc.tc.devRef main_v31) := by
  entry_read
  rfl
theorem mid3 : StableHlo.after (hostOps0_1 (F := Ideal)) (StableHlo.after (hostOps0 (F := Ideal)) σ) (Proc.tc.devRef main_arg3) = σ (Proc.tc.devRef main_arg3) := by
  entry_read
  rfl
theorem mid4 : StableHlo.after (hostOps0_1 (F := Ideal)) (StableHlo.after (hostOps0 (F := Ideal)) σ) (Proc.tc.devRef main_arg4) = σ (Proc.tc.devRef main_arg4) := by
  entry_read
  rfl
theorem mid5 : StableHlo.after (hostOps0_1 (F := Ideal)) (StableHlo.after (hostOps0 (F := Ideal)) σ) (Proc.tc.devRef main_arg5) = σ (Proc.tc.devRef main_arg5) := by
  entry_read
  rfl
theorem mid6 : StableHlo.after (hostOps0_1 (F := Ideal)) (StableHlo.after (hostOps0 (F := Ideal)) σ) (Proc.tc.devRef main_arg6) = σ (Proc.tc.devRef main_arg6) := by
  entry_read
  rfl
theorem first13 : StableHlo.after (hostOps0 (F := Ideal)) σ (Proc.tc.devRef main_v13)
    = upOf (σ (Proc.tc.devRef main_arg0)) (σ (Proc.tc.devRef main_arg1)) (σ (Proc.tc.devRef main_arg2)) := by
  entry_read
  rfl
theorem first30 : StableHlo.after (hostOps0 (F := Ideal)) σ (Proc.tc.devRef main_v30)
    = extractStridedSlice S4096x2816 ![0, 0] (convOf (σ (Proc.tc.devRef main_arg3)) (upOf (σ (Proc.tc.devRef main_arg0)) (σ (Proc.tc.devRef main_arg1)) (σ (Proc.tc.devRef main_arg2)))) slices_S4096x5632_S4096x2816_0_0 := by
  entry_read
  unfold convOf under upOf
  rfl
theorem first31 : StableHlo.after (hostOps0 (F := Ideal)) σ (Proc.tc.devRef main_v31)
    = extractStridedSlice S4096x2816 ![0, 2816] (convOf (σ (Proc.tc.devRef main_arg3)) (upOf (σ (Proc.tc.devRef main_arg0)) (σ (Proc.tc.devRef main_arg1)) (σ (Proc.tc.devRef main_arg2)))) slices_S4096x5632_S4096x2816_0_2816 := by
  entry_read
  unfold convOf under upOf
  rfl
end

/-- The rows before the convolution. -/
def U (c : Dev nD) : Vec Ideal S4096x5632 .f32 :=
  upOf (m (c, Proc.tc.devRef main_arg0)) (m (c, Proc.tc.devRef main_arg1)) (m (c, Proc.tc.devRef main_arg2))

/-- The rows before the closing norm. -/
def D (c : Dev nD) : Vec Ideal S4096x1024 .f32 :=
  dOf (m (c, Proc.tc.devRef main_arg0)) (m (c, Proc.tc.devRef main_arg1)) (m (c, Proc.tc.devRef main_arg2)) (m (c, Proc.tc.devRef main_arg3))
    (m (c, Proc.tc.devRef main_arg4))

theorem V_stages (c : Dev nD) (b : Ref sig .tc) : V m c b = StableHlo.after (hostOps0_4 (F := Ideal)) (StableHlo.after (hostOps0_3 (F := Ideal))
    (StableHlo.after (hostOps0_2 (F := Ideal)) (StableHlo.after (hostOps0_1 (F := Ideal)) (StableHlo.after (hostOps0 (F := Ideal)) fun b => m (c, b))))) (Proc.tc.devRef b) := by
  simp only [← after_join]
  rfl

theorem V45 (c : Dev nD) : V m c main_v45 = wide (U m c) := by
  rw [V_stages, tail45, mid13, first13]; rfl
theorem V42 (c : Dev nD) : V m c main_v42 = slim (D m c) := by
  rw [V_stages, tail42, tail34, mid31, mid32, mid4, first30, first31]; rfl
theorem V39 (c : Dev nD) : V m c main_v39 = slim (m (c, Proc.tc.devRef main_arg6)) := by
  rw [V_stages, tail39, mid6]
theorem V36 (c : Dev nD) : V m c main_v36
    = (shapeCast S4x704x1024 (m (c, Proc.tc.devRef main_arg4) : Vec Ideal S2816x1024 .f32) shapeCasts_S2816x1024_S4x704x1024
      : Vec Ideal S4x704x1024 .bf16) := by
  rw [V_stages, tail36, mid4]
theorem V46 (c : Dev nD) : V m c main_v46 = pad S8x5632 ![0, 0] ![5, 0] ![0, 0] (m (c, Proc.tc.devRef main_arg3) : Vec Ideal S3x5632 .f32)
    (sitofp (F := Ideal) FTy.f32 (constantI S_ 32 0#32)) pads_S3x5632_S8x5632_050_000 h_S_ := by
  rw [V_stages, tail46, mid3]
theorem V47 (c : Dev nD) : V m c main_v47
    = shapeCast S1x1024 (m (c, Proc.tc.devRef main_arg5) : Vec Ideal S1024 .f32) shapeCasts_S1024_S1x1024 := by
  rw [V_stages, tail47, mid5]

end Cert.Kernel2Ideal.FfnBwd
-- ==== Proof.FfnLeft.lean ====
module

public import proofs.«01_k».proof.Proof.FfnFrame
public import proofs.«01_k».proof.Proof.FfnTaps

/-! The backward call of the channel mixer: what a point leaves, as arrays of its blocks. -/

@[expose] public section

set_option maxRecDepth 16384

noncomputable section

open Idealize.ShloMosaic Idealize.ShloMosaic.TcCoe Idealize.SL.Sem

namespace Cert.Kernel2Ideal.FfnBwd

open Cert.Kernel2Ideal Cert.Kernel2Ideal.Gen

/-- The convolution turned round, as it is written: the four blocks of columns. -/
def duPieces (w : Vec Ideal S8x5632 .f32) (d : Vec Ideal S272x5632 .f32) : List (View.Piece (Elt Ideal) S256x5632 .bf16) :=
  [⟨Rect.unit ![0, 4224] ![256, 1408] inb_S256x5632_S256x1408_0_4224,
      k0_pay2 (k0_pay65 w (k0_pay62 w (View.ld d (Rect.unit ![16, 4224] ![256, 1408] inb_S272x5632_S256x1408_16_4224))) (View.ld d (Rect.unit ![8, 4224] ![256, 1408] inb_S272x5632_S256x1408_8_4224)) (View.ld d (Rect.unit ![0, 4224] ![256, 1408] inb_S272x5632_S256x1408_0_4224)))⟩,
    ⟨Rect.unit ![0, 2816] ![256, 1408] inb_S256x5632_S256x1408_0_2816,
      k0_pay60 w (k0_pay55 w (View.ld d (Rect.unit ![16, 2816] ![256, 1408] inb_S272x5632_S256x1408_16_2816))) (k0_pay57 w (View.ld d (Rect.unit ![8, 2816] ![256, 1408] inb_S272x5632_S256x1408_8_2816))) (View.ld d (Rect.unit ![0, 2816] ![256, 1408] inb_S272x5632_S256x1408_0_2816))⟩,
    ⟨Rect.unit ![0, 1408] ![256, 1408] inb_S256x5632_S256x1408_0_1408,
      k0_pay53 w (k0_pay50 w (View.ld d (Rect.unit ![16, 1408] ![256, 1408] inb_S272x5632_S256x1408_16_1408)) (View.ld d (Rect.unit ![8, 1408] ![256, 1408] inb_S272x5632_S256x1408_8_1408))) (View.ld d (Rect.unit ![0, 1408] ![256, 1408] inb_S272x5632_S256x1408_0_1408))⟩,
    ⟨Rect.unit ![0, 0] ![256, 1408] inb_S256x5632_S256x1408_0_0,
      k0_pay47 (k0_pay44 w (k0_pay41 w (View.ld d (Rect.unit ![16, 0] ![256, 1408] inb_S272x5632_S256x1408_16_0))) (View.ld d (Rect.unit ![8, 0] ![256, 1408] inb_S272x5632_S256x1408_8_0)) (View.ld d (Rect.unit ![0, 0] ![256, 1408] inb_S272x5632_S256x1408_0_0)))⟩]

/-- The array it makes. -/
def duArr (w : Vec Ideal S8x5632 .f32) (d : Vec Ideal S272x5632 .f32) : Vec Ideal S256x5632 .bf16 :=
  View.canon (Val := Elt Ideal) (duPieces w d)

/-- The convolution turned round, entry by entry. -/
def duSum (w : Vec Ideal S8x5632 .f32) (d : Vec Ideal S272x5632 .f32) (r : Fin 256) (l : Fin 5632) : EReal :=
  w (ix2 0 l) * d (ix2 ⟨16 + r.val, by omega⟩ l) + w (ix2 1 l) * d (ix2 ⟨8 + r.val, by omega⟩ l)
    + w (ix2 2 l) * d (ix2 ⟨r.val, by omega⟩ l)

theorem conv_du (w : Vec Ideal S8x5632 .f32) (d : Vec Ideal S272x5632 .f32) (o : ℕ) (ho : o + 1408 ≤ 5632) (h0 h1 h2) (r : Fin 256)
    (l : Fin 1408) (inb) : conv w (View.ld d (Rect.unit (s := S272x5632) ![16, o] ![256, 1408] h0))
      (View.ld d (Rect.unit (s := S272x5632) ![8, o] ![256, 1408] h1))
      (View.ld d (Rect.unit (s := S272x5632) ![0, o] ![256, 1408] h2)) o ho r l
      = (fun j : S256x5632.Idx => (duSum w d (j 0) (j 1) : Elt Ideal .bf16))
        ((Rect.unit (s := S256x5632) ![0, o] ![256, 1408] inb).emb (ix2 r l)) := by
  refine Eq.trans ?_ (at_block (duSum w d) 0 o inb r l (by omega) (by omega)).symm
  unfold conv duSum
  refine congrArg₂ (· + ·) (congrArg₂ (· + ·) (congrArg₂ (· * ·) rfl ?_) (congrArg₂ (· * ·) rfl ?_)) (congrArg₂ (· * ·) rfl ?_) <;>
    exact ld_block d _ _ _ _ _ _ _ (by simp only [Nat.zero_add]) rfl

theorem duArr_eq (w : Vec Ideal S8x5632 .f32) (d : Vec Ideal S272x5632 .f32) :
    duArr w d = fun j : S256x5632.Idx => duSum w d (j 0) (j 1) := by
  unfold duArr
  funext y
  refine View.canon_apply_of_pieces (Val := Elt Ideal) (e := .bf16) (fun j : S256x5632.Idx => (duSum w d (j 0) (j 1) : Elt Ideal .bf16)) _ ?_ y ?_
  · intro p hp
    simp only [duPieces, List.mem_cons, List.not_mem_nil, or_false] at hp
    rcases hp with rfl | rfl | rfl | rfl <;> intro z <;> idx_vars z
    · exact (pay65 _ _ _ _ _ _).trans (conv_du w d 4224 _ _ _ _ _ _ _)
    · exact (pay60 _ _ _ _ _ _).trans (conv_du w d 2816 _ _ _ _ _ _ _)
    · exact (pay53 _ _ _ _ _ _).trans (conv_du w d 1408 _ _ _ _ _ _ _)
    · exact (pay44 _ _ _ _ _ _).trans (conv_du w d 0 _ _ _ _ _ _ _)
  · have h0 : (y 0).val < 256 := (y 0).isLt
    have h1 : (y 1).val < 5632 := (y 1).isLt
    by_cases a : (y 1).val < 1408
    · exact ⟨_, .tail _ (.tail _ (.tail _ (.head _))),
        mem_block 0 0 256 1408 inb_S256x5632_S256x1408_0_0 y ⟨by omega, by omega⟩ ⟨by omega, by omega⟩⟩
    by_cases a : (y 1).val < 2816
    · exact ⟨_, .tail _ (.tail _ (.head _)),
        mem_block 0 1408 256 1408 inb_S256x5632_S256x1408_0_1408 y ⟨by omega, by omega⟩ ⟨by omega, by omega⟩⟩
    by_cases a : (y 1).val < 4224
    · exact ⟨_, .tail _ (.head _),
        mem_block 0 2816 256 1408 inb_S256x5632_S256x1408_0_2816 y ⟨by omega, by omega⟩ ⟨by omega, by omega⟩⟩
    · exact ⟨_, .head _,
        mem_block 0 4224 256 1408 inb_S256x5632_S256x1408_0_4224 y ⟨by omega, by omega⟩ ⟨by omega, by omega⟩⟩

/-- The gradient before the convolution over the weight `W` and the rows `s` behind. -/
def dupOf (i : grid0.Coords) (x : Ins Ideal) (W : Vec Ideal S2816x1024 .bf16) (s : Vec Ideal S16x5632 .f32) : Vec Ideal S272x5632 .f32 :=
  dupArr i x (View.ld W (Rect.unit ![0, 0] ![1408, 1024] inb_S2816x1024_S1408x1024_0_0))
    (View.ld W (Rect.unit ![1408, 0] ![1408, 1024] inb_S2816x1024_S1408x1024_1408_0)) s

section
variable (c : Dev nD) (i : grid0.Coords) (b : Bufs) (hc0 : ¬cond0_0 i) (hc1 : ¬cond0_1 i) (x : Ins Ideal) (s : Held Ideal)
  (fh : HbBuf0 (F := Ideal) c hbM0_0)

theorem o6Mid : (leftMid c i b hc0 hc1 x s fh).o6 = ddArr x := by
  dsimp only [leftMid]; funext j; frame_out; rfl
theorem o7Mid : (leftMid c i b hc0 hc1 x s fh).o7 = actArr i x := by
  dsimp only [leftMid]; funext j; frame_out; simp only [readCov_ld, fold_ext, fold_dd, fold_gateArr, fold_curveArr, fold_valArr, fold_gateArr', fold_own]
theorem o8Mid : (leftMid c i b hc0 hc1 x s fh).o8 = duArr (k0_pay13 x.x4) (dupOf i x s.s5 s.s2) := by
  dsimp only [leftMid]; funext j; frame_out; simp only [readCov_ld, fold_ext, fold_dd, fold_gateArr, fold_curveArr, fold_valArr, fold_gateArr', fold_own]; rfl
theorem s2Mid : (leftMid c i b hc0 hc1 x s fh).held.s2 = k0_pay39 (View.ld (dupOf i x s.s5 s.s2) (Rect.unit ![0, 0] ![16, 5632] inb_S272x5632_S16x5632_0_0)) := by
  dsimp only [leftMid]; funext j; frame_out; simp only [readCov_ld, fold_ext, fold_dd, fold_gateArr, fold_curveArr, fold_valArr, fold_gateArr', fold_own]; rfl
theorem s3Mid : (leftMid c i b hc0 hc1 x s fh).held.s3 = k0_pay17 x.x1 x.x0 s.s3 := by
  dsimp only [leftMid]; funext j; frame_out
theorem s5Mid : (leftMid c i b hc0 hc1 x s fh).held.s5 = s.s5 := by
  dsimp only [leftMid]
set_option maxHeartbeats 2000000 in
theorem s4Mid : (leftMid c i b hc0 hc1 x s fh).held.s4 = fun y => s.s4 y + cwSum x.x2 (dupOf i x s.s5 s.s2) y := by
  dsimp only [leftMid]; funext j; frame_out; simp only [readCov_ld, fold_ext, fold_dd, fold_gateArr, fold_curveArr, fold_valArr, fold_gateArr', fold_own]
  exact sums_eq x.x2 (dupOf i x s.s5 s.s2) b.a17.view (b.h17.unread s.s4) s.s4 (b.h17.read_unread s.s4) j
end

section
variable (c : Dev nD) (i : grid0.Coords) (b : Bufs) (hc0 : ¬cond0_0 i) (hc1 : cond0_1 i) (x : Ins Ideal) (s : Held Ideal)
  (fh : HbBuf0 (F := Ideal) c hbM0_0)

theorem o6Last : (leftLast c i b hc0 hc1 x s fh).o6 = ddArr x := by
  dsimp only [leftLast]; funext j; frame_out; rfl
theorem o7Last : (leftLast c i b hc0 hc1 x s fh).o7 = actArr i x := by
  dsimp only [leftLast]; funext j; frame_out; simp only [readCov_ld, fold_ext, fold_dd, fold_gateArr, fold_curveArr, fold_valArr, fold_gateArr', fold_own]
theorem o8Last : (leftLast c i b hc0 hc1 x s fh).o8 = duArr (k0_pay13 x.x4) (dupOf i x s.s5 s.s2) := by
  dsimp only [leftLast]; funext j; frame_out; simp only [readCov_ld, fold_ext, fold_dd, fold_gateArr, fold_curveArr, fold_valArr, fold_gateArr', fold_own]; rfl
theorem s2Last : (leftLast c i b hc0 hc1 x s fh).held.s2 = k0_pay39 (View.ld (dupOf i x s.s5 s.s2) (Rect.unit ![0, 0] ![16, 5632] inb_S272x5632_S16x5632_0_0)) := by
  dsimp only [leftLast]; funext j; frame_out; simp only [readCov_ld, fold_ext, fold_dd, fold_gateArr, fold_curveArr, fold_valArr, fold_gateArr', fold_own]; rfl
theorem s3Last : (leftLast c i b hc0 hc1 x s fh).held.s3 = k0_pay17 x.x1 x.x0 s.s3 := by
  dsimp only [leftLast]; funext j; frame_out
theorem s5Last : (leftLast c i b hc0 hc1 x s fh).held.s5 = s.s5 := by
  dsimp only [leftLast]
set_option maxHeartbeats 2000000 in
theorem s4Last : (leftLast c i b hc0 hc1 x s fh).held.s4 = fun y => s.s4 y + cwSum x.x2 (dupOf i x s.s5 s.s2) y := by
  dsimp only [leftLast]; funext j; frame_out; simp only [readCov_ld, fold_ext, fold_dd, fold_gateArr, fold_curveArr, fold_valArr, fold_gateArr', fold_own]
  exact sums_eq x.x2 (dupOf i x s.s5 s.s2) b.a17.view (b.h17.unread s.s4) s.s4 (b.h17.read_unread s.s4) j
theorem o9Last : (leftLast c i b hc0 hc1 x s fh).o9 = k0_pay3 (k0_pay17 x.x1 x.x0 s.s3) := by
  dsimp only [leftLast]; funext j; frame_out
set_option maxHeartbeats 2000000 in
theorem o10Last : (leftLast c i b hc0 hc1 x s fh).o10 = k0_pay4 (fun y => s.s4 y + cwSum x.x2 (dupOf i x s.s5 s.s2) y) := by
  rw [← s4Last c i b hc0 hc1 x s fh]
  dsimp only [leftLast]; funext j; frame_out
end

/-- The weight as the first point copies it, block of rows by block of rows. -/
def wtArr (c : Dev nD) (fh : HbBuf0 (F := Ideal) c hbM0_0) : Vec Ideal S2816x1024 .bf16 := View.canon (Val := Elt Ideal)
  [(⟨Rect.unit (s := S2816x1024) ![2112, 0] ![704, 1024] inb_S2816x1024_S704x1024_2112_0,
      ReadAs.same.apply (View.read (Elt Ideal) (((View.whole main_v36).slice (Rect.unit ![3, 0, 0] ![1, 704, 1024] inb_S4x704x1024_S1x704x1024_3_0_0)).reshape S704x1024 squeezes_S1x704x1024_S704x1024.numel_eq) fh)⟩ : View.Piece (Elt Ideal) S2816x1024 .bf16),
    (⟨Rect.unit (s := S2816x1024) ![1408, 0] ![704, 1024] inb_S2816x1024_S704x1024_1408_0,
      ReadAs.same.apply (View.read (Elt Ideal) (((View.whole main_v36).slice (Rect.unit ![2, 0, 0] ![1, 704, 1024] inb_S4x704x1024_S1x704x1024_2_0_0)).reshape S704x1024 squeezes_S1x704x1024_S704x1024.numel_eq) fh)⟩ : View.Piece (Elt Ideal) S2816x1024 .bf16),
    (⟨Rect.unit (s := S2816x1024) ![704, 0] ![704, 1024] inb_S2816x1024_S704x1024_704_0,
      ReadAs.same.apply (View.read (Elt Ideal) (((View.whole main_v36).slice (Rect.unit ![1, 0, 0] ![1, 704, 1024] inb_S4x704x1024_S1x704x1024_1_0_0)).reshape S704x1024 squeezes_S1x704x1024_S704x1024.numel_eq) fh)⟩ : View.Piece (Elt Ideal) S2816x1024 .bf16),
    (⟨Rect.unit (s := S2816x1024) ![0, 0] ![704, 1024] inb_S2816x1024_S704x1024_0_0,
      ReadAs.same.apply (View.read (Elt Ideal) (((View.whole main_v36).slice (Rect.unit ![0, 0, 0] ![1, 704, 1024] inb_S4x704x1024_S1x704x1024_0_0_0)).reshape S704x1024 squeezes_S1x704x1024_S704x1024.numel_eq) fh)⟩ : View.Piece (Elt Ideal) S2816x1024 .bf16)]

section
variable (c : Dev nD) (i : grid0.Coords) (b : Bufs) (hc0 : cond0_0 i) (hc1 : ¬cond0_1 i) (x : Ins Ideal)
  (fh : HbBuf0 (F := Ideal) c hbM0_0)

theorem o6First : (leftFirst c i b hc0 hc1 x fh).o6 = ddArr x := by
  dsimp only [leftFirst]; funext j; frame_out; rfl
theorem o7First : (leftFirst c i b hc0 hc1 x fh).o7 = actArr i x := by
  dsimp only [leftFirst]; funext j; frame_out; simp only [readCov_ld, fold_ext, fold_dd, fold_gateArr, fold_curveArr, fold_valArr, fold_gateArr', fold_own]
theorem s5First : (leftFirst c i b hc0 hc1 x fh).held.s5 = wtArr c fh := by
  dsimp only [leftFirst]; funext j; frame_out; try rfl
theorem s3First : (leftFirst c i b hc0 hc1 x fh).held.s3 = k0_pay17 x.x1 x.x0 (k0_pay5 (F := Ideal)) := by
  dsimp only [leftFirst]; funext j; frame_out
theorem s2First : (leftFirst c i b hc0 hc1 x fh).held.s2
    = k0_pay39 (View.ld (dupOf i x (wtArr c fh) (k0_pay7 (F := Ideal))) (Rect.unit ![0, 0] ![16, 5632] inb_S272x5632_S16x5632_0_0)) := by
  dsimp only [leftFirst]; funext j; frame_out; simp only [readCov_ld, fold_ext, fold_dd, fold_gateArr, fold_curveArr, fold_valArr, fold_gateArr', fold_own]; rfl
theorem o8First : (leftFirst c i b hc0 hc1 x fh).o8 = duArr (k0_pay13 x.x4) (dupOf i x (wtArr c fh) (k0_pay7 (F := Ideal))) := by
  dsimp only [leftFirst]; funext j; frame_out; simp only [readCov_ld, fold_ext, fold_dd, fold_gateArr, fold_curveArr, fold_valArr, fold_gateArr', fold_own]; rfl
set_option maxHeartbeats 2000000 in
theorem s4First : (leftFirst c i b hc0 hc1 x fh).held.s4
    = View.canon (cwChain12 x.x2 (dupOf i x (wtArr c fh) (k0_pay7 (F := Ideal)))) := by
  dsimp only [leftFirst]; funext j; frame_out; simp only [readCov_ld, fold_ext, fold_dd, fold_gateArr, fold_curveArr, fold_valArr, fold_gateArr', fold_own]
  rfl
end

end Cert.Kernel2Ideal.FfnBwd
-- ==== Proof.FfnBlocks.lean ====
module

public import proofs.«01_k».proof.Proof.FfnHost
public import proofs.«01_k».proof.Proof.FfnLeft
public import proofs.«01_k».proof.Proof.Rows
public import Idealize.ShloMosaic.Lib.Pipeline.ReadBack
public import Idealize.ShloMosaic.Lib.ValueLayout

/-! The backward call of the channel mixer: the blocks staged in, by tokens. -/

@[expose] public section

set_option maxRecDepth 16384

noncomputable section

open Idealize.ShloMosaic Idealize.ShloMosaic.TcCoe Idealize.SL.Sem
open Idealize.ShloMosaic.Pipeline (Dat)

namespace Cert.Kernel2Ideal.FfnBwd

open Cert.Rows Cert.Kernel2Ideal Cert.Kernel2Ideal.Gen

variable (m : (ℓ : Loc nD τ sig) → Buf (Elt Ideal) ℓ)

theorem idx : ∀ t : Fin cfg0.N, win0_0.index t = ![15 - t.val, 0] ∧ win0_1.index t = ![15 - t.val, 0]
    ∧ win0_2.index t = ![15 - t.val, 0] ∧ win0_4.index t = ![0, 0] ∧ win0_5.index t = ![0, 0]
    ∧ win0_6.index t = ![15 - t.val, 0] ∧ win0_7.index t = ![15 - t.val, 0] ∧ win0_8.index t = ![15 - t.val, 0]
    ∧ win0_9.index t = ![0, 0] ∧ win0_10.index t = ![0, 0] := (by decide +kernel : ∀ t : Fin grid0.N, _)

theorem idx3 : ∀ t : Fin cfg0.N, win0_3.index t = ![16 * (15 - t.val) - 1, 0] := (by decide +kernel : ∀ t : Fin grid0.N, _)

theorem coord : ∀ t : Fin cfg0.N, (grid0.coords t 0).val = t.val := (by decide +kernel : ∀ t : Fin grid0.N, _)

/-- The rows before the convolution, at a token. -/
def u (c : Dev nD) (n : Fin 4096) (l : Fin 5632) : EReal := U m c (ix2 n l)
/-- The rows before the closing norm, at a token. -/
def d (c : Dev nD) (n : Fin 4096) (l : Fin 1024) : EReal := D m c (ix2 n l)
/-- The convolution's taps. -/
def cw (c : Dev nD) (k : Fin 3) (l : Fin 5632) : EReal := (m (c, Proc.tc.devRef main_arg3) : Vec Ideal S3x5632 .f32) (ix2 k l)
/-- The projection down. -/
def wd (c : Dev nD) (l : Fin 2816) (k : Fin 1024) : EReal := (m (c, Proc.tc.devRef main_arg4) : Vec Ideal S2816x1024 .f32) (ix2 l k)
/-- The closing norm's gain. -/
def pg (c : Dev nD) (l : Fin 1024) : EReal := (m (c, Proc.tc.devRef main_arg5) : Vec Ideal S1024 .f32) (ix1 l)
/-- The gradient that reaches the call. -/
def gx (c : Dev nD) (n : Fin 4096) (l : Fin 1024) : EReal := (m (c, Proc.tc.devRef main_arg6) : Vec Ideal S4096x1024 .f32) (ix2 n l)

/-- The token at row `r` of the tile of point `t`. -/
def at_ (t : Fin cfg0.N) (r : Fin 256) : Fin 4096 := ⟨256 * (15 - t.val) + 32 * (r.val % 8) + r.val / 8, by omega⟩

theorem at_tok (t : Fin cfg0.N) (r : Fin 256) (h : tok (256 * (15 - t.val) + r.val) < 4096) :
    (⟨tok (256 * (15 - t.val) + r.val), h⟩ : Fin 4096) = at_ t r := Fin.ext (by simp only [tok, at_]; omega)

theorem slim_apply (X : Vec Ideal S4096x1024 .f32) (p : Fin 4096) (l : Fin 1024) :
    slim X (ix2 p l) = X (ix2 ⟨tok p.val, tok_lt p.isLt⟩ l) := by
  pointwise [slim]
  rfl
theorem wide_apply (X : Vec Ideal S4096x5632 .f32) (p : Fin 4096) (l : Fin 5632) :
    wide X (ix2 p l) = X (ix2 ⟨tok p.val, tok_lt p.isLt⟩ l) := by
  pointwise [wide]
  rfl

theorem blk0 (c : Dev nD) (t : Fin cfg0.N) (r : Fin 256) (l : Fin 1024) :
    (iblk m c 0 t : Vec Ideal S256x1024 .f32) (ix2 r l) = gx m c (at_ t r) l := by
  blk_simp [iblk, idx t]
  rw [V39]
  refine (congrArg (slim _) (?_ : _ = ix2 (⟨256 * (15 - t.val) + r.val, by omega⟩ : Fin 4096) l)).trans ((slim_apply _ _ l).trans ?_)
  · blk_ext [idx t]
    all_goals omega
  · rw [at_tok t r]; rfl

theorem blk1 (c : Dev nD) (t : Fin cfg0.N) (r : Fin 256) (l : Fin 1024) :
    (iblk m c 1 t : Vec Ideal S256x1024 .f32) (ix2 r l) = d m c (at_ t r) l := by
  blk_simp [iblk, idx t]
  rw [V42]
  refine (congrArg (slim _) (?_ : _ = ix2 (⟨256 * (15 - t.val) + r.val, by omega⟩ : Fin 4096) l)).trans ((slim_apply _ _ l).trans ?_)
  · blk_ext [idx t]
    all_goals omega
  · rw [at_tok t r]; rfl

theorem blk2 (c : Dev nD) (t : Fin cfg0.N) (r : Fin 256) (l : Fin 5632) :
    (iblk m c 2 t : Vec Ideal S256x5632 .f32) (ix2 r l) = u m c (at_ t r) l := by
  blk_simp [iblk, idx t]
  rw [V45]
  refine (congrArg (wide _) (?_ : _ = ix2 (⟨256 * (15 - t.val) + r.val, by omega⟩ : Fin 4096) l)).trans ((wide_apply _ _ l).trans ?_)
  · blk_ext [idx t]
    all_goals omega
  · rw [at_tok t r]; rfl

theorem blk3 (c : Dev nD) (t : Fin cfg0.N) (ht : t.val < 15) (q : Fin 16) (l : Fin 5632) :
    (iblk m c 3 t : Vec Ideal S16x5632 .f32) (ix2 q l)
      = u m c ⟨256 * (14 - t.val) + 32 * (q.val % 8) + (30 + q.val / 8), by omega⟩ l := by
  blk_simp [iblk, idx3 t]
  rw [V45]
  refine (congrArg (wide _) (?_ : _ = ix2 (⟨16 * (16 * (15 - t.val) - 1) + q.val, by omega⟩ : Fin 4096) l)).trans ((wide_apply _ _ l).trans ?_)
  · blk_ext [idx3 t]
    all_goals omega
  · refine congrArg (fun n => U m c (ix2 n l)) (Fin.ext ?_)
    simp only [tok]
    omega

theorem blk4 (c : Dev nD) (t : Fin cfg0.N) (k : Fin 3) (l : Fin 5632) :
    (iblk m c 4 t : Vec Ideal S8x5632 .f32) (ix2 (⟨k.val, by omega⟩ : Fin 8) l) = cw m c k l := by
  blk_simp [iblk, idx t]
  rw [V46]
  refine (congrArg _ (?_ : _ = ix2 (⟨k.val, by omega⟩ : Fin 8) l)).trans ?_
  · blk_ext [idx t]
    all_goals omega
  · pointwise [cw]
    refine dif_pos ?_
    show ∀ a : Fin 2, _
    exact Fin.forall_fin_two.mpr ⟨⟨Nat.zero_le _, Nat.mod_one _, (Nat.div_one _).trans_lt k.isLt⟩,
      ⟨Nat.zero_le _, Nat.mod_one _, (Nat.div_one _).trans_lt l.isLt⟩⟩

theorem blk5 (c : Dev nD) (t : Fin cfg0.N) (l : Fin 1024) :
    (iblk m c 5 t : Vec Ideal S1x1024 .f32) (ix2 0 l) = pg m c l := by
  blk_simp [iblk, idx t]
  rw [V47]
  pointwise [pg]
  blk_ext [idx t]
  all_goals omega

/-- A copied block of the weight, read from it. -/
theorem wt_block (k : Fin 4) (o : ℕ) (ho : o = 704 * k.val) (inb) (hn : S704x1024.numel = S1x704x1024.numel) (W : Vec Ideal S2816x1024 .f32)
    (z0 : Fin 704) (z1 : Fin 1024) :
    ReadAs.same.apply (View.read (Elt Ideal) (((View.whole main_v36).slice (Rect.unit ![k.val, 0, 0] ![1, 704, 1024] inb)).reshape S704x1024 hn)
      (shapeCast S4x704x1024 W shapeCasts_S2816x1024_S4x704x1024 : Vec Ideal S4x704x1024 .bf16)) (ix2 z0 z1) = W (ix2 ⟨o + z0.val, by omega⟩ z1) := by
  subst ho
  have e : (Rect.unit (s := S4x704x1024) ![k.val, 0, 0] ![1, 704, 1024] inb).emb (Shape.reshapeEquiv hn (ix2 z0 z1)) = ix3 k z0 z1 := by
    rw [show Shape.reshapeEquiv hn (ix2 z0 z1) = ix3 (0 : Fin 1) z0 z1 from ValueIdx.reshapeEquiv_ix2_1ab _ _ _]
    funext a
    fin_cases a <;> refine Fin.ext ?_ <;> rw [ValueKit.rect_emb_unit_val]
    · exact Nat.add_zero k.val
    · exact Nat.zero_add z0.val
    · exact Nat.zero_add z1.val
  refine (congrArg (shapeCast S4x704x1024 W shapeCasts_S2816x1024_S4x704x1024 : Vec Ideal S4x704x1024 .f32) e).trans ?_
  pointwise []
  exact congrArg (fun n => W (ix2 n z1)) (Fin.ext (show k.val * 704 + z0.val = 704 * k.val + z0.val by omega))

/-- The weight's copied blocks, put together. -/
theorem wt_apply (c : Dev nD) (l : Fin 2816) (k : Fin 1024) : wtArr c (V m c main_v36) (ix2 l k) = wd m c l k := by
  have e : ∀ y : S2816x1024.Idx, wtArr c (V m c main_v36) y = (fun j : S2816x1024.Idx => (wd m c (j 0) (j 1) : Elt Ideal .bf16)) y := by
    intro y
    unfold wtArr
    refine View.canon_apply_of_pieces (Val := Elt Ideal) (e := .bf16) (fun j : S2816x1024.Idx => (wd m c (j 0) (j 1) : Elt Ideal .bf16)) _ ?_ y ?_
    · intro p hp
      simp only [List.mem_cons, List.not_mem_nil, or_false] at hp
      rcases hp with rfl | rfl | rfl | rfl <;> intro z <;> idx_vars z
      · refine Eq.trans ?_ (at_block (wd m c) 2112 0 inb_S2816x1024_S704x1024_2112_0 z0 z1 (by omega) (by omega)).symm
        rw [V36]
        refine (wt_block 3 2112 rfl _ _ _ z0 z1).trans ?_
        simp only [wd, Nat.zero_add]
      · refine Eq.trans ?_ (at_block (wd m c) 1408 0 inb_S2816x1024_S704x1024_1408_0 z0 z1 (by omega) (by omega)).symm
        rw [V36]
        refine (wt_block 2 1408 rfl _ _ _ z0 z1).trans ?_
        simp only [wd, Nat.zero_add]
      · refine Eq.trans ?_ (at_block (wd m c) 704 0 inb_S2816x1024_S704x1024_704_0 z0 z1 (by omega) (by omega)).symm
        rw [V36]
        refine (wt_block 1 704 rfl _ _ _ z0 z1).trans ?_
        simp only [wd, Nat.zero_add]
      · refine Eq.trans ?_ (at_block (wd m c) 0 0 inb_S2816x1024_S704x1024_0_0 z0 z1 (by omega) (by omega)).symm
        rw [V36]
        refine (wt_block 0 0 rfl _ _ _ z0 z1).trans ?_
        simp only [wd, Nat.zero_add]
    · have h0 : (y 0).val < 2816 := (y 0).isLt
      have h1 : (y 1).val < 1024 := (y 1).isLt
      by_cases a : (y 0).val < 704
      · exact ⟨_, .tail _ (.tail _ (.tail _ (.head _))), mem_block 0 0 704 1024 inb_S2816x1024_S704x1024_0_0 y ⟨by omega, by omega⟩ ⟨by omega, by omega⟩⟩
      by_cases a : (y 0).val < 1408
      · exact ⟨_, .tail _ (.tail _ (.head _)), mem_block 704 0 704 1024 inb_S2816x1024_S704x1024_704_0 y ⟨by omega, by omega⟩ ⟨by omega, by omega⟩⟩
      by_cases a : (y 0).val < 2112
      · exact ⟨_, .tail _ (.head _), mem_block 1408 0 704 1024 inb_S2816x1024_S704x1024_1408_0 y ⟨by omega, by omega⟩ ⟨by omega, by omega⟩⟩
      · exact ⟨_, .head _, mem_block 2112 0 704 1024 inb_S2816x1024_S704x1024_2112_0 y ⟨by omega, by omega⟩ ⟨by omega, by omega⟩⟩
  exact e (ix2 l k)

end Cert.Kernel2Ideal.FfnBwd
-- ==== Proof.FwdBlocks.lean ====
module

public import proofs.«01_k».proof.Proof.FwdLeft
public import proofs.«01_k».proof.Proof.FfnBlocks

/-! The forward call of the channel mixer: the operands the host prepares and the blocks staged in, by tokens. -/

@[expose] public section

set_option maxRecDepth 16384

noncomputable section

open Idealize.ShloMosaic Idealize.ShloMosaic.TcCoe Idealize.SL.Sem
open Idealize.ShloMosaic.Pipeline (Dat)

namespace Cert.Kernel6Ideal.FfnFwd

open Cert.Rows Cert.Kernel6Ideal Cert.Kernel6Ideal.Gen
open Cert.Kernel2Ideal.FfnBwd (rs slim slim_apply after_join mem_block at_block)

variable (m : (ℓ : Loc nD τ sig) → Buf (Elt Ideal) ℓ)

theorem V_stages (c : Dev nD) (b : Ref sig .tc) : V m c b = StableHlo.after (hostOps0_2 (F := Ideal)) (StableHlo.after (hostOps0_1 (F := Ideal)) (StableHlo.after (hostOps0 (F := Ideal)) fun b => m (c, b))) (Proc.tc.devRef b) := by
  simp only [← after_join]
  rfl

theorem V7 (c : Dev nD) : V m c main_v7 = slim (m (c, Proc.tc.devRef main_arg0)) := by
  rw [V_stages]
  entry_read
  rfl
theorem V8 (c : Dev nD) : V m c main_v8 = shapeCast S1x1024 (m (c, Proc.tc.devRef main_arg1) : Vec Ideal S1024 .f32) shapeCasts_S1024_S1x1024 := by
  rw [V_stages]
  entry_read
  rfl
theorem V2 (c : Dev nD) : V m c main_v2 = (transpose S4x1024x1408 [1, 0, 2] (shapeCast S1024x4x1408 (m (c, Proc.tc.devRef main_arg2) : Vec Ideal S1024x5632 .f32)
    shapeCasts_S1024x5632_S1024x4x1408) transposes_S1024x4x1408_S4x1024x1408_1_0_2 : Vec Ideal S4x1024x1408 .bf16) := by
  rw [V_stages]
  entry_read
  rfl
theorem V9 (c : Dev nD) : V m c main_v9 = pad S8x5632 ![0, 0] ![5, 0] ![0, 0] (m (c, Proc.tc.devRef main_arg3) : Vec Ideal S3x5632 .f32)
    (sitofp (F := Ideal) FTy.f32 (constantI S_ 32 0#32)) pads_S3x5632_S8x5632_050_000 h_S_ := by
  rw [V_stages]
  entry_read
  rfl
theorem V10 (c : Dev nD) : V m c main_v10 = shapeCast S1x1024 (m (c, Proc.tc.devRef main_arg5) : Vec Ideal S1024 .f32) shapeCasts_S1024_S1x1024 := by
  rw [V_stages]
  entry_read
  rfl
theorem V4 (c : Dev nD) : V m c main_v4
    = (shapeCast S4x704x1024 (m (c, Proc.tc.devRef main_arg4) : Vec Ideal S2816x1024 .f32) shapeCasts_S2816x1024_S4x704x1024
      : Vec Ideal S4x704x1024 .bf16) := by
  rw [V_stages]
  entry_read
  rfl

theorem idx : ∀ t : Fin cfg0.N, win0_0.index t = ![t.val, 0] ∧ win0_1.index t = ![0, 0]
    ∧ win0_2.index t = ![0, 0, 0] ∧ win0_3.index t = ![0, 0] ∧ win0_4.index t = ![0, 0] ∧ win0_5.index t = ![t.val, 0]
    ∧ win0_6.index t = ![t.val, 0] ∧ win0_7.index t = ![t.val, 0] ∧ win0_8.index t = ![t.val, 0] := (by decide +kernel : ∀ t : Fin grid0.N, _)

/-- The rows that enter the call, at a token. -/
def xT (c : Dev nD) (n : Fin 4096) (l : Fin 1024) : EReal := (m (c, Proc.tc.devRef main_arg0) : Vec Ideal S4096x1024 .f32) (ix2 n l)
/-- The opening norm's gain. -/
def g (c : Dev nD) (l : Fin 1024) : EReal := (m (c, Proc.tc.devRef main_arg1) : Vec Ideal S1024 .f32) (ix1 l)
/-- The projection up. -/
def wu (c : Dev nD) (k : Fin 1024) (l : Fin 5632) : EReal := (m (c, Proc.tc.devRef main_arg2) : Vec Ideal S1024x5632 .f32) (ix2 k l)
/-- The convolution's taps. -/
def cw (c : Dev nD) (k : Fin 3) (l : Fin 5632) : EReal := (m (c, Proc.tc.devRef main_arg3) : Vec Ideal S3x5632 .f32) (ix2 k l)
/-- The projection down. -/
def wd (c : Dev nD) (l : Fin 2816) (k : Fin 1024) : EReal := (m (c, Proc.tc.devRef main_arg4) : Vec Ideal S2816x1024 .f32) (ix2 l k)
/-- The closing norm's gain. -/
def pg (c : Dev nD) (l : Fin 1024) : EReal := (m (c, Proc.tc.devRef main_arg5) : Vec Ideal S1024 .f32) (ix1 l)

/-- The token at row `r` of the tile of point `t`. -/
def at_ (t : Fin cfg0.N) (r : Fin 256) : Fin 4096 := ⟨256 * t.val + 32 * (r.val % 8) + r.val / 8, by have := lt16 t; omega⟩

theorem at_tok (t : Fin cfg0.N) (r : Fin 256) (h : tok (256 * t.val + r.val) < 4096) :
    (⟨tok (256 * t.val + r.val), h⟩ : Fin 4096) = at_ t r := Fin.ext (by simp only [tok, at_]; omega)

theorem blk0 (c : Dev nD) (t : Fin cfg0.N) (r : Fin 256) (l : Fin 1024) :
    (ins m c t).x0 (ix2 r l) = xT m c (at_ t r) l := by
  show (iblk m c 0 t : Vec Ideal S256x1024 .f32) (ix2 r l) = _
  have ht := lt16 t
  blk_simp [iblk, idx t]
  rw [V7]
  refine (congrArg (slim _) (?_ : _ = ix2 (⟨256 * t.val + r.val, by omega⟩ : Fin 4096) l)).trans ((slim_apply _ _ l).trans ?_)
  · blk_ext [idx t]
    all_goals omega
  · rw [at_tok t r]; rfl

theorem blk1 (c : Dev nD) (t : Fin cfg0.N) (l : Fin 1024) : (ins m c t).x1 (ix2 0 l) = g m c l := by
  show (iblk m c 1 t : Vec Ideal S1x1024 .f32) (ix2 0 l) = _
  blk_simp [iblk, idx t]
  rw [V8]
  pointwise [g]
  blk_ext [idx t]
  all_goals omega

theorem blk2 (c : Dev nD) (t : Fin cfg0.N) (q : Fin 4) (k : Fin 1024) (l : Fin 1408) (n : Fin 5632) (h : n.val = 1408 * q.val + l.val) :
    (ins m c t).x2 (ix3 q k l) = wu m c k n := by
  show (iblk m c 2 t : Vec Ideal S4x1024x1408 .bf16) (ix3 q k l) = _
  blk_simp [iblk, idx t]
  rw [V2]
  refine (congrArg _ (?_ : _ = ix3 q k l)).trans ?_
  · blk_ext [idx t]
    all_goals omega
  · pointwise [wu]
    exact congrArg (fun z => (m (c, Proc.tc.devRef main_arg2) : Vec Ideal S1024x5632 .f32) (ix2 k z)) (Fin.ext (show q.val * 1408 + l.val = n.val by omega))

theorem blk3 (c : Dev nD) (t : Fin cfg0.N) (k : Fin 3) (l : Fin 5632) :
    (ins m c t).x3 (ix2 (⟨k.val, by omega⟩ : Fin 8) l) = cw m c k l := by
  show (iblk m c 3 t : Vec Ideal S8x5632 .f32) (ix2 (⟨k.val, by omega⟩ : Fin 8) l) = _
  blk_simp [iblk, idx t]
  rw [V9]
  refine (congrArg _ (?_ : _ = ix2 (⟨k.val, by omega⟩ : Fin 8) l)).trans ?_
  · blk_ext [idx t]
    all_goals omega
  · pointwise [cw]
    refine dif_pos ?_
    show ∀ a : Fin 2, _
    exact Fin.forall_fin_two.mpr ⟨⟨Nat.zero_le _, Nat.mod_one _, (Nat.div_one _).trans_lt k.isLt⟩,
      ⟨Nat.zero_le _, Nat.mod_one _, (Nat.div_one _).trans_lt l.isLt⟩⟩

theorem blk4 (c : Dev nD) (t : Fin cfg0.N) (l : Fin 1024) : (ins m c t).x4 (ix2 0 l) = pg m c l := by
  show (iblk m c 4 t : Vec Ideal S1x1024 .f32) (ix2 0 l) = _
  blk_simp [iblk, idx t]
  rw [V10]
  pointwise [pg]
  blk_ext [idx t]
  all_goals omega

/-- A copied block of the weight, read from it. -/
theorem wt_block (k : Fin 4) (o : ℕ) (ho : o = 704 * k.val) (inb) (hn : S704x1024.numel = S1x704x1024.numel) (W : Vec Ideal S2816x1024 .f32)
    (z0 : Fin 704) (z1 : Fin 1024) :
    ReadAs.same.apply (View.read (Elt Ideal) (((View.whole main_v4).slice (Rect.unit ![k.val, 0, 0] ![1, 704, 1024] inb)).reshape S704x1024 hn)
      (shapeCast S4x704x1024 W shapeCasts_S2816x1024_S4x704x1024 : Vec Ideal S4x704x1024 .bf16)) (ix2 z0 z1) = W (ix2 ⟨o + z0.val, by omega⟩ z1) := by
  subst ho
  have e : (Rect.unit (s := S4x704x1024) ![k.val, 0, 0] ![1, 704, 1024] inb).emb (Shape.reshapeEquiv hn (ix2 z0 z1)) = ix3 k z0 z1 := by
    rw [show Shape.reshapeEquiv hn (ix2 z0 z1) = ix3 (0 : Fin 1) z0 z1 from ValueIdx.reshapeEquiv_ix2_1ab _ _ _]
    funext a
    fin_cases a <;> refine Fin.ext ?_ <;> rw [ValueKit.rect_emb_unit_val]
    · exact Nat.add_zero k.val
    · exact Nat.zero_add z0.val
    · exact Nat.zero_add z1.val
  refine (congrArg (shapeCast S4x704x1024 W shapeCasts_S2816x1024_S4x704x1024 : Vec Ideal S4x704x1024 .f32) e).trans ?_
  pointwise []
  exact congrArg (fun n => W (ix2 n z1)) (Fin.ext (show k.val * 704 + z0.val = 704 * k.val + z0.val by omega))

/-- The weight's copied blocks, put together. -/
theorem wt_apply (c : Dev nD) (l : Fin 2816) (k : Fin 1024) : wtArr c (V m c main_v4) (ix2 l k) = wd m c l k := by
  have e : ∀ y : S2816x1024.Idx, wtArr c (V m c main_v4) y = (fun j : S2816x1024.Idx => (wd m c (j 0) (j 1) : Elt Ideal .bf16)) y := by
    intro y
    unfold wtArr
    refine View.canon_apply_of_pieces (Val := Elt Ideal) (e := .bf16) (fun j : S2816x1024.Idx => (wd m c (j 0) (j 1) : Elt Ideal .bf16)) _ ?_ y ?_
    · intro p hp
      simp only [List.mem_cons, List.not_mem_nil, or_false] at hp
      rcases hp with rfl | rfl | rfl | rfl <;> intro z <;> idx_vars z
      · refine Eq.trans ?_ (at_block (wd m c) 2112 0 inb_S2816x1024_S704x1024_2112_0 z0 z1 (by omega) (by omega)).symm
        rw [V4]
        refine (wt_block 3 2112 rfl _ _ _ z0 z1).trans ?_
        simp only [wd, Nat.zero_add]
      · refine Eq.trans ?_ (at_block (wd m c) 1408 0 inb_S2816x1024_S704x1024_1408_0 z0 z1 (by omega) (by omega)).symm
        rw [V4]
        refine (wt_block 2 1408 rfl _ _ _ z0 z1).trans ?_
        simp only [wd, Nat.zero_add]
      · refine Eq.trans ?_ (at_block (wd m c) 704 0 inb_S2816x1024_S704x1024_704_0 z0 z1 (by omega) (by omega)).symm
        rw [V4]
        refine (wt_block 1 704 rfl _ _ _ z0 z1).trans ?_
        simp only [wd, Nat.zero_add]
      · refine Eq.trans ?_ (at_block (wd m c) 0 0 inb_S2816x1024_S704x1024_0_0 z0 z1 (by omega) (by omega)).symm
        rw [V4]
        refine (wt_block 0 0 rfl _ _ _ z0 z1).trans ?_
        simp only [wd, Nat.zero_add]
    · have h0 : (y 0).val < 2816 := (y 0).isLt
      have h1 : (y 1).val < 1024 := (y 1).isLt
      by_cases a : (y 0).val < 704
      · exact ⟨_, .tail _ (.tail _ (.tail _ (.head _))), mem_block 0 0 704 1024 inb_S2816x1024_S704x1024_0_0 y ⟨by omega, by omega⟩ ⟨by omega, by omega⟩⟩
      by_cases a : (y 0).val < 1408
      · exact ⟨_, .tail _ (.tail _ (.head _)), mem_block 704 0 704 1024 inb_S2816x1024_S704x1024_704_0 y ⟨by omega, by omega⟩ ⟨by omega, by omega⟩⟩
      by_cases a : (y 0).val < 2112
      · exact ⟨_, .tail _ (.head _), mem_block 1408 0 704 1024 inb_S2816x1024_S704x1024_1408_0 y ⟨by omega, by omega⟩ ⟨by omega, by omega⟩⟩
      · exact ⟨_, .head _, mem_block 2112 0 704 1024 inb_S2816x1024_S704x1024_2112_0 y ⟨by omega, by omega⟩ ⟨by omega, by omega⟩⟩
  exact e (ix2 l k)

end Cert.Kernel6Ideal.FfnFwd
-- ==== Proof.FwdValue.lean ====
module

public import proofs.«01_k».proof.Proof.FwdBlocks

/-! The forward call of the channel mixer: what the call computes, by tokens. -/

@[expose] public section

set_option maxRecDepth 16384

noncomputable section

open Idealize.ShloMosaic Idealize.ShloMosaic.TcCoe Idealize.SL.Sem
open Idealize.ShloMosaic.Pipeline (Dat)

namespace Cert.Kernel6Ideal.FfnFwd

open Cert.Rows Cert.Kernel6Ideal Cert.Kernel6Ideal.Gen
open Cert.Kernel2Ideal.FfnBwd (rs sg ld_block)

variable (m : (ℓ : Loc nD τ sig) → Buf (Elt Ideal) ℓ)

/-- The rows under the opening norm. -/
def hT (c : Dev nD) (n : Fin 4096) (l : Fin 1024) : EReal := xT m c n l * (rs fun k => xT m c n k) * g m c l

theorem hp_of (v : Vec Ideal S256x1024 .f32) (w : Vec Ideal S1x1024 .f32) (r : Fin 256) (l : Fin 1024) (X G : Fin 1024 → EReal)
    (hv : ∀ k, v (ix2 r k) = X k) (hg : ∀ k, w (ix2 0 k) = G k) : hp v w r l = X l * (rs fun k => X k) * G l := by
  unfold hp
  simp only [hv, hg]

theorem h_eq (c : Dev nD) (t : Fin cfg0.N) (r : Fin 256) (l : Fin 1024) :
    hp (ins m c t).x0 (ins m c t).x1 r l = hT m c (at_ t r) l :=
  hp_of _ _ r l (xT m c (at_ t r)) (g m c) (blk0 m c t r) (blk1 m c t)

/-- The rows before the convolution. -/
def uT (c : Dev nD) (n : Fin 4096) (l : Fin 5632) : EReal := ∑ k : Fin 1024, hT m c n k * wu m c k l

theorem u_eq (c : Dev nD) (t : Fin cfg0.N) (r : Fin 256) (l : Fin 5632) : uAt (ins m c t) r l = uT m c (at_ t r) l :=
  Finset.sum_congr rfl fun k _ => congrArg₂ (· * ·) (h_eq m c t r k)
    (blk2 m c t _ k _ l (by show l.val = 1408 * (l.val / 1408) + l.val % 1408; omega))

/-- The rows before the convolution with two rows of zeros before them. -/
def upad (c : Dev nD) (n : ℕ) (l : Fin 5632) : EReal := if h : 2 ≤ n ∧ n < 4098 then uT m c ⟨n - 2, by omega⟩ l else 0

theorem upad_of (c : Dev nD) (n : ℕ) (p : Fin 4096) (l : Fin 5632) (h : n = p.val + 2) : upad m c n l = uT m c p l := by
  subst h
  exact dif_pos ⟨by omega, by omega⟩

theorem upad_zero (c : Dev nD) (n : ℕ) (l : Fin 5632) (h : n < 2) : upad m c n l = 0 := by
  unfold upad
  exact dif_neg (by omega)

/-- `s` holds the last rows of the tile before tile `t`: zeros before the first. -/
def Keeps (c : Dev nD) (t : ℕ) (s : Vec Ideal S16x5632 .f32) : Prop := ∀ (q : Fin 16) (l : Fin 5632),
  s (ix2 q l) = upad m c (256 * t + 32 * (q.val % 8) + (32 + q.val / 8) - 256) l

theorem keeps_zero (c : Dev nD) : Keeps m c 0 (k0_pay3 (F := Ideal)) := fun q l =>
  (pay3 (ix2 q l)).trans (upad_zero m c _ l (by omega)).symm

theorem ext_eq (c : Dev nD) (t : Fin cfg0.N) (s : Vec Ideal S16x5632 .f32) (hs : Keeps m c t.val s) (q : Fin 272) (l : Fin 5632) :
    ext (ins m c t) s q l = upad m c (256 * t.val + 32 * (q.val % 8) + q.val / 8) l := by
  have ht := lt16 t
  unfold ext
  by_cases a : q.val < 16
  · rw [dif_pos a]
    unfold halo
    by_cases b : q.val % 8 = 0
    · rw [if_pos b]
      refine (hs _ l).trans (congrArg (fun n => upad m c n l) ?_)
      show 256 * t.val + 32 * ((q.val + 7) % 16 % 8) + (32 + (q.val + 7) % 16 / 8) - 256 = _
      omega
    · rw [if_neg b]
      refine (u_eq m c t _ l).trans (upad_of m c _ _ l ?_).symm
      show _ = 256 * t.val + 32 * ((240 + (q.val - 1)) % 8) + (240 + (q.val - 1)) / 8 + 2
      omega
  · rw [dif_neg a]
    refine (u_eq m c t _ l).trans (upad_of m c _ _ l ?_).symm
    show _ = 256 * t.val + 32 * ((q.val - 16) % 8) + (q.val - 16) / 8 + 2
    omega

theorem keeps_next (c : Dev nD) (t : Fin cfg0.N) (s : Vec Ideal S16x5632 .f32) (hs : Keeps m c t.val s) : Keeps m c (t.val + 1)
    (k0_pay17 (View.ld (extArr (ins m c t) s) (Rect.unit (s := S272x5632) ![256, 0] ![16, 5632] inb_S272x5632_S16x5632_256_0))) := by
  intro q l
  rw [pay17]
  refine (ld_block _ _ _ _ _ _ (⟨256 + q.val, by omega⟩ : Fin 272) l rfl (Nat.zero_add _)).trans ?_
  rw [extArr_eq]
  refine (ext_eq m c t s hs ⟨256 + q.val, by omega⟩ l).trans (congrArg (fun n => upad m c n l) ?_)
  show 256 * t.val + 32 * ((256 + q.val) % 8) + (256 + q.val) / 8 = _
  omega

/-- The convolution of the rows. -/
def cvT (c : Dev nD) (n : Fin 4096) (l : Fin 5632) : EReal :=
  cw m c 0 l * upad m c n.val l + cw m c 1 l * upad m c (n.val + 1) l + cw m c 2 l * upad m c (n.val + 2) l

theorem tap0 (c : Dev nD) (t : Fin cfg0.N) (l : Fin 5632) : (ins m c t).x3 (ix2 0 l) = cw m c 0 l := blk3 m c t 0 l
theorem tap1 (c : Dev nD) (t : Fin cfg0.N) (l : Fin 5632) : (ins m c t).x3 (ix2 1 l) = cw m c 1 l := blk3 m c t 1 l
theorem tap2 (c : Dev nD) (t : Fin cfg0.N) (l : Fin 5632) : (ins m c t).x3 (ix2 2 l) = cw m c 2 l := blk3 m c t 2 l

theorem cv_eq (c : Dev nD) (t : Fin cfg0.N) (s : Vec Ideal S16x5632 .f32) (hs : Keeps m c t.val s) (r : Fin 256) (l : Fin 5632) :
    cv (ins m c t) s r l = cvT m c (at_ t r) l := by
  unfold cv cvT
  rw [tap0, tap1, tap2, ext_eq m c t s hs, ext_eq m c t s hs, ext_eq m c t s hs]
  refine congrArg₂ (· + ·) (congrArg₂ (· + ·) rfl ?_) ?_
  · refine congrArg (fun n => cw m c 1 l * upad m c n l) ?_
    show 256 * t.val + 32 * ((8 + r.val) % 8) + (8 + r.val) / 8 = 256 * t.val + 32 * (r.val % 8) + r.val / 8 + 1
    omega
  · refine congrArg (fun n => cw m c 2 l * upad m c n l) ?_
    show 256 * t.val + 32 * ((16 + r.val) % 8) + (16 + r.val) / 8 = 256 * t.val + 32 * (r.val % 8) + r.val / 8 + 2
    omega

/-- The activations. -/
def actT (c : Dev nD) (n : Fin 4096) (l : Fin 2816) : EReal := glu (cvT m c n ⟨l.val, by omega⟩) (cvT m c n ⟨2816 + l.val, by omega⟩)

/-- The rows behind the projection down. -/
def dT (c : Dev nD) (n : Fin 4096) (l : Fin 1024) : EReal := ∑ k : Fin 2816, actT m c n k * wd m c k l

theorem down_eq (c : Dev nD) (t : Fin cfg0.N) (s : Vec Ideal S16x5632 .f32) (hs : Keeps m c t.val s) (r : Fin 256) (l : Fin 1024) :
    down (ins m c t) s (wtArr c (V m c main_v4)) r l = dT m c (at_ t r) l :=
  Finset.sum_congr rfl fun k _ => congrArg₂ (· * ·) (by simp only [act, actT, cv_eq m c t s hs]) (wt_apply m c k l)

/-- The rows that leave the call. -/
def yT (c : Dev nD) (n : Fin 4096) (l : Fin 1024) : EReal := xT m c n l + dT m c n l * (rs fun k => dT m c n k) * pg m c l

theorem held (c : Dev nD) (n : ℕ) (h : n < cfg0.N) :
    (leftAt m c n h).held.wt = wtArr c (V m c main_v4) ∧ Keeps m c (n + 1) (leftAt m c n h).held.rows := by
  induction n with
  | zero =>
    rw [leftAt_first m c ⟨0, h⟩ rfl, wtFirst, rowsFirst]
    exact ⟨rfl, keeps_next m c ⟨0, h⟩ _ (keeps_zero m c)⟩
  | succ n ih =>
    have hn := ih (Nat.lt_of_succ_lt h)
    rw [leftAt_later m c ⟨n + 1, h⟩ (Nat.succ_ne_zero n), wtLater, rowsLater]
    exact ⟨hn.1, keeps_next m c ⟨n + 1, h⟩ _ hn.2⟩

theorem before_held (c : Dev nD) (t : Fin cfg0.N) (h : ¬t.val = 0) :
    (before m c t).wt = wtArr c (V m c main_v4) ∧ Keeps m c t.val (before m c t).rows := by
  obtain ⟨n, hn⟩ := t
  cases n with
  | zero => exact absurd rfl h
  | succ n => exact held m c n (Nat.lt_of_succ_lt hn)

theorem left5 (c : Dev nD) (t : Fin cfg0.N) : (leftAt m c t.val t.isLt).o5 = uArr (ins m c t) := by
  by_cases h0 : t.val = 0
  · rw [leftAt_first m c t h0]; exact uFirst c _ _ _ _ _
  · rw [leftAt_later m c t h0]; exact uLater c _ _ _ _ _ _

theorem left6 (c : Dev nD) (t : Fin cfg0.N) : (leftAt m c t.val t.isLt).o6 = k0_pay5 (ins m c t).x0 (ins m c t).x1 := by
  by_cases h0 : t.val = 0
  · rw [leftAt_first m c t h0]; exact hFirst c _ _ _ _ _
  · rw [leftAt_later m c t h0]; exact hLater c _ _ _ _ _ _

theorem left7 (c : Dev nD) (t : Fin cfg0.N) (r : Fin 256) (l : Fin 1024) :
    (leftAt m c t.val t.isLt).o7 (ix2 r l) = dT m c (at_ t r) l := by
  by_cases h0 : t.val = 0
  · rw [leftAt_first m c t h0, dFirst, downArr_apply, down_eq m c t _ (h0 ▸ keeps_zero m c)]
  · have hb := before_held m c t h0
    rw [leftAt_later m c t h0, dLater, downArr_apply, hb.1, down_eq m c t _ hb.2]

theorem left8 (c : Dev nD) (t : Fin cfg0.N) (r : Fin 256) (l : Fin 1024) :
    (leftAt m c t.val t.isLt).o8 (ix2 r l) = yT m c (at_ t r) l := by
  unfold yT
  by_cases h0 : t.val = 0
  · rw [leftAt_first m c t h0, yFirst, outArr_apply, blk0, blk4]
    simp only [down_eq m c t _ (h0 ▸ keeps_zero m c : Keeps m c t.val (k0_pay3 (F := Ideal)))]
  · have hb := before_held m c t h0
    rw [leftAt_later m c t h0, yLater, outArr_apply, hb.1, blk0, blk4]
    simp only [down_eq m c t _ hb.2]

/-- The rows before the convolution, in the calls' order of rows. -/
def out5 (c : Dev nD) : Vec Ideal S4096x5632 .f32 := fun j : S4096x5632.Idx => uT m c ⟨tok (j 0).val, tok_lt (j 0).isLt⟩ (j 1)

theorem arr5 (c : Dev nD) : (dats m 0 c).arrAt 5 cfg0.N = out5 m c := by
  refine (dats m 0 c).arrAt_eq_of_covers 5 _ (by decide +kernel) fun t hf z => ?_
  have ht := lt16 t
  blk_simp
  rw [after5, left5, uArr_eq]
  idx_vars z
  refine (u_eq m c t z0 z1).trans ?_
  refine Eq.trans ?_ (congrArg (out5 m c) (?_ : ix2 (⟨256 * t.val + z0.val, by omega⟩ : Fin 4096) z1 = _))
  · exact congrArg (fun n => uT m c n z1) (at_tok t z0 (tok_lt (by omega))).symm
  · blk_ext [idx t]
    all_goals omega

/-- The rows under the opening norm, in the calls' order of rows. -/
def out6 (c : Dev nD) : Vec Ideal S4096x1024 .bf16 := fun j : S4096x1024.Idx => hT m c ⟨tok (j 0).val, tok_lt (j 0).isLt⟩ (j 1)

theorem arr6 (c : Dev nD) : (dats m 0 c).arrAt 6 cfg0.N = out6 m c := by
  refine (dats m 0 c).arrAt_eq_of_covers 6 _ (by decide +kernel) fun t hf z => ?_
  have ht := lt16 t
  blk_simp
  rw [after6, left6]
  idx_vars z
  refine (pay5 _ _ z0 z1).trans ((h_eq m c t z0 z1).trans ?_)
  refine Eq.trans ?_ (congrArg (out6 m c) (?_ : ix2 (⟨256 * t.val + z0.val, by omega⟩ : Fin 4096) z1 = _))
  · exact congrArg (fun n => hT m c n z1) (at_tok t z0 (tok_lt (by omega))).symm
  · blk_ext [idx t]
    all_goals omega

/-- The rows behind the projection down, in the calls' order of rows. -/
def out7 (c : Dev nD) : Vec Ideal S4096x1024 .f32 := fun j : S4096x1024.Idx => dT m c ⟨tok (j 0).val, tok_lt (j 0).isLt⟩ (j 1)

theorem arr7 (c : Dev nD) : (dats m 0 c).arrAt 7 cfg0.N = out7 m c := by
  refine (dats m 0 c).arrAt_eq_of_covers 7 _ (by decide +kernel) fun t hf z => ?_
  have ht := lt16 t
  blk_simp
  rw [after7]
  idx_vars z
  refine (left7 m c t z0 z1).trans ?_
  refine Eq.trans ?_ (congrArg (out7 m c) (?_ : ix2 (⟨256 * t.val + z0.val, by omega⟩ : Fin 4096) z1 = _))
  · exact congrArg (fun n => dT m c n z1) (at_tok t z0 (tok_lt (by omega))).symm
  · blk_ext [idx t]
    all_goals omega

/-- The rows that leave the call, in the calls' order of rows. -/
def out8 (c : Dev nD) : Vec Ideal S4096x1024 .f32 := fun j : S4096x1024.Idx => yT m c ⟨tok (j 0).val, tok_lt (j 0).isLt⟩ (j 1)

theorem arr8 (c : Dev nD) : (dats m 0 c).arrAt 8 cfg0.N = out8 m c := by
  refine (dats m 0 c).arrAt_eq_of_covers 8 _ (by decide +kernel) fun t hf z => ?_
  have ht := lt16 t
  blk_simp
  rw [after8]
  idx_vars z
  refine (left8 m c t z0 z1).trans ?_
  refine Eq.trans ?_ (congrArg (out8 m c) (?_ : ix2 (⟨256 * t.val + z0.val, by omega⟩ : Fin 4096) z1 = _))
  · exact congrArg (fun n => yT m c n z1) (at_tok t z0 (tok_lt (by omega))).symm
  · blk_ext [idx t]
    all_goals omega

end Cert.Kernel6Ideal.FfnFwd
-- ==== Proof.FwdBits.lean ====
module

public import proofs.«01_k».proof.Defs
public import proofs.«01_k».proof.Proof.FwdFrame
public import proofs.«01_k».proof.Proof.Gen.Kernel6
public import proofs.«01_k».proof.Proof.Gen.Reference6Ideal.Run
public import Idealize.ShloMosaic.Lib.Quiescent

/-! The frames of the channel mixer's forward call and of its reference. -/

@[expose] public section

set_option maxRecDepth 16384

noncomputable section

open Idealize.ShloMosaic Idealize.ShloMosaic.TcCoe Idealize.SL.Sem

namespace Cert.Kernel6Ideal.FfnFwd

open Cert.Kernel6Ideal Cert.Kernel6Ideal.Gen

theorem frame_ideal : Cert.quiescent_Kernel6Ideal := fun m ρ _ => frame (F := Ideal) m ρ

theorem frame_reference : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- The frame of the program over `F`. -/
def Frame (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

/-- The program with its roundings is the same text. -/
theorem same_text : Cert.quiescent_Kernel6 = Frame Bits := by sl_kernel_rfl

theorem frame_bits : Cert.quiescent_Kernel6 := same_text.mpr fun m ρ _ => frame (F := Bits) m ρ

end Cert.Kernel6Ideal.FfnFwd
-- ==== Proof.FfnTokens.lean ====
module

public import proofs.«01_k».proof.Proof.FfnBlocks

/-! The backward call of the channel mixer: what a tile computes, by tokens. -/

@[expose] public section

set_option maxRecDepth 16384

noncomputable section

open Idealize.ShloMosaic Idealize.ShloMosaic.TcCoe Idealize.SL.Sem
open Idealize.ShloMosaic.Pipeline (Dat)

namespace Cert.Kernel2Ideal.FfnBwd

open Cert.Rows Cert.Kernel2Ideal Cert.Kernel2Ideal.Gen

variable (m : (ℓ : Loc nD τ sig) → Buf (Elt Ideal) ℓ)

/-- The rows before the convolution with two rows of zeros before them. -/
def upad (c : Dev nD) (n : ℕ) (l : Fin 5632) : EReal := if h : 2 ≤ n ∧ n < 4098 then u m c ⟨n - 2, by omega⟩ l else 0

theorem upad_of (c : Dev nD) (n : ℕ) (p : Fin 4096) (l : Fin 5632) (h : n = p.val + 2) : upad m c n l = u m c p l := by
  subst h
  exact dif_pos ⟨by omega, by omega⟩

theorem upad_zero (c : Dev nD) (n : ℕ) (l : Fin 5632) (h : n < 2) : upad m c n l = 0 := by
  unfold upad
  exact dif_neg (by omega)

set_option maxHeartbeats 1000000 in
theorem ext_eq (c : Dev nD) (t : Fin cfg0.N) (q : Fin 272) (l : Fin 5632) :
    ext (grid0.coords t) (ins m c t) q l = upad m c (256 * (15 - t.val) + 32 * (q.val % 8) + q.val / 8) l := by
  have ht := lt16 t
  unfold ext
  by_cases a : q.val < 16
  · rw [dif_pos a]
    unfold halo
    by_cases b : q.val % 8 = 0
    · rw [if_pos b, coord t]
      by_cases e : t.val < 15
      · rw [if_pos e]
        refine (blk3 m c t e _ l).trans (upad_of m c _ _ l ?_).symm
        show _ = 256 * (14 - t.val) + 32 * ((q.val + 7) % 16 % 8) + (30 + (q.val + 7) % 16 / 8) + 2
        omega
      · rw [if_neg e]
        exact (upad_zero m c _ l (by omega)).symm
    · rw [if_neg b]
      refine (blk2 m c t _ l).trans (upad_of m c _ _ l ?_).symm
      show _ = 256 * (15 - t.val) + 32 * ((240 + (q.val - 1)) % 8) + (240 + (q.val - 1)) / 8 + 2
      omega
  · rw [dif_neg a]
    refine (blk2 m c t _ l).trans (upad_of m c _ _ l ?_).symm
    show _ = 256 * (15 - t.val) + 32 * ((q.val - 16) % 8) + (q.val - 16) / 8 + 2
    omega

/-- The convolution of the rows. -/
def cvT (c : Dev nD) (n : Fin 4096) (l : Fin 5632) : EReal :=
  cw m c 0 l * upad m c n.val l + cw m c 1 l * upad m c (n.val + 1) l + cw m c 2 l * upad m c (n.val + 2) l

theorem tap0 (c : Dev nD) (t : Fin cfg0.N) (l : Fin 5632) : (ins m c t).x4 (ix2 0 l) = cw m c 0 l := blk4 m c t 0 l
theorem tap1 (c : Dev nD) (t : Fin cfg0.N) (l : Fin 5632) : (ins m c t).x4 (ix2 1 l) = cw m c 1 l := blk4 m c t 1 l
theorem tap2 (c : Dev nD) (t : Fin cfg0.N) (l : Fin 5632) : (ins m c t).x4 (ix2 2 l) = cw m c 2 l := blk4 m c t 2 l

theorem cv_eq (c : Dev nD) (t : Fin cfg0.N) (r : Fin 256) (l : Fin 5632) :
    cv (grid0.coords t) (ins m c t) r l = cvT m c (at_ t r) l := by
  unfold cv cvT
  rw [tap0, tap1, tap2, ext_eq, ext_eq, ext_eq]
  refine congrArg₂ (· + ·) (congrArg₂ (· + ·) ?_ ?_) ?_
  · refine congrArg (fun n => cw m c 0 l * upad m c n l) ?_
    show 256 * (15 - t.val) + 32 * (r.val % 8) + r.val / 8 = 256 * (15 - t.val) + 32 * (r.val % 8) + r.val / 8
    rfl
  · refine congrArg (fun n => cw m c 1 l * upad m c n l) ?_
    show 256 * (15 - t.val) + 32 * ((8 + r.val) % 8) + (8 + r.val) / 8 = 256 * (15 - t.val) + 32 * (r.val % 8) + r.val / 8 + 1
    omega
  · refine congrArg (fun n => cw m c 2 l * upad m c n l) ?_
    show 256 * (15 - t.val) + 32 * ((16 + r.val) % 8) + (16 + r.val) / 8 = 256 * (15 - t.val) + 32 * (r.val % 8) + r.val / 8 + 2
    omega

/-- The gradient before the closing norm. -/
def ddT (c : Dev nD) (n : Fin 4096) (l : Fin 1024) : EReal :=
  (rs fun k => d m c n k) * (pg m c l * gx m c n l)
    - d m c n l * ((rs fun k => d m c n k) * (rs fun k => d m c n k) * (rs fun k => d m c n k))
      * Ideal.div (∑ k : Fin 1024, pg m c k * gx m c n k * d m c n k) (Ideal.ofBits .f32 0x44800000#32)

theorem rows0 (c : Dev nD) (t : Fin cfg0.N) (r : Fin 256) (k : Fin 1024) : (ins m c t).x0 (ix2 r k) = gx m c (at_ t r) k := blk0 m c t r k
theorem rows1 (c : Dev nD) (t : Fin cfg0.N) (r : Fin 256) (k : Fin 1024) : (ins m c t).x1 (ix2 r k) = d m c (at_ t r) k := blk1 m c t r k
theorem rows2 (c : Dev nD) (t : Fin cfg0.N) (r : Fin 256) (k : Fin 5632) : (ins m c t).x2 (ix2 r k) = u m c (at_ t r) k := blk2 m c t r k
theorem gain5 (c : Dev nD) (t : Fin cfg0.N) (k : Fin 1024) : (ins m c t).x5 (ix2 0 k) = pg m c k := blk5 m c t k

theorem dd_of (x : Ins Ideal) (r : Fin 256) (l : Fin 1024) (D G P : Fin 1024 → EReal) (h1 : ∀ k, x.x1 (ix2 r k) = D k)
    (h0 : ∀ k, x.x0 (ix2 r k) = G k) (h5 : ∀ k, x.x5 (ix2 0 k) = P k) : dd x r l = (rs fun k => D k) * (P l * G l)
      - D l * ((rs fun k => D k) * (rs fun k => D k) * (rs fun k => D k))
        * Ideal.div (∑ k : Fin 1024, P k * G k * D k) (Ideal.ofBits .f32 0x44800000#32) := by
  unfold dd
  simp only [h1, h0, h5]

theorem dd_eq (c : Dev nD) (t : Fin cfg0.N) (r : Fin 256) (l : Fin 1024) : dd (ins m c t) r l = ddT m c (at_ t r) l :=
  dd_of (ins m c t) r l (d m c (at_ t r)) (gx m c (at_ t r)) (pg m c) (rows1 m c t r) (rows0 m c t r) (gain5 m c t)

/-- The gradient of the activations. -/
def daT (c : Dev nD) (n : Fin 4096) (l : Fin 2816) : EReal := ∑ k : Fin 1024, ddT m c n k * wd m c l k

theorem da_eq (c : Dev nD) (t : Fin cfg0.N) (r : Fin 256) (l : Fin 2816) : da (ins m c t) (wd m c) r l = daT m c (at_ t r) l :=
  Finset.sum_congr rfl fun k _ => congrArg (· * wd m c l k) (dd_eq m c t r k)

/-- The activations. -/
def actT (c : Dev nD) (n : Fin 4096) (l : Fin 2816) : EReal :=
  cvT m c n ⟨l.val, by omega⟩ * sg (cvT m c n ⟨l.val, by omega⟩) * cvT m c n ⟨2816 + l.val, by omega⟩

theorem act_eq (c : Dev nD) (t : Fin cfg0.N) (r : Fin 256) (l : Fin 2816) :
    act (grid0.coords t) (ins m c t) r l = actT m c (at_ t r) l := by
  simp only [act, actT, cv_eq]

/-- The gradient before the convolution. -/
def dupT (c : Dev nD) (n : Fin 4096) (l : Fin 5632) : EReal :=
  if h : l.val < 2816 then dgate (daT m c n ⟨l.val, h⟩) (cvT m c n l) (cvT m c n ⟨2816 + l.val, by omega⟩)
  else daT m c n ⟨l.val - 2816, by omega⟩ * (cvT m c n ⟨l.val - 2816, by omega⟩ * sg (cvT m c n ⟨l.val - 2816, by omega⟩))

theorem dup_eq (c : Dev nD) (t : Fin cfg0.N) (r : Fin 256) (l : Fin 5632) :
    dup (grid0.coords t) (ins m c t) (wd m c) r l = dupT m c (at_ t r) l := by
  simp only [dup, dupT, cv_eq, da_eq]

/-- The same with rows of zeros behind them. -/
def dpad (c : Dev nD) (n : ℕ) (l : Fin 5632) : EReal := if h : n < 4096 then dupT m c ⟨n, h⟩ l else 0

theorem dpad_of (c : Dev nD) (n : ℕ) (p : Fin 4096) (l : Fin 5632) (h : n = p.val) : dpad m c n l = dupT m c p l := by
  subst h
  exact dif_pos p.isLt

/-- A tile's rows of it with the ones behind, where the ones behind stand in `s`. -/
theorem dup'_eq (c : Dev nD) (t : Fin cfg0.N) (s : Vec Ideal S16x5632 .f32)
    (hs : ∀ (q : Fin 16) l, s (ix2 q l) = dpad m c (256 * (16 - t.val) + 32 * (q.val % 8) + q.val / 8) l) (q : Fin 272) (l : Fin 5632) :
    dup' (grid0.coords t) (ins m c t) (wd m c) s q l = dpad m c (256 * (15 - t.val) + 32 * (q.val % 8) + q.val / 8) l := by
  have ht := lt16 t
  unfold dup'
  by_cases a : q.val < 256
  · rw [dif_pos a]
    exact (dup_eq m c t _ l).trans (dpad_of m c _ _ l rfl).symm
  · rw [dif_neg a]
    by_cases b : (q.val - 256) % 8 = 7
    · rw [if_pos b, hs]
      refine congrArg (fun n => dpad m c n l) ?_
      show 256 * (16 - t.val) + 32 * ((q.val - 256 - 7) % 8) + (q.val - 256 - 7) / 8 = _
      omega
    · rw [if_neg b]
      refine (dup_eq m c t _ l).trans (dpad_of m c _ _ l ?_).symm
      show _ = 256 * (15 - t.val) + 32 * ((q.val - 256 + 1) % 16 % 8) + (q.val - 256 + 1) % 16 / 8
      omega

/-- The rows of a tile and the ones behind, as an array. -/
def dArr (c : Dev nD) (n : ℕ) : Vec Ideal S272x5632 .f32 := fun j : S272x5632.Idx =>
  dpad m c (256 * (15 - n) + 32 * ((j 0).val % 8) + (j 0).val / 8) (j 1)

theorem dupOf_eq (c : Dev nD) (t : Fin cfg0.N) (s : Vec Ideal S16x5632 .f32)
    (hs : ∀ (q : Fin 16) l, s (ix2 q l) = dpad m c (256 * (16 - t.val) + 32 * (q.val % 8) + q.val / 8) l) :
    dupOf (grid0.coords t) (ins m c t) (wtArr c (V m c main_v36)) s = dArr m c t.val := by
  unfold dupOf
  rw [dupArr_at (grid0.coords t) (ins m c t) (wd m c) _ _ (fun l k h => ?_) (fun l k h => ?_) s]
  · funext j
    exact dup'_eq m c t s hs (j 0) (j 1)
  · exact (ld_block _ _ _ _ _ _ ⟨0 + l.val, h⟩ k rfl (Nat.zero_add _)).trans (wt_apply m c ⟨0 + l.val, h⟩ k)
  · exact (ld_block _ _ _ _ _ _ ⟨1408 + l.val, h⟩ k rfl (Nat.zero_add _)).trans (wt_apply m c ⟨1408 + l.val, h⟩ k)

end Cert.Kernel2Ideal.FfnBwd
-- ==== Proof.Reals.lean ====
module

public import proofs.«01_k».proof.Proof.Consts

/-! The extended reals that are real numbers, and what keeps them so. -/

@[expose] public section

noncomputable section

open Idealize.ShloMosaic

namespace Cert.Reals

/-- A value that is a real number. -/
def Fin' (x : EReal) : Prop := ∃ r : ℝ, x = (r : EReal)

theorem coe (r : ℝ) : Fin' (r : EReal) := ⟨r, rfl⟩
theorem zero : Fin' 0 := ⟨0, rfl⟩
theorem add {x y : EReal} (hx : Fin' x) (hy : Fin' y) : Fin' (x + y) := by
  obtain ⟨a, rfl⟩ := hx; obtain ⟨b, rfl⟩ := hy; exact ⟨a + b, by norm_cast⟩
theorem sub {x y : EReal} (hx : Fin' x) (hy : Fin' y) : Fin' (x - y) := by
  obtain ⟨a, rfl⟩ := hx; obtain ⟨b, rfl⟩ := hy; exact ⟨a - b, by norm_cast⟩
theorem mul {x y : EReal} (hx : Fin' x) (hy : Fin' y) : Fin' (x * y) := by
  obtain ⟨a, rfl⟩ := hx; obtain ⟨b, rfl⟩ := hy; exact ⟨a * b, by norm_cast⟩
theorem sum {ι : Type*} {s : Finset ι} {f : ι → EReal} (h : ∀ i ∈ s, Fin' (f i)) : Fin' (∑ i ∈ s, f i) := by
  classical
  induction s using Finset.induction_on with
  | empty => exact ⟨0, by simp⟩
  | insert a s ha ih =>
    rw [Finset.sum_insert ha]
    exact add (h a (Finset.mem_insert_self a s)) (ih fun i hi => h i (Finset.mem_insert_of_mem hi))
theorem div {x : EReal} {y : ℝ} (hx : Fin' x) (hy : y ≠ 0) : Fin' (Ideal.div x (y : EReal)) := by
  rw [Ideal.div_coe hy]; exact mul hx (coe _)

/-- A value whose size is below the infinity is a real number. -/
theorem of_abs_lt {x : EReal} (h : max x (-x) < ⊤) : Fin' x := by
  induction x with
  | bot => simp at h
  | top => simp at h
  | coe r => exact ⟨r, rfl⟩

/-- Values that are real numbers, as real numbers. -/
theorem choose {ι : Type*} {f : ι → EReal} (h : ∀ i, Fin' (f i)) : ∃ g : ι → ℝ, f = fun i => (g i : EReal) :=
  ⟨fun i => (h i).choose, funext fun i => (h i).choose_spec⟩

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih]; norm_cast

end Cert.Reals
-- ==== Proof.NormRow.lean ====
module

public import proofs.«01_k».proof.Proof.Reals

/-! The gradient of a root-mean-square norm along one row. -/

@[expose] public section

noncomputable section

open Idealize.ShloMosaic

namespace Cert.NormRow

open Cert.Reals

/-- What stands under the root: the mean of the squares and a small number. -/
def under {n : ℕ} (N e : EReal) (x : Fin n → EReal) : EReal := Ideal.div (∑ k, x k * x k) N + e

theorem under_real {n : ℕ} {N e : ℝ} (hN : 0 < N) (he : 0 < e) (x : Fin n → ℝ) :
    ∃ s : ℝ, 0 < s ∧ under N e (fun k => (x k : EReal)) = ((s * s : ℝ) : EReal)
      ∧ Ideal.rsqrt (under N e fun k => (x k : EReal)) = ((s⁻¹ : ℝ) : EReal) := by
  have h0 : 0 < (∑ k, x k * x k) * (1 / N) + e :=
    add_pos_of_nonneg_of_pos (mul_nonneg (Finset.sum_nonneg fun k _ => mul_self_nonneg _) (by positivity)) he
  have h : under N e (fun k => (x k : EReal)) = (((∑ k, x k * x k) * (1 / N) + e : ℝ) : EReal) := by
    unfold under
    rw [Ideal.div_coe hN.ne']
    simp only [← EReal.coe_mul, coe_sum, ← EReal.coe_add]
  refine ⟨√((∑ k, x k * x k) * (1 / N) + e), Real.sqrt_pos.mpr h0, ?_, ?_⟩
  · rw [h, Real.mul_self_sqrt h0.le]
  · rw [h, Ideal.rsqrt_coe, if_neg h0.not_gt, if_neg h0.ne']

theorem rsqrt_fin {n : ℕ} {N e : ℝ} (hN : 0 < N) (he : 0 < e) {x : Fin n → EReal} (hx : ∀ k, Fin' (x k)) :
    Fin' (Ideal.rsqrt (under N e x)) := by
  obtain ⟨x, rfl⟩ := choose hx
  obtain ⟨s, -, -, h⟩ := under_real hN he x
  rw [h]; exact coe _

/-- The norm's gradient with the cube of the reciprocal root is the derivative taken through the root. -/
theorem bwd {n : ℕ} {N e : ℝ} (hN : 0 < N) (he : 0 < e) {x y : Fin n → EReal} (hx : ∀ k, Fin' (x k))
    (hy : ∀ k, Fin' (y k)) (i : Fin n) :
    Ideal.rsqrt (under N e x) * y i
        - x i * (Ideal.rsqrt (under N e x) * Ideal.rsqrt (under N e x) * Ideal.rsqrt (under N e x))
          * Ideal.div (∑ k, y k * x k) N
      = y i * Ideal.rsqrt (under N e x)
        + (x i * Ideal.div ((∑ k, x k * y k) * (((-1 / 2 : ℝ) : EReal) * Ideal.div (Ideal.rsqrt (under N e x)) (under N e x))) N
          + Ideal.div ((∑ k, x k * y k) * (((-1 / 2 : ℝ) : EReal) * Ideal.div (Ideal.rsqrt (under N e x)) (under N e x))) N
            * x i) := by
  obtain ⟨x, rfl⟩ := choose hx
  obtain ⟨y, rfl⟩ := choose hy
  obtain ⟨s, hs, hu, hr⟩ := under_real hN he x
  have hc : ∑ k, (y k : EReal) * (x k : EReal) = ∑ k, (x k : EReal) * (y k : EReal) :=
    Finset.sum_congr rfl fun k _ => mul_comm _ _
  rw [hc, hr, hu, Ideal.div_coe hN.ne', Ideal.div_coe hN.ne', Ideal.div_coe (mul_pos hs hs).ne']
  simp only [← EReal.coe_mul, coe_sum, ← EReal.coe_add, ← EReal.coe_sub]
  rw [EReal.coe_eq_coe_iff]
  field_simp
  ring

/-- What the kernels compute for the gradient of a norm is a real number. -/
theorem bwd_fin {n : ℕ} {N e : ℝ} (hN : 0 < N) (he : 0 < e) {x y : Fin n → EReal} (hx : ∀ k, Fin' (x k))
    (hy : ∀ k, Fin' (y k)) (i : Fin n) :
    Fin' (Ideal.rsqrt (under N e x) * y i
        - x i * (Ideal.rsqrt (under N e x) * Ideal.rsqrt (under N e x) * Ideal.rsqrt (under N e x))
          * Ideal.div (∑ k, y k * x k) N) := by
  have hr := rsqrt_fin hN he hx
  exact sub (mul hr (hy i)) (mul (mul (hx i) (mul (mul hr hr) hr)) (div (sum fun k _ => mul (hy k) (hx k)) hN.ne'))

end Cert.NormRow
-- ==== Proof.FfnRef.lean ====
module

public import proofs.«01_k».proof.Proof.FfnTokens
public import proofs.«01_k».proof.Proof.NormRow
public import proofs.«01_k».proof.Proof.Consts
public import proofs.«01_k».proof.Proof.Gen.Reference2Ideal.Run

/-! The channel mixer's derivative as its reference computes it, by tokens. -/

@[expose] public section

set_option maxRecDepth 16384

noncomputable section

open Idealize.ShloMosaic Idealize.ShloMosaic.TcCoe Idealize.SL.Sem

namespace Cert.Kernel2Ideal.FfnBwd

open Cert.Consts Cert.Reals Cert.NormRow Cert.Kernel2Ideal Cert.Kernel2Ideal.Gen
open Cert.Reference2Ideal.Value (res_main_v15 res_main_v17 res_main_v18 res_main_v21 res_main_v22 res_main_v26 res_main_v27 res_main_v30
  res_main_v31 res_main_v32 res_main_v33_2 res_main_v33_0 res_main_v34 res_main_v35 res_main_v42 res_main_v43 res_main_v48 res_main_v49
  res_main_v56 res_main_v67 res_main_v71 res_main_v72 res_main_v74 res_main_v76 res_main_v99)

/-- What a device of the reference starts from. -/
abbrev Start := Valuation Cert.Reference2Ideal.τ Cert.Reference2Ideal.sig (Elt Ideal)

/-- The reference starts from the same arguments. -/
structure Same (m : (ℓ : Loc nD τ sig) → Buf (Elt Ideal) ℓ) (c : Dev nD) (W : Start) : Prop where
  a0 : (W (Proc.tc.devRef Cert.Reference2Ideal.main_arg0) : FVec Ideal S4096x1024 .f32) = m (c, Proc.tc.devRef main_arg0)
  a1 : (W (Proc.tc.devRef Cert.Reference2Ideal.main_arg1) : FVec Ideal S1024 .f32) = m (c, Proc.tc.devRef main_arg1)
  a2 : (W (Proc.tc.devRef Cert.Reference2Ideal.main_arg2) : FVec Ideal S1024x5632 .f32) = m (c, Proc.tc.devRef main_arg2)
  a3 : (W (Proc.tc.devRef Cert.Reference2Ideal.main_arg3) : FVec Ideal S3x5632 .f32) = m (c, Proc.tc.devRef main_arg3)
  a4 : (W (Proc.tc.devRef Cert.Reference2Ideal.main_arg4) : FVec Ideal S2816x1024 .f32) = m (c, Proc.tc.devRef main_arg4)
  a5 : (W (Proc.tc.devRef Cert.Reference2Ideal.main_arg5) : FVec Ideal S1024 .f32) = m (c, Proc.tc.devRef main_arg5)
  a6 : (W (Proc.tc.devRef Cert.Reference2Ideal.main_arg6) : FVec Ideal S4096x1024 .f32) = m (c, Proc.tc.devRef main_arg6)

variable {m : (ℓ : Loc nD τ sig) → Buf (Elt Ideal) ℓ} {c : Dev nD} {W : Start}

theorem r15 (h : Same m c W) : res_main_v15 W = under (U m c) := by
  refine Eq.trans (b := under (upOf (W (Proc.tc.devRef Cert.Reference2Ideal.main_arg0)) (W (Proc.tc.devRef Cert.Reference2Ideal.main_arg1))
    (W (Proc.tc.devRef Cert.Reference2Ideal.main_arg2)))) ?_ ?_
  · unfold res_main_v15 under upOf
    rfl
  · rw [h.a0, h.a1, h.a2]
    rfl

theorem under_at (X : FVec Ideal S4096x5632 .f32) (n : Fin 4098) (l : Fin 5632) :
    under X (ix2 n l) = if h : 2 ≤ n.val then X (ix2 ⟨n.val - 2, by omega⟩ l) else 0 := by
  by_cases h : n.val < 2
  · pointwise [under]
    simp only [h, ↓reduceDIte]
    rw [dif_neg (by omega)]
  · pointwise [under]
    simp only [h, ↓reduceDIte]
    rw [dif_pos (by omega)]

theorem r15_at (h : Same m c W) (n : Fin 4098) (l : Fin 5632) :
    (res_main_v15 W : FVec Ideal S4098x5632 .f32) (ix2 n l) = upad m c n.val l := by
  rw [r15 h, under_at]
  by_cases e : 2 ≤ n.val
  · rw [dif_pos e]
    exact (upad_of m c _ ⟨n.val - 2, by omega⟩ l (by show n.val = n.val - 2 + 2; omega)).symm
  · rw [dif_neg e]
    exact (upad_zero m c _ l (by omega)).symm

theorem r17_at (h : Same m c W) (l : Fin 5632) : (res_main_v17 W : FVec Ideal S1x5632 .f32) (ix2 0 l) = cw m c 0 l := by
  unfold res_main_v17
  rw [h.a3]
  pointwise [cw]
theorem r21_at (h : Same m c W) (l : Fin 5632) : (res_main_v21 W : FVec Ideal S1x5632 .f32) (ix2 0 l) = cw m c 1 l := by
  unfold res_main_v21
  rw [h.a3]
  pointwise [cw]
theorem r26_at (h : Same m c W) (l : Fin 5632) : (res_main_v26 W : FVec Ideal S1x5632 .f32) (ix2 0 l) = cw m c 2 l := by
  unfold res_main_v26
  rw [h.a3]
  pointwise [cw]
theorem r18_at (h : Same m c W) (n : Fin 4096) (l : Fin 5632) : (res_main_v18 W : FVec Ideal S4096x5632 .f32) (ix2 n l) = upad m c n.val l := by
  refine Eq.trans ?_ (r15_at h ⟨n.val, by omega⟩ l)
  pointwise [res_main_v18]
theorem r22_at (h : Same m c W) (n : Fin 4096) (l : Fin 5632) : (res_main_v22 W : FVec Ideal S4096x5632 .f32) (ix2 n l) = upad m c (n.val + 1) l := by
  refine Eq.trans ?_ (r15_at h ⟨n.val + 1, by omega⟩ l)
  pointwise [res_main_v22]
  exact congrArg (fun z => (res_main_v15 W : FVec Ideal S4098x5632 .f32) (ix2 z l)) (Fin.ext (Nat.add_comm _ _))
theorem r27_at (h : Same m c W) (n : Fin 4096) (l : Fin 5632) : (res_main_v27 W : FVec Ideal S4096x5632 .f32) (ix2 n l) = upad m c (n.val + 2) l := by
  refine Eq.trans ?_ (r15_at h ⟨n.val + 2, by omega⟩ l)
  pointwise [res_main_v27]
  exact congrArg (fun z => (res_main_v15 W : FVec Ideal S4098x5632 .f32) (ix2 z l)) (Fin.ext (Nat.add_comm _ _))

theorem r30_at (h : Same m c W) (n : Fin 4096) (l : Fin 5632) : (res_main_v30 W : FVec Ideal S4096x5632 .f32) (ix2 n l) = cvT m c n l := by
  pointwise [res_main_v30]
  simp only [r17_at h, r21_at h, r26_at h, r18_at h, r22_at h, r27_at h]
  rfl

theorem r31_at (h : Same m c W) (n : Fin 4096) (l : Fin 2816) :
    (res_main_v31 W : FVec Ideal S4096x2816 .f32) (ix2 n l) = cvT m c n ⟨l.val, by omega⟩ := by
  refine Eq.trans ?_ (r30_at h n ⟨l.val, by omega⟩)
  pointwise [res_main_v31]
theorem r32_at (h : Same m c W) (n : Fin 4096) (l : Fin 2816) :
    (res_main_v32 W : FVec Ideal S4096x2816 .f32) (ix2 n l) = cvT m c n ⟨2816 + l.val, by omega⟩ := by
  refine Eq.trans ?_ (r30_at h n ⟨2816 + l.val, by omega⟩)
  pointwise [res_main_v32]

theorem r33_2_at (h : Same m c W) (n : Fin 4096) (l : Fin 2816) :
    (res_main_v33_2 W : FVec Ideal S4096x2816 .f32) (ix2 n l) = sg (cvT m c n ⟨l.val, by omega⟩) := by
  pointwise [res_main_v33_2]
  rw [r31_at h]
  rfl

theorem r33_0_at (h : Same m c W) (n : Fin 4096) (l : Fin 2816) :
    (res_main_v33_0 W : FVec Ideal S4096x2816 .f32) (ix2 n l) = cvT m c n ⟨l.val, by omega⟩ * sg (cvT m c n ⟨l.val, by omega⟩) := by
  pointwise [res_main_v33_0]
  rw [r31_at h, r33_2_at h]

theorem r34_at (h : Same m c W) (n : Fin 4096) (l : Fin 2816) : (res_main_v34 W : FVec Ideal S4096x2816 .f32) (ix2 n l) = actT m c n l := by
  pointwise [res_main_v34]
  rw [r33_0_at h, r32_at h]
  rfl

theorem r35 (h : Same m c W) : res_main_v35 W = D m c := by
  refine Eq.trans (b := downOf (siluOf (extractStridedSlice S4096x2816 ![0, 0] (convOf (W (Proc.tc.devRef Cert.Reference2Ideal.main_arg3)) (upOf (W (Proc.tc.devRef Cert.Reference2Ideal.main_arg0)) (W (Proc.tc.devRef Cert.Reference2Ideal.main_arg1))
    (W (Proc.tc.devRef Cert.Reference2Ideal.main_arg2)))) slices_S4096x5632_S4096x2816_0_0))
      (extractStridedSlice S4096x2816 ![0, 2816] (convOf (W (Proc.tc.devRef Cert.Reference2Ideal.main_arg3)) (upOf (W (Proc.tc.devRef Cert.Reference2Ideal.main_arg0)) (W (Proc.tc.devRef Cert.Reference2Ideal.main_arg1))
    (W (Proc.tc.devRef Cert.Reference2Ideal.main_arg2)))) slices_S4096x5632_S4096x2816_0_2816)
    (W (Proc.tc.devRef Cert.Reference2Ideal.main_arg4))) ?_ ?_
  · unfold res_main_v35 res_main_v34 res_main_v33_0 res_main_v33_2 res_main_v31 res_main_v32 res_main_v30 res_main_v17 res_main_v18 res_main_v21
      res_main_v22 res_main_v26 res_main_v27 res_main_v15 downOf siluOf convOf under upOf
    rfl
  · rw [h.a0, h.a1, h.a2, h.a3, h.a4]
    rfl

theorem r35_at (h : Same m c W) (n : Fin 4096) (l : Fin 1024) :
    (res_main_v35 W : FVec Ideal S4096x1024 .f32) (ix2 n l) = d m c n l := congrFun (r35 h) (ix2 n l)

theorem d_at (h : Same m c W) (n : Fin 4096) (k : Fin 1024) : d m c n k = ∑ l : Fin 2816, actT m c n l * wd m c l k := by
  rw [← r35_at h]
  pointwise [res_main_v35]
  simp only [r34_at h, h.a4]
  rfl

/-- The rows that enter the first norm. -/
def xin (m : (ℓ : Loc nD τ sig) → Buf (Elt Ideal) ℓ) (c : Dev nD) (n : Fin 4096) (k : Fin 1024) : EReal :=
  (m (c, Proc.tc.devRef main_arg0) : FVec Ideal S4096x1024 .f32) (ix2 n k)
/-- That norm's gain. -/
def gin (m : (ℓ : Loc nD τ sig) → Buf (Elt Ideal) ℓ) (c : Dev nD) (k : Fin 1024) : EReal :=
  (m (c, Proc.tc.devRef main_arg1) : FVec Ideal S1024 .f32) (ix1 k)
/-- The projection up. -/
def wup (m : (ℓ : Loc nD τ sig) → Buf (Elt Ideal) ℓ) (c : Dev nD) (k : Fin 1024) (l : Fin 5632) : EReal :=
  (m (c, Proc.tc.devRef main_arg2) : FVec Ideal S1024x5632 .f32) (ix2 k l)

/-- Every argument is made of real numbers. -/
structure Real' (m : (ℓ : Loc nD τ sig) → Buf (Elt Ideal) ℓ) (c : Dev nD) : Prop where
  x : ∀ (n : Fin 4096) (k : Fin 1024), Fin' (xin m c n k)
  g : ∀ k : Fin 1024, Fin' (gin m c k)
  w : ∀ (k : Fin 1024) (l : Fin 5632), Fin' (wup m c k l)
  cw : ∀ (k : Fin 3) (l : Fin 5632), Fin' (FfnBwd.cw m c k l)
  wd : ∀ (l : Fin 2816) (k : Fin 1024), Fin' (FfnBwd.wd m c l k)
  pg : ∀ l : Fin 1024, Fin' (FfnBwd.pg m c l)
  gx : ∀ (n : Fin 4096) (l : Fin 1024), Fin' (FfnBwd.gx m c n l)

theorem rs_fin {v : Fin 1024 → EReal} (hv : ∀ k, Fin' (v k)) : Fin' (rs v) := by
  obtain ⟨e, he, hE⟩ := eps
  unfold rs
  rw [hE, n1024]
  exact rsqrt_fin (N := 1024) (by norm_num) he hv

theorem sg_fin {z : EReal} (hz : Fin' z) : Fin' (sg z) := by
  obtain ⟨z, rfl⟩ := hz
  unfold sg Ideal.logistic
  rw [show -(z : EReal) = ((-z : ℝ) : EReal) from (EReal.coe_neg z).symm]
  show Fin' (Ideal.div 1 (1 + ((Real.exp (-z) : ℝ) : EReal)))
  rw [show (1 : EReal) + ((Real.exp (-z) : ℝ) : EReal) = ((1 + Real.exp (-z) : ℝ) : EReal) from by rw [EReal.coe_add]; rfl]
  exact div ⟨1, rfl⟩ (by positivity)

section
variable (r : Real' m c)
include r

theorem u_fin (n : Fin 4096) (l : Fin 5632) : Fin' (u m c n l) := by
  refine (congrArg Fin' (show u m c n l = ∑ k : Fin 1024, xin m c n k * rs (fun k => xin m c n k) * gin m c k * wup m c k l from ?_)).mpr ?_
  · pointwise [u, U, upOf, normOf]
    rfl
  · exact Reals.sum fun k _ => mul (mul (mul (r.x n k) (rs_fin (r.x n))) (r.g k)) (r.w k l)

theorem upad_fin (n : ℕ) (l : Fin 5632) : Fin' (upad m c n l) := by
  unfold upad
  split
  · exact u_fin r _ _
  · exact zero

theorem cv_fin (n : Fin 4096) (l : Fin 5632) : Fin' (cvT m c n l) :=
  add (add (mul (r.cw 0 l) (upad_fin r _ l)) (mul (r.cw 1 l) (upad_fin r _ l))) (mul (r.cw 2 l) (upad_fin r _ l))

theorem act_fin (n : Fin 4096) (l : Fin 2816) : Fin' (actT m c n l) :=
  mul (mul (cv_fin r n _) (sg_fin (cv_fin r n _))) (cv_fin r n _)

theorem dd_fin (h : ∀ n k, Fin' (d m c n k)) (n : Fin 4096) (l : Fin 1024) : Fin' (ddT m c n l) := by
  obtain ⟨e, he, hE⟩ := eps
  have := bwd_fin (N := 1024) (by norm_num) he (h n) (y := fun k => pg m c k * gx m c n k) (fun k => mul (r.pg k) (r.gx n k)) l
  unfold ddT rs
  rw [hE, n1024]
  exact this

theorem da_fin (h : ∀ n k, Fin' (d m c n k)) (n : Fin 4096) (l : Fin 2816) : Fin' (daT m c n l) :=
  Reals.sum fun k _ => mul (dd_fin r h n k) (r.wd l k)

end

theorem d_fin (r : Real' m c) (h : Same m c W) (n : Fin 4096) (k : Fin 1024) : Fin' (d m c n k) := by
  rw [d_at h]
  exact Reals.sum fun l _ => mul (act_fin r n l) (r.wd l k)

theorem r71_at (r : Real' m c) (h : Same m c W) (n : Fin 4096) (l : Fin 1024) :
    (res_main_v71 W : FVec Ideal S4096x1024 .f32) (ix2 n l) = ddT m c n l := by
  obtain ⟨e, he, hE⟩ := eps
  have hb := bwd (N := 1024) (by norm_num) he (d_fin r h n) (y := fun k => pg m c k * gx m c n k) (fun k => mul (r.pg k) (r.gx n k)) l
  unfold ddT rs
  pointwise [res_main_v71, res_main_v67, res_main_v56, res_main_v49, res_main_v43, res_main_v42]
  simp only [r35_at h, h.a5, h.a6, Finset.sum_const, Finset.card_univ, Fintype.card_fin, one_smul, hE, n1024, neg_half]
  refine Eq.trans ?_ hb.symm
  simp only [mul_comm (pg m c _) (gx m c _ _)]
  rw [← add_assoc]
  rfl

theorem r72_at (r : Real' m c) (h : Same m c W) (n : Fin 4096) (l : Fin 2816) :
    (res_main_v72 W : FVec Ideal S4096x2816 .f32) (ix2 n l) = daT m c n l := by
  pointwise [res_main_v72]
  simp only [r71_at r h, h.a4]
  rfl

/-- The derivative of a gate times its logistic curve, both ways of writing it. -/
theorem gate_eq {a z v : EReal} (ha : Fin' a) (hz : Fin' z) (hv : Fin' v) :
    a * v * sg z + z * (a * v) * (sg z * (1 - sg z)) = dgate a z v := by
  obtain ⟨s, hs⟩ := sg_fin hz
  unfold dgate
  rw [hs]
  obtain ⟨a, rfl⟩ := ha
  obtain ⟨z, rfl⟩ := hz
  obtain ⟨v, rfl⟩ := hv
  rw [show (1 : EReal) = ((1 : ℝ) : EReal) from rfl]
  simp only [← EReal.coe_mul, ← EReal.coe_add, ← EReal.coe_sub]
  rw [EReal.coe_eq_coe_iff]
  ring

theorem r76_at (r : Real' m c) (h : Same m c W) (n : Fin 4096) (l : Fin 5632) :
    (res_main_v76 W : FVec Ideal S4096x5632 .f32) (ix2 n l) = dupT m c n l := by
  unfold dupT
  by_cases e : l.val < 2816
  · pointwise [res_main_v76, res_main_v74]
    simp only [e, ↓reduceDIte]
    simp only [r72_at r h, r31_at h, r32_at h, r33_2_at h]
    exact gate_eq (da_fin r (d_fin r h) _ _) (cv_fin r _ _) (cv_fin r _ _)
  · pointwise [res_main_v76, res_main_v74]
    simp only [e, ↓reduceDIte]
    simp only [r72_at r h, r33_0_at h]
    exact (mul_comm (daT m c n _) _).symm

theorem tap_pad (a : EReal) (k : ℕ) (l : Fin 5632) : (if h : k < 4096 then a * dupT m c ⟨k, h⟩ l else 0) = a * dpad m c k l := by
  unfold dpad
  split
  · rfl
  · exact (mul_zero a).symm

theorem r99_at (r : Real' m c) (h : Same m c W) (n : Fin 4096) (l : Fin 5632) :
    (res_main_v99 W : FVec Ideal S4098x5632 .f32) (ix2 ⟨n.val + 2, by omega⟩ l)
      = cw m c 0 l * dpad m c (n.val + 2) l + cw m c 1 l * dpad m c (n.val + 1) l + cw m c 2 l * dpad m c n.val l := by
  pointwise [res_main_v99]
  simp only [r76_at r h, r17_at h, r21_at h, r26_at h]
  rw [tap_pad, tap_pad, tap_pad, add_comm (cw m c 2 l * _ + _), add_comm (cw m c 2 l * _), add_assoc]
  rfl

theorem r116_at (h : Same m c W) (n : Fin 4096) (l : Fin 1024) :
    (res_main_v48 W : FVec Ideal S4096x1024 .f32) (ix2 n l) = d m c n l * rs fun k => d m c n k := by
  pointwise [res_main_v48, res_main_v43, res_main_v42]
  simp only [r35_at h]
  rfl

end Cert.Kernel2Ideal.FfnBwd
-- ==== Proof.FwdClaim.lean ====
module

public import proofs.«01_k».proof.Proof.FwdValue
public import proofs.«01_k».proof.Proof.FwdBits
public import proofs.«01_k».proof.Proof.FfnRef
public import proofs.«01_k».proof.Proof.Gen.Reference6Ideal.Run

/-! The forward call of the channel mixer: the call against its reference. -/

@[expose] public section

set_option maxRecDepth 16384

noncomputable section

open Idealize.ShloMosaic Idealize.ShloMosaic.TcCoe Idealize.SL.Sem
open Idealize.ShloMosaic.Pipeline (Dat)

namespace Cert.Kernel6Ideal.FfnFwd

open Cert.Rows Cert.Kernel6Ideal Cert.Kernel6Ideal.Gen
open Cert.Kernel2Ideal.FfnBwd (rs sg wide slim wide_apply slim_apply normOf upOf under under_at convOf siluOf downOf dOf)

theorem norm_at (a : FVec Ideal S4096x1024 .f32) (g : FVec Ideal S1024 .f32) (n : Fin 4096) (l : Fin 1024) :
    normOf a g (ix2 n l) = a (ix2 n l) * (rs fun k => a (ix2 n k)) * g (ix1 l) := by
  pointwise [normOf, rs]

theorem up_at (a : FVec Ideal S4096x1024 .f32) (g : FVec Ideal S1024 .f32) (w : FVec Ideal S1024x5632 .f32) (n : Fin 4096) (l : Fin 5632) :
    upOf a g w (ix2 n l) = ∑ k : Fin 1024, a (ix2 n k) * (rs fun k => a (ix2 n k)) * g (ix1 k) * w (ix2 k l) := by
  pointwise [upOf, norm_at]

theorem conv_at (w : FVec Ideal S3x5632 .f32) (u : FVec Ideal S4096x5632 .f32) (n : Fin 4096) (l : Fin 5632) :
    convOf w u (ix2 n l) = w (ix2 0 l) * under u (ix2 (⟨n.val, by omega⟩ : Fin 4098) l)
      + w (ix2 1 l) * under u (ix2 (⟨1 + n.val, by omega⟩ : Fin 4098) l) + w (ix2 2 l) * under u (ix2 (⟨2 + n.val, by omega⟩ : Fin 4098) l) := by
  pointwise [convOf]

theorem down_at (z v : FVec Ideal Cert.Kernel2Ideal.S4096x2816 .f32) (w : FVec Ideal S2816x1024 .f32) (n : Fin 4096) (l : Fin 1024) :
    downOf (siluOf z) v w (ix2 n l) = ∑ k : Fin 2816, glu (z (ix2 n k)) (v (ix2 n k)) * w (ix2 k l) := by
  pointwise [downOf, siluOf, glu, sg]
  rfl

variable (m : (ℓ : Loc nD τ sig) → Buf (Elt Ideal) ℓ) (c : Dev nD)

/-- The reference's rows before the convolution. -/
def U : FVec Ideal S4096x5632 .f32 :=
  upOf (m (c, Proc.tc.devRef main_arg0)) (m (c, Proc.tc.devRef main_arg1)) (m (c, Proc.tc.devRef main_arg2))

/-- The reference's rows behind the projection down. -/
def D : FVec Ideal S4096x1024 .f32 :=
  dOf (m (c, Proc.tc.devRef main_arg0)) (m (c, Proc.tc.devRef main_arg1)) (m (c, Proc.tc.devRef main_arg2)) (m (c, Proc.tc.devRef main_arg3))
    (m (c, Proc.tc.devRef main_arg4))

theorem U_at (n : Fin 4096) (l : Fin 5632) : U m c (ix2 n l) = uT m c n l := up_at _ _ _ n l

theorem under_U (n : Fin 4098) (l : Fin 5632) : under (U m c) (ix2 n l) = upad m c n.val l := by
  rw [under_at]
  by_cases e : 2 ≤ n.val
  · rw [dif_pos e]
    exact (U_at m c _ l).trans (upad_of m c _ ⟨n.val - 2, by omega⟩ l (by show n.val = n.val - 2 + 2; omega)).symm
  · rw [dif_neg e]
    exact (upad_zero m c _ l (by omega)).symm

theorem C_at (n : Fin 4096) (l : Fin 5632) : convOf (m (c, Proc.tc.devRef main_arg3)) (U m c) (ix2 n l) = cvT m c n l := by
  rw [conv_at, under_U, under_U, under_U]
  simp only [Nat.add_comm 1 n.val, Nat.add_comm 2 n.val]
  rfl

theorem D_at (n : Fin 4096) (l : Fin 1024) : D m c (ix2 n l) = dT m c n l := by
  unfold D dOf
  refine (down_at _ _ _ n l).trans (Finset.sum_congr rfl fun k _ => congrArg₂ (· * ·) (congrArg₂ glu ?_ ?_) rfl)
  · refine Eq.trans ?_ (C_at m c n ⟨k.val, by omega⟩)
    pointwise [U]
  · refine Eq.trans ?_ (C_at m c n ⟨2816 + k.val, by omega⟩)
    pointwise [U]

theorem r5 : wide (U m c) = out5 m c := by
  funext j
  idx_vars j
  exact (wide_apply _ j0 j1).trans (U_at m c _ j1)

theorem r6 : slim (normOf (m (c, Proc.tc.devRef main_arg0)) (m (c, Proc.tc.devRef main_arg1))) = out6 m c := by
  funext j
  idx_vars j
  exact (slim_apply _ j0 j1).trans (norm_at _ _ _ j1)

theorem r7 : slim (D m c) = out7 m c := by
  funext j
  idx_vars j
  exact (slim_apply _ j0 j1).trans (D_at m c _ j1)

theorem y_at (n : Fin 4096) (l : Fin 1024) :
    addf (m (c, Proc.tc.devRef main_arg0) : FVec Ideal S4096x1024 .f32) (normOf (D m c) (m (c, Proc.tc.devRef main_arg5))) (ix2 n l) = yT m c n l := by
  pointwise [norm_at, D_at]
  rfl

theorem r8 : slim (addf (m (c, Proc.tc.devRef main_arg0) : FVec Ideal S4096x1024 .f32) (normOf (D m c) (m (c, Proc.tc.devRef main_arg5)))) = out8 m c := by
  funext j
  idx_vars j
  exact (slim_apply _ j0 j1).trans (y_at m c _ j1)

/-- What a device of the reference starts from. -/
abbrev Start := (ℓ : Loc Cert.Reference6Ideal.nD Cert.Reference6Ideal.τ Cert.Reference6Ideal.sig) → Buf (Elt Ideal) ℓ

theorem end7 (W : Start) : Cert.Reference6Ideal.Value.res_main_v58 W c
    = slim (dOf (W (c, Proc.tc.devRef Cert.Reference6Ideal.main_arg0)) (W (c, Proc.tc.devRef Cert.Reference6Ideal.main_arg1))
      (W (c, Proc.tc.devRef Cert.Reference6Ideal.main_arg2)) (W (c, Proc.tc.devRef Cert.Reference6Ideal.main_arg3))
      (W (c, Proc.tc.devRef Cert.Reference6Ideal.main_arg4))) := by
  unfold Cert.Reference6Ideal.Value.res_main_v58 slim dOf downOf siluOf convOf under upOf normOf
  rfl

theorem end8 (W : Start) : Cert.Reference6Ideal.Value.res_main_v61 W c
    = slim (addf (W (c, Proc.tc.devRef Cert.Reference6Ideal.main_arg0) : FVec Ideal S4096x1024 .f32)
      (normOf (dOf (W (c, Proc.tc.devRef Cert.Reference6Ideal.main_arg0)) (W (c, Proc.tc.devRef Cert.Reference6Ideal.main_arg1))
        (W (c, Proc.tc.devRef Cert.Reference6Ideal.main_arg2)) (W (c, Proc.tc.devRef Cert.Reference6Ideal.main_arg3))
        (W (c, Proc.tc.devRef Cert.Reference6Ideal.main_arg4))) (W (c, Proc.tc.devRef Cert.Reference6Ideal.main_arg5)))) := by
  unfold Cert.Reference6Ideal.Value.res_main_v61 slim dOf downOf siluOf convOf under upOf normOf
  rfl

theorem algebraic : Cert.algebraic_Kernel6Ideal_Reference6Ideal := by
  pair_intro
  · run_from run_blocks m g
  run_from Cert.Reference6Ideal.Value.run m' g'
  all_goals obtain ⟨h0, h1, h2, h3, h4, h5⟩ := hagree c
  · rw [arr5]
    exact r5 m c
  · rw [arr6]
    exact r6 m c
  · rw [arr7, end7]
    refine Eq.trans ?_ (r7 m c)
    unfold D
    rw [← h0, ← h1, ← h2, ← h3, ← h4]
  · rw [arr8, end8]
    refine Eq.trans ?_ (r8 m c)
    unfold D
    rw [← h0, ← h1, ← h2, ← h3, ← h4, ← h5]

end Cert.Kernel6Ideal.FfnFwd
-- ==== Proof.UpGrad.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Rows
public import proofs.«01_k».proof.Proof.NormRow
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

/-! The gradient of the channel mixer's first weight: a product over all tokens, added up tile by tile for each chip's
block of columns. -/

@[expose] public section

set_option maxRecDepth 16384

noncomputable section

open Idealize.ShloMosaic Idealize.ShloMosaic.TcCoe Idealize.SL.Sem
open Idealize.ShloMosaic.Pipeline (Dat)

namespace Cert.Kernel7Ideal.UpGrad

open Cert.Rows Cert.Kernel7Ideal Cert.Kernel7Ideal.Gen Cert.NormRow

variable (m : (ℓ : Loc nD τ sig) → Buf (Elt Ideal) ℓ)

/-- The rows before the norm. -/
def x (c : Dev nD) (n : Fin 4096) (l : Fin 1024) : EReal :=
  (m ((c : Thread nD τ).loc main_arg0) : Vec Ideal S4096x1024 .f32) (ix2 n l)
/-- The norm's gain. -/
def g (c : Dev nD) (l : Fin 1024) : EReal := (m ((c : Thread nD τ).loc main_arg1) : Vec Ideal S1024 .f32) (ix1 l)
/-- The gradient behind the product. -/
def gy (c : Dev nD) (n : Fin 4096) (k : Fin 5632) : EReal :=
  (m ((c : Thread nD τ).loc main_arg3) : Vec Ideal S4096x5632 .f32) (ix2 n k)
/-- The normed rows. -/
def h (c : Dev nD) (n : Fin 4096) (l : Fin 1024) : EReal :=
  x m c n l * Ideal.rsqrt (under (Ideal.ofBits .f32 0x44800000#32) (Ideal.ofBits .f32 0x358637BD#32) (x m c n)) * g m c l

theorem idx : ∀ t : Fin cfg0.N, win0_0.index t = ![t.val % 8, 0] ∧ win0_1.index t = ![t.val % 8, t.val / 8]
    ∧ win0_2.index t = ![t.val / 8, 0, 0] := (by decide +kernel : ∀ t : Fin grid0.N, _)

/-- Row `r` of the tile of point `t`. -/
def at_ (t : Fin cfg0.N) (r : Fin 512) : Fin 4096 := ⟨512 * (t.val % 8) + r.val, by omega⟩

/-- Column `k` of the block of columns of point `t`. -/
def col (t : Fin cfg0.N) (k : Fin 1408) : Fin 5632 :=
  ⟨1408 * (t.val / 8) + k.val, by have := t.isLt; have : cfg0.N = 32 := N_0; omega⟩

theorem blk0 (c : Dev nD) (t : Fin cfg0.N) (r : Fin 512) (l : Fin 1024) :
    (iblk m c 0 t : Vec Ideal S512x1024 .bf16) (ix2 r l) = h m c (at_ t r) l := by
  blk_simp [iblk, idx t]
  entry_read
  have e : (win0_0.blk t).view.emb (ix2 r l) = ix2 (at_ t r) l := by
    blk_ext [idx t]
    all_goals simp only [at_]; omega
  pointwise [h, x, g, under, e]

theorem blk1 (c : Dev nD) (t : Fin cfg0.N) (r : Fin 512) (k : Fin 1408) :
    (iblk m c 1 t : Vec Ideal S512x1408 .bf16) (ix2 r k) = gy m c (at_ t r) (col t k) := by
  blk_simp [iblk, idx t]
  entry_read
  pointwise [gy]
  blk_ext [idx t]
  all_goals simp only [at_, col]; omega

/-- What point `t` adds to its block of the result. -/
def term (c : Dev nD) (t : Fin cfg0.N) (j : S1x1024x1408.Idx) : EReal :=
  ∑ r : Fin 512, h m c (at_ t r) (j 1) * gy m c (at_ t r) (col t (j 2))

theorem pay1 (j : S1x1024x1408.Idx) : k0_pay1 (F := Ideal) j = 0 := by
  pointwise [k0_pay1]

theorem pay2 (a : Vec Ideal S1x1024x1408 .f32) (u : Vec Ideal S512x1024 .bf16) (v : Vec Ideal S512x1408 .bf16)
    (l : Fin 1024) (k : Fin 1408) :
    k0_pay2 a u v (ix3 0 l k) = a (ix3 0 l k) + ∑ r : Fin 512, u (ix2 r l) * v (ix2 r k) := by
  pointwise [k0_pay2]

theorem step (c : Dev nD) (t : Fin cfg0.N) (a : Vec Ideal S1x1024x1408 .f32) (j : S1x1024x1408.Idx) :
    k0_pay2 a (iblk m c 0 t) (iblk m c 1 t) j = a j + term m c t j := by
  idx_vars j
  obtain rfl : j0 = 0 := Subsingleton.elim _ _
  rw [pay2]
  simp only [blk0, blk1]
  rfl

/-- The block after the last of its eight tiles. -/
theorem acc (c : Dev nD) (t : Fin cfg0.N) (ht : t.val % 8 = 8 - 1) (j : S1x1024x1408.Idx) :
    (outsAt0 m c t.val t.isLt : Vec Ideal S1x1024x1408 .f32) j
      = 0 + ∑ s : Fin 8, term m c ⟨8 * (t.val / 8) + s.val, Pipeline.run_point_lt_of_flush t ht s⟩ j := by
  refine Pipeline.eq_sum_fin_of_reset_step_apply_of_flush (fun n h => outsAt0 m c n h) 8 (fun _ => (0 : EReal)) (term m c)
    (fun t h j => ?_) (fun t h j => ?_) t ht j
  · rw [outsAt0_A m c t h, Value.out_A_2_eq, step, pay1]
  · rw [outsAt0_B m c t h, Value.out_B_2_eq, step]

/-- The result: for each chip its block of the weight's gradient. -/
def dwArr (c : Dev nD) : Vec Ideal S4x1024x1408 .f32 := fun j : S4x1024x1408.Idx =>
  ∑ n : Fin 4096, h m c n (j 1) * gy m c n ⟨1408 * (j 0).val + (j 2).val, by
    have h0 : (j 0).val < 4 := (j 0).isLt; have h2 : (j 2).val < 1408 := (j 2).isLt; omega⟩

theorem acc_eq (c : Dev nD) (t : Fin cfg0.N) (ht : t.val % 8 = 8 - 1) : (outsAt0 m c t.val t.isLt : Vec Ideal S1x1024x1408 .f32)
    = fun j : S1x1024x1408.Idx => dwArr m c (ix3 ⟨t.val / 8, by have := t.isLt; have : cfg0.N = 32 := N_0; omega⟩ (j 1) (j 2)) := by
  funext j
  rw [acc m c t ht, zero_add]
  refine Eq.trans ?_ (sum_blocks (a := 8) (b := 512) rfl fun n => h m c n (j 1) * gy m c n (col t (j 2)))
  refine Finset.sum_congr rfl fun s _ => Finset.sum_congr rfl fun r _ => ?_
  have hr : at_ ⟨8 * (t.val / 8) + s.val, Pipeline.run_point_lt_of_flush t ht s⟩ r = ⟨512 * s.val + r.val, by omega⟩ :=
    Fin.ext (show 512 * ((8 * (t.val / 8) + s.val) % 8) + r.val = 512 * s.val + r.val by omega)
  have hc : col ⟨8 * (t.val / 8) + s.val, Pipeline.run_point_lt_of_flush t ht s⟩ (j 2) = col t (j 2) :=
    Fin.ext (show 1408 * ((8 * (t.val / 8) + s.val) / 8) + (j 2).val = 1408 * (t.val / 8) + (j 2).val by omega)
  rw [hr, hc]

theorem dw (c : Dev nD) : (dats m 0 c).arrAt 2 cfg0.N = dwArr m c := by
  refine (dats m 0 c).arrAt_eq_of_covers 2 _ (by decide +kernel) fun t hf z => ?_
  blk_simp
  rw [after0_2, acc_eq m c t ((flush0_2 t).mp hf)]
  refine congrArg (dwArr m c) ?_
  idx_vars z
  blk_ext [idx t]
  all_goals omega

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  pair_intro
  · run_from Cert.Kernel7Ideal.Value.run_blocks m g
  run_from Cert.Reference7Ideal.Value.run m' g'
  rw [dw]
  funext j
  idx_vars j
  pointwise [dwArr, h, x, gy, UpGrad.g, under]
  refine Finset.sum_congr rfl fun n _ => (mul_comm _ _).trans ?_
  simp only [Nat.mul_comm]

end Cert.Kernel7Ideal.UpGrad
-- ==== Proof.InGrad.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Run
public import proofs.«01_k».proof.Proof.Rows
public import proofs.«01_k».proof.Proof.NormRow
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.Quiescent

/-! The gradient of the sequence mixer's first weight: a product over all tokens, added up tile by tile in a scratch and
handed out at the end, one block of columns per chip. -/

@[expose] public section

set_option maxRecDepth 16384

noncomputable section

open Idealize.ShloMosaic Idealize.ShloMosaic.TcCoe Idealize.SL.Sem
open Idealize.ShloMosaic.Pipeline (Dat)

namespace Cert.Kernel8Ideal.InGrad

open Cert.Rows Cert.Kernel8Ideal Cert.Kernel8Ideal.Gen Cert.NormRow

variable (m : (ℓ : Loc nD τ sig) → Buf (Elt Ideal) ℓ)

/-- The rows before the norm. -/
def x (c : Dev nD) (n : Fin 4096) (l : Fin 1024) : EReal :=
  (m ((c : Thread nD τ).loc main_arg0) : Vec Ideal S4096x1024 .f32) (ix2 n l)
/-- The norm's gain. -/
def g (c : Dev nD) (l : Fin 1024) : EReal := (m ((c : Thread nD τ).loc main_arg1) : Vec Ideal S1024 .f32) (ix1 l)
/-- The gradient behind the product. -/
def gy (c : Dev nD) (n : Fin 4096) (k : Fin 2304) : EReal :=
  (m ((c : Thread nD τ).loc main_arg3) : Vec Ideal S4096x2304 .f32) (ix2 n k)
/-- The normed rows. -/
def h (c : Dev nD) (n : Fin 4096) (l : Fin 1024) : EReal :=
  x m c n l * Ideal.rsqrt (under (Ideal.ofBits .f32 0x44800000#32) (Ideal.ofBits .f32 0x358637BD#32) (x m c n)) * g m c l

theorem idx : ∀ t : Fin cfg0.N, win0_0.index t = ![t.val, 0] ∧ win0_1.index t = ![t.val, 0]
    ∧ win0_2.index t = ![0, 0, 0] := (by decide +kernel : ∀ t : Fin grid0.N, _)

/-- Row `r` of tile `t`. -/
def at_ (t : Fin cfg0.N) (r : Fin 512) : Fin 4096 :=
  ⟨512 * t.val + r.val, by have := t.isLt; have : cfg0.N = 8 := N_0; omega⟩

theorem blk0 (c : Dev nD) (t : Fin cfg0.N) (r : Fin 512) (l : Fin 1024) :
    (iblk m c 0 t : Vec Ideal S512x1024 .bf16) (ix2 r l) = h m c (at_ t r) l := by
  blk_simp [iblk, idx t]
  entry_read
  have e : (win0_0.blk t).view.emb (ix2 r l) = ix2 (at_ t r) l := by
    blk_ext [idx t]
    all_goals simp only [at_]; omega
  pointwise [h, x, g, under, e]

theorem blk1 (c : Dev nD) (t : Fin cfg0.N) (r : Fin 512) (k : Fin 2304) :
    (iblk m c 1 t : Vec Ideal S512x2304 .bf16) (ix2 r k) = gy m c (at_ t r) k := by
  blk_simp [iblk, idx t]
  entry_read
  pointwise [gy]
  blk_ext [idx t]
  all_goals simp only [at_]; omega

/-- What tile `t` adds to the scratch. -/
def term (c : Dev nD) (t : Fin cfg0.N) (j : S1024x2304.Idx) : EReal :=
  ∑ r : Fin 512, h m c (at_ t r) (j 0) * gy m c (at_ t r) (j 1)

theorem pay1 (j : S1024x2304.Idx) : k0_pay1 (F := Ideal) j = 0 := by
  pointwise [k0_pay1]

theorem pay2 (a : Vec Ideal S1024x2304 .f32) (u : Vec Ideal S512x1024 .bf16) (v : Vec Ideal S512x2304 .bf16)
    (l : Fin 1024) (k : Fin 2304) :
    k0_pay2 a u v (ix2 l k) = a (ix2 l k) + ∑ r : Fin 512, u (ix2 r l) * v (ix2 r k) := by
  pointwise [k0_pay2]

theorem step (c : Dev nD) (t : Fin cfg0.N) (a : Vec Ideal S1024x2304 .f32) (j : S1024x2304.Idx) :
    k0_pay2 a (iblk m c 0 t) (iblk m c 1 t) j = a j + term m c t j := by
  idx_vars j
  rw [pay2]
  simp only [blk0, blk1]
  rfl

/-- The scratch after a first tile. -/
theorem first (c : Dev nD) (t : Fin cfg0.N) (h0 : t.val % 8 = 0) :
    (outsAt0 m c t.val t.isLt).2 = k0_pay2 (k0_pay1 (F := Ideal)) (iblk m c 0 t) (iblk m c 1 t) := by
  rw [outsAt0_A m c t h0 (by omega)]; frame_out

/-- The scratch after a later tile, over what the tile before left in it. -/
theorem later (c : Dev nD) (t : Fin cfg0.N) (h0 : ¬t.val % 8 = 0) :
    (outsAt0 m c t.val t.isLt).2 = k0_pay2 (outsAt0 m c (t.val - 1) (Nat.lt_of_le_of_lt (Nat.sub_le _ _) t.isLt)).2
      (iblk m c 0 t) (iblk m c 1 t) := by
  by_cases h1 : t.val % 8 = 7
  · rw [outsAt0_C m c t h0 h1]; frame_out; simp only [read_unread_whole]
  · rw [outsAt0_B m c t h0 h1]; frame_out; simp only [read_unread_whole]

/-- The whole gradient, unsplit. -/
def dw (c : Dev nD) (l : Fin 1024) (k : Fin 2304) : EReal := ∑ n : Fin 4096, h m c n l * gy m c n k

/-- The same as an array. -/
def dwSum (c : Dev nD) : Vec Ideal S1024x2304 .f32 := fun j : S1024x2304.Idx => dw m c (j 0) (j 1)

/-- The scratch after the last tile. -/
theorem acc (c : Dev nD) : (outsAt0 m c t0_7.val t0_7.isLt).2 = dwSum m c := by
  funext j
  refine (Pipeline.eq_sum_fin_of_reset_step_apply_last (fun n h => (outsAt0 m c n h).2) 8 (fun _ => (0 : EReal)) (term m c)
    (fun t h j => ?_) (fun t h j => ?_) (le_of_eq N_0) t0_7 rfl j).trans ?_
  · rw [first m c t h, step, pay1]
  · rw [later m c t h, step]
  · rw [zero_add]
    exact sum_blocks (a := 8) (b := 512) rfl fun n => h m c n (j 0) * gy m c n (j 1)

/-- The result: for each chip its block of the weight's gradient. -/
def dwArr (c : Dev nD) : Vec Ideal S4x1024x576 .f32 := fun j : S4x1024x576.Idx =>
  dw m c (j 1) ⟨576 * (j 0).val + (j 2).val, by
    have h0 : (j 0).val < 4 := (j 0).isLt; have h2 : (j 2).val < 576 := (j 2).isLt; omega⟩

theorem pay3 (v : Vec Ideal S1024x576 .f32) (l : Fin 1024) (q : Fin 576) : k0_pay3 v (ix3 0 l q) = v (ix2 l q) := by
  pointwise [k0_pay3]

/-- The block that is handed out for chip `k`. -/
theorem piece (c : Dev nD) (k u : ℕ) (hu : u = 576 * k) (inb) (inb') (z : S1x1024x576.Idx) :
    k0_pay3 (F := Ideal) (View.ld (dwSum m c) (Rect.unit (s := S1024x2304) ![0, u] ![1024, 576] inb)) z
      = dwArr m c ((Rect.unit (s := S4x1024x576) ![k, 0, 0] ![1, 1024, 576] inb').emb z) := by
  idx_vars z
  obtain rfl : z0 = 0 := Subsingleton.elim _ _
  refine (pay3 _ z1 z2).trans ?_
  refine congrArg₂ (dw m c) (Fin.ext ?_) (Fin.ext ?_)
  · show ((Rect.unit (s := S1024x2304) ![0, u] ![1024, 576] inb).emb (ix2 z1 z2) 0).val = _
    rw [ValueKit.rect_emb_unit_val, ValueKit.rect_emb_unit_val]
    rfl
  · show ((Rect.unit (s := S1024x2304) ![0, u] ![1024, 576] inb).emb (ix2 z1 z2) 1).val = 576 * ((Rect.unit (s := S4x1024x576) ![k, 0, 0] ![1, 1024, 576] inb').emb (ix3 0 z1 z2) 0).val
      + ((Rect.unit (s := S4x1024x576) ![k, 0, 0] ![1, 1024, 576] inb').emb (ix3 0 z1 z2) 2).val
    rw [ValueKit.rect_emb_unit_val, ValueKit.rect_emb_unit_val, ValueKit.rect_emb_unit_val]
    show u + z2.val = 576 * (k + 0) + (0 + z2.val)
    omega

theorem mem_block (k : ℕ) (inb) (y : S4x1024x576.Idx) (h : (y 0).val = k) :
    y ∈ (Rect.unit (s := S4x1024x576) ![k, 0, 0] ![1, 1024, 576] inb).set := by
  refine Rect.mem_set_unit.mpr fun a => ?_
  have h1 : (y 1).val < 1024 := (y 1).isLt
  have h2 : (y 2).val < 576 := (y 2).isLt
  match a with
  | ⟨0, _⟩ => exact ⟨le_of_eq h.symm, show (y 0).val < k + 1 by omega⟩
  | ⟨1, _⟩ => exact ⟨Nat.zero_le _, show (y 1).val < 0 + 1024 by omega⟩
  | ⟨2, _⟩ => exact ⟨Nat.zero_le _, show (y 2).val < 0 + 576 by omega⟩

theorem last (c : Dev nD) : (outsAt0 m c t0_7.val t0_7.isLt).1 = dwArr m c := by
  have e := (later m c t0_7 (by decide)).symm.trans (acc m c)
  rw [outsAt0_C m c t0_7 (by decide) (by decide)]
  frame_out
  simp only [read_unread_whole]
  have hz : (![0, 0] : Fin 2 → ℕ) = fun _ => 0 := funext (Fin.forall_fin_two.mpr ⟨rfl, rfl⟩)
  rw [e]
  simp only [View.readCov_eq_canon', View.canon_unit_zero (S := S1024x2304) hz]
  funext y
  refine View.canon_apply_of_pieces (Val := Elt Ideal) (e := .f32) (dwArr m c) _ ?_ y ?_
  · intro p hp
    simp only [List.mem_cons, List.not_mem_nil, or_false] at hp
    rcases hp with rfl | rfl | rfl | rfl <;> intro z
    · exact piece m c 3 1728 rfl inb_S1024x2304_S1024x576_0_1728 inb_S4x1024x576_S1x1024x576_3_0_0 z
    · exact piece m c 2 1152 rfl inb_S1024x2304_S1024x576_0_1152 inb_S4x1024x576_S1x1024x576_2_0_0 z
    · exact piece m c 1 576 rfl inb_S1024x2304_S1024x576_0_576 inb_S4x1024x576_S1x1024x576_1_0_0 z
    · exact piece m c 0 0 rfl inb_S1024x2304_S1024x576_0_0 inb_S4x1024x576_S1x1024x576_0_0_0 z
  · have h0 : (y 0).val < 4 := (y 0).isLt
    by_cases a : (y 0).val = 3
    · exact ⟨_, .head _, mem_block 3 inb_S4x1024x576_S1x1024x576_3_0_0 y a⟩
    by_cases b : (y 0).val = 2
    · exact ⟨_, .tail _ (.head _), mem_block 2 inb_S4x1024x576_S1x1024x576_2_0_0 y b⟩
    by_cases d : (y 0).val = 1
    · exact ⟨_, .tail _ (.tail _ (.head _)), mem_block 1 inb_S4x1024x576_S1x1024x576_1_0_0 y d⟩
    · exact ⟨_, .tail _ (.tail _ (.tail _ (.head _))), mem_block 0 inb_S4x1024x576_S1x1024x576_0_0_0 y (by omega)⟩

theorem out (c : Dev nD) : (dats m 0 c).arrAt 2 cfg0.N = dwArr m c := by
  refine (dats m 0 c).arrAt_eq_of_after_last 2 t0_7 (by decide +kernel) _ fun j => ?_
  rw [after0_2, last]
  rfl

theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic : Cert.algebraic_Kernel8Ideal_Reference8Ideal := by
  pair_intro
  · run_from Cert.Kernel8Ideal.Value.run_blocks m g
  run_from Cert.Reference8Ideal.Value.run m' g'
  rw [out]
  funext j
  idx_vars j
  pointwise [dwArr, dw, h, x, gy, InGrad.g, under]
  refine Finset.sum_congr rfl fun n _ => (mul_comm _ _).trans ?_
  simp only [Nat.mul_comm]

end Cert.Kernel8Ideal.InGrad
-- ==== Proof.MixTurns.lean ====
/- The backward call of the sequence mixer: what a piece of its body does to the buffers it is handed. -/
module

public import proofs.«01_k».proof.Proof.Gen.Kernel5Ideal.Frame.Runs
public import Idealize.ShloMosaic.Lib.VecWindow

@[expose] public section

set_option maxRecDepth 65536

noncomputable section

namespace Cert.Kernel5Ideal.MixBwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable {c : Dev nD}

/-- A piece of the body that takes `P` to `Q`. -/
def Turns (c : Dev nD) (P : sProp 𝕄) {α : Type} (p : Prog (TpuEff nD τ sig (Elt F) Λ₀ .tc) α) (Q : sProp 𝕄) : Prop :=
  P ⊢ wp frame (wpE (defs₀ (F := F)) Variants.none c none) Set.univ p (fun _ => Q)

theorem Turns.pure {P : sProp 𝕄} {α : Type} (a : α) : Turns (F := F) c P (Pure.pure a : Prog (TpuEff nD τ sig (Elt F) Λ₀ .tc) α) P :=
  le_wp_ret frame (wpE (defs₀ (F := F)) Variants.none c none) Set.univ a fun _ => P

theorem Turns.bind {P Q R : sProp 𝕄} {α β : Type} {p : Prog (TpuEff nD τ sig (Elt F) Λ₀ .tc) α} {k : α → Prog (TpuEff nD τ sig (Elt F) Λ₀ .tc) β}
    (hp : Turns (F := F) c P p Q) (hk : ∀ a, Turns (F := F) c Q (k a) R) : Turns (F := F) c P (p >>= k) R := by
  unfold Turns; rw [wp_bind]
  exact BIBase.Entails.trans hp (wp_mono frame _ _ hk)

/-- A first piece that keeps what it is given. -/
theorem Turns.past {P R : sProp 𝕄} {α β : Type} {p : Prog (TpuEff nD τ sig (Elt F) Λ₀ .tc) α} {k : α → Prog (TpuEff nD τ sig (Elt F) Λ₀ .tc) β}
    (hp : Turns (F := F) c P p P) (hk : ∀ a, Turns (F := F) c P (k a) R) : Turns (F := F) c P (p >>= k) R := hp.bind hk

theorem Turns.dite {P Q : sProp 𝕄} {α : Type} {g : Prop} [Decidable g] {p : g → Prog (TpuEff nD τ sig (Elt F) Λ₀ .tc) α}
    {q : ¬g → Prog (TpuEff nD τ sig (Elt F) Λ₀ .tc) α} (hp : ∀ h, Turns (F := F) c P (p h) Q) (hq : ∀ h, Turns (F := F) c P (q h) Q) :
    Turns (F := F) c P (if h : g then p h else q h) Q := by
  split; exacts [hp _, hq _]

theorem Turns.left {P Q R : sProp 𝕄} {α : Type} {p : Prog (TpuEff nD τ sig (Elt F) Λ₀ .tc) α} (h : Turns (F := F) c P p Q) :
    Turns (F := F) c iprop(P ∗ R) p iprop(Q ∗ R) :=
  (sep_mono_left h).trans (wp_frame_r frame _ _)

theorem Turns.right {P Q R : sProp 𝕄} {α : Type} {p : Prog (TpuEff nD τ sig (Elt F) Λ₀ .tc) α} (h : Turns (F := F) c R p Q) :
    Turns (F := F) c iprop(P ∗ R) p iprop(P ∗ Q) :=
  (sep_mono_right h).trans (wp_frame_l frame _ _)

variable {sp : CoreSpace} {s : Shape} {e : EltTy}

/-- A buffer that can be read and overwritten under `P`. -/
structure Works (c : Dev nD) (P : sProp 𝕄) (b : Memref sig .tc sp s e) : Prop where
  load : ∀ (r : LoadRect s) (hl : b.view.LoadsAt r),
    Turns (F := F) c P (Prog.lift (.load b r hl) : Prog (TpuEff nD τ sig (Elt F) Λ₀ .tc) _) P
  store : ∀ (r : Rect s) (w : r.shape.Idx → Elt F e) (M : Finset r.shape.Idx) (hx : (b.access r).Stores M)
    (hm : M = Finset.univ ∨ ∀ a, r.stride a = 1),
    Turns (F := F) c P (Prog.lift (.store b r w M hx hm) : Prog (TpuEff nD τ sig (Elt F) Λ₀ .tc) _) P

theorem Works.left {P R : sProp 𝕄} {b : Memref sig .tc sp s e} (h : Works (F := F) c P b) : Works (F := F) c iprop(P ∗ R) b :=
  ⟨fun r hl => (h.load r hl).left, fun r w M hx hm => (h.store r w M hx hm).left⟩

theorem Works.right {P R : sProp 𝕄} {b : Memref sig .tc sp s e} (h : Works (F := F) c R b) : Works (F := F) c iprop(P ∗ R) b :=
  ⟨fun r hl => (h.load r hl).right, fun r w M hx hm => (h.store r w M hx hm).right⟩

theorem Works.part {I : Type} [DecidableEq I] {s' : Finset I} {Φ : I → sProp 𝕄} (i : I) (hi : i ∈ s') {b : Memref sig .tc sp s e}
    (h : Works (F := F) c (Φ i) b) : Works (F := F) c (bigSep s' Φ) b := by
  rw [bigSep_erase hi]; exact h.left

/-- A buffer owned with contents not named can be read and overwritten. -/
theorem Works.owned (b : Memref sig .tc sp s e) :
    Works (F := F) c iprop(∃ X, owns (c : Thread nD τ) b fullShare X) b where
  load r hl := by
    unfold Turns owns
    iintro ⟨%X, %f, -, H⟩
    iapply (wp_load Variants.none (c : Thread nD τ) none Set.univ (m := b) (r := r) (hl := hl) (S := b.view.set) (f := f)
      (q := fullShare) (Finset.map_subset_map.mpr (Finset.subset_univ _))) $$ H
    iintro H
    iapply (le_wp_ret frame _ _ _ _)
    iexists _, f
    isplitr; · ipureintro; rfl
    iexact H
  store r w M hx hm := by
    unfold Turns owns
    iintro ⟨%X, %f, -, H⟩
    iapply (wp_store Variants.none (c : Thread nD τ) none Set.univ (m := b) (r := r) (w := w) (Mk := M) (hx := hx) (hm := hm)
      (S := b.view.set) (f := f) ((View.setOn_subset_set _ _).trans (View.set_slice_subset _ _))) $$ H
    iintro H
    iapply (le_wp_ret frame _ _ _ _)
    iexists _, (b.access r).write (Elt F) f w M
    isplitr; · ipureintro; rfl
    iexact H

/-- A buffer holding `X`. -/
abbrev has (c : Dev nD) (b : Memref sig .tc sp s e) (X : s.Idx → Elt F e) : sProp 𝕄 := owns (c : Thread nD τ) b fullShare X

/-- A buffer holding anything. -/
abbrev held (c : Dev nD) (b : Memref sig .tc sp s e) : sProp 𝕄 := iprop(∃ X, owns (c : Thread nD τ) b fullShare X)

/-- A read of a whole buffer under `P` finds `X`. -/
def Finds (c : Dev nD) (P : sProp 𝕄) (b : Memref sig .tc sp s e) (X : s.Idx → Elt F e) : Prop :=
  ∀ (off : Fin s.rank → ℕ) (inb : ∀ a, off a + s.size a ≤ s.size a) (hl : b.view.LoadsAt (Rect.unit off s.size inb).toLoadRect),
    P ⊢ wp frame (wpE (defs₀ (F := F)) Variants.none c none) Set.univ
      (Prog.lift (.load b (Rect.unit off s.size inb).toLoadRect hl) : Prog (TpuEff nD τ sig (Elt F) Λ₀ .tc) _)
      (fun v => iprop(⌜v = X⌝ ∗ P))

theorem Finds.left {P R : sProp 𝕄} {b : Memref sig .tc sp s e} {X : s.Idx → Elt F e} (h : Finds (F := F) c P b X) :
    Finds (F := F) c iprop(P ∗ R) b X := fun off inb hl =>
  ((sep_mono_left (h off inb hl)).trans (wp_frame_r frame _ _)).trans (wp_mono frame _ _ fun _ => by
    iintro ⟨⟨H, P⟩, R⟩
    isplitl [H]; · iexact H
    isplitl [P]; · iexact P
    iexact R)

theorem Finds.right {P R : sProp 𝕄} {b : Memref sig .tc sp s e} {X : s.Idx → Elt F e} (h : Finds (F := F) c R b X) :
    Finds (F := F) c iprop(P ∗ R) b X := fun off inb hl =>
  ((sep_mono_right (h off inb hl)).trans (wp_frame_l frame _ _)).trans (wp_mono frame _ _ fun _ => by
    iintro ⟨P, ⟨H, R⟩⟩
    isplitl [H]; · iexact H
    isplitl [P]; · iexact P
    iexact R)

theorem Finds.has (b : Memref sig .tc sp s e) (X : s.Idx → Elt F e) : Finds (F := F) c (has c b X) b X := fun off inb hl => by
  unfold MixBwd.has owns
  iintro ⟨%f, %hf, H⟩
  iapply (wp_load Variants.none (c : Thread nD τ) none Set.univ (m := b) (r := (Rect.unit off s.size inb).toLoadRect) (hl := hl)
    (S := b.view.set) (f := f) (q := fullShare) (Finset.map_subset_map.mpr (Finset.subset_univ _))) $$ H
  iintro H
  iapply (le_wp_ret frame _ _ _ _)
  isplitr; · ipureintro; rw [View.readAt_full]; exact hf
  iexists f
  isplitr; · ipureintro; exact hf
  iexact H

/-- A read that finds `X` at the head of a piece. -/
theorem Turns.find {P R : sProp 𝕄} {b : Memref sig .tc sp s e} {X : s.Idx → Elt F e} (h : Finds (F := F) c P b X)
    {off : Fin s.rank → ℕ} {inb : ∀ a, off a + s.size a ≤ s.size a} {hl : b.view.LoadsAt (Rect.unit off s.size inb).toLoadRect}
    {β : Type} {k : _ → Prog (TpuEff nD τ sig (Elt F) Λ₀ .tc) β} (hk : Turns (F := F) c P (k X) R) :
    Turns (F := F) c P ((Prog.lift (.load b (Rect.unit off s.size inb).toLoadRect hl) : Prog (TpuEff nD τ sig (Elt F) Λ₀ .tc) _) >>= k) R := by
  unfold Turns at hk ⊢; rw [wp_bind]
  refine BIBase.Entails.trans (h off inb hl) (wp_mono frame _ _ fun v => ?_)
  iintro ⟨%e, H⟩
  subst e
  iapply hk
  iexact H

/-- A store over a whole buffer leaves what it stores. -/
theorem Turns.put (b : Memref sig .tc sp s e) {off : Fin s.rank → ℕ} {inb : ∀ a, off a + s.size a ≤ s.size a}
    (w : s.Idx → Elt F e) {hx : (b.access (Rect.unit off s.size inb)).Stores Finset.univ}
    {hm : Finset.univ = Finset.univ ∨ ∀ a, (Rect.unit off s.size inb).stride a = 1} :
    Turns (F := F) c (held c b) (Prog.lift (.store b (Rect.unit off s.size inb) w Finset.univ hx hm) : Prog (TpuEff nD τ sig (Elt F) Λ₀ .tc) _)
      (has c b w) := by
  unfold Turns MixBwd.held MixBwd.has owns
  iintro ⟨%X, %f, -, H⟩
  iapply (wp_store Variants.none (c : Thread nD τ) none Set.univ (m := b) (r := Rect.unit off s.size inb) (w := w) (Mk := Finset.univ)
    (hx := hx) (hm := hm) (S := b.view.set) (f := f) ((View.setOn_subset_set _ _).trans (View.set_slice_subset _ _))) $$ H
  iintro H
  iapply (le_wp_ret frame _ _ _ _)
  iexists (b.access (Rect.unit off s.size inb)).write (Elt F) f w Finset.univ
  isplitr
  · ipureintro; exact View.read_writes_full b.view f inb w []
  iexact H

theorem Turns.of {P P' Q : sProp 𝕄} {α : Type} {p : Prog (TpuEff nD τ sig (Elt F) Λ₀ .tc) α} (h : P ⊢ P') (hp : Turns (F := F) c P' p Q) :
    Turns (F := F) c P p Q := BIBase.Entails.trans h hp

theorem held_of_has (b : Memref sig .tc sp s e) (X : s.Idx → Elt F e) : (has c b X : sProp 𝕄) ⊢ held c b := by
  iintro H; iexists X; iexact H

end Cert.Kernel5Ideal.MixBwd

end
-- ==== Proof.MixBody.lean ====
/- The backward call of the sequence mixer: what its body does to the buffers it is handed. The sum behind the gain's
   gradient is followed; every other buffer is handed back, whatever it then holds. -/
module

public import proofs.«01_k».proof.Proof.MixTurns

@[expose] public section

set_option maxRecDepth 65536

noncomputable section

namespace Cert.Kernel5Ideal.MixBwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable {c : Dev nD}

/-- What is followed through the body: the sum's scratch as `S`, the gain's gradient as `R`, the two rows it comes from, and the
    other buffers. -/
abbrev state (c : Dev nD) (arg1 arg2 : Memref sig .tc .vmem S256x1024 .f32) (x y : Vec F S256x1024 .f32) (S R Z : sProp 𝕄) : sProp 𝕄 :=
  iprop(S ∗ R ∗ has c arg1 x ∗ has c arg2 y ∗ Z)

theorem Works.rest {arg1 arg2 : Memref sig .tc .vmem S256x1024 .f32} {x y : Vec F S256x1024 .f32} {S R Z : sProp 𝕄} {s : Shape} {e : EltTy}
    {b : Memref sig .tc .vmem s e} (h : Works (F := F) c Z b) : Works (F := F) c (state c arg1 arg2 x y S R Z) b :=
  h.right.right.right.right

set_option maxHeartbeats 1000000 in
/-- The body at a point: the sum starts from nothing at the first point and from `A` at any other, takes the point's rows in, and
    is stored as the gain's gradient at the last point. -/
theorem body_turns (i : grid0.Coords) (x y : Vec F S256x1024 .f32) (A : Vec F S8x1024 .f32) (S R T Z : sProp 𝕄)
    (arg1 : Memref sig .tc .vmem S256x1024 .f32) (harg1 : arg1.IsWhole) (arg2 : Memref sig .tc .vmem S256x1024 .f32) (harg2 :
    arg2.IsWhole) (arg3 : Memref sig .tc .vmem S256x2304 .f32) (harg3 : arg3.IsWhole) (arg4 : Memref sig .tc .vmem S256x640
    .f32) (harg4 : arg4.IsWhole) (arg5 : Memref sig .tc .vmem S8x256 .f32) (harg5 : arg5.IsWhole) (arg6 : Memref sig .tc .vmem
    S1x384 .f32) (harg6 : arg6.IsWhole) (arg7 : Memref sig .tc .vmem S1x384 .f32) (harg7 : arg7.IsWhole) (arg8 : Memref sig
    .tc .vmem S6x256x256 .bf16) (harg8 : arg8.IsWhole) (arg9 : Memref sig .tc .vmem S256x384 .f32) (harg9 : arg9.IsWhole)
    (arg10 : Memref sig .tc .vmem S32x384 .f32) (harg10 : arg10.IsWhole) (arg11 : Memref sig .tc .vmem S1x384 .f32) (harg11 :
    arg11.IsWhole) (arg12 : Memref sig .tc .vmem S1x384 .f32) (harg12 : arg12.IsWhole) (arg13 : Memref sig .tc .vmem S1x384
    .f32) (harg13 : arg13.IsWhole) (arg14 : Memref sig .tc .vmem S256x256 .f32) (harg14 : arg14.IsWhole) (arg15 : Memref sig
    .tc .vmem S1x1024 .f32) (harg15 : arg15.IsWhole) (arg16 : Memref sig .tc .vmem S4x256x1024 .bf16) (harg16 : arg16.IsWhole)
    (arg17 : Memref sig .tc .vmem S1x1024 .f32) (harg17 : arg17.IsWhole) (arg18 : Memref sig .tc .vmem S256x2304 .bf16)
    (harg18 : arg18.IsWhole) (arg19 : Memref sig .tc .vmem S4x256x1024 .f32) (harg19 : arg19.IsWhole) (arg20 : Memref sig .tc
    .vmem S1x1024 .f32) (harg20 : arg20.IsWhole) (arg21 : Memref sig .tc .vmem S1x1024 .f32) (harg21 : arg21.IsWhole) (arg22 :
    Memref sig .tc .vmem S8x256 .f32) (harg22 : arg22.IsWhole) (arg23 : Memref sig .tc .vmem S1x384 .f32) (harg23 :
    arg23.IsWhole) (arg24 : Memref sig .tc .vmem S1x384 .f32) (harg24 : arg24.IsWhole) (arg25 : Memref sig .tc .vmem
    S6x128x128 .f32) (harg25 : arg25.IsWhole) (arg26 : Memref sig .tc .vmem S128x128 .f32) (harg26 : arg26.IsWhole) (arg27 :
    Memref sig .tc .vmem S32x384 .f32) (harg27 : arg27.IsWhole) (arg28 : Memref sig .tc .vmem S1x384 .f32) (harg28 :
    arg28.IsWhole) (arg29 : Memref sig .tc .vmem S1x384 .f32) (harg29 : arg29.IsWhole) (arg30 : Memref sig .tc .vmem S1x384
    .f32) (harg30 : arg30.IsWhole) (arg31 : Memref sig .tc .vmem S272x256 .f32) (harg31 : arg31.IsWhole) (arg32 : Memref sig
    .tc .vmem S496x384 .f32) (harg32 : arg32.IsWhole) (arg33 : Memref sig .tc .vmem S16x256 .f32) (harg33 : arg33.IsWhole)
    (arg34 : Memref sig .tc .vmem S240x384 .f32) (harg34 : arg34.IsWhole) (arg35 : Memref sig .tc .vmem S8x1024 .f32) (harg35
    : arg35.IsWhole) (arg36 : Memref sig .tc .vmem S8x1024 .f32) (harg36 : arg36.IsWhole) (arg37 : Memref sig .tc .vmem
    S8x8x256 .f32) (harg37 : arg37.IsWhole) (arg38 : Memref sig .tc .vmem S8x384 .f32) (harg38 : arg38.IsWhole) (arg39 :
    Memref sig .tc .vmem S8x384 .f32) (harg39 : arg39.IsWhole) (arg40 : Memref sig .tc .vmem S32x8x384 .f32) (harg40 :
    arg40.IsWhole) (arg41 : Memref sig .tc .vmem S8x384 .f32) (harg41 : arg41.IsWhole) (arg42 : Memref sig .tc .vmem S8x384
    .f32) (harg42 : arg42.IsWhole) (arg43 : Memref sig .tc .vmem S8x384 .f32) (harg43 : arg43.IsWhole) (arg44 : Memref sig .tc
    .vmem S6x256x256 .bf16) (harg44 : arg44.IsWhole) (arg45 : Memref sig .tc .vmem S6x256x256 .bf16) (harg45 : arg45.IsWhole)
    (arg46 : Memref sig .tc .vmem S256x384 .f32) (harg46 : arg46.IsWhole) (arg47 : Memref sig .tc .vmem S6x256x256 .f32)
    (harg47 : arg47.IsWhole) (arg48 : Memref sig .tc .vmem S256x384 .f32) (harg48 : arg48.IsWhole)
    (first : cond0_0 i → (S ⊢ held c arg35) ∧ A = k0_pay3) (later : ¬cond0_0 i → S = has c arg35 A)
    (last : cond0_1 i → (R ⊢ held c arg20) ∧ T = has c arg20 (k0_pay36 (k0_pay103 y x A))) (early : ¬cond0_1 i → T = R)
    (k3 : Works (F := F) c Z arg3) (k4 : Works (F := F) c Z arg4) (k5 : Works (F := F) c Z arg5) (k6 : Works (F := F) c Z
    arg6) (k7 : Works (F := F) c Z arg7) (k8 : Works (F := F) c Z arg8) (k9 : Works (F := F) c Z arg9) (k10 : Works (F := F) c
    Z arg10) (k11 : Works (F := F) c Z arg11) (k12 : Works (F := F) c Z arg12) (k13 : Works (F := F) c Z arg13) (k14 : Works
    (F := F) c Z arg14) (k15 : Works (F := F) c Z arg15) (k16 : Works (F := F) c Z arg16) (k17 : Works (F := F) c Z arg17)
    (k18 : Works (F := F) c Z arg18) (k19 : Works (F := F) c Z arg19) (k21 : Works (F := F) c Z arg21) (k22 : Works (F := F) c
    Z arg22) (k23 : Works (F := F) c Z arg23) (k24 : Works (F := F) c Z arg24) (k25 : Works (F := F) c Z arg25) (k26 : Works
    (F := F) c Z arg26) (k27 : Works (F := F) c Z arg27) (k28 : Works (F := F) c Z arg28) (k29 : Works (F := F) c Z arg29)
    (k30 : Works (F := F) c Z arg30) (k31 : Works (F := F) c Z arg31) (k32 : Works (F := F) c Z arg32) (k33 : Works (F := F) c
    Z arg33) (k34 : Works (F := F) c Z arg34) (k36 : Works (F := F) c Z arg36) (k37 : Works (F := F) c Z arg37) (k38 : Works
    (F := F) c Z arg38) (k39 : Works (F := F) c Z arg39) (k40 : Works (F := F) c Z arg40) (k41 : Works (F := F) c Z arg41)
    (k42 : Works (F := F) c Z arg42) (k43 : Works (F := F) c Z arg43) (k44 : Works (F := F) c Z arg44) (k45 : Works (F := F) c
    Z arg45) (k46 : Works (F := F) c Z arg46) (k47 : Works (F := F) c Z arg47) (k48 : Works (F := F) c Z arg48) :
    Turns (F := F) c (state c arg1 arg2 x y S R Z) (cc0_mixer_bwd i
      arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28 arg29
      harg29 arg30 harg30 arg31 harg31 arg32 harg32 arg33 harg33 arg34 harg34 arg35 harg35 arg36 harg36 arg37 harg37 arg38
      harg38 arg39 harg39 arg40 harg40 arg41 harg41 arg42 harg42 arg43 harg43 arg44 harg44 arg45 harg45 arg46 harg46 arg47
      harg47 arg48 harg48)
      (state c arg1 arg2 x y (has c arg35 (k0_pay103 y x A)) T Z) := by
  rw [cc0_mixer_bwd_eq_skeleton, cc0_mixer_bwd_skel]
  refine Turns.bind (Q := state c arg1 arg2 x y (has c arg35 (k0_pay103 y x A)) R Z) ?_ fun _ => ?_
  rw [k0_part41_eq_skeleton, k0_part41_skel]
  refine Turns.bind (Q := state c arg1 arg2 x y (has c arg35 A) R Z) ?_ fun _ => ?_
  rw [k0_part11_eq_skeleton, k0_part11_skel]
  refine Turns.dite (fun h => ?_) fun h => ?_
  rw [(first h).2]
  refine Turns.of (sep_mono_left (first h).1) ?_
  refine Turns.bind (Q := state c arg1 arg2 x y (has c arg35 k0_pay3) R Z) ?_ fun _ => ?_
  rw [k0_part6_eq_skeleton, k0_part6_skel]
  refine Turns.bind (Q := state c arg1 arg2 x y (has c arg35 k0_pay3) R Z) ?_ fun _ => ?_
  rw [k0_part1_eq_skeleton, k0_part1_skel]
  refine Turns.past ((Works.owned arg35).load _ _).left fun _ => ?_
  refine Turns.bind (Turns.put arg35 _).left fun _ => ?_
  rotate_left
  rotate_left
  rotate_left
  rw [later h]
  rotate_left
  refine Turns.past ?_ fun _ => Turns.past ?_ fun _ => Turns.past ?_ fun _ => ?_
  rotate_left
  rotate_left
  rotate_left
  refine Turns.bind (Q := state c arg1 arg2 x y (has c arg35 (k0_pay103 y x A)) R Z) ?_ fun _ => ?_
  rw [k0_part15_eq_skeleton, k0_part15_skel]
  refine Turns.find (Finds.has arg2 y).left.right.right.right ?_
  refine Turns.find (Finds.has arg1 x).left.right.right ?_
  refine Turns.past (Works.load (Works.rest k17) _ _) fun _ => ?_
  refine Turns.find (Finds.has arg35 A).left ?_
  refine Turns.find (Finds.has arg35 A).left ?_
  refine Turns.bind ((Turns.of (held_of_has arg35 A) (Turns.put arg35 _)).left) fun _ => ?_
  rotate_left
  rotate_left
  refine Turns.past ?_ fun _ => Turns.past ?_ fun _ => ?_
  rotate_left
  rotate_left
  refine Turns.dite (fun h => ?_) fun h => ?_
  rw [(last h).2]
  refine Turns.bind (Q := state c arg1 arg2 x y (has c arg35 (k0_pay103 y x A)) (has c arg20 (k0_pay36 (k0_pay103 y x A))) Z) ?_ fun _ => ?_
  rw [k0_part7_eq_skeleton, k0_part7_skel]
  refine Turns.find (Finds.has arg35 _).left ?_
  refine Turns.of (sep_mono_right (sep_mono_left (last h).1)) ?_
  refine Turns.past ((Works.owned arg20).load _ _).left.right fun _ => ?_
  refine Turns.bind (Turns.put arg20 _).left.right fun _ => ?_
  rotate_left
  rotate_left
  rw [early h]
  rotate_left
  all_goals repeat' first
    | with_reducible exact Turns.pure _
    | with_reducible exact Works.load (Works.rest (by assumption)) _ _
    | with_reducible exact Works.store (Works.rest (by assumption)) _ _ _ _ _
    | with_reducible refine Turns.past ?_ fun _ => ?_
    | with_reducible refine Turns.dite (fun _ => ?_) fun _ => ?_
    | rw [k0_part2_eq_skeleton, k0_part2_skel]
    | rw [k0_part3_eq_skeleton, k0_part3_skel]
    | rw [k0_part4_eq_skeleton, k0_part4_skel]
    | rw [k0_part5_eq_skeleton, k0_part5_skel]
    | rw [k0_part8_eq_skeleton, k0_part8_skel]
    | rw [k0_part9_eq_skeleton, k0_part9_skel]
    | rw [k0_part10_eq_skeleton, k0_part10_skel]
    | rw [k0_part12_eq_skeleton, k0_part12_skel]
    | rw [k0_part13_eq_skeleton, k0_part13_skel]
    | rw [k0_part14_eq_skeleton, k0_part14_skel]
    | rw [k0_part16_eq_skeleton, k0_part16_skel]
    | rw [k0_part17_eq_skeleton, k0_part17_skel]
    | rw [k0_part18_eq_skeleton, k0_part18_skel]
    | rw [k0_part19_eq_skeleton, k0_part19_skel]
    | rw [k0_part20_eq_skeleton, k0_part20_skel]
    | rw [k0_part21_eq_skeleton, k0_part21_skel]
    | rw [k0_part22_eq_skeleton, k0_part22_skel]
    | rw [k0_part23_eq_skeleton, k0_part23_skel]
    | rw [k0_part24_eq_skeleton, k0_part24_skel]
    | rw [k0_part25_eq_skeleton, k0_part25_skel]
    | rw [k0_part26_eq_skeleton, k0_part26_skel]
    | rw [k0_part27_eq_skeleton, k0_part27_skel]
    | rw [k0_part28_eq_skeleton, k0_part28_skel]
    | rw [k0_part29_eq_skeleton, k0_part29_skel]
    | rw [k0_part30_eq_skeleton, k0_part30_skel]
    | rw [k0_part31_eq_skeleton, k0_part31_skel]
    | rw [k0_part32_eq_skeleton, k0_part32_skel]
    | rw [k0_part33_eq_skeleton, k0_part33_skel]
    | rw [k0_part34_eq_skeleton, k0_part34_skel]
    | rw [k0_part35_eq_skeleton, k0_part35_skel]
    | rw [k0_part36_eq_skeleton, k0_part36_skel]
    | rw [k0_part37_eq_skeleton, k0_part37_skel]
    | rw [k0_part38_eq_skeleton, k0_part38_skel]
    | rw [k0_part39_eq_skeleton, k0_part39_skel]
    | rw [k0_part40_eq_skeleton, k0_part40_skel]

end Cert.Kernel5Ideal.MixBwd

end
-- ==== Proof.MixFrame.lean ====
/- The backward call of the sequence mixer: the grid point by point with the gain's gradient named, the launch, and the frame. -/
module

public import proofs.«01_k».proof.Proof.MixBody
public import Idealize.ShloMosaic.Lib.Claim

@[expose] public section

set_option maxRecDepth 16384

noncomputable section

namespace Cert.Kernel5Ideal.MixBwd

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers, the sum's as `S`, and the generator register. -/
def scratch (c : Dev nD) (S : sProp 𝕄) : sProp 𝕄 :=
  iprop(iprop(
    held c scM0_0 ∗ held c scM0_1 ∗ held c scM0_2 ∗ held c scM0_3 ∗ S ∗ held c scM0_5 ∗ held c scM0_6 ∗ held c scM0_7 ∗ held c
    scM0_8 ∗ held c scM0_9 ∗ held c scM0_10 ∗ held c scM0_11 ∗ held c scM0_12 ∗ held c scM0_13 ∗ held c scM0_14 ∗ held c
    scM0_15 ∗ held c scM0_16 ∗ held c scM0_17)
    ∗ (∃ r, prngReg c r))

/-- The scratch buffers but the sum's, and the generator register. -/
def others (c : Dev nD) : sProp 𝕄 :=
  iprop(iprop(
    held c scM0_0 ∗ held c scM0_1 ∗ held c scM0_2 ∗ held c scM0_3 ∗ held c scM0_5 ∗ held c scM0_6 ∗ held c scM0_7 ∗ held c
    scM0_8 ∗ held c scM0_9 ∗ held c scM0_10 ∗ held c scM0_11 ∗ held c scM0_12 ∗ held c scM0_13 ∗ held c scM0_14 ∗ held c
    scM0_15 ∗ held c scM0_16 ∗ held c scM0_17)
    ∗ (∃ r, prngReg c r))

theorem scratch_out (c : Dev nD) (S : sProp 𝕄) : scratch c S ⊢ iprop(S ∗ others c) := by
  unfold scratch others
  iintro ⟨⟨s0, s1, s2, s3, s4, s5, s6, s7, s8, s9, s10, s11, s12, s13, s14, s15, s16, s17⟩, g⟩
  isplitl [s4]; · iexact s4
  isplitr [g]
  · isplitl [s0]; · iexact s0
    isplitl [s1]; · iexact s1
    isplitl [s2]; · iexact s2
    isplitl [s3]; · iexact s3
    isplitl [s5]; · iexact s5
    isplitl [s6]; · iexact s6
    isplitl [s7]; · iexact s7
    isplitl [s8]; · iexact s8
    isplitl [s9]; · iexact s9
    isplitl [s10]; · iexact s10
    isplitl [s11]; · iexact s11
    isplitl [s12]; · iexact s12
    isplitl [s13]; · iexact s13
    isplitl [s14]; · iexact s14
    isplitl [s15]; · iexact s15
    isplitl [s16]; · iexact s16
    iexact s17
  iexact g

theorem scratch_in (c : Dev nD) (S : sProp 𝕄) : iprop(S ∗ others c) ⊢ scratch c S := by
  unfold scratch others
  iintro ⟨s4, ⟨s0, s1, s2, s3, s5, s6, s7, s8, s9, s10, s11, s12, s13, s14, s15, s16, s17⟩, g⟩
  isplitr [g]
  · isplitl [s0]; · iexact s0
    isplitl [s1]; · iexact s1
    isplitl [s2]; · iexact s2
    isplitl [s3]; · iexact s3
    isplitl [s4]; · iexact s4
    isplitl [s5]; · iexact s5
    isplitl [s6]; · iexact s6
    isplitl [s7]; · iexact s7
    isplitl [s8]; · iexact s8
    isplitl [s9]; · iexact s9
    isplitl [s10]; · iexact s10
    isplitl [s11]; · iexact s11
    isplitl [s12]; · iexact s12
    isplitl [s13]; · iexact s13
    isplitl [s14]; · iexact s14
    isplitl [s15]; · iexact s15
    isplitl [s16]; · iexact s16
    iexact s17
  iexact g

/-- The sum after point `n`, over the point before. -/
def sumAt (c : Dev nD) : (n : ℕ) → n < cfg0.N → Vec F S8x1024 .f32
  | 0, h => k0_pay103 (iblk m c 1 ⟨0, h⟩) (iblk m c 0 ⟨0, h⟩) k0_pay3
  | n + 1, h => k0_pay103 (iblk m c 1 ⟨n + 1, h⟩) (iblk m c 0 ⟨n + 1, h⟩) (sumAt c n (Nat.lt_of_succ_lt h))

/-- What holds between the points: before the first the launch's, afterwards the sum's scratch at what was left. -/
def inv (c : Dev nD) : (n : ℕ) → n ≤ cfg0.N → sProp 𝕄
  | 0, _ => Pipeline.ΦA spec0 c
  | n + 1, h => scratch c (has c scM0_4 (sumAt m c n h))

/-- The windows whose contents are not named: all but the two rows' and the gain's gradient's. -/
def free (w : Fin cfg0.W) : Bool := !(w == (0 : Fin 30) || w == (1 : Fin 30) || w == (19 : Fin 30))

/-- The call's data: the arrays as the host left them, the two rows staged, the gain's gradient from the sum. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨19, _⟩ => k0_pay36 (sumAt m c t.val t.isLt)
    | w => Dat.unnamed w t
  Φ t := inv m c t.val (Nat.le_of_lt_succ t.isLt)
  q _ := fullShare
  owed _ := 0

theorem arr_eq (c : Dev nD) (w : Fin cfg0.W) : (dats m 0 c).A w = V m c (Pipeline.arrRef spec0 w) := by dsimp only [dats]

theorem inv_here (c : Dev nD) (t : Fin cfg0.N) : (dats m 0 c).Φ t.castSucc = inv m c t.val (Nat.le_of_lt t.isLt) := by
  dsimp only [dats]; exact Pipeline.Dat.Φ_castSucc (inv m c) t

theorem inv_next (c : Dev nD) (t : Fin cfg0.N) : (dats m 0 c).Φ t.succ = scratch c (has c scM0_4 (sumAt m c t.val t.isLt)) := rfl

theorem after0 (c : Dev nD) (t : Fin cfg0.N) : (dats m 0 c).after 0 t = iblk m c 0 t := by dsimp only [dats]; rfl
theorem after1 (c : Dev nD) (t : Fin cfg0.N) : (dats m 0 c).after 1 t = iblk m c 1 t := by dsimp only [dats]; rfl
theorem after19 (c : Dev nD) (t : Fin cfg0.N) : (dats m 0 c).after 19 t = k0_pay36 (sumAt m c t.val t.isLt) := by dsimp only [dats]; rfl

theorem block0 (c : Dev nD) (t : Fin cfg0.N) (d) : (dats m 0 c).before 0 t d = iblk m c 0 t :=
  before0_0_of m (dats m 0 c) (arr_eq m c 0) (after0 m c) t d
theorem block1 (c : Dev nD) (t : Fin cfg0.N) (d) : (dats m 0 c).before 1 t d = iblk m c 1 t :=
  before0_1_of m (dats m 0 c) (arr_eq m c 1) (after1 m c) t d

theorem lt16 (t : Fin cfg0.N) : t.val < 16 := lt_of_lt_of_eq t.isLt N_0

theorem first_iff (t : Fin cfg0.N) : cond0_0 (grid0.coords t) ↔ t.val = 0 :=
  (hcond0_0 t).trans ⟨fun e => by have := lt16 t; omega, fun e => by omega⟩

theorem last_iff (t : Fin cfg0.N) : cond0_1 (grid0.coords t) ↔ t.val = 15 :=
  (hcond0_1 t).trans ⟨fun e => by have := lt16 t; omega, fun e => by omega⟩

/-- The sum a point starts from. -/
def start (c : Dev nD) : (n : ℕ) → n < cfg0.N → Vec F S8x1024 .f32
  | 0, _ => k0_pay3
  | n + 1, h => sumAt m c n (Nat.lt_of_succ_lt h)

theorem sum_step (c : Dev nD) (n : ℕ) (h : n < cfg0.N) :
    sumAt m c n h = k0_pay103 (iblk m c 1 ⟨n, h⟩) (iblk m c 0 ⟨n, h⟩) (start m c n h) := by
  cases n <;> rfl

/-- The sum's scratch as a point finds it. -/
def found (c : Dev nD) : (n : ℕ) → n < cfg0.N → sProp 𝕄
  | 0, _ => held c scM0_4
  | n + 1, h => has c scM0_4 (sumAt m c n (Nat.lt_of_succ_lt h))

theorem inv_found (c : Dev nD) (n : ℕ) (h : n < cfg0.N) : inv m c n (Nat.le_of_lt h) = scratch c (found m c n h) := by
  cases n
  · exact PhiA0_eq c
  · rfl

/-- The staging buffer of a window at a point, with contents not named. -/
def staged (c : Dev nD) (t : Fin cfg0.N) (w : Fin cfg0.W) : sProp 𝕄 :=
  iprop(∃ X, owns (c : Thread nD τ) ((cfg0.win w).stage (cfg0.slots t w)) fullShare X)

/-- The windows not named. -/
abbrev unnamed : Finset (Fin 30) := ((Finset.univ.erase 19).erase 0).erase 1

/-- The windows, those named first. -/
theorem windows (Ψ : Fin 30 → sProp 𝕄) : bigSep Finset.univ Ψ = iprop(Ψ 19 ∗ Ψ 0 ∗ Ψ 1 ∗ bigSep unnamed Ψ) := by
  rw [bigSep_univ_split 19, bigSep_erase (s := Finset.univ.erase (19 : Fin 30)) (i := 0) (by decide),
    bigSep_erase (s := (Finset.univ.erase (19 : Fin 30)).erase 0) (i := 1) (by decide)]
  rfl

theorem free_of_mem : ∀ w ∈ unnamed, free w = true := by decide

/-- The gain's gradient as a point finds it. -/
def target (c : Dev nD) (t : Fin cfg0.N) : sProp 𝕄 :=
  iprop(∃ d, owns (c : Thread nD τ) (ms0_19 t) fullShare ((dats m 0 c).before 19 t d))

theorem leaves0 (c : Dev nD) (t : Fin cfg0.N) : (dats m 0 c).leavesExact 0 t = has c (ms0_0 t) (iblk m c 0 t) := by
  unfold Dat.leavesExact; rw [liveAt0_0 t, after0]
theorem leaves1 (c : Dev nD) (t : Fin cfg0.N) : (dats m 0 c).leavesExact 1 t = has c (ms0_1 t) (iblk m c 1 t) := by
  unfold Dat.leavesExact; rw [liveAt0_1 t, after1]

/-- Before the last point the gain's gradient is untouched. -/
theorem leaves_early (c : Dev nD) (t : Fin cfg0.N) (b : ¬cond0_1 (grid0.coords t)) : (dats m 0 c).leavesExact 19 t = target m c t := by
  by_cases a : cond0_0 (grid0.coords t)
  · exact Dat.leavesExact_idle (dats m 0 c) 19 t (idleAt0_19_A t a b) (noFlush0_19_A t a b)
  · exact Dat.leavesExact_idle (dats m 0 c) 19 t (idleAt0_19_B t a b) (noFlush0_19_B t a b)

theorem leaves_last (c : Dev nD) (t : Fin cfg0.N) (b : cond0_1 (grid0.coords t)) :
    (dats m 0 c).leavesExact 19 t = has c (ms0_19 t) (k0_pay36 (sumAt m c t.val t.isLt)) := by
  have a : ¬cond0_0 (grid0.coords t) := fun e => by
    have := (first_iff t).mp e; have := (last_iff t).mp b; omega
  unfold Dat.leavesExact; rw [liveAt0_19_C t a b, after19]

/-- The body at any point, the named buffers first. -/
theorem sound (c : Dev nD) (t : Fin cfg0.N) (O : sProp 𝕄) :
    Turns c (state c (ms0_0 t) (ms0_1 t) (iblk m c 0 t) (iblk m c 1 t) (found m c t.val t.isLt) (target m c t)
        iprop(others c ∗ O ∗ bigSep unnamed (staged (F := F) c t))) (bodyAt0 t)
      (state c (ms0_0 t) (ms0_1 t) (iblk m c 0 t) (iblk m c 1 t) (has c scM0_4 (sumAt m c t.val t.isLt)) ((dats m 0 c).leavesExact 19 t)
        iprop(others c ∗ O ∗ bigSep unnamed (staged (F := F) c t))) := by
  rw [sum_step]
  exact body_turns (grid0.coords t) (iblk m c 0 t) (iblk m c 1 t) (start m c t.val t.isLt) _ _ _ _
    (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11
    t) (ms0_12 t) (hs0_12 t) (ms0_13 t) (hs0_13 t) (ms0_14 t) (hs0_14 t) (ms0_15 t) (hs0_15 t) (ms0_16 t) (hs0_16 t) (ms0_17
    t) (hs0_17 t) (ms0_18 t) (hs0_18 t) (ms0_19 t) (hs0_19 t) (ms0_20 t) (hs0_20 t) (ms0_21 t) (hs0_21 t) (ms0_22 t) (hs0_22
    t) (ms0_23 t) (hs0_23 t) (ms0_24 t) (hs0_24 t) (ms0_25 t) (hs0_25 t) (ms0_26 t) (hs0_26 t) (ms0_27 t) (hs0_27 t) (ms0_28
    t) (hs0_28 t) (ms0_29 t) (hs0_29 t)
    scM0_0 (Memref.isWhole_whole _) scM0_1 (Memref.isWhole_whole _) scM0_2 (Memref.isWhole_whole _) scM0_3
    (Memref.isWhole_whole _) scM0_4 (Memref.isWhole_whole _) scM0_5 (Memref.isWhole_whole _) scM0_6 (Memref.isWhole_whole _)
    scM0_7 (Memref.isWhole_whole _) scM0_8 (Memref.isWhole_whole _) scM0_9 (Memref.isWhole_whole _) scM0_10
    (Memref.isWhole_whole _) scM0_11 (Memref.isWhole_whole _) scM0_12 (Memref.isWhole_whole _) scM0_13 (Memref.isWhole_whole
    _) scM0_14 (Memref.isWhole_whole _) scM0_15 (Memref.isWhole_whole _) scM0_16 (Memref.isWhole_whole _) scM0_17
    (Memref.isWhole_whole _)
    (fun h => by
      have e := (first_iff t).mp h
      obtain ⟨n, hn⟩ := t
      cases n with
      | zero => exact ⟨.rfl, rfl⟩
      | succ n => exact absurd e (Nat.succ_ne_zero n))
    (fun h => by
      have e := mt (first_iff t).mpr h
      obtain ⟨n, hn⟩ := t
      cases n with
      | zero => exact absurd rfl e
      | succ n => rfl)
    (fun h => ⟨by unfold target; iintro ⟨%d, H⟩; iexists _; iexact H, by rw [leaves_last m c t h, sum_step]⟩)
    (fun h => leaves_early m c t h)
    (Works.part (Φ := staged c t) 2 (by decide) (Works.owned _)).right.right
    (Works.part (Φ := staged c t) 3 (by decide) (Works.owned _)).right.right
    (Works.part (Φ := staged c t) 4 (by decide) (Works.owned _)).right.right
    (Works.part (Φ := staged c t) 5 (by decide) (Works.owned _)).right.right
    (Works.part (Φ := staged c t) 6 (by decide) (Works.owned _)).right.right
    (Works.part (Φ := staged c t) 7 (by decide) (Works.owned _)).right.right
    (Works.part (Φ := staged c t) 8 (by decide) (Works.owned _)).right.right
    (Works.part (Φ := staged c t) 9 (by decide) (Works.owned _)).right.right
    (Works.part (Φ := staged c t) 10 (by decide) (Works.owned _)).right.right
    (Works.part (Φ := staged c t) 11 (by decide) (Works.owned _)).right.right
    (Works.part (Φ := staged c t) 12 (by decide) (Works.owned _)).right.right
    (Works.part (Φ := staged c t) 13 (by decide) (Works.owned _)).right.right
    (Works.part (Φ := staged c t) 14 (by decide) (Works.owned _)).right.right
    (Works.part (Φ := staged c t) 15 (by decide) (Works.owned _)).right.right
    (Works.part (Φ := staged c t) 16 (by decide) (Works.owned _)).right.right
    (Works.part (Φ := staged c t) 17 (by decide) (Works.owned _)).right.right
    (Works.part (Φ := staged c t) 18 (by decide) (Works.owned _)).right.right
    (Works.part (Φ := staged c t) 20 (by decide) (Works.owned _)).right.right
    (Works.part (Φ := staged c t) 21 (by decide) (Works.owned _)).right.right
    (Works.part (Φ := staged c t) 22 (by decide) (Works.owned _)).right.right
    (Works.part (Φ := staged c t) 23 (by decide) (Works.owned _)).right.right
    (Works.part (Φ := staged c t) 24 (by decide) (Works.owned _)).right.right
    (Works.part (Φ := staged c t) 25 (by decide) (Works.owned _)).right.right
    (Works.part (Φ := staged c t) 26 (by decide) (Works.owned _)).right.right
    (Works.part (Φ := staged c t) 27 (by decide) (Works.owned _)).right.right
    (Works.part (Φ := staged c t) 28 (by decide) (Works.owned _)).right.right
    (Works.part (Φ := staged c t) 29 (by decide) (Works.owned _)).right.right
    ((Works.owned _).left.left).left
    ((Works.owned _).left.right.left).left
    ((Works.owned _).left.right.right.left).left
    ((Works.owned _).left.right.right.right.left).left
    ((Works.owned _).left.right.right.right.right.left).left
    ((Works.owned _).left.right.right.right.right.right.left).left
    ((Works.owned _).left.right.right.right.right.right.right.left).left
    ((Works.owned _).left.right.right.right.right.right.right.right.left).left
    ((Works.owned _).left.right.right.right.right.right.right.right.right.left).left
    ((Works.owned _).left.right.right.right.right.right.right.right.right.right.left).left
    ((Works.owned _).left.right.right.right.right.right.right.right.right.right.right.left).left
    ((Works.owned _).left.right.right.right.right.right.right.right.right.right.right.right.left).left
    ((Works.owned _).left.right.right.right.right.right.right.right.right.right.right.right.right.left).left
    ((Works.owned _).left.right.right.right.right.right.right.right.right.right.right.right.right.right.left).left
    ((Works.owned _).left.right.right.right.right.right.right.right.right.right.right.right.right.right.right.left).left
    ((Works.owned _).left.right.right.right.right.right.right.right.right.right.right.right.right.right.right.right.left).left
    ((Works.owned _).right.right.right.right.right.right.right.right.right.right.right.right.right.right.right.right.left).left

/-- The body meets the pipeline's demand at every point. -/
theorem obligation (c : Dev nD) : BodyObligation (dats (F := F) m 0 c) (defs₀ (F := F)) Variants.none () Set.univ free := fun t => by
  rw [show defs₀ (F := F) .tc cfg0.body (cfg0.bodyArgs t (cfg0.slots t)) = bodyAt0 t from by unfold defs₀; rw [Defs.onTc_tc],
    windows, windows, inv_here, inv_found, inv_next]
  refine BIBase.Entails.trans ?_ (BIBase.Entails.trans (sound m c t ((dats m 0 c).owesAt () t.castSucc)) (wp_mono frame _ _ fun _ => ?_))
  · show iprop(scratch c (found m c t.val t.isLt) ∗ (dats m 0 c).owesAt () t.castSucc ∗ target m c t
      ∗ (∃ d, owns (c : Thread nD τ) (ms0_0 t) fullShare ((dats m 0 c).before 0 t d))
      ∗ (∃ d, owns (c : Thread nD τ) (ms0_1 t) fullShare ((dats m 0 c).before 1 t d)) ∗ _) ⊢ _
    simp only [block0, block1]
    refine BIBase.Entails.trans (sep_mono (scratch_out c _) (sep_mono .rfl (sep_mono .rfl (sep_mono .rfl (sep_mono .rfl
      (bigSep_mono (Ψ := staged c t) fun w hw => ?_)))))) ?_
    · rw [free_of_mem w hw]; exact Idealize.SL.BI.Entails.refl _
    iintro ⟨⟨S, U⟩, O, R, ⟨%d0, X⟩, ⟨%d1, Y⟩, W⟩
    isplitl [S]; · iexact S
    isplitl [R]; · iexact R
    isplitl [X]; · iexact X
    isplitl [Y]; · iexact Y
    isplitl [U]; · iexact U
    isplitl [O]; · iexact O
    iexact W
  · show _ ⊢ iprop(scratch c _ ∗ (dats m 0 c).owesAt () t.castSucc ∗ (dats m 0 c).leavesExact 19 t ∗ (dats m 0 c).leavesExact 0 t
      ∗ (dats m 0 c).leavesExact 1 t ∗ _)
    rw [leaves0, leaves1]
    refine BIBase.Entails.trans ?_ (sep_mono (scratch_in c _) (sep_mono .rfl (sep_mono .rfl (sep_mono .rfl (sep_mono .rfl
      (bigSep_mono (Φ := staged c t) fun w hw => ?_))))))
    swap
    · rw [free_of_mem w hw]; exact Idealize.SL.BI.Entails.refl _
    iintro ⟨S, R, X, Y, U, O, W⟩
    isplitl [S U]
    · isplitl [S]; · iexact S
      iexact U
    isplitl [O]; · iexact O
    isplitl [R]; · iexact R
    isplitl [X]; · iexact X
    isplitl [Y]; · iexact Y
    iexact W

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := by
  have h : 15 < cfg0.N := by rw [show cfg0.N = 16 from N_0]; decide
  rw [show (dats m 0 c).Φ (Fin.last cfg0.N) = scratch c (has c scM0_4 (sumAt m c 15 h)) from rfl, PhiA0_eq]
  exact (scratch_out c _).trans ((sep_mono_left (held_of_has scM0_4 _)).trans (scratch_in c _))

set_option backward.isDefEq.respectTransparency.types false in
/-- The whole call, run: every buffer outside the pipeline as the host left it, every counter at zero. -/
theorem run_zero : θ_run defs (onTc (τ := τ) (main (F := F))) (s₀ m ρ)
    (fun r => (RDat.FramePost (cfgs (0 : Fin 1)) (fun c => (dats m 0 c).toRForget free) (V m)) r ∧ r.2.sem = fun _ => 0) :=
  Pipeline.θ_run_frame_track_forget (Q' := _) cfgs (dats m) (0 : Fin 1) launch0 defs₀ Variants.none (free) m ρ main
    (hbody := fun c => (obligation m c).loose) (hshare := fun c => (dats m 0 c).share_full fun _ => rfl)
    (howed := fun _ _ => rfl) (V := V m) (hmain := hmain m Variants.none) (hA := arr_eq m)
    (hin := enter m) (hout := leave m)

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r ⟨h, h0⟩ => ⟨fun c => ⟨
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩, h0⟩) (run_zero m ρ)

end Cert.Kernel5Ideal.MixBwd

end
-- ==== Proof.MixHost.lean ====
module

public import proofs.«01_k».proof.Proof.MixFrame
public import proofs.«01_k».proof.Proof.Rows
public import proofs.«01_k».proof.Proof.Gen.Reference5Ideal.Run

/-! The backward call of the sequence mixer: the rows that the host prepares, against the reference's own stages. -/

@[expose] public section

set_option maxRecDepth 16384

noncomputable section

open Idealize.ShloMosaic Idealize.ShloMosaic.TcCoe Idealize.SL.Sem

namespace Cert.Kernel5Ideal.MixBwd

open Cert.Kernel5Ideal Cert.Kernel5Ideal.Gen
open Cert.Reference5Ideal.Value (res_main_v5 res_main_v20 res_main_v21 res_main_v28 res_main_v29 res_main_v35 res_main_v70 res_main_v88
  res_main_v102 res_main_v108 res_main_v124 res_main_v125 res_main_v169)

/-- What a device of the reference holds before its first line. -/
abbrev Start := Valuation Cert.Reference5Ideal.τ Cert.Reference5Ideal.sig (Elt Ideal)

/-- The arguments of the mixer's forward lines agree. -/
def Same (σ : Valuation τ sig (Elt Ideal)) (W : Start) : Prop :=
  (W (Proc.devRef .tc Cert.Reference5Ideal.main_arg0) : FVec Ideal S4096x2304 .f32) = σ (Proc.tc.devRef main_arg0)
  ∧ (W (Proc.devRef .tc Cert.Reference5Ideal.main_arg1) : FVec Ideal S3x256 .f32) = σ (Proc.tc.devRef main_arg1)
  ∧ (W (Proc.devRef .tc Cert.Reference5Ideal.main_arg2) : FVec Ideal S384 .f32) = σ (Proc.tc.devRef main_arg2)
  ∧ (W (Proc.devRef .tc Cert.Reference5Ideal.main_arg3) : FVec Ideal S384 .f32) = σ (Proc.tc.devRef main_arg3)
  ∧ (W (Proc.devRef .tc Cert.Reference5Ideal.main_arg4) : FVec Ideal S6x128x128 .f32) = σ (Proc.tc.devRef main_arg4)
  ∧ (W (Proc.devRef .tc Cert.Reference5Ideal.main_arg5) : FVec Ideal S6x128 .f32) = σ (Proc.tc.devRef main_arg5)
  ∧ (W (Proc.devRef .tc Cert.Reference5Ideal.main_arg6) : FVec Ideal S31x384 .f32) = σ (Proc.tc.devRef main_arg6)
  ∧ (W (Proc.devRef .tc Cert.Reference5Ideal.main_arg7) : FVec Ideal S384 .f32) = σ (Proc.tc.devRef main_arg7)
  ∧ (W (Proc.devRef .tc Cert.Reference5Ideal.main_arg8) : FVec Ideal S384 .f32) = σ (Proc.tc.devRef main_arg8)
  ∧ (W (Proc.devRef .tc Cert.Reference5Ideal.main_arg9) : FVec Ideal S384 .f32) = σ (Proc.tc.devRef main_arg9)
  ∧ (W (Proc.devRef .tc Cert.Reference5Ideal.main_arg10) : FVec Ideal S1024 .f32) = σ (Proc.tc.devRef main_arg10)
  ∧ (W (Proc.devRef .tc Cert.Reference5Ideal.main_arg11) : FVec Ideal S1024x1024 .f32) = σ (Proc.tc.devRef main_arg11)

namespace Same
variable {σ : Valuation τ sig (Elt Ideal)} {W : Start}
theorem a0 (h : Same σ W) : (W (Proc.devRef .tc Cert.Reference5Ideal.main_arg0) : FVec Ideal S4096x2304 .f32) = σ (Proc.tc.devRef main_arg0) := h.1
theorem a1 (h : Same σ W) : (W (Proc.devRef .tc Cert.Reference5Ideal.main_arg1) : FVec Ideal S3x256 .f32) = σ (Proc.tc.devRef main_arg1) := h.2.1
theorem a2 (h : Same σ W) : (W (Proc.devRef .tc Cert.Reference5Ideal.main_arg2) : FVec Ideal S384 .f32) = σ (Proc.tc.devRef main_arg2) := h.2.2.1
theorem a3 (h : Same σ W) : (W (Proc.devRef .tc Cert.Reference5Ideal.main_arg3) : FVec Ideal S384 .f32) = σ (Proc.tc.devRef main_arg3) := h.2.2.2.1
theorem a4 (h : Same σ W) : (W (Proc.devRef .tc Cert.Reference5Ideal.main_arg4) : FVec Ideal S6x128x128 .f32) = σ (Proc.tc.devRef main_arg4) := h.2.2.2.2.1
theorem a5 (h : Same σ W) : (W (Proc.devRef .tc Cert.Reference5Ideal.main_arg5) : FVec Ideal S6x128 .f32) = σ (Proc.tc.devRef main_arg5) := h.2.2.2.2.2.1
theorem a6 (h : Same σ W) : (W (Proc.devRef .tc Cert.Reference5Ideal.main_arg6) : FVec Ideal S31x384 .f32) = σ (Proc.tc.devRef main_arg6) := h.2.2.2.2.2.2.1
theorem a7 (h : Same σ W) : (W (Proc.devRef .tc Cert.Reference5Ideal.main_arg7) : FVec Ideal S384 .f32) = σ (Proc.tc.devRef main_arg7) := h.2.2.2.2.2.2.2.1
theorem a8 (h : Same σ W) : (W (Proc.devRef .tc Cert.Reference5Ideal.main_arg8) : FVec Ideal S384 .f32) = σ (Proc.tc.devRef main_arg8) := h.2.2.2.2.2.2.2.2.1
theorem a9 (h : Same σ W) : (W (Proc.devRef .tc Cert.Reference5Ideal.main_arg9) : FVec Ideal S384 .f32) = σ (Proc.tc.devRef main_arg9) := h.2.2.2.2.2.2.2.2.2.1
theorem a10 (h : Same σ W) : (W (Proc.devRef .tc Cert.Reference5Ideal.main_arg10) : FVec Ideal S1024 .f32) = σ (Proc.tc.devRef main_arg10) := h.2.2.2.2.2.2.2.2.2.2.1
theorem a11 (h : Same σ W) : (W (Proc.devRef .tc Cert.Reference5Ideal.main_arg11) : FVec Ideal S1024x1024 .f32) = σ (Proc.tc.devRef main_arg11) := h.2.2.2.2.2.2.2.2.2.2.2
end Same

theorem after_join (A B : List (HloOp τ sig (Elt Ideal))) (σ : Valuation τ sig (Elt Ideal)) :
    StableHlo.after (A ++ B) σ = StableHlo.after B (StableHlo.after A σ) := by
  induction A generalizing σ with
  | nil => rfl
  | cons a A ih => exact ih _

section
variable {σ : Valuation τ sig (Elt Ideal)} {W : Start}

/-- What the lines of the first branch and of the gate leave. -/
abbrev stage0 (σ : Valuation τ sig (Elt Ideal)) : Valuation τ sig (Elt Ideal) := StableHlo.after (hostOps0 (F := Ideal)) σ
/-- What the lines of the second branch leave after them. -/
abbrev stage3 (σ : Valuation τ sig (Elt Ideal)) : Valuation τ sig (Elt Ideal) :=
  StableHlo.after (hostOps0_3 (F := Ideal)) (StableHlo.after (hostOps0_2 (F := Ideal)) (StableHlo.after (hostOps0_1 (F := Ideal)) σ))

/-- The convolution of the first branch. -/
theorem first72 (h : Same σ W) : StableHlo.after (hostOps0 (F := Ideal)) σ (Proc.tc.devRef main_v72) = res_main_v20 W := by
  unfold res_main_v20 res_main_v5
  rw [h.a0, h.a1]
  entry_read
  rfl

/-- The activations of the second branch. -/
theorem first80 (h : Same σ W) : StableHlo.after (hostOps0 (F := Ideal)) σ (Proc.tc.devRef main_v80) = res_main_v28 W := by
  unfold res_main_v28 res_main_v21
  rw [h.a0]
  entry_read
  rfl

/-- The second branch. -/
theorem second122 (h : Same σ W) : StableHlo.after (hostOps0_4 (F := Ideal)) (stage3 (stage0 σ)) (Proc.tc.devRef main_v122) = res_main_v70 W := by
  unfold res_main_v70 res_main_v35 res_main_v29
  rw [← first80 h, h.a2, h.a3, h.a4, h.a5]
  entry_read
  rfl

/-- The convolution of the third branch. -/
theorem third154 (h : Same σ W) : StableHlo.after (hostOps0_4 (F := Ideal)) σ (Proc.tc.devRef main_v154) = res_main_v102 W := by
  unfold res_main_v102 res_main_v88
  rw [h.a0, h.a6, h.a7]
  entry_read
  rfl

/-- Its norm. -/
theorem third176 (h : Same σ W) : StableHlo.after (hostOps0_4 (F := Ideal)) σ (Proc.tc.devRef main_v176) = res_main_v124 W := by
  unfold res_main_v124 res_main_v108
  rw [← third154 h, h.a8, h.a9]
  entry_read
  rfl

/-- The third branch. -/
theorem third177 (h : σ (Proc.tc.devRef main_v176) = res_main_v124 W) :
    StableHlo.after (hostOps0_5 (F := Ideal)) σ (Proc.tc.devRef main_v177) = res_main_v125 W := by
  unfold res_main_v125
  rw [← h]
  entry_read
  rfl

end

end Cert.Kernel5Ideal.MixBwd
-- ==== Proof.MixRows.lean ====
module

public import proofs.«01_k».proof.Proof.MixHost

/-! The backward call of the sequence mixer: the rows before the closing norm, in the order of the calls' tiles. -/

@[expose] public section

set_option maxRecDepth 16384

noncomputable section

open Idealize.ShloMosaic Idealize.ShloMosaic.TcCoe Idealize.SL.Sem

namespace Cert.Kernel5Ideal.MixBwd

open Cert.Kernel5Ideal Cert.Kernel5Ideal.Gen
open Cert.Reference5Ideal.Value (res_main_v5 res_main_v20 res_main_v21 res_main_v28 res_main_v29 res_main_v35 res_main_v70 res_main_v88
  res_main_v102 res_main_v108 res_main_v124 res_main_v125 res_main_v169)

section
variable {σ : Valuation τ sig (Elt Ideal)} {W : Start}

/-- Rows of 1024 in the order of the calls' tiles. -/
def slim (X : Vec Ideal S4096x1024 .f32) : Vec Ideal S4096x1024 .f32 :=
  shapeCast S4096x1024 (transpose S16x32x8x1024 [0, 2, 1, 3] (shapeCast S16x8x32x1024 (X) shapeCasts_S4096x1024_S16x8x32x1024)
      transposes_S16x8x32x1024_S16x32x8x1024_0_2_1_3) shapeCasts_S16x32x8x1024_S4096x1024

/-- The lines of the three group norms. -/
abbrev groups : List (HloOp τ sig (Elt Ideal)) := (hostOps0_6 (F := Ideal)).take 51
/-- The lines from the three groups side by side. -/
abbrev behind : List (HloOp τ sig (Elt Ideal)) := (hostOps0_6 (F := Ideal)).drop 51

/-- A row's group norm of 256. -/
def norm256 (x : FVec Ideal S4096x256 .f32) (g : FVec Ideal S256 .f32) : FVec Ideal S4096x256 .f32 :=
  mulf (mulf x (broadcastInDim S4096x256 ![0, 1] bcast_S4096x1_S4096x256_0_1 (Host.rsqrt (addf (Host.divf
    (broadcastInDim S4096x1 ![0] bcast_S4096_S4096x1_0 (Host.reduceAdd (mulf x x) (constant S_ .f32 0x00000000#32) reducesTo_S4096x256_S4096_d1 h_S_))
    (broadcastInDim S4096x1 ![] bcast_S_S4096x1 (constant S_ .f32 0x43800000#32)))
    (broadcastInDim S4096x1 ![] bcast_S_S4096x1 (constant S_ .f32 0x358637BD#32))))))
    (broadcastInDim S4096x256 ![0, 1] bcast_S1x256_S4096x256_0_1 (broadcastInDim S1x256 ![1] bcast_S256_S1x256_1 g))

/-- A row's group norm of 384. -/
def norm384 (x : FVec Ideal S4096x384 .f32) (g : FVec Ideal S384 .f32) : FVec Ideal S4096x384 .f32 :=
  mulf (mulf x (broadcastInDim S4096x384 ![0, 1] bcast_S4096x1_S4096x384_0_1 (Host.rsqrt (addf (Host.divf
    (broadcastInDim S4096x1 ![0] bcast_S4096_S4096x1_0 (Host.reduceAdd (mulf x x) (constant S_ .f32 0x00000000#32) reducesTo_S4096x384_S4096_d1 h_S_))
    (broadcastInDim S4096x1 ![] bcast_S_S4096x1 (constant S_ .f32 0x43C00000#32)))
    (broadcastInDim S4096x1 ![] bcast_S_S4096x1 (constant S_ .f32 0x358637BD#32))))))
    (broadcastInDim S4096x384 ![0, 1] bcast_S1x384_S4096x384_0_1 (broadcastInDim S1x384 ![1] bcast_S384_S1x384_1 g))

/-- The three groups side by side. -/
def beside (a : FVec Ideal S4096x256 .f32) (b c : FVec Ideal S4096x384 .f32) : FVec Ideal S4096x1024 .f32 :=
  concatenate S4096x1024 1 [⟨S4096x256, a⟩, ⟨S4096x384, b⟩, ⟨S4096x384, c⟩] concatenates_S4096x256_S4096x384_S4096x384_S4096x1024_d1

theorem cut (σ : Valuation τ sig (Elt Ideal)) : StableHlo.after (hostOps0_6 (F := Ideal)) σ = StableHlo.after behind (StableHlo.after groups σ) := by
  rw [← after_join]
  rfl

theorem groups191 : StableHlo.after groups σ (Proc.tc.devRef main_v191)
    = norm256 (σ (Proc.tc.devRef main_v72)) (extractStridedSlice S256 ![0] (σ (Proc.tc.devRef main_arg10) : Vec Ideal S1024 .f32) slices_S1024_S256_0) := by
  simp only [groups, hostOps0_6, List.take_succ_cons, List.take_zero]
  entry_read
  rfl
theorem groups205 : StableHlo.after groups σ (Proc.tc.devRef main_v205)
    = norm384 (σ (Proc.tc.devRef main_v122)) (extractStridedSlice S384 ![256] (σ (Proc.tc.devRef main_arg10) : Vec Ideal S1024 .f32) slices_S1024_S384_256) := by
  simp only [groups, hostOps0_6, List.take_succ_cons, List.take_zero]
  entry_read
  rfl
theorem groups219 : StableHlo.after groups σ (Proc.tc.devRef main_v219)
    = norm384 (σ (Proc.tc.devRef main_v177)) (extractStridedSlice S384 ![640] (σ (Proc.tc.devRef main_arg10) : Vec Ideal S1024 .f32) slices_S1024_S384_640) := by
  simp only [groups, hostOps0_6, List.take_succ_cons, List.take_zero]
  entry_read
  rfl
theorem groups11 : StableHlo.after groups σ (Proc.tc.devRef main_arg11) = σ (Proc.tc.devRef main_arg11) := by
  simp only [groups, hostOps0_6, List.take_succ_cons, List.take_zero]
  entry_read
  rfl

theorem behind227 : StableHlo.after behind σ (Proc.tc.devRef main_v227)
    = slim (Host.dotGeneral (F := Ideal) (φ₂ := .f32) dot_S4096x1024_S1024x1024_S4096x1024_1_0_0_1_n_n none
        (beside (σ (Proc.tc.devRef main_v191)) (σ (Proc.tc.devRef main_v205)) (σ (Proc.tc.devRef main_v219)) : FVec Ideal S4096x1024 .f32)
        (σ (Proc.tc.devRef main_arg11) : FVec Ideal S1024x1024 .f32)) := by
  simp only [behind, hostOps0_6, List.drop_succ_cons, List.drop_zero]
  rw [StableHlo.after_cons]
  generalize hρ : HloOp.result _ σ = ρ
  have e : ρ (Proc.tc.devRef main_v220) = beside (σ (Proc.tc.devRef main_v191)) (σ (Proc.tc.devRef main_v205)) (σ (Proc.tc.devRef main_v219)) := by
    rw [← hρ, StableHlo.nary_result]
    rfl
  have e' : ρ (Proc.tc.devRef main_arg11) = σ (Proc.tc.devRef main_arg11) := by
    rw [← hρ, StableHlo.nary_result_ne]
    decide
  rw [← e, ← e']
  clear hρ e e'
  entry_read
  rfl

/-- The rows before the closing norm, in the order of the calls' tiles. -/
theorem rows227 (h1 : σ (Proc.tc.devRef main_v72) = res_main_v20 W) (h2 : σ (Proc.tc.devRef main_v122) = res_main_v70 W)
    (h3 : σ (Proc.tc.devRef main_v177) = res_main_v125 W) (h : Same σ W) :
    StableHlo.after (hostOps0_6 (F := Ideal)) σ (Proc.tc.devRef main_v227) = slim (res_main_v169 W) := by
  unfold res_main_v169
  rw [← h1, ← h2, ← h3, h.a10, h.a11, cut, behind227, groups191, groups205, groups219, groups11]
  rfl

set_option maxHeartbeats 2000000 in
theorem rows224 : StableHlo.after (hostOps0_6 (F := Ideal)) σ (Proc.tc.devRef main_v224) = slim (σ (Proc.tc.devRef main_arg13)) := by
  entry_read
  rfl

/-- What the lines behind the rows leave. -/
abbrev rest (σ : Valuation τ sig (Elt Ideal)) : Valuation τ sig (Elt Ideal) :=
  StableHlo.after (hostOps0_18 (F := Ideal)) (StableHlo.after (hostOps0_17 (F := Ideal)) (StableHlo.after (hostOps0_16 (F := Ideal))
  (StableHlo.after (hostOps0_15 (F := Ideal)) (StableHlo.after (hostOps0_14 (F := Ideal)) (StableHlo.after (hostOps0_13 (F := Ideal))
  (StableHlo.after (hostOps0_12 (F := Ideal)) (StableHlo.after (hostOps0_11 (F := Ideal)) (StableHlo.after (hostOps0_10 (F := Ideal))
  (StableHlo.after (hostOps0_9 (F := Ideal)) (StableHlo.after (hostOps0_8 (F := Ideal)) (StableHlo.after (hostOps0_7 (F := Ideal)) σ)))))))))))

set_option maxHeartbeats 2000000 in
theorem rest227 : rest σ (Proc.tc.devRef main_v227) = σ (Proc.tc.devRef main_v227) := by
  unfold rest
  entry_read
  rfl

set_option maxHeartbeats 2000000 in
theorem rest224 : rest σ (Proc.tc.devRef main_v224) = σ (Proc.tc.devRef main_v224) := by
  unfold rest
  entry_read
  rfl

theorem keep5_72 : StableHlo.after (hostOps0_5 (F := Ideal)) σ (Proc.tc.devRef main_v72) = σ (Proc.tc.devRef main_v72) := by
  entry_read
  rfl
theorem keep5_122 : StableHlo.after (hostOps0_5 (F := Ideal)) σ (Proc.tc.devRef main_v122) = σ (Proc.tc.devRef main_v122) := by
  entry_read
  rfl
set_option maxHeartbeats 1000000 in
theorem keep4_72 : StableHlo.after (hostOps0_4 (F := Ideal)) (stage3 σ) (Proc.tc.devRef main_v72) = σ (Proc.tc.devRef main_v72) := by
  unfold stage3
  entry_read
  rfl
/-! The arguments pass through. -/

set_option maxHeartbeats 2000000 in
theorem same0 (h : Same σ W) : Same (StableHlo.after (hostOps0 (F := Ideal)) σ) W := by
  unfold Same
  entry_read
  exact h
theorem keep0_13 : (StableHlo.after (hostOps0 (F := Ideal)) σ) (Proc.tc.devRef main_arg13) = σ (Proc.tc.devRef main_arg13) := by
  entry_read
  rfl
set_option maxHeartbeats 2000000 in
theorem same3 (h : Same σ W) : Same (stage3 σ) W := by
  unfold Same
  unfold stage3
  entry_read
  exact h
theorem keep3_13 : (stage3 σ) (Proc.tc.devRef main_arg13) = σ (Proc.tc.devRef main_arg13) := by
  unfold stage3
  entry_read
  rfl
set_option maxHeartbeats 2000000 in
theorem same4 (h : Same σ W) : Same (StableHlo.after (hostOps0_4 (F := Ideal)) σ) W := by
  unfold Same
  entry_read
  exact h
theorem keep4_13 : (StableHlo.after (hostOps0_4 (F := Ideal)) σ) (Proc.tc.devRef main_arg13) = σ (Proc.tc.devRef main_arg13) := by
  entry_read
  rfl
set_option maxHeartbeats 2000000 in
theorem same5 (h : Same σ W) : Same (StableHlo.after (hostOps0_5 (F := Ideal)) σ) W := by
  unfold Same
  entry_read
  exact h
theorem keep5_13 : (StableHlo.after (hostOps0_5 (F := Ideal)) σ) (Proc.tc.devRef main_arg13) = σ (Proc.tc.devRef main_arg13) := by
  entry_read
  rfl
end

end Cert.Kernel5Ideal.MixBwd
-- ==== Proof.MixValue.lean ====
module

public import proofs.«01_k».proof.Proof.MixRows
public import Idealize.ShloMosaic.Lib.Pipeline.ReadBack
public import Idealize.ShloMosaic.Lib.ValueLayout

/-! The backward call of the sequence mixer: the gradient of the closing norm's gain, by tokens. -/

@[expose] public section

set_option maxRecDepth 16384

noncomputable section

open Idealize.ShloMosaic Idealize.ShloMosaic.TcCoe Idealize.SL.Sem
open Idealize.ShloMosaic.Pipeline (Dat RDat)

namespace Cert.Kernel5Ideal.MixBwd

open Cert.Rows Cert.Kernel5Ideal Cert.Kernel5Ideal.Gen
open Cert.Reference5Ideal.Value (res_main_v169)

variable (m : (ℓ : Loc nD τ sig) → Buf (Elt Ideal) ℓ) (W : Start)

theorem V_stages (c : Dev nD) (b : Ref sig .tc) : V m c b = rest (StableHlo.after (hostOps0_6 (F := Ideal)) (StableHlo.after (hostOps0_5 (F := Ideal))
    (StableHlo.after (hostOps0_4 (F := Ideal)) (stage3 (stage0 fun b => m (c, b)))))) (Proc.tc.devRef b) := by
  unfold rest stage3 stage0
  simp only [← after_join]
  rfl

/-- The reference starts from the arguments of the call's device. -/
def Starts (c : Dev nD) : Prop := Same (fun b => m (c, b)) W

theorem idx : ∀ t : Fin cfg0.N, win0_0.index t = ![15 - t.val, 0] ∧ win0_1.index t = ![15 - t.val, 0]
    ∧ win0_19.index t = ![0, 0] := (by decide +kernel : ∀ t : Fin grid0.N, _)

/-- The rows before the closing norm, at a token. -/
def o (n : Fin 4096) (l : Fin 1024) : EReal := (res_main_v169 W : FVec Ideal S4096x1024 .f32) (ix2 n l)
/-- The gradient that reaches the call. -/
def gx (c : Dev nD) (n : Fin 4096) (l : Fin 1024) : EReal := (m (c, Proc.tc.devRef main_arg13) : Vec Ideal S4096x1024 .f32) (ix2 n l)
/-- The reciprocal root of a row's mean square. -/
def rs (v : Fin 1024 → EReal) : EReal :=
  Ideal.rsqrt (Ideal.div (∑ k, v k * v k) (Ideal.ofBits .f32 0x44800000#32) + Ideal.ofBits .f32 0x358637BD#32)

/-- The token at row `r` of the tile of point `t`. -/
def at_ (t : Fin cfg0.N) (r : Fin 256) : Fin 4096 := ⟨256 * (15 - t.val) + 32 * (r.val % 8) + r.val / 8, by omega⟩

theorem at_tok (t : Fin cfg0.N) (r : Fin 256) (h : tok (256 * (15 - t.val) + r.val) < 4096) :
    (⟨tok (256 * (15 - t.val) + r.val), h⟩ : Fin 4096) = at_ t r := Fin.ext (by simp only [tok, at_]; omega)

theorem slim_apply (X : Vec Ideal S4096x1024 .f32) (p : Fin 4096) (l : Fin 1024) :
    slim X (ix2 p l) = X (ix2 ⟨tok p.val, tok_lt p.isLt⟩ l) := by
  pointwise [slim]
  rfl

variable {m W}

theorem V227 (c : Dev nD) (h : Starts m W c) : V m c main_v227 = slim (res_main_v169 W) := by
  have p := same3 (same0 h)
  rw [V_stages, rest227]
  refine rows227 ?_ ?_ ?_ (same5 (same4 p))
  · rw [keep5_72, keep4_72]; exact first72 h
  · rw [keep5_122]; exact second122 h
  · exact third177 (third176 p)

theorem V224 (c : Dev nD) : V m c main_v224 = slim (m (c, Proc.tc.devRef main_arg13)) := by
  rw [V_stages, rest224, rows224, keep5_13, keep4_13, keep3_13]
  exact congrArg slim keep0_13

theorem blk0 (c : Dev nD) (t : Fin cfg0.N) (r : Fin 256) (l : Fin 1024) :
    (iblk m c 0 t : Vec Ideal S256x1024 .f32) (ix2 r l) = gx m c (at_ t r) l := by
  blk_simp [iblk, idx t]
  rw [V224]
  refine (congrArg (slim _) (?_ : _ = ix2 (⟨256 * (15 - t.val) + r.val, by omega⟩ : Fin 4096) l)).trans ((slim_apply _ _ l).trans ?_)
  · blk_ext [idx t]
    all_goals omega
  · rw [at_tok t r]; rfl

theorem blk1 (c : Dev nD) (h : Starts m W c) (t : Fin cfg0.N) (r : Fin 256) (l : Fin 1024) :
    (iblk m c 1 t : Vec Ideal S256x1024 .f32) (ix2 r l) = o W (at_ t r) l := by
  blk_simp [iblk, idx t]
  rw [V227 c h]
  refine (congrArg (slim _) (?_ : _ = ix2 (⟨256 * (15 - t.val) + r.val, by omega⟩ : Fin 4096) l)).trans ((slim_apply _ _ l).trans ?_)
  · blk_ext [idx t]
    all_goals omega
  · rw [at_tok t r]; rfl

theorem pay102 (v : Vec Ideal S256x1024 .f32) (r : Fin 256) : k0_pay102 v (ix2 r 0) = rs fun k => v (ix2 r k) := by
  pointwise [k0_pay102, k0_pay100]
  rfl

theorem pay103 (v y : Vec Ideal S256x1024 .f32) (a : Vec Ideal S8x1024 .f32) (s : Fin 8) (l : Fin 1024) :
    k0_pay103 v y a (ix2 s l) = a (ix2 s l) + ∑ k : Fin 32, y (ix2 ⟨k.val * 8 + s.val, by omega⟩ l)
      * v (ix2 ⟨k.val * 8 + s.val, by omega⟩ l) * rs fun i => v (ix2 ⟨k.val * 8 + s.val, by omega⟩ i) := by
  pointwise [k0_pay103, k0_pay100, k0_pay101, pay102]

theorem pay36 (a : Vec Ideal S8x1024 .f32) (l : Fin 1024) : k0_pay36 a (ix2 0 l) = ∑ s : Fin 8, a (ix2 s l) := by
  pointwise [k0_pay36]
theorem pay3 (j : S8x1024.Idx) : k0_pay3 (F := Ideal) j = 0 := by
  pointwise [k0_pay3]

variable (m W)

/-- What token `n` adds to the gradient of the closing norm's gain. -/
def pgT (c : Dev nD) (l : Fin 1024) (n : Fin 4096) : EReal := gx m c n l * o W n l * rs fun i => o W n i

/-- What point `t` adds to those sums. -/
def term (c : Dev nD) (t : Fin cfg0.N) (j : S8x1024.Idx) : EReal :=
  ∑ k : Fin 32, pgT m W c (j 1) (at_ t ⟨k.val * 8 + (j 0).val, by have : (j 0).val < 8 := (j 0).isLt; omega⟩)

variable {m W}

theorem step (c : Dev nD) (h : Starts m W c) (t : Fin cfg0.N) (a : Vec Ideal S8x1024 .f32) (j : S8x1024.Idx) :
    k0_pay103 (iblk m c 1 t) (iblk m c 0 t) a j = a j + term m W c t j := by
  idx_vars j
  rw [pay103]
  simp only [blk0 c, blk1 c h]
  rfl

theorem acc (c : Dev nD) (h : Starts m W c) (t : Fin cfg0.N) (ht : t.val + 1 = cfg0.N) (j : S8x1024.Idx) :
    sumAt m c t.val t.isLt j = 0 + ∑ t : Fin cfg0.N, term m W c t j := by
  refine Pipeline.eq_sum_fin_of_reset_step_apply_last (fun n h => sumAt m c n h) 16 (fun _ => (0 : EReal)) (term m W c)
    (fun t z j => ?_) (fun t z j => ?_) (le_of_eq N_0) t ht j
  · have := lt16 t
    rcases t with ⟨n, hn⟩
    have q : n = 0 := (Nat.mod_eq_of_lt this).symm.trans z
    subst q
    exact (step c h ⟨0, hn⟩ (k0_pay3 (F := Ideal)) j).trans (congrArg (· + _) (pay3 j))
  · have := lt16 t
    rcases t with ⟨n, hn⟩
    cases n with
    | zero => exact absurd (Nat.zero_mod 16) z
    | succ n => exact step c h ⟨n + 1, hn⟩ (sumAt m c n (Nat.lt_of_succ_lt hn)) j

variable (m W)
/-- The gradient of the closing norm's gain. -/
def out (c : Dev nD) : Vec Ideal S1x1024 .f32 := fun j : S1x1024.Idx => ∑ n : Fin 4096, pgT m W c (j 1) n
variable {m W}

/-- The points in the order of the tiles. -/
theorem sum_points (f : Fin cfg0.N → EReal) : ∑ t : Fin cfg0.N, f t = ∑ t : Fin cfg0.N, f t.rev := (Equiv.sum_comp Fin.revPerm f).symm

theorem arr19 (c : Dev nD) (h : Starts m W c) : (dats m 0 c).arrAt 19 cfg0.N = out m W c := by
  have e : k0_pay36 (sumAt m c t0_15.val t0_15.isLt) = out m W c := by
    funext j
    idx_vars j
    obtain rfl : j0 = 0 := Subsingleton.elim _ _
    rw [pay36]
    simp only [acc c h t0_15 rfl, zero_add]
    simp only [sum_points (term m W c · _)]
    refine sum_groups (b := 32) N_0 rfl (pgT m W c j1) _ fun s t k hp => congrArg (pgT m W c j1) (Fin.ext ?_)
    have := lt16 t
    show 256 * (15 - (cfg0.N - (t.val + 1))) + 32 * ((k.val * 8 + s.val) % 8) + (k.val * 8 + s.val) / 8 = tok (t.val * (32 * 8) + k.val * 8 + s.val)
    rw [show cfg0.N = 16 from N_0]
    simp only [tok]
    omega
  refine (dats m 0 c).arrAt_eq_of_after_last 19 t0_15 (by decide +kernel) _ fun j => ?_
  rw [after19, e]
  rfl

end Cert.Kernel5Ideal.MixBwd
-- ==== Proof.MixBits.lean ====
module

public import proofs.«01_k».proof.Defs
public import proofs.«01_k».proof.Proof.MixFrame
public import proofs.«01_k».proof.Proof.Gen.Kernel5
public import proofs.«01_k».proof.Proof.Gen.Reference5Ideal.Run
public import Idealize.ShloMosaic.Lib.Quiescent

/-! The frames of the sequence mixer's backward call and of its reference. -/

@[expose] public section

set_option maxRecDepth 16384

noncomputable section

open Idealize.ShloMosaic Idealize.ShloMosaic.TcCoe Idealize.SL.Sem

namespace Cert.Kernel5Ideal.MixBwd

open Cert.Kernel5Ideal Cert.Kernel5Ideal.Gen

theorem frame_ideal : Cert.quiescent_Kernel5Ideal := fun m ρ _ => frame (F := Ideal) m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The frame of the program over `F`. -/
def Frame (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0)

/-- The program with its roundings is the same text. -/
theorem same_text : Cert.quiescent_Kernel5 = Frame Bits := by sl_kernel_rfl

theorem frame_bits : Cert.quiescent_Kernel5 := same_text.mpr fun m ρ _ => frame (F := Bits) m ρ

end Cert.Kernel5Ideal.MixBwd
-- ==== Proof.MixClaim.lean ====
module

public import proofs.«01_k».proof.Proof.MixValue
public import proofs.«01_k».proof.Proof.MixBits

/-! The sequence mixer's backward call against the derivative of the sequence mixer. -/

@[expose] public section

set_option maxRecDepth 16384

noncomputable section

open Idealize.ShloMosaic Idealize.ShloMosaic.TcCoe Idealize.SL.Sem
open Idealize.ShloMosaic.Pipeline (Dat RDat)

namespace Cert.Kernel5Ideal.MixBwd

open Cert.Kernel5Ideal Cert.Kernel5Ideal.Gen
open Cert.Reference5Ideal.Value (res_main_v169 res_main_v179)

variable {W : Start}

/-- The call, run: the gradient of the gain at what the points leave, the arguments as they were. -/
theorem run_gain (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v277_2) = (dats m 0 c).arrAt 19 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(Dat.toRForget_arrAt_iff (dats m 0 c) (rfl : free 19 = false) _ _).mp ((h.2.1 c).1 19), h.1.1 c⟩)
    (θ_run_and (frame (F := Ideal) m ρ) (run_zero m ρ))

/-- The normalised rows, at a token. -/
theorem r179_at (n : Fin 4096) (l : Fin 1024) :
    (res_main_v179 W : FVec Ideal S4096x1024 .f32) (ix2 n l) = o W n l * rs fun k => o W n k := by
  pointwise [res_main_v179]
  rfl

theorem algebraic : Cert.algebraic_Kernel5Ideal_Reference5Ideal := by
  pair_intro
  · run_from run_gain m g
  run_from Cert.Reference5Ideal.Value.run m' g'
  have a := hagree c
  have h : Starts m (StableHlo.launchContents m' c) c :=
    ⟨a.1, a.2.1, a.2.2.1, a.2.2.2.1, a.2.2.2.2.1, a.2.2.2.2.2.1, a.2.2.2.2.2.2.1, a.2.2.2.2.2.2.2.1, a.2.2.2.2.2.2.2.2.1,
      a.2.2.2.2.2.2.2.2.2.1, a.2.2.2.2.2.2.2.2.2.2.1, a.2.2.2.2.2.2.2.2.2.2.2.1⟩
  rw [arr19 c h]
  funext j
  idx_vars j
  pointwise [out]
  simp only [Finset.sum_const, Finset.card_univ, Fintype.card_fin, one_smul, r179_at]
  refine Finset.sum_congr rfl fun n _ => ?_
  unfold pgT
  rw [mul_comm (gx m c n j1), mul_right_comm]
  rfl

end Cert.Kernel5Ideal.MixBwd
-- ==== Proof.FfnValue.lean ====
module

public import proofs.«01_k».proof.Proof.FfnTokens

/-! The backward call of the channel mixer: what the call computes, by tokens. -/

@[expose] public section

set_option maxRecDepth 16384

noncomputable section

open Idealize.ShloMosaic Idealize.ShloMosaic.TcCoe Idealize.SL.Sem
open Idealize.ShloMosaic.Pipeline (Dat)

namespace Cert.Kernel2Ideal.FfnBwd

open Cert.Rows Cert.Kernel2Ideal Cert.Kernel2Ideal.Gen

variable (m : (ℓ : Loc nD τ sig) → Buf (Elt Ideal) ℓ)

theorem held_s5 (c : Dev nD) (n : ℕ) (h : n < cfg0.N) : (leftAt m c n h).held.s5 = wtArr c (V m c main_v36) := by
  induction n with
  | zero =>
    exact (congrArg (fun z : Left Ideal => z.held.s5) (leftAt_first m c ⟨0, h⟩ rfl (by decide : ¬(0 = 15)))).trans
      (s5First c _ _ _ _ _ _)
  | succ n ih =>
    have hn := ih (Nat.lt_of_succ_lt h)
    by_cases e : n + 1 = 15
    · exact ((congrArg (fun z : Left Ideal => z.held.s5) (leftAt_last m c ⟨n + 1, h⟩ (Nat.succ_ne_zero n) e)).trans
        (s5Last c _ _ _ _ _ _ _)).trans hn
    · exact ((congrArg (fun z : Left Ideal => z.held.s5) (leftAt_mid m c ⟨n + 1, h⟩ (Nat.succ_ne_zero n) e)).trans
        (s5Mid c _ _ _ _ _ _ _)).trans hn

/-- The first rows of a tile, kept for the next point. -/
theorem kept (c : Dev nD) (n : ℕ) (q : Fin 16) (l : Fin 5632) :
    k0_pay39 (View.ld (dArr m c n) (Rect.unit ![0, 0] ![16, 5632] inb_S272x5632_S16x5632_0_0)) (ix2 q l)
      = dpad m c (256 * (15 - n) + 32 * (q.val % 8) + q.val / 8) l := by
  rw [pay39]
  exact ld_block _ _ _ _ _ _ (⟨q.val, by omega⟩ : Fin 272) l (Nat.zero_add _) (Nat.zero_add _)

theorem none_behind (c : Dev nD) (t : Fin cfg0.N) (h : t.val = 0) (q : Fin 16) (l : Fin 5632) :
    k0_pay7 (F := Ideal) (ix2 q l) = dpad m c (256 * (16 - t.val) + 32 * (q.val % 8) + q.val / 8) l := by
  rw [pay7]
  unfold dpad
  refine Eq.symm ?_
  exact dif_neg (show ¬(256 * (16 - t.val) + 32 * (q.val % 8) + q.val / 8 < 4096) by omega)

theorem held_s2 (c : Dev nD) (n : ℕ) (h : n < cfg0.N) (q : Fin 16) (l : Fin 5632) :
    (leftAt m c n h).held.s2 (ix2 q l) = dpad m c (256 * (15 - n) + 32 * (q.val % 8) + q.val / 8) l := by
  induction n generalizing q l with
  | zero =>
    refine (congrFun ((congrArg (fun z : Left Ideal => z.held.s2) (leftAt_first m c ⟨0, h⟩ rfl (by decide : ¬(0 = 15)))).trans
      (s2First c _ _ _ _ _ _)) (ix2 q l)).trans ?_
    rw [dupOf_eq m c ⟨0, h⟩ _ (none_behind m c ⟨0, h⟩ rfl)]
    exact kept m c 0 q l
  | succ n ih =>
    have hn : ∀ (q : Fin 16) l, (before m c ⟨n + 1, h⟩).s2 (ix2 q l)
        = dpad m c (256 * (16 - (n + 1)) + 32 * (q.val % 8) + q.val / 8) l := fun q l =>
      (ih (Nat.lt_of_succ_lt h) q l).trans (congrArg (fun z => dpad m c (256 * z + 32 * (q.val % 8) + q.val / 8) l) (by omega))
    have hw : (before m c ⟨n + 1, h⟩).s5 = wtArr c (V m c main_v36) := held_s5 m c n (Nat.lt_of_succ_lt h)
    by_cases e : n + 1 = 15
    · refine (congrFun ((congrArg (fun z : Left Ideal => z.held.s2) (leftAt_last m c ⟨n + 1, h⟩ (Nat.succ_ne_zero n) e)).trans
        (s2Last c _ _ _ _ _ _ _)) (ix2 q l)).trans ?_
      rw [hw, dupOf_eq m c ⟨n + 1, h⟩ _ hn]
      exact kept m c (n + 1) q l
    · refine (congrFun ((congrArg (fun z : Left Ideal => z.held.s2) (leftAt_mid m c ⟨n + 1, h⟩ (Nat.succ_ne_zero n) e)).trans
        (s2Mid c _ _ _ _ _ _ _)) (ix2 q l)).trans ?_
      rw [hw, dupOf_eq m c ⟨n + 1, h⟩ _ hn]
      exact kept m c (n + 1) q l

/-- The tile of a point past the first, from what the point before left. -/
theorem tile_later (c : Dev nD) (t : Fin cfg0.N) (h : ¬t.val = 0) :
    dupOf (grid0.coords t) (ins m c t) (before m c t).s5 (before m c t).s2 = dArr m c t.val := by
  rw [show (before m c t).s5 = wtArr c (V m c main_v36) from held_s5 m c _ _]
  refine dupOf_eq m c t _ fun q l => (held_s2 m c _ _ q l).trans ?_
  exact congrArg (fun z => dpad m c (256 * z + 32 * (q.val % 8) + q.val / 8) l) (by omega)

/-- What every point leaves of the first result. -/
theorem left6 (c : Dev nD) (t : Fin cfg0.N) : (leftAt m c t.val t.isLt).o6 = ddArr (ins m c t) := by
  by_cases h0 : t.val = 0
  · rw [leftAt_first m c t h0 (by omega)]; exact o6First c _ _ _ _ _ _
  by_cases h1 : t.val = 15
  · rw [leftAt_last m c t h0 h1]; exact o6Last c _ _ _ _ _ _ _
  · rw [leftAt_mid m c t h0 h1]; exact o6Mid c _ _ _ _ _ _ _

theorem left7 (c : Dev nD) (t : Fin cfg0.N) : (leftAt m c t.val t.isLt).o7 = actArr (grid0.coords t) (ins m c t) := by
  by_cases h0 : t.val = 0
  · rw [leftAt_first m c t h0 (by omega)]; exact o7First c _ _ _ _ _ _
  by_cases h1 : t.val = 15
  · rw [leftAt_last m c t h0 h1]; exact o7Last c _ _ _ _ _ _ _
  · rw [leftAt_mid m c t h0 h1]; exact o7Mid c _ _ _ _ _ _ _

theorem left8 (c : Dev nD) (t : Fin cfg0.N) :
    (leftAt m c t.val t.isLt).o8 = duArr (k0_pay13 (ins m c t).x4) (dArr m c t.val) := by
  by_cases h0 : t.val = 0
  · rw [leftAt_first m c t h0 (by omega), ← dupOf_eq m c t _ (none_behind m c t h0)]; exact o8First c _ _ _ _ _ _
  rw [← tile_later m c t h0]
  by_cases h1 : t.val = 15
  · rw [leftAt_last m c t h0 h1]; exact o8Last c _ _ _ _ _ _ _
  · rw [leftAt_mid m c t h0 h1]; exact o8Mid c _ _ _ _ _ _ _

theorem sums3_first (c : Dev nD) (t : Fin cfg0.N) (h0 : t.val = 0) :
    (leftAt m c t.val t.isLt).held.s3 = k0_pay17 (ins m c t).x1 (ins m c t).x0 (k0_pay5 (F := Ideal)) := by
  rw [leftAt_first m c t h0 (by omega)]; exact s3First c _ _ _ _ _ _

theorem sums3_later (c : Dev nD) (t : Fin cfg0.N) (h0 : ¬t.val = 0) :
    (leftAt m c t.val t.isLt).held.s3 = k0_pay17 (ins m c t).x1 (ins m c t).x0 (before m c t).s3 := by
  by_cases h1 : t.val = 15
  · rw [leftAt_last m c t h0 h1]; exact s3Last c _ _ _ _ _ _ _
  · rw [leftAt_mid m c t h0 h1]; exact s3Mid c _ _ _ _ _ _ _

theorem sums4_first (c : Dev nD) (t : Fin cfg0.N) (h0 : t.val = 0) (y : S8x8x5632.Idx) :
    (leftAt m c t.val t.isLt).held.s4 y = 0 + cwSum (ins m c t).x2 (dArr m c t.val) y := by
  rw [leftAt_first m c t h0 (by omega), zero_add, ← dupOf_eq m c t _ (none_behind m c t h0)]
  exact (congrFun (s4First c _ _ _ _ _ _) y).trans (chain_eq _ _ y)

theorem sums4_later (c : Dev nD) (t : Fin cfg0.N) (h0 : ¬t.val = 0) (y : S8x8x5632.Idx) :
    (leftAt m c t.val t.isLt).held.s4 y = (before m c t).s4 y + cwSum (ins m c t).x2 (dArr m c t.val) y := by
  rw [← tile_later m c t h0]
  by_cases h1 : t.val = 15
  · rw [leftAt_last m c t h0 h1]; exact congrFun (s4Last c _ _ _ _ _ _ _) y
  · rw [leftAt_mid m c t h0 h1]; exact congrFun (s4Mid c _ _ _ _ _ _ _) y

theorem left9 (c : Dev nD) (t : Fin cfg0.N) (h1 : t.val = 15) :
    (leftAt m c t.val t.isLt).o9 = k0_pay3 (leftAt m c t.val t.isLt).held.s3 := by
  rw [sums3_later m c t (by omega), leftAt_last m c t (by omega) h1]; exact o9Last c _ _ _ _ _ _ _

theorem left10 (c : Dev nD) (t : Fin cfg0.N) (h1 : t.val = 15) :
    (leftAt m c t.val t.isLt).o10 = k0_pay4 (leftAt m c t.val t.isLt).held.s4 := by
  rw [show (leftAt m c t.val t.isLt).held.s4 = _ from funext (sums4_later m c t (by omega)), ← tile_later m c t (by omega),
    leftAt_last m c t (by omega) h1]
  exact o10Last c _ _ _ _ _ _ _

/-- The gradient before the closing norm, in the calls' order of rows. -/
def out6 (c : Dev nD) : Vec Ideal S4096x1024 .bf16 := fun j : S4096x1024.Idx => ddT m c ⟨tok (j 0).val, tok_lt (j 0).isLt⟩ (j 1)

theorem arr6 (c : Dev nD) : (dats m 0 c).arrAt 6 cfg0.N = out6 m c := by
  refine (dats m 0 c).arrAt_eq_of_covers 6 _ (by decide +kernel) fun t hf z => ?_
  blk_simp
  rw [after6, left6]
  idx_vars z
  refine (ddArr_apply (ins m c t) z0 z1).trans ((dd_eq m c t z0 z1).trans ?_)
  refine Eq.trans ?_ (congrArg (out6 m c) (?_ : ix2 (⟨256 * (15 - t.val) + z0.val, by omega⟩ : Fin 4096) z1 = _))
  · exact congrArg (fun n => ddT m c n z1) (at_tok t z0 (tok_lt (by omega))).symm
  · blk_ext [idx t]
    all_goals omega

/-- The activations, in the calls' order of rows. -/
def out7 (c : Dev nD) : Vec Ideal S4096x2816 .bf16 := fun j : S4096x2816.Idx => actT m c ⟨tok (j 0).val, tok_lt (j 0).isLt⟩ (j 1)

theorem arr7 (c : Dev nD) : (dats m 0 c).arrAt 7 cfg0.N = out7 m c := by
  refine (dats m 0 c).arrAt_eq_of_covers 7 _ (by decide +kernel) fun t hf z => ?_
  blk_simp
  rw [after7, left7, actArr_eq]
  idx_vars z
  refine (act_eq m c t z0 z1).trans ?_
  refine Eq.trans ?_ (congrArg (out7 m c) (?_ : ix2 (⟨256 * (15 - t.val) + z0.val, by omega⟩ : Fin 4096) z1 = _))
  · exact congrArg (fun n => actT m c n z1) (at_tok t z0 (tok_lt (by omega))).symm
  · blk_ext [idx t]
    all_goals omega

/-- The convolution turned round. -/
def duT (c : Dev nD) (n : Fin 4096) (l : Fin 5632) : EReal :=
  cw m c 0 l * dpad m c (n.val + 2) l + cw m c 1 l * dpad m c (n.val + 1) l + cw m c 2 l * dpad m c n.val l

theorem du_eq (c : Dev nD) (t : Fin cfg0.N) (r : Fin 256) (l : Fin 5632) :
    duSum (k0_pay13 (ins m c t).x4) (dArr m c t.val) r l = duT m c (at_ t r) l := by
  unfold duSum duT
  rw [pay13, tap0, tap1, tap2]
  refine congrArg₂ (· + ·) (congrArg₂ (· + ·) ?_ ?_) ?_
  · refine congrArg (fun n => cw m c 0 l * dpad m c n l) ?_
    show 256 * (15 - t.val) + 32 * ((16 + r.val) % 8) + (16 + r.val) / 8 = 256 * (15 - t.val) + 32 * (r.val % 8) + r.val / 8 + 2
    omega
  · refine congrArg (fun n => cw m c 1 l * dpad m c n l) ?_
    show 256 * (15 - t.val) + 32 * ((8 + r.val) % 8) + (8 + r.val) / 8 = 256 * (15 - t.val) + 32 * (r.val % 8) + r.val / 8 + 1
    omega
  · rfl

/-- The gradient of the rows before the convolution, in the calls' order of rows. -/
def out8 (c : Dev nD) : Vec Ideal S4096x5632 .bf16 := fun j : S4096x5632.Idx => duT m c ⟨tok (j 0).val, tok_lt (j 0).isLt⟩ (j 1)

theorem arr8 (c : Dev nD) : (dats m 0 c).arrAt 8 cfg0.N = out8 m c := by
  refine (dats m 0 c).arrAt_eq_of_covers 8 _ (by decide +kernel) fun t hf z => ?_
  blk_simp
  rw [after8, left8, duArr_eq]
  idx_vars z
  refine (du_eq m c t z0 z1).trans ?_
  refine Eq.trans ?_ (congrArg (out8 m c) (?_ : ix2 (⟨256 * (15 - t.val) + z0.val, by omega⟩ : Fin 4096) z1 = _))
  · exact congrArg (fun n => duT m c n z1) (at_tok t z0 (tok_lt (by omega))).symm
  · blk_ext [idx t]
    all_goals omega

/-- What token `n` adds to the gradient of the closing norm's gain. -/
def pgT (c : Dev nD) (l : Fin 1024) (n : Fin 4096) : EReal := gx m c n l * d m c n l * rs fun i => d m c n i

/-- What point `t` adds to those sums. -/
def term9 (c : Dev nD) (t : Fin cfg0.N) (j : S8x1024.Idx) : EReal :=
  ∑ k : Fin 32, pgT m c (j 1) (at_ t ⟨k.val * 8 + (j 0).val, by have : (j 0).val < 8 := (j 0).isLt; omega⟩)

theorem step9_of (x : Ins Ideal) (s : Fin 8) (l : Fin 1024) (a : Vec Ideal S8x1024 .f32) (D G : Fin 256 → Fin 1024 → EReal)
    (h1 : ∀ r k, x.x1 (ix2 r k) = D r k) (h0 : ∀ r k, x.x0 (ix2 r k) = G r k) : k0_pay17 x.x1 x.x0 a (ix2 s l)
      = a (ix2 s l) + ∑ k : Fin 32, G ⟨k.val * 8 + s.val, by omega⟩ l * D ⟨k.val * 8 + s.val, by omega⟩ l
        * rs fun i => D ⟨k.val * 8 + s.val, by omega⟩ i := by
  rw [pay17]
  simp only [h1, h0]

theorem step9 (c : Dev nD) (t : Fin cfg0.N) (a : Vec Ideal S8x1024 .f32) (j : S8x1024.Idx) :
    k0_pay17 (ins m c t).x1 (ins m c t).x0 a j = a j + term9 m c t j := by
  idx_vars j
  exact step9_of (ins m c t) j0 j1 a (fun r => d m c (at_ t r)) (fun r => gx m c (at_ t r)) (rows1 m c t) (rows0 m c t)

theorem acc9 (c : Dev nD) (t : Fin cfg0.N) (ht : t.val + 1 = cfg0.N) (j : S8x1024.Idx) :
    (leftAt m c t.val t.isLt).held.s3 j = 0 + ∑ t : Fin cfg0.N, term9 m c t j := by
  refine Pipeline.eq_sum_fin_of_reset_step_apply_last (fun n h => (leftAt m c n h).held.s3) 16 (fun _ => (0 : EReal)) (term9 m c)
    (fun t h j => ?_) (fun t h j => ?_) (le_of_eq N_0) t ht j
  · have := lt16 t
    show (leftAt m c t.val t.isLt).held.s3 j = _
    rw [sums3_first m c t (by omega), step9, pay5]
  · have := lt16 t
    show (leftAt m c t.val t.isLt).held.s3 j = _
    rw [sums3_later m c t (by omega), step9]

/-- The gradient of the closing norm's gain. -/
def out9 (c : Dev nD) : Vec Ideal S1x1024 .f32 := fun j : S1x1024.Idx => ∑ n : Fin 4096, pgT m c (j 1) n

/-- The points in the order of the tiles. -/
theorem sum_points (f : Fin cfg0.N → EReal) : ∑ t : Fin cfg0.N, f t = ∑ t : Fin cfg0.N, f t.rev := (Equiv.sum_comp Fin.revPerm f).symm

theorem arr9 (c : Dev nD) : (dats m 0 c).arrAt 9 cfg0.N = out9 m c := by
  have e : (leftAt m c t0_15.val t0_15.isLt).o9 = out9 m c := by
    rw [left9 m c t0_15 rfl]
    funext j
    idx_vars j
    obtain rfl : j0 = 0 := Subsingleton.elim _ _
    rw [pay3]
    simp only [acc9 m c t0_15 rfl, zero_add]
    simp only [sum_points (term9 m c · _)]
    refine sum_groups (b := 32) N_0 rfl (pgT m c j1) _ fun s t k hp => congrArg (pgT m c j1) (Fin.ext ?_)
    have := lt16 t
    show 256 * (15 - (cfg0.N - (t.val + 1))) + 32 * ((k.val * 8 + s.val) % 8) + (k.val * 8 + s.val) / 8 = tok (t.val * (32 * 8) + k.val * 8 + s.val)
    rw [show cfg0.N = 16 from N_0]
    simp only [tok]
    omega
  refine (dats m 0 c).arrAt_eq_of_after_last 9 t0_15 (by decide +kernel) _ fun j => ?_
  rw [after9, e]
  rfl

/-- What token `n` adds to the gradient of tap `k`. -/
def cwT (c : Dev nD) (k : ℕ) (l : Fin 5632) (n : Fin 4096) : EReal := dpad m c (n.val + (2 - k)) l * u m c n l

theorem acc10 (c : Dev nD) (t : Fin cfg0.N) (ht : t.val + 1 = cfg0.N) (j : S8x8x5632.Idx) :
    (leftAt m c t.val t.isLt).held.s4 j = 0 + ∑ t : Fin cfg0.N, cwSum (ins m c t).x2 (dArr m c t.val) j := by
  refine Pipeline.eq_sum_fin_of_reset_step_apply_last (fun n h => (leftAt m c n h).held.s4) 16 (fun _ => (0 : EReal))
    (fun t j => cwSum (ins m c t).x2 (dArr m c t.val) j) (fun t h j => ?_) (fun t h j => ?_) (le_of_eq N_0) t ht j
  · have := lt16 t
    exact sums4_first m c t (by omega) j
  · have := lt16 t
    exact sums4_later m c t (by omega) j

theorem term10 (c : Dev nD) (t : Fin cfg0.N) (k s : Fin 8) (l : Fin 5632) (hk : k.val < 3) :
    cwSum (ins m c t).x2 (dArr m c t.val) (ix3 k s l) = ∑ i : Fin 32, cwT m c k.val l (at_ t ⟨i.val * 8 + s.val, by omega⟩) := by
  unfold cwSum
  rw [dif_pos (show ((ix3 k s l : S8x8x5632.Idx) 0).val < 3 from hk)]
  refine Finset.sum_congr rfl fun i _ => congrArg₂ (· * ·) ?_ (rows2 m c t _ l)
  refine congrArg (fun n => dpad m c n l) ?_
  show 256 * (15 - t.val) + 32 * ((8 * (2 - k.val) + (i.val * 8 + s.val)) % 8) + (8 * (2 - k.val) + (i.val * 8 + s.val)) / 8
    = 256 * (15 - t.val) + 32 * ((i.val * 8 + s.val) % 8) + (i.val * 8 + s.val) / 8 + (2 - k.val)
  omega

/-- The gradient of the taps, with five rows of zeros under it. -/
def out10 (c : Dev nD) : Vec Ideal S8x5632 .f32 := fun j : S8x5632.Idx =>
  if (j 0).val < 3 then ∑ n : Fin 4096, cwT m c (j 0).val (j 1) n else 0

theorem sums10 (c : Dev nD) (k : Fin 8) (l : Fin 5632) :
    ∑ s : Fin 8, ∑ t : Fin cfg0.N, cwSum (ins m c t).x2 (dArr m c t.val) (ix3 k s l) = out10 m c (ix2 k l) := by
  by_cases hk : k.val < 3
  · refine Eq.trans ?_ (if_pos (show ((ix2 k l : S8x5632.Idx) 0).val < 3 from hk)).symm
    simp only [term10 m c _ k _ l hk]
    rw [Finset.sum_congr rfl fun s _ => sum_points fun t => ∑ i : Fin 32, cwT m c k.val l (at_ t ⟨i.val * 8 + s.val, by omega⟩)]
    refine sum_groups (b := 32) N_0 rfl (cwT m c k.val l) _ fun s t i hp => congrArg (cwT m c k.val l) (Fin.ext ?_)
    have := lt16 t
    show 256 * (15 - (cfg0.N - (t.val + 1))) + 32 * ((i.val * 8 + s.val) % 8) + (i.val * 8 + s.val) / 8 = tok (t.val * (32 * 8) + i.val * 8 + s.val)
    rw [show cfg0.N = 16 from N_0]
    simp only [tok]
    omega
  · refine Eq.trans ?_ (if_neg (show ¬((ix2 k l : S8x5632.Idx) 0).val < 3 from hk)).symm
    refine Finset.sum_eq_zero fun s _ => Finset.sum_eq_zero fun t _ => ?_
    unfold cwSum
    exact dif_neg hk

theorem arr10 (c : Dev nD) : (dats m 0 c).arrAt 10 cfg0.N = out10 m c := by
  have e : (leftAt m c t0_15.val t0_15.isLt).o10 = out10 m c := by
    rw [left10 m c t0_15 rfl]
    funext j
    idx_vars j
    rw [pay4]
    simp only [acc10 m c t0_15 rfl, zero_add]
    exact sums10 m c j0 j1
  refine (dats m 0 c).arrAt_eq_of_after_last 10 t0_15 (by decide +kernel) _ fun j => ?_
  rw [after10, e]
  rfl

end Cert.Kernel2Ideal.FfnBwd
-- ==== Proof.FfnBits.lean ====
module

public import proofs.«01_k».proof.Defs
public import proofs.«01_k».proof.Proof.FfnFrame
public import proofs.«01_k».proof.Proof.Gen.Kernel2
public import proofs.«01_k».proof.Proof.Gen.Reference2Ideal.Run
public import Idealize.ShloMosaic.Lib.Quiescent

/-! The frames of the channel mixer's backward call and of its reference. -/

@[expose] public section

set_option maxRecDepth 16384

noncomputable section

open Idealize.ShloMosaic Idealize.ShloMosaic.TcCoe Idealize.SL.Sem

namespace Cert.Kernel2Ideal.FfnBwd

open Cert.Kernel2Ideal Cert.Kernel2Ideal.Gen

theorem frame_ideal : Cert.quiescent_Kernel2Ideal := fun m ρ _ => frame (F := Ideal) m ρ

theorem frame_reference : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- The frame of the program over `F`. -/
def Frame (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

/-- The program with its roundings is the same text. -/
theorem same_text : Cert.quiescent_Kernel2 = Frame Bits := by sl_kernel_rfl

theorem frame_bits : Cert.quiescent_Kernel2 := same_text.mpr fun m ρ _ => frame (F := Bits) m ρ

end Cert.Kernel2Ideal.FfnBwd
-- ==== Proof.Finite.lean ====
module

public import proofs.«01_k».proof.Proof.Reals
public import Idealize.ShloMosaic.Lib.Pointwise

/-! What the preconditions say of an argument: each of its entries is a real number. -/

@[expose] public section

noncomputable section

open Idealize.ShloMosaic

namespace Cert.Reals

theorem of_pre {s z : Shape} {v : FVec Ideal s .f32} {dims : Fin z.rank → Fin s.rank} {hb : z.BroadcastsInDim s dims}
    (h : cmpf .olt (Host.absf v) (broadcastInDim s dims hb (constant z .f32 0x7F800000#32)) = fun _ => 1#1) (j : s.Idx) :
    Fin' (v j) := by
  have h := congrFun h j
  refine of_abs_lt ?_
  by_contra hn
  have e : cmpf .olt (Host.absf v) (broadcastInDim s dims hb (constant z .f32 0x7F800000#32)) j
      = Ideal.cmp .olt (max (v j) (-(v j))) (Ideal.ofBits .f32 0x7F800000#32) := rfl
  rw [e, Consts.infinity] at h
  simp [Ideal.cmp, hn] at h

end Cert.Reals
-- ==== Proof.FfnClaim.lean ====
module

public import proofs.«01_k».proof.Proof.FfnRef
public import proofs.«01_k».proof.Proof.FfnValue
public import proofs.«01_k».proof.Proof.FfnBits
public import proofs.«01_k».proof.Proof.Finite
public import proofs.«01_k».proof.Proof.Gen.Pre_finite2

/-! The channel mixer's backward call against the derivative of the channel mixer. -/

@[expose] public section

set_option maxRecDepth 16384

noncomputable section

open Idealize.ShloMosaic Idealize.ShloMosaic.TcCoe Idealize.SL.Sem

namespace Cert.Kernel2Ideal.FfnBwd

open Cert.Rows Cert.Consts Cert.Reals Cert.NormRow Cert.Kernel2Ideal Cert.Kernel2Ideal.Gen
open Cert.Reference2Ideal.Value (res_main_v15 res_main_v17 res_main_v18 res_main_v21 res_main_v22 res_main_v26 res_main_v27 res_main_v30
  res_main_v31 res_main_v32 res_main_v33_2 res_main_v33_0 res_main_v34 res_main_v35 res_main_v42 res_main_v43 res_main_v48 res_main_v49
  res_main_v56 res_main_v67 res_main_v71 res_main_v72 res_main_v74 res_main_v76 res_main_v99)

theorem frame_finite : Cert.quiescent_Kernel2Ideal_pre_finite2 := fun m ρ _ => frame (F := Ideal) m ρ

variable {m : (ℓ : Loc nD τ sig) → Buf (Elt Ideal) ℓ} {c : Dev nD} {W : Start}

theorem real_of_pre (h : Cert.Pre_Kernel2Ideal_finite2 m) (c : Dev nD) : Real' m c :=
  { x := fun n k => of_pre (h c).1 (ix2 n k)
    g := fun k => of_pre (h c).2.1 (ix1 k)
    w := fun k l => of_pre (h c).2.2.1 (ix2 k l)
    cw := fun k l => of_pre (h c).2.2.2.1 (ix2 k l)
    wd := fun l k => of_pre (h c).2.2.2.2.1 (ix2 l k)
    pg := fun l => of_pre (h c).2.2.2.2.2.1 (ix1 l)
    gx := fun n l => of_pre (h c).2.2.2.2.2.2 (ix2 n l) }

/-- A tap's sum over the rows that meet it, from either side. -/
theorem taps_sum (k : ℕ) (hk : k ≤ 2) (l : Fin 5632) :
    ∑ n : Fin 4096, cwT m c k l n = ∑ n : Fin 4096, dupT m c n l * upad m c (n.val + k) l := by
  have a : ∀ n : Fin 4096, cwT m c k l n = dpad m c (n.val + (2 - k)) l * upad m c (n.val + 2) l :=
    fun n => congrArg (dpad m c _ l * ·) (upad_of m c _ n l rfl).symm
  have b : ∀ n : Fin 4096, dupT m c n l * upad m c (n.val + k) l = dpad m c n.val l * upad m c (n.val + k) l :=
    fun n => congrArg (· * upad m c _ l) (dpad_of m c _ n l rfl).symm
  have z : ∀ n, 4096 ≤ n → dpad m c n l = 0 := fun n h => by unfold dpad; exact dif_neg (by omega)
  simp only [a, b]
  rw [Fin.sum_univ_eq_sum_range (fun n => dpad m c (n + (2 - k)) l * upad m c (n + 2) l) 4096,
    Fin.sum_univ_eq_sum_range (fun n => dpad m c n l * upad m c (n + k) l) 4096]
  have e : ∑ n ∈ Finset.range (4096 + (2 - k)), dpad m c n l * upad m c (n + k) l
      = ∑ n ∈ Finset.range 4096, dpad m c n l * upad m c (n + k) l := by
    rw [Finset.sum_range_add]
    refine (congrArg (_ + ·) (Finset.sum_eq_zero fun n _ => ?_)).trans (add_zero _)
    rw [z _ (by omega), zero_mul]
  rw [← e, Nat.add_comm 4096, Finset.sum_range_add]
  refine Eq.symm ((congrArg (· + _) (Finset.sum_eq_zero fun n hn => ?_)).trans ((zero_add _).trans ?_))
  · rw [upad_zero m c _ l (by have := Finset.mem_range.mp hn; omega), mul_zero]
  · refine Finset.sum_congr rfl fun n _ => ?_
    exact congrArg₂ (fun a b => dpad m c a l * upad m c b l) (by omega) (by omega)

theorem no_tap : FloatOps.sitofp (F := Ideal) FTy.f32 (0#32 : BitVec 32) = (0 : EReal) := by
  show ((((0#32 : BitVec 32).toInt : ℤ) : ℝ) : EReal) = 0
  norm_num

/-- The taps' gradient as the reference lays it out. -/
theorem taps_laid (P Q2 Q1 Q0 : Fin 4096 → Fin 5632 → EReal) (hP : ∀ n l, P n l = dupT m c n l)
    (h2 : ∀ n l, Q2 n l = upad m c (n.val + 2) l) (h1 : ∀ n l, Q1 n l = upad m c (n.val + 1) l) (h0 : ∀ n l, Q0 n l = upad m c n.val l)
    (k : Fin 8) (l : Fin 5632) :
    (if _ : k.val < 3 then
      ((if _ : 2 ≤ k.val ∧ k.val - 2 < 1 then ∑ x : Fin 4096, P x l * Q2 x l else 0)
        + if _ : 1 ≤ k.val ∧ k.val - 1 < 1 then ∑ x : Fin 4096, P x l * Q1 x l else 0)
        + if _ : k.val < 1 then ∑ x : Fin 4096, P x l * Q0 x l else 0
      else FloatOps.sitofp (F := Ideal) FTy.f32 (0#32 : BitVec 32) : EReal)
      = if k.val < 3 then ∑ x : Fin 4096, cwT m c k.val l x else 0 := by
  simp only [hP, h2, h1, h0]
  by_cases e : k.val < 3
  · rw [dif_pos e, if_pos e, taps_sum k.val (by omega) l]
    rcases (show k.val = 0 ∨ k.val = 1 ∨ k.val = 2 by omega) with q | q | q
    · simp [q]
    · simp [q]
    · simp [q]
  · rw [dif_neg e, if_neg e]
    exact no_tap

theorem algebraic : Cert.algebraic_Kernel2Ideal_Reference2Ideal_pre_finite2 := by
  pair_intro
  · run_from run_blocks m g
  run_from Cert.Reference2Ideal.Value.run m' g'
  all_goals
    have r := real_of_pre hpre c
    have h : Same m c (StableHlo.launchContents m' c) :=
      ⟨(hagree c).1, (hagree c).2.1, (hagree c).2.2.1, (hagree c).2.2.2.1, (hagree c).2.2.2.2.1, (hagree c).2.2.2.2.2.1, (hagree c).2.2.2.2.2.2⟩
  · rw [arr6]
    funext j
    idx_vars j
    pointwise [out6]
    exact r71_at r h _ j1
  · rw [arr7]
    funext j
    idx_vars j
    pointwise [out7]
    exact r34_at h _ j1
  · rw [arr8]
    funext j
    idx_vars j
    pointwise [out8]
    refine Eq.trans ?_ (r99_at r h ⟨tok j0.val, tok_lt j0.isLt⟩ j1)
    exact congrArg (fun z => (res_main_v99 (StableHlo.launchContents m' c) : FVec Ideal S4098x5632 .f32) (ix2 z j1)) (Fin.ext (Nat.add_comm _ _))
  · rw [arr9]
    funext j
    idx_vars j
    pointwise [out9]
    simp only [Finset.sum_const, Finset.card_univ, Fintype.card_fin, one_smul, r116_at h]
    refine Finset.sum_congr rfl fun n _ => ?_
    unfold pgT
    rw [mul_comm (gx m c n j1), mul_right_comm]
    rfl
  · rw [arr10]
    funext j
    idx_vars j
    pointwise [out10]
    exact taps_laid (fun n l => (res_main_v76 (StableHlo.launchContents m' c) : FVec Ideal S4096x5632 .f32) (ix2 n l))
      (fun n l => (res_main_v27 (StableHlo.launchContents m' c) : FVec Ideal S4096x5632 .f32) (ix2 n l))
      (fun n l => (res_main_v22 (StableHlo.launchContents m' c) : FVec Ideal S4096x5632 .f32) (ix2 n l))
      (fun n l => (res_main_v18 (StableHlo.launchContents m' c) : FVec Ideal S4096x5632 .f32) (ix2 n l))
      (r76_at r h) (r27_at h) (r22_at h) (r18_at h) j0 j1

end Cert.Kernel2Ideal.FfnBwd
-- ==== Proof.NormUp.lean ====
module

public import proofs.«01_k».proof.Defs
public import proofs.«01_k».proof.Proof.Gen.Kernel3Ideal.Frame
public import proofs.«01_k».proof.Proof.Rows
public import proofs.«01_k».proof.Proof.NormRow
public import Idealize.ShloMosaic.Lib.Pipeline.ValueKit
public import Idealize.ShloMosaic.Lib.Pipeline.ReadBack
public import Idealize.ShloMosaic.Lib.Pointwise
public import Idealize.ShloMosaic.Lib.Claim

/-! The backward call of a norm and the projection behind it, at the channel mixer's width: its two results. -/

@[expose] public section

set_option maxRecDepth 16384

noncomputable section

open Idealize.ShloMosaic Idealize.ShloMosaic.TcCoe Idealize.SL.Sem
open Idealize.ShloMosaic.Pipeline (Dat)

namespace Cert.Kernel3Ideal.NormUp

open Cert.Rows Cert.Kernel3Ideal Cert.Kernel3Ideal.Gen Cert.NormRow

variable (m : (ℓ : Loc nD τ sig) → Buf (Elt Ideal) ℓ)

theorem idx : ∀ t : Fin cfg0.N, win0_0.index t = ![t.val, 0] ∧ win0_1.index t = ![0, 0, 0]
    ∧ win0_2.index t = ![t.val, 0] ∧ win0_3.index t = ![0, 0] ∧ win0_4.index t = ![t.val, 0]
    ∧ win0_5.index t = ![t.val, 0] ∧ win0_6.index t = ![0, 0] := (by decide +kernel : ∀ t : Fin grid0.N, _)

/-- The rows before the norm. -/
def x (c : Dev nD) (n : Fin 4096) (l : Fin 1024) : EReal :=
  (m ((c : Thread nD τ).loc main_arg0) : Vec Ideal S4096x1024 .f32) (ix2 n l)
/-- The norm's gain. -/
def g (c : Dev nD) (l : Fin 1024) : EReal := (m ((c : Thread nD τ).loc main_arg1) : Vec Ideal S1024 .f32) (ix1 l)
/-- The projection. -/
def w (c : Dev nD) (l : Fin 1024) (k : Fin 5632) : EReal :=
  (m ((c : Thread nD τ).loc main_arg2) : Vec Ideal S1024x5632 .f32) (ix2 l k)
/-- The gradient that reaches the rows past the norm. -/
def res (c : Dev nD) (n : Fin 4096) (l : Fin 1024) : EReal :=
  (m ((c : Thread nD τ).loc main_arg3) : Vec Ideal S4096x1024 .f32) (ix2 n l)
/-- The gradient behind the projection. -/
def gy (c : Dev nD) (n : Fin 4096) (k : Fin 5632) : EReal :=
  (m ((c : Thread nD τ).loc main_arg4) : Vec Ideal S4096x5632 .f32) (ix2 n k)

/-- Row `r` of tile `t`. -/
def at_ (t : Fin cfg0.N) (r : Fin 512) : Fin 4096 :=
  ⟨512 * t.val + r.val, by have := t.isLt; have : cfg0.N = 8 := N_0; omega⟩

theorem blk0 (c : Dev nD) (t : Fin cfg0.N) (r : Fin 512) (k : Fin 5632) :
    (iblk m c 0 t : Vec Ideal S512x5632 .bf16) (ix2 r k) = gy m c (at_ t r) k := by
  blk_simp [iblk, idx t]
  entry_read
  pointwise [gy]
  blk_ext [idx t]
  all_goals simp only [at_]; omega

theorem blk1 (c : Dev nD) (t : Fin cfg0.N) (j : Fin 4) (l : Fin 1024) (k : Fin 1408) :
    (iblk m c 1 t : Vec Ideal S4x1024x1408 .bf16) (ix3 j l k) = w m c l ⟨1408 * j.val + k.val, by omega⟩ := by
  blk_simp [iblk, idx t]
  entry_read
  pointwise [w]
  blk_ext [idx t]
  all_goals omega

theorem blk2 (c : Dev nD) (t : Fin cfg0.N) (r : Fin 512) (l : Fin 1024) :
    (iblk m c 2 t : Vec Ideal S512x1024 .f32) (ix2 r l) = x m c (at_ t r) l := by
  blk_simp [iblk, idx t]
  entry_read
  pointwise [x]
  blk_ext [idx t]
  all_goals simp only [at_]; omega

theorem blk3 (c : Dev nD) (t : Fin cfg0.N) (l : Fin 1024) :
    (iblk m c 3 t : Vec Ideal S1x1024 .f32) (ix2 0 l) = g m c l := by
  blk_simp [iblk, idx t]
  entry_read
  pointwise [g]
  blk_ext [idx t]
  all_goals omega

theorem blk4 (c : Dev nD) (t : Fin cfg0.N) (r : Fin 512) (l : Fin 1024) :
    (iblk m c 4 t : Vec Ideal S512x1024 .f32) (ix2 r l) = res m c (at_ t r) l := by
  blk_simp [iblk, idx t]
  entry_read
  pointwise [res]
  blk_ext [idx t]
  all_goals simp only [at_]; omega

/-- The gradient before the projection. -/
def dh (c : Dev nD) (n : Fin 4096) (l : Fin 1024) : EReal := ∑ k : Fin 5632, gy m c n k * w m c l k

theorem pay4 (v : Vec Ideal S512x1024 .f32) (r : Fin 512) :
    k0_pay4 v (ix2 r 0) = Ideal.rsqrt (under (Ideal.ofBits .f32 0x44800000#32) (Ideal.ofBits .f32 0x358637BD#32) fun k => v (ix2 r k)) := by
  pointwise [k0_pay4, under]

theorem pay5 (h v d : Vec Ideal S512x1024 .f32) (p : Vec Ideal S1x1024 .f32) (r : Fin 512) (l : Fin 1024) :
    k0_pay5 h v p d (ix2 r l) = d (ix2 r l) + (k0_pay4 v (ix2 r 0) * (p (ix2 0 l) * h (ix2 r l))
      - v (ix2 r l) * (k0_pay4 v (ix2 r 0) * k0_pay4 v (ix2 r 0) * k0_pay4 v (ix2 r 0))
        * Ideal.div (∑ k : Fin 1024, p (ix2 0 k) * h (ix2 r k) * v (ix2 r k)) (Ideal.ofBits .f32 0x44800000#32)) := by
  pointwise [k0_pay5]

theorem pay6 (h v : Vec Ideal S512x1024 .f32) (a : Vec Ideal S8x1024 .f32) (s : Fin 8) (l : Fin 1024) :
    k0_pay6 h v a (ix2 s l) = a (ix2 s l) + ∑ k : Fin 64, h (ix2 ⟨k.val * 8 + s.val, by omega⟩ l)
      * v (ix2 ⟨k.val * 8 + s.val, by omega⟩ l) * k0_pay4 v (ix2 ⟨k.val * 8 + s.val, by omega⟩ 0) := by
  pointwise [k0_pay6]

theorem pay1 (a : Vec Ideal S8x1024 .f32) (l : Fin 1024) : k0_pay1 a (ix2 0 l) = ∑ s : Fin 8, a (ix2 s l) := by
  pointwise [k0_pay1]

theorem pay2 (j : S8x1024.Idx) : k0_pay2 (F := Ideal) j = 0 := by
  pointwise [k0_pay2]

theorem pay3 (w0 : Vec Ideal S1x1024x1408 .bf16) (g0 : Vec Ideal S512x1408 .bf16) (w1 : Vec Ideal S1x1024x1408 .bf16)
    (g1 : Vec Ideal S512x1408 .bf16) (w2 : Vec Ideal S1x1024x1408 .bf16) (g2 : Vec Ideal S512x1408 .bf16)
    (w3 : Vec Ideal S1x1024x1408 .bf16) (g3 : Vec Ideal S512x1408 .bf16) (r : Fin 512) (l : Fin 1024) :
    k0_pay3 w0 g0 w1 g1 w2 g2 w3 g3 (ix2 r l) = (∑ k : Fin 1408, g0 (ix2 r k) * w0 (ix3 0 l k))
      + (∑ k : Fin 1408, g1 (ix2 r k) * w1 (ix3 0 l k)) + (∑ k : Fin 1408, g2 (ix2 r k) * w2 (ix3 0 l k))
      + ∑ k : Fin 1408, g3 (ix2 r k) * w3 (ix3 0 l k) := by
  pointwise [k0_pay3]

/-- The tile's gradient before the projection, as the body adds it up block by block of columns. -/
def dhBlk (c : Dev nD) (t : Fin cfg0.N) : Vec Ideal S512x1024 .f32 :=
  k0_pay3 (View.ld (iblk m c 1 t) (Rect.unit ![0, 0, 0] ![1, 1024, 1408] inb_S4x1024x1408_S1x1024x1408_0_0_0))
    (View.ld (iblk m c 0 t) (Rect.unit ![0, 0] ![512, 1408] inb_S512x5632_S512x1408_0_0))
    (View.ld (iblk m c 1 t) (Rect.unit ![1, 0, 0] ![1, 1024, 1408] inb_S4x1024x1408_S1x1024x1408_1_0_0))
    (View.ld (iblk m c 0 t) (Rect.unit ![0, 1408] ![512, 1408] inb_S512x5632_S512x1408_0_1408))
    (View.ld (iblk m c 1 t) (Rect.unit ![2, 0, 0] ![1, 1024, 1408] inb_S4x1024x1408_S1x1024x1408_2_0_0))
    (View.ld (iblk m c 0 t) (Rect.unit ![0, 2816] ![512, 1408] inb_S512x5632_S512x1408_0_2816))
    (View.ld (iblk m c 1 t) (Rect.unit ![3, 0, 0] ![1, 1024, 1408] inb_S4x1024x1408_S1x1024x1408_3_0_0))
    (View.ld (iblk m c 0 t) (Rect.unit ![0, 4224] ![512, 1408] inb_S512x5632_S512x1408_0_4224))

theorem dhBlk_eq (c : Dev nD) (t : Fin cfg0.N) (r : Fin 512) (l : Fin 1024) :
    dhBlk m c t (ix2 r l) = dh m c (at_ t r) l := by
  rw [dhBlk, pay3]
  pointwise [blk0, blk1]
  rw [dh, ← sum_four (b := 1408) rfl]

/-- The first result: the gradient of the rows. -/
def dxArr (c : Dev nD) : Vec Ideal S4096x1024 .f32 := fun j : S4096x1024.Idx =>
  let r := Ideal.rsqrt (under (Ideal.ofBits .f32 0x44800000#32) (Ideal.ofBits .f32 0x358637BD#32) (x m c (j 0)))
  res m c (j 0) (j 1) + (r * (g m c (j 1) * dh m c (j 0) (j 1)) - x m c (j 0) (j 1) * (r * r * r)
    * Ideal.div (∑ k : Fin 1024, g m c k * dh m c (j 0) k * x m c (j 0) k) (Ideal.ofBits .f32 0x44800000#32))

theorem pay4_blk (c : Dev nD) (t : Fin cfg0.N) (r : Fin 512) : k0_pay4 (F := Ideal) (iblk m c 2 t) (ix2 r 0)
    = Ideal.rsqrt (under (Ideal.ofBits .f32 0x44800000#32) (Ideal.ofBits .f32 0x358637BD#32) (x m c (at_ t r))) := by
  rw [pay4]
  simp only [blk2]

theorem pay5_blk (c : Dev nD) (t : Fin cfg0.N) :
    k0_pay5 (dhBlk m c t) (iblk m c 2 t) (iblk m c 3 t) (iblk m c 4 t)
      = fun j : S512x1024.Idx => dxArr m c (ix2 (at_ t (j 0)) (j 1)) := by
  funext j
  idx_vars j
  rw [pay5]
  simp only [dhBlk_eq, blk2, blk3, blk4, pay4_blk]
  rfl

theorem dx (c : Dev nD) : (dats m 0 c).arrAt 5 cfg0.N = dxArr m c := by
  refine (dats m 0 c).arrAt_eq_of_covers 5 _ (by decide +kernel) fun t hf z => ?_
  blk_simp
  rw [after0_5]
  have hN : t.val < 8 := lt_of_lt_of_eq t.isLt N_0
  have e2 : (outsAt0 m c t.val t.isLt).1 = k0_pay5 (dhBlk m c t) (iblk m c 2 t) (iblk m c 3 t) (iblk m c 4 t) := by
    by_cases h0 : t.val % 8 = 0
    · rw [outsAt0_A m c t h0 (by omega)]; frame_out; rfl
    · by_cases h1 : t.val % 8 = 7
      · rw [outsAt0_C m c t h0 h1]; frame_out; rfl
      · rw [outsAt0_B m c t h0 h1]; frame_out; rfl
  rw [e2, pay5_blk]
  refine congrArg (dxArr m c) ?_
  idx_vars z
  blk_ext [idx t, at_]
  all_goals omega

/-- What row `n` adds to the gradient of the gain. -/
def gain (c : Dev nD) (l : Fin 1024) (n : Fin 4096) : EReal := dh m c n l * x m c n l
  * Ideal.rsqrt (under (Ideal.ofBits .f32 0x44800000#32) (Ideal.ofBits .f32 0x358637BD#32) (x m c n))

/-- What point `t` adds to the running sums. -/
def term (c : Dev nD) (t : Fin cfg0.N) (j : S8x1024.Idx) : EReal :=
  ∑ k : Fin 64, gain m c (j 1) (at_ t ⟨k.val * 8 + (j 0).val, by have : (j 0).val < 8 := (j 0).isLt; omega⟩)

theorem step (c : Dev nD) (t : Fin cfg0.N) (a : Vec Ideal S8x1024 .f32) (j : S8x1024.Idx) :
    k0_pay6 (dhBlk m c t) (iblk m c 2 t) a j = a j + term m c t j := by
  idx_vars j
  rw [pay6]
  simp only [dhBlk_eq, blk2, pay4_blk]
  rfl

/-- The running sums after the last point. -/
theorem acc (c : Dev nD) (t : Fin cfg0.N) (ht : t.val + 1 = cfg0.N) (j : S8x1024.Idx) :
    ((outsAt0 m c t.val t.isLt).2.2 : Vec Ideal S8x1024 .f32) j = 0 + ∑ t : Fin cfg0.N, term m c t j := by
  refine Pipeline.eq_sum_fin_of_reset_step_apply_last (fun n h => (outsAt0 m c n h).2.2) 8 (fun _ => (0 : EReal)) (term m c)
    (fun t h j => ?_) (fun t h j => ?_) (le_of_eq N_0) t ht j
  · have e : (outsAt0 m c t.val t.isLt).2.2 = k0_pay6 (dhBlk m c t) (iblk m c 2 t) (k0_pay2 (F := Ideal)) := by
      rw [outsAt0_A m c t h (by omega)]; frame_out; rfl
    rw [e, step, pay2]
  · have e : (outsAt0 m c t.val t.isLt).2.2 = k0_pay6 (dhBlk m c t) (iblk m c 2 t)
        (outsAt0 m c (t.val - 1) (Nat.lt_of_le_of_lt (Nat.sub_le _ _) t.isLt)).2.2 := by
      by_cases h1 : t.val % 8 = 7
      · rw [outsAt0_C m c t h h1]; frame_out; simp only [read_unread_whole]; rfl
      · rw [outsAt0_B m c t h h1]; frame_out; simp only [read_unread_whole]; rfl
    rw [e, step]

theorem sums (c : Dev nD) (l : Fin 1024) :
    ∑ s : Fin 8, ∑ t : Fin cfg0.N, term m c t (ix2 s l) = ∑ n : Fin 4096, gain m c l n :=
  sum_groups_rows (b := 64) N_0 rfl (gain m c l) _ fun s t k hp =>
    congrArg (gain m c l) (Fin.ext (show 512 * t.val + (k.val * 8 + s.val) = t.val * (64 * 8) + k.val * 8 + s.val by omega))

/-- The second result: the gradient of the gain. -/
def dgArr (c : Dev nD) : Vec Ideal S1x1024 .f32 := fun j : S1x1024.Idx => ∑ n : Fin 4096, gain m c (j 1) n

theorem dg (c : Dev nD) : (dats m 0 c).arrAt 6 cfg0.N = dgArr m c := by
  have e : (outsAt0 m c t0_7.val t0_7.isLt).2.1 = dgArr m c := by
    have e : (outsAt0 m c t0_7.val t0_7.isLt).2.1 = k0_pay1 (outsAt0 m c t0_7.val t0_7.isLt).2.2 := by
      rw [outsAt0_C m c t0_7 (by decide) (by decide)]; frame_out
    rw [e]
    funext j
    idx_vars j
    obtain rfl : j0 = 0 := Subsingleton.elim _ _
    rw [pay1]
    simp only [acc m c t0_7 rfl, zero_add]
    exact sums m c j1
  refine (dats m 0 c).arrAt_eq_of_after_last 6 t0_7 (by decide +kernel) _ fun j => ?_
  rw [after0_6, e]
  rfl

end Cert.Kernel3Ideal.NormUp
-- ==== Proof.NormUpClaim.lean ====
module

public import proofs.«01_k».proof.Proof.NormUp
public import proofs.«01_k».proof.Proof.Finite
public import Idealize.ShloMosaic.Lib.Quiescent
public import proofs.«01_k».proof.Proof.Gen.Pre_finite3
public import proofs.«01_k».proof.Proof.Gen.Kernel3Ideal.Value
public import proofs.«01_k».proof.Proof.Gen.Reference3Ideal.Run

/-! The norm's backward call at the channel mixer's width against the derivative of the norm and the projection. -/

@[expose] public section

set_option maxRecDepth 16384

noncomputable section

open Idealize.ShloMosaic Idealize.ShloMosaic.TcCoe Idealize.SL.Sem

namespace Cert.Kernel3Ideal.NormUp

open Cert.Consts Cert.Reals Cert.NormRow

theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

section
variable {m : (ℓ : Loc nD τ sig) → Buf (Elt Ideal) ℓ} (h : Cert.Pre_Kernel3Ideal_finite3 m) (c : Dev nD)
include h

theorem x_fin (n : Fin 4096) (l : Fin 1024) : Fin' (x m c n l) := of_pre (h c).1 (ix2 n l)
theorem g_fin (l : Fin 1024) : Fin' (g m c l) := of_pre (h c).2.1 (ix1 l)
theorem w_fin (l : Fin 1024) (k : Fin 5632) : Fin' (w m c l k) := of_pre (h c).2.2.1 (ix2 l k)
theorem gy_fin (n : Fin 4096) (k : Fin 5632) : Fin' (gy m c n k) := of_pre (h c).2.2.2 (ix2 n k)
theorem dh_fin (n : Fin 4096) (l : Fin 1024) : Fin' (dh m c n l) :=
  Reals.sum fun k _ => mul (gy_fin h c n k) (w_fin h c l k)

end

theorem algebraic : Cert.algebraic_Kernel3Ideal_Reference3Ideal_pre_finite3 := by
  pair_intro
  · run_from Cert.Kernel3Ideal.Value.run_blocks m g
  run_from Cert.Reference3Ideal.Value.run m' g'
  · rw [dx]
    unfold Cert.Reference3Ideal.Value.res_main_v38
    funext j
    idx_vars j
    pointwise [dxArr]
    obtain ⟨h0, h1, h2, h3, h4⟩ := hagree c
    obtain ⟨e, he, hE⟩ := eps
    simp only [h0, h1, h2, h3, h4, Finset.sum_const, Finset.card_univ, Fintype.card_fin, one_smul, hE, n1024, neg_half]
    have hb := bwd (N := 1024) (by norm_num) he (x_fin hpre c j0)
      (y := fun k => dh m c j0 k * NormUp.g m c k) (fun k => mul (dh_fin hpre c j0 k) (g_fin hpre c k)) j1
    simp only [mul_comm (NormUp.g m c _) (dh m c _ _)]
    rw [hb, ← add_assoc, ← add_assoc]
    rfl
  · rw [dg]
    funext j
    idx_vars j
    pointwise [dgArr]
    simp only [Finset.sum_const, Finset.card_univ, Fintype.card_fin, one_smul]
    refine Finset.sum_congr rfl fun n _ => ?_
    rw [gain, mul_comm (dh m c n j1), mul_right_comm]
    rfl

end Cert.Kernel3Ideal.NormUp
-- ==== Proof.NormIn.lean ====
module

public import proofs.«01_k».proof.Defs
public import proofs.«01_k».proof.Proof.Gen.Kernel4Ideal.Frame
public import proofs.«01_k».proof.Proof.Rows
public import proofs.«01_k».proof.Proof.NormRow
public import Idealize.ShloMosaic.Lib.Pipeline.ValueKit
public import Idealize.ShloMosaic.Lib.Pipeline.ReadBack
public import Idealize.ShloMosaic.Lib.Pointwise
public import Idealize.ShloMosaic.Lib.Claim

/-! The backward call of a norm and the projection behind it, at the token mixer's width: its two results. -/

@[expose] public section

set_option maxRecDepth 16384

noncomputable section

open Idealize.ShloMosaic Idealize.ShloMosaic.TcCoe Idealize.SL.Sem
open Idealize.ShloMosaic.Pipeline (Dat)

namespace Cert.Kernel4Ideal.NormIn

open Cert.Rows Cert.Kernel4Ideal Cert.Kernel4Ideal.Gen Cert.NormRow

variable (m : (ℓ : Loc nD τ sig) → Buf (Elt Ideal) ℓ)

theorem idx : ∀ t : Fin cfg0.N, win0_0.index t = ![t.val, 0] ∧ win0_1.index t = ![0, 0, 0]
    ∧ win0_2.index t = ![t.val, 0] ∧ win0_3.index t = ![0, 0] ∧ win0_4.index t = ![t.val, 0]
    ∧ win0_5.index t = ![t.val, 0] ∧ win0_6.index t = ![0, 0] := (by decide +kernel : ∀ t : Fin grid0.N, _)

/-- The rows before the norm. -/
def x (c : Dev nD) (n : Fin 4096) (l : Fin 1024) : EReal :=
  (m ((c : Thread nD τ).loc main_arg0) : Vec Ideal S4096x1024 .f32) (ix2 n l)
/-- The norm's gain. -/
def g (c : Dev nD) (l : Fin 1024) : EReal := (m ((c : Thread nD τ).loc main_arg1) : Vec Ideal S1024 .f32) (ix1 l)
/-- The projection. -/
def w (c : Dev nD) (l : Fin 1024) (k : Fin 2304) : EReal :=
  (m ((c : Thread nD τ).loc main_arg2) : Vec Ideal S1024x2304 .f32) (ix2 l k)
/-- The gradient that reaches the rows past the norm. -/
def res (c : Dev nD) (n : Fin 4096) (l : Fin 1024) : EReal :=
  (m ((c : Thread nD τ).loc main_arg3) : Vec Ideal S4096x1024 .f32) (ix2 n l)
/-- The gradient behind the projection. -/
def gy (c : Dev nD) (n : Fin 4096) (k : Fin 2304) : EReal :=
  (m ((c : Thread nD τ).loc main_arg4) : Vec Ideal S4096x2304 .f32) (ix2 n k)

/-- Row `r` of tile `t`. -/
def at_ (t : Fin cfg0.N) (r : Fin 512) : Fin 4096 :=
  ⟨512 * t.val + r.val, by have := t.isLt; have : cfg0.N = 8 := N_0; omega⟩

theorem blk0 (c : Dev nD) (t : Fin cfg0.N) (r : Fin 512) (k : Fin 2304) :
    (iblk m c 0 t : Vec Ideal S512x2304 .bf16) (ix2 r k) = gy m c (at_ t r) k := by
  blk_simp [iblk, idx t]
  entry_read
  pointwise [gy]
  blk_ext [idx t]
  all_goals simp only [at_]; omega

theorem blk1 (c : Dev nD) (t : Fin cfg0.N) (j : Fin 4) (l : Fin 1024) (k : Fin 576) :
    (iblk m c 1 t : Vec Ideal S4x1024x576 .bf16) (ix3 j l k) = w m c l ⟨576 * j.val + k.val, by omega⟩ := by
  blk_simp [iblk, idx t]
  entry_read
  pointwise [w]
  blk_ext [idx t]
  all_goals omega

theorem blk2 (c : Dev nD) (t : Fin cfg0.N) (r : Fin 512) (l : Fin 1024) :
    (iblk m c 2 t : Vec Ideal S512x1024 .f32) (ix2 r l) = x m c (at_ t r) l := by
  blk_simp [iblk, idx t]
  entry_read
  pointwise [x]
  blk_ext [idx t]
  all_goals simp only [at_]; omega

theorem blk3 (c : Dev nD) (t : Fin cfg0.N) (l : Fin 1024) :
    (iblk m c 3 t : Vec Ideal S1x1024 .f32) (ix2 0 l) = g m c l := by
  blk_simp [iblk, idx t]
  entry_read
  pointwise [g]
  blk_ext [idx t]
  all_goals omega

theorem blk4 (c : Dev nD) (t : Fin cfg0.N) (r : Fin 512) (l : Fin 1024) :
    (iblk m c 4 t : Vec Ideal S512x1024 .f32) (ix2 r l) = res m c (at_ t r) l := by
  blk_simp [iblk, idx t]
  entry_read
  pointwise [res]
  blk_ext [idx t]
  all_goals simp only [at_]; omega

/-- The gradient before the projection. -/
def dh (c : Dev nD) (n : Fin 4096) (l : Fin 1024) : EReal := ∑ k : Fin 2304, gy m c n k * w m c l k

/-- The reciprocal root mean square of a row, as the body writes it. -/
def rs (v : Fin 1024 → EReal) : EReal :=
  Ideal.rsqrt (under (Ideal.ofBits .f32 0x44800000#32) (Ideal.ofBits .f32 0x358637BD#32) v)

theorem pay10 (v : Vec Ideal S512x1024 .f32) (r : Fin 512) : k0_pay10 v (ix2 r 0) = rs fun k => v (ix2 r k) := by
  pointwise [k0_pay10, rs, under]

theorem pay11 (p : Vec Ideal S1x1024 .f32) (l : Fin 1024) : k0_pay11 p (ix2 0 l) = p (ix2 0 l) := by
  pointwise [k0_pay11]

theorem pay1 (h v d : Vec Ideal S512x1024 .f32) (q : Vec Ideal S512x1 .f32) (p : Vec Ideal S1x1024 .f32) (r : Fin 512)
    (l : Fin 1024) : k0_pay1 h v q p d (ix2 r l) = d (ix2 r l) + (q (ix2 r 0) * (p (ix2 0 l) * h (ix2 r l))
      - v (ix2 r l) * (q (ix2 r 0) * q (ix2 r 0) * q (ix2 r 0))
        * Ideal.div (∑ k : Fin 1024, p (ix2 0 k) * h (ix2 r k) * v (ix2 r k)) (Ideal.ofBits .f32 0x44800000#32)) := by
  pointwise [k0_pay1]

theorem pay2 (h v : Vec Ideal S512x1024 .f32) (q : Vec Ideal S512x1 .f32) (a : Vec Ideal S8x1024 .f32) (s : Fin 8)
    (l : Fin 1024) : k0_pay2 h v q a (ix2 s l) = a (ix2 s l) + ∑ k : Fin 64, h (ix2 ⟨k.val * 8 + s.val, by omega⟩ l)
      * v (ix2 ⟨k.val * 8 + s.val, by omega⟩ l) * q (ix2 ⟨k.val * 8 + s.val, by omega⟩ 0) := by
  pointwise [k0_pay2]

theorem pay3 (a : Vec Ideal S8x1024 .f32) (l : Fin 1024) : k0_pay3 a (ix2 0 l) = ∑ s : Fin 8, a (ix2 s l) := by
  pointwise [k0_pay3]

theorem pay4 (j : S8x1024.Idx) : k0_pay4 (F := Ideal) j = 0 := by
  pointwise [k0_pay4]

theorem pay5 (v : Vec Ideal S1x1024x576 .bf16) (l : Fin 1024) (k : Fin 576) : k0_pay5 v (ix2 l k) = v (ix3 0 l k) := by
  pointwise [k0_pay5]
theorem pay6 (v : Vec Ideal S1x1024x576 .bf16) (l : Fin 1024) (k : Fin 576) : k0_pay6 v (ix2 l k) = v (ix3 0 l k) := by
  pointwise [k0_pay6]
theorem pay7 (v : Vec Ideal S1x1024x576 .bf16) (l : Fin 1024) (k : Fin 576) : k0_pay7 v (ix2 l k) = v (ix3 0 l k) := by
  pointwise [k0_pay7]
theorem pay8 (v : Vec Ideal S1x1024x576 .bf16) (l : Fin 1024) (k : Fin 576) : k0_pay8 v (ix2 l k) = v (ix3 0 l k) := by
  pointwise [k0_pay8]

theorem pay9 (w0 : Vec Ideal S1024x768 .bf16) (g0 : Vec Ideal S512x768 .bf16) (w1 : Vec Ideal S1024x768 .bf16)
    (g1 : Vec Ideal S512x768 .bf16) (w2 : Vec Ideal S1024x768 .bf16) (g2 : Vec Ideal S512x768 .bf16) (r : Fin 512)
    (l : Fin 1024) : k0_pay9 w0 g0 w1 g1 w2 g2 (ix2 r l) = (∑ k : Fin 768, g0 (ix2 r k) * w0 (ix2 l k))
      + (∑ k : Fin 768, g1 (ix2 r k) * w1 (ix2 l k)) + ∑ k : Fin 768, g2 (ix2 r k) * w2 (ix2 l k) := by
  pointwise [k0_pay9]

/-- The projection with its column blocks side by side. -/
def wArr (c : Dev nD) : Vec Ideal S1024x2304 .bf16 := fun j : S1024x2304.Idx => w m c (j 0) (j 1)

/-- A place whose column lies in a block of columns lies in the block. -/
theorem mem_cols (o : ℕ) (inb) (y : S1024x2304.Idx) (h : o ≤ (y 1).val ∧ (y 1).val < o + 576) :
    y ∈ (Rect.unit (s := S1024x2304) ![0, o] ![1024, 576] inb).set :=
  Rect.mem_set_unit.mpr (Fin.forall_fin_two.mpr ⟨⟨Nat.zero_le _, by
    have h0 : (y 0).val < 1024 := (y 0).isLt
    show (y 0).val < 0 + 1024
    omega⟩, h⟩)

/-- The projection at a place of a block of columns. -/
theorem wArr_cols (c : Dev nD) (o : ℕ) (inb) (l : Fin 1024) (k : Fin 576) (h : o + k.val < 2304) :
    wArr m c ((Rect.unit (s := S1024x2304) ![0, o] ![1024, 576] inb).emb (ix2 l k)) = w m c l ⟨o + k.val, h⟩ :=
  congrArg₂ (w m c) (Fin.ext (by rw [ValueKit.rect_emb_unit_val]; exact Nat.zero_add _)) (Fin.ext (by rw [ValueKit.rect_emb_unit_val]; rfl))

/-- The blocks written side by side are the projection. -/
theorem joined (c : Dev nD) (t : Fin cfg0.N) : View.canon (Val := Elt Ideal)
    [(⟨Rect.unit (s := S1024x2304) ![0, 1728] ![1024, 576] inb_S1024x2304_S1024x576_0_1728, k0_pay8 (View.ld (iblk m c 1 t)
        (Rect.unit ![3, 0, 0] ![1, 1024, 576] inb_S4x1024x576_S1x1024x576_3_0_0))⟩ : View.Piece (Elt Ideal) S1024x2304 .bf16),
      ⟨Rect.unit ![0, 1152] ![1024, 576] inb_S1024x2304_S1024x576_0_1152, k0_pay7 (View.ld (iblk m c 1 t)
        (Rect.unit ![2, 0, 0] ![1, 1024, 576] inb_S4x1024x576_S1x1024x576_2_0_0))⟩,
      ⟨Rect.unit ![0, 576] ![1024, 576] inb_S1024x2304_S1024x576_0_576, k0_pay6 (View.ld (iblk m c 1 t)
        (Rect.unit ![1, 0, 0] ![1, 1024, 576] inb_S4x1024x576_S1x1024x576_1_0_0))⟩,
      ⟨Rect.unit ![0, 0] ![1024, 576] inb_S1024x2304_S1024x576_0_0, k0_pay5 (View.ld (iblk m c 1 t)
        (Rect.unit ![0, 0, 0] ![1, 1024, 576] inb_S4x1024x576_S1x1024x576_0_0_0))⟩] = wArr m c := by
  funext y
  refine View.canon_apply_of_pieces _ _ ?_ y ?_
  · intro p hp
    simp only [List.mem_cons, List.not_mem_nil, or_false] at hp
    rcases hp with rfl | rfl | rfl | rfl <;> intro z <;> idx_vars z
    · rw [wArr_cols m c 1728 _ _ _ (by omega)]
      pointwise [pay8, blk1]
    · rw [wArr_cols m c 1152 _ _ _ (by omega)]
      pointwise [pay7, blk1]
    · rw [wArr_cols m c 576 _ _ _ (by omega)]
      pointwise [pay6, blk1]
    · rw [wArr_cols m c 0 _ _ _ (by omega)]
      pointwise [pay5, blk1]
      all_goals simp only [Nat.zero_add]
  · have h1 : (y 1).val < 2304 := (y 1).isLt
    by_cases a : (y 1).val < 576
    · exact ⟨_, .tail _ (.tail _ (.tail _ (.head _))), mem_cols 0 inb_S1024x2304_S1024x576_0_0 y ⟨by omega, by omega⟩⟩
    by_cases a : (y 1).val < 1152
    · exact ⟨_, .tail _ (.tail _ (.head _)), mem_cols 576 inb_S1024x2304_S1024x576_0_576 y ⟨by omega, by omega⟩⟩
    by_cases a : (y 1).val < 1728
    · exact ⟨_, .tail _ (.head _), mem_cols 1152 inb_S1024x2304_S1024x576_0_1152 y ⟨by omega, by omega⟩⟩
    · exact ⟨_, .head _, mem_cols 1728 inb_S1024x2304_S1024x576_0_1728 y ⟨by omega, by omega⟩⟩

/-- What is read back of the blocks written side by side. -/
theorem joined_ld (c : Dev nD) (t : Fin cfg0.N) (r : Rect S1024x2304) : (View.whole cc0_scratch1).readCov (Val := Elt Ideal)
    [(⟨Rect.unit (s := S1024x2304) ![0, 1728] ![1024, 576] inb_S1024x2304_S1024x576_0_1728, k0_pay8 (View.ld (iblk m c 1 t)
        (Rect.unit ![3, 0, 0] ![1, 1024, 576] inb_S4x1024x576_S1x1024x576_3_0_0))⟩ : View.Piece (Elt Ideal) S1024x2304 .bf16),
      ⟨Rect.unit ![0, 1152] ![1024, 576] inb_S1024x2304_S1024x576_0_1152, k0_pay7 (View.ld (iblk m c 1 t)
        (Rect.unit ![2, 0, 0] ![1, 1024, 576] inb_S4x1024x576_S1x1024x576_2_0_0))⟩,
      ⟨Rect.unit ![0, 576] ![1024, 576] inb_S1024x2304_S1024x576_0_576, k0_pay6 (View.ld (iblk m c 1 t)
        (Rect.unit ![1, 0, 0] ![1, 1024, 576] inb_S4x1024x576_S1x1024x576_1_0_0))⟩,
      ⟨Rect.unit ![0, 0] ![1024, 576] inb_S1024x2304_S1024x576_0_0, k0_pay5 (View.ld (iblk m c 1 t)
        (Rect.unit ![0, 0, 0] ![1, 1024, 576] inb_S4x1024x576_S1x1024x576_0_0_0))⟩] r.toLoadRect = View.ld (wArr m c) r := by
  rw [View.readCov_eq_canon', joined]
  rfl

/-- The tile's gradient before the projection, as the body adds it up chunk by chunk of columns. -/
def dhBlk (c : Dev nD) (t : Fin cfg0.N) : Vec Ideal S512x1024 .f32 :=
  k0_pay9 (View.ld (wArr m c) (Rect.unit ![0, 0] ![1024, 768] inb_S1024x2304_S1024x768_0_0))
    (View.ld (iblk m c 0 t) (Rect.unit ![0, 0] ![512, 768] inb_S512x2304_S512x768_0_0))
    (View.ld (wArr m c) (Rect.unit ![0, 768] ![1024, 768] inb_S1024x2304_S1024x768_0_768))
    (View.ld (iblk m c 0 t) (Rect.unit ![0, 768] ![512, 768] inb_S512x2304_S512x768_0_768))
    (View.ld (wArr m c) (Rect.unit ![0, 1536] ![1024, 768] inb_S1024x2304_S1024x768_0_1536))
    (View.ld (iblk m c 0 t) (Rect.unit ![0, 1536] ![512, 768] inb_S512x2304_S512x768_0_1536))

/-- The same from the blocks of the projection read back where they were written side by side. -/
theorem dhBlk_joined (c : Dev nD) (t : Fin cfg0.N) {a b d : Vec Ideal S1024x768 .bf16}
    (ha : a = View.ld (wArr m c) (Rect.unit ![0, 0] ![1024, 768] inb_S1024x2304_S1024x768_0_0))
    (hb : b = View.ld (wArr m c) (Rect.unit ![0, 768] ![1024, 768] inb_S1024x2304_S1024x768_0_768))
    (hd : d = View.ld (wArr m c) (Rect.unit ![0, 1536] ![1024, 768] inb_S1024x2304_S1024x768_0_1536)) :
    k0_pay9 a (View.ld (iblk m c 0 t) (Rect.unit ![0, 0] ![512, 768] inb_S512x2304_S512x768_0_0))
      b (View.ld (iblk m c 0 t) (Rect.unit ![0, 768] ![512, 768] inb_S512x2304_S512x768_0_768))
      d (View.ld (iblk m c 0 t) (Rect.unit ![0, 1536] ![512, 768] inb_S512x2304_S512x768_0_1536)) = dhBlk m c t := by
  rw [ha, hb, hd]
  rfl

theorem dhBlk_eq (c : Dev nD) (t : Fin cfg0.N) (r : Fin 512) (l : Fin 1024) :
    dhBlk m c t (ix2 r l) = dh m c (at_ t r) l := by
  rw [dhBlk, pay9]
  pointwise [blk0, wArr]
  rw [dh, ← sum_three_blocks (b := 768) rfl]

/-- The scratch holds the projection after every point. -/
theorem held (c : Dev nD) : ∀ (n : ℕ) (h : n < cfg0.N), (outsAt0 m c n h).2.2.2 = wArr m c
  | 0, h => by
    have e := outsAt0_A m c ⟨0, h⟩ (by simp) (by simp)
    simp only at e
    rw [e]; frame_out
    exact joined m c ⟨0, h⟩
  | n + 1, h => by
    have hN : n + 1 < 8 := lt_of_lt_of_eq h N_0
    have ih := held c n (by omega)
    by_cases h1 : (n + 1) % 8 = 7
    · have e := outsAt0_C m c ⟨n + 1, h⟩ (by simp; omega) h1
      simp only at e
      rw [e]; frame_out
      unfold sout0_C_1
      exact ih
    · have e := outsAt0_B m c ⟨n + 1, h⟩ (by simp; omega) h1
      simp only at e
      rw [e]; frame_out
      exact ih

/-- The first result: the gradient of the rows. -/
def dxArr (c : Dev nD) : Vec Ideal S4096x1024 .f32 := fun j : S4096x1024.Idx =>
  let r := rs (x m c (j 0))
  res m c (j 0) (j 1) + (r * (g m c (j 1) * dh m c (j 0) (j 1)) - x m c (j 0) (j 1) * (r * r * r)
    * Ideal.div (∑ k : Fin 1024, g m c k * dh m c (j 0) k * x m c (j 0) k) (Ideal.ofBits .f32 0x44800000#32))

theorem pay10_blk (c : Dev nD) (t : Fin cfg0.N) (r : Fin 512) :
    k0_pay10 (F := Ideal) (iblk m c 2 t) (ix2 r 0) = rs (x m c (at_ t r)) := by
  rw [pay10]
  simp only [blk2]

theorem pay1_blk (c : Dev nD) (t : Fin cfg0.N) :
    k0_pay1 (dhBlk m c t) (iblk m c 2 t) (k0_pay10 (iblk m c 2 t)) (k0_pay11 (iblk m c 3 t)) (iblk m c 4 t)
      = fun j : S512x1024.Idx => dxArr m c (ix2 (at_ t (j 0)) (j 1)) := by
  funext j
  idx_vars j
  rw [pay1]
  simp only [dhBlk_eq, blk2, pay11, blk3, blk4, pay10_blk]
  rfl

theorem dx (c : Dev nD) : (dats m 0 c).arrAt 5 cfg0.N = dxArr m c := by
  refine (dats m 0 c).arrAt_eq_of_covers 5 _ (by decide +kernel) fun t hf z => ?_
  blk_simp
  rw [after0_5]
  have hN : t.val < 8 := lt_of_lt_of_eq t.isLt N_0
  have e2 : (outsAt0 m c t.val t.isLt).1 = k0_pay1 (dhBlk m c t) (iblk m c 2 t)
      (k0_pay10 (iblk m c 2 t)) (k0_pay11 (iblk m c 3 t)) (iblk m c 4 t) := by
    by_cases h0 : t.val % 8 = 0
    · rw [outsAt0_A m c t h0 (by omega)]; frame_out
      exact congrArg (fun h => k0_pay1 h _ _ _ _) (dhBlk_joined m c t (joined_ld m c t _) (joined_ld m c t _) (joined_ld m c t _))
    · by_cases h1 : t.val % 8 = 7
      · rw [outsAt0_C m c t h0 h1]; frame_out
        exact congrArg (fun h => k0_pay1 h _ _ _ _) (dhBlk_joined m c t (by rw [held, read_unread_whole]) (by rw [held, read_unread_whole]) (by rw [held, read_unread_whole]))
      · rw [outsAt0_B m c t h0 h1]; frame_out
        exact congrArg (fun h => k0_pay1 h _ _ _ _) (dhBlk_joined m c t (by rw [held, read_unread_whole]) (by rw [held, read_unread_whole]) (by rw [held, read_unread_whole]))
  rw [e2, pay1_blk]
  refine congrArg (dxArr m c) ?_
  idx_vars z
  blk_ext [idx t, at_]
  all_goals omega

/-- What row `n` adds to the gradient of the gain. -/
def gain (c : Dev nD) (l : Fin 1024) (n : Fin 4096) : EReal := dh m c n l * x m c n l
  * rs (x m c n)

/-- What point `t` adds to the running sums. -/
def term (c : Dev nD) (t : Fin cfg0.N) (j : S8x1024.Idx) : EReal :=
  ∑ k : Fin 64, gain m c (j 1) (at_ t ⟨k.val * 8 + (j 0).val, by have : (j 0).val < 8 := (j 0).isLt; omega⟩)

theorem step (c : Dev nD) (t : Fin cfg0.N) (a : Vec Ideal S8x1024 .f32) (j : S8x1024.Idx) :
    k0_pay2 (dhBlk m c t) (iblk m c 2 t) (k0_pay10 (iblk m c 2 t)) a j = a j + term m c t j := by
  idx_vars j
  rw [pay2]
  simp only [dhBlk_eq, blk2, pay10_blk]
  rfl

/-- The running sums after the last point. -/
theorem acc (c : Dev nD) (t : Fin cfg0.N) (ht : t.val + 1 = cfg0.N) (j : S8x1024.Idx) :
    ((outsAt0 m c t.val t.isLt).2.2.1 : Vec Ideal S8x1024 .f32) j = 0 + ∑ t : Fin cfg0.N, term m c t j := by
  refine Pipeline.eq_sum_fin_of_reset_step_apply_last (fun n h => (outsAt0 m c n h).2.2.1) 8 (fun _ => (0 : EReal)) (term m c)
    (fun t h j => ?_) (fun t h j => ?_) (le_of_eq N_0) t ht j
  · have e : (outsAt0 m c t.val t.isLt).2.2.1 = k0_pay2 (dhBlk m c t) (iblk m c 2 t) (k0_pay10 (iblk m c 2 t))
        (k0_pay4 (F := Ideal)) := by
      rw [outsAt0_A m c t h (by omega)]; frame_out
      exact congrArg (fun h => k0_pay2 h _ _ _) (dhBlk_joined m c t (joined_ld m c t _) (joined_ld m c t _) (joined_ld m c t _))
    rw [e, step, pay4]
  · have e : (outsAt0 m c t.val t.isLt).2.2.1 = k0_pay2 (dhBlk m c t) (iblk m c 2 t) (k0_pay10 (iblk m c 2 t))
        (outsAt0 m c (t.val - 1) (Nat.lt_of_le_of_lt (Nat.sub_le _ _) t.isLt)).2.2.1 := by
      by_cases h1 : t.val % 8 = 7
      · rw [outsAt0_C m c t h h1]; frame_out; simp only [read_unread_whole]
        exact congrArg (fun h => k0_pay2 h _ _ _) (dhBlk_joined m c t (by rw [held]) (by rw [held]) (by rw [held]))
      · rw [outsAt0_B m c t h h1]; frame_out; simp only [read_unread_whole]
        exact congrArg (fun h => k0_pay2 h _ _ _) (dhBlk_joined m c t (by rw [held]) (by rw [held]) (by rw [held]))
    rw [e, step]

theorem sums (c : Dev nD) (l : Fin 1024) :
    ∑ s : Fin 8, ∑ t : Fin cfg0.N, term m c t (ix2 s l) = ∑ n : Fin 4096, gain m c l n :=
  sum_groups_rows (b := 64) N_0 rfl (gain m c l) _ fun s t k hp =>
    congrArg (gain m c l) (Fin.ext (show 512 * t.val + (k.val * 8 + s.val) = t.val * (64 * 8) + k.val * 8 + s.val by omega))

/-- The second result: the gradient of the gain. -/
def dgArr (c : Dev nD) : Vec Ideal S1x1024 .f32 := fun j : S1x1024.Idx => ∑ n : Fin 4096, gain m c (j 1) n

theorem dg (c : Dev nD) : (dats m 0 c).arrAt 6 cfg0.N = dgArr m c := by
  have e : (outsAt0 m c t0_7.val t0_7.isLt).2.1 = dgArr m c := by
    have e : (outsAt0 m c t0_7.val t0_7.isLt).2.1 = k0_pay3 (outsAt0 m c t0_7.val t0_7.isLt).2.2.1 := by
      rw [outsAt0_C m c t0_7 (by decide) (by decide)]; frame_out
    rw [e]
    funext j
    idx_vars j
    obtain rfl : j0 = 0 := Subsingleton.elim _ _
    rw [pay3]
    simp only [acc m c t0_7 rfl, zero_add]
    exact sums m c j1
  refine (dats m 0 c).arrAt_eq_of_after_last 6 t0_7 (by decide +kernel) _ fun j => ?_
  rw [after0_6, e]
  rfl

end Cert.Kernel4Ideal.NormIn
-- ==== Proof.NormInClaim.lean ====
module

public import proofs.«01_k».proof.Proof.NormIn
public import proofs.«01_k».proof.Proof.Finite
public import Idealize.ShloMosaic.Lib.Quiescent
public import proofs.«01_k».proof.Proof.Gen.Pre_finite4
public import proofs.«01_k».proof.Proof.Gen.Kernel4Ideal.Value
public import proofs.«01_k».proof.Proof.Gen.Reference4Ideal.Run

/-! The norm's backward call at the sequence mixer's width against the derivative of the norm and the projection. -/

@[expose] public section

set_option maxRecDepth 16384

noncomputable section

open Idealize.ShloMosaic Idealize.ShloMosaic.TcCoe Idealize.SL.Sem

namespace Cert.Kernel4Ideal.NormIn

open Cert.Consts Cert.Reals Cert.NormRow

theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

section
variable {m : (ℓ : Loc nD τ sig) → Buf (Elt Ideal) ℓ} (h : Cert.Pre_Kernel4Ideal_finite4 m) (c : Dev nD)
include h

theorem x_fin (n : Fin 4096) (l : Fin 1024) : Fin' (x m c n l) := of_pre (h c).1 (ix2 n l)
theorem g_fin (l : Fin 1024) : Fin' (g m c l) := of_pre (h c).2.1 (ix1 l)
theorem w_fin (l : Fin 1024) (k : Fin 2304) : Fin' (w m c l k) := of_pre (h c).2.2.1 (ix2 l k)
theorem gy_fin (n : Fin 4096) (k : Fin 2304) : Fin' (gy m c n k) := of_pre (h c).2.2.2 (ix2 n k)
theorem dh_fin (n : Fin 4096) (l : Fin 1024) : Fin' (dh m c n l) :=
  Reals.sum fun k _ => mul (gy_fin h c n k) (w_fin h c l k)

end

theorem algebraic : Cert.algebraic_Kernel4Ideal_Reference4Ideal_pre_finite4 := by
  pair_intro
  · run_from Cert.Kernel4Ideal.Value.run_blocks m g
  run_from Cert.Reference4Ideal.Value.run m' g'
  · rw [dx]
    unfold Cert.Reference4Ideal.Value.res_main_v38
    funext j
    idx_vars j
    pointwise [dxArr, rs]
    obtain ⟨h0, h1, h2, h3, h4⟩ := hagree c
    obtain ⟨e, he, hE⟩ := eps
    simp only [h0, h1, h2, h3, h4, Finset.sum_const, Finset.card_univ, Fintype.card_fin, one_smul, hE, n1024, neg_half]
    have hb := bwd (N := 1024) (by norm_num) he (x_fin hpre c j0)
      (y := fun k => dh m c j0 k * NormIn.g m c k) (fun k => mul (dh_fin hpre c j0 k) (g_fin hpre c k)) j1
    simp only [mul_comm (NormIn.g m c _) (dh m c _ _)]
    rw [hb, ← add_assoc, ← add_assoc]
    rfl
  · rw [dg]
    funext j
    idx_vars j
    pointwise [dgArr]
    simp only [Finset.sum_const, Finset.card_univ, Fintype.card_fin, one_smul]
    refine Finset.sum_congr rfl fun n _ => ?_
    rw [gain, mul_comm (dh m c n j1), mul_right_comm]
    rfl

end Cert.Kernel4Ideal.NormIn
-- ==== Proof.lean ====
module

public import proofs.«01_k».proof.Defs
public import proofs.«01_k».proof.Proof.LossClaim
public import proofs.«01_k».proof.Proof.FwdClaim
public import proofs.«01_k».proof.Proof.UpGrad
public import proofs.«01_k».proof.Proof.InGrad
public import proofs.«01_k».proof.Proof.MixClaim
public import proofs.«01_k».proof.Proof.FfnClaim
public import proofs.«01_k».proof.Proof.Gen.Pre_finite2
public import proofs.«01_k».proof.Proof.NormUpClaim
public import proofs.«01_k».proof.Proof.NormInClaim
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Pre_finite3
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Pre_finite4
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite2.Gen.facts, Cert.Pre_finite3.Gen.facts, Cert.Pre_finite4.Gen.facts,
  fun m ρ _ => Cert.Kernel.Gen.frame m ρ,
  fun m ρ _ => Cert.KernelIdeal.Gen.frame m ρ,
  Cert.KernelIdeal.Loss.frame_reference,
  Cert.Kernel2Ideal.FfnBwd.frame_bits,
  Cert.Kernel2Ideal.FfnBwd.frame_ideal,
  Cert.Kernel2Ideal.FfnBwd.frame_finite,
  Cert.Kernel2Ideal.FfnBwd.frame_reference,
  fun m ρ _ => Cert.Kernel2Ideal.FfnBwd.frame_reference m ρ trivial,
  fun m ρ _ => Cert.Kernel3.Gen.frame m ρ,
  fun m ρ _ => Cert.Kernel3Ideal.Gen.frame m ρ,
  fun m ρ _ => Cert.Kernel3Ideal.Gen.frame m ρ,
  Cert.Kernel3Ideal.NormUp.frame_reference,
  fun m ρ _ => Cert.Kernel3Ideal.NormUp.frame_reference m ρ trivial,
  fun m ρ _ => Cert.Kernel4.Gen.frame m ρ,
  fun m ρ _ => Cert.Kernel4Ideal.Gen.frame m ρ,
  fun m ρ _ => Cert.Kernel4Ideal.Gen.frame m ρ,
  Cert.Kernel4Ideal.NormIn.frame_reference,
  fun m ρ _ => Cert.Kernel4Ideal.NormIn.frame_reference m ρ trivial,
  Cert.Kernel5Ideal.MixBwd.frame_bits,
  Cert.Kernel5Ideal.MixBwd.frame_ideal,
  Cert.Kernel5Ideal.MixBwd.frame_reference,
  Cert.Kernel6Ideal.FfnFwd.frame_bits,
  Cert.Kernel6Ideal.FfnFwd.frame_ideal,
  Cert.Kernel6Ideal.FfnFwd.frame_reference,
  fun m ρ _ => Cert.Kernel7.Gen.frame m ρ,
  fun m ρ _ => Cert.Kernel7Ideal.Gen.frame m ρ,
  Cert.Kernel7Ideal.UpGrad.frame_reference,
  fun m ρ _ => Cert.Kernel8.Gen.frame m ρ,
  fun m ρ _ => Cert.Kernel8Ideal.Gen.frame m ρ,
  Cert.Kernel8Ideal.InGrad.frame_reference,
  trivial,
  Cert.KernelIdeal.Loss.algebraic,
  trivial,
  Cert.Kernel2Ideal.FfnBwd.algebraic,
  trivial,
  Cert.Kernel3Ideal.NormUp.algebraic,
  trivial,
  Cert.Kernel4Ideal.NormIn.algebraic,
  trivial,
  Cert.Kernel5Ideal.MixBwd.algebraic,
  trivial,
  Cert.Kernel6Ideal.FfnFwd.algebraic,
  trivial,
  Cert.Kernel7Ideal.UpGrad.algebraic,
  trivial,
  Cert.Kernel8Ideal.InGrad.algebraic⟩

end Cert.Proof

end
